-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9)
      ∧ r.2.mem ((c.tc : Thread Cert.Kernel10.nD Cert.Kernel10.τ).loc Cert.Kernel10.main_arg10) = m ((c.tc : Thread Cert.Kernel10.nD Cert.Kernel10.τ).loc Cert.Kernel10.main_arg10))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9)
      ∧ r.2.mem ((c.tc : Thread Cert.Reference10Ideal.nD Cert.Reference10Ideal.τ).loc Cert.Reference10Ideal.main_arg10) = m ((c.tc : Thread Cert.Reference10Ideal.nD Cert.Reference10Ideal.τ).loc Cert.Reference10Ideal.main_arg10))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9)
      ∧ r.2.mem ((c.tc : Thread Cert.Kernel11.nD Cert.Kernel11.τ).loc Cert.Kernel11.main_arg10) = m ((c.tc : Thread Cert.Kernel11.nD Cert.Kernel11.τ).loc Cert.Kernel11.main_arg10))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
      ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9)
      ∧ r.2.mem ((c.tc : Thread Cert.Reference11Ideal.nD Cert.Reference11Ideal.τ).loc Cert.Reference11Ideal.main_arg10) = m ((c.tc : Thread Cert.Reference11Ideal.nD Cert.Reference11Ideal.τ).loc Cert.Reference11Ideal.main_arg10))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def preserves_Kernel_KernelIdeal : Prop :=
  True

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v36) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v39) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v0) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v8)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v8) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v82) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)) →
    ∃ (v0 : (c : Dev Cert.Kernel9Ideal.nD) → Buf (Elt Ideal) ((c.tc : Thread Cert.Kernel9Ideal.nD Cert.Kernel9Ideal.τ).loc Cert.Kernel9Ideal.main_v9)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v9) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v114) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)
      ∧ m' ((c.tc : Thread Cert.Reference10Ideal.nD Cert.Reference10Ideal.τ).loc Cert.Reference10Ideal.main_arg10) = m ((c.tc : Thread Cert.Kernel10Ideal.nD Cert.Kernel10Ideal.τ).loc Cert.Kernel10Ideal.main_arg10)) →
    ∃ (v0 : (c : Dev Cert.Kernel10Ideal.nD) → Buf (Elt Ideal) ((c.tc : Thread Cert.Kernel10Ideal.nD Cert.Kernel10Ideal.τ).loc Cert.Kernel10Ideal.main_v12)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v12) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
          ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v117) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9)
          ∧ r.2.mem ((c.tc : Thread Cert.Reference10Ideal.nD Cert.Reference10Ideal.τ).loc Cert.Reference10Ideal.main_arg10) = m' ((c.tc : Thread Cert.Reference10Ideal.nD Cert.Reference10Ideal.τ).loc Cert.Reference10Ideal.main_arg10))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)
      ∧ m' ((c.tc : Thread Cert.Reference11Ideal.nD Cert.Reference11Ideal.τ).loc Cert.Reference11Ideal.main_arg9) = m ((c.tc : Thread Cert.Kernel11Ideal.nD Cert.Kernel11Ideal.τ).loc Cert.Kernel11Ideal.main_arg9)
      ∧ m' ((c.tc : Thread Cert.Reference11Ideal.nD Cert.Reference11Ideal.τ).loc Cert.Reference11Ideal.main_arg10) = m ((c.tc : Thread Cert.Kernel11Ideal.nD Cert.Kernel11Ideal.τ).loc Cert.Kernel11Ideal.main_arg10)) →
    ∃ (v0 : (c : Dev Cert.Kernel11Ideal.nD) → Buf (Elt Ideal) ((c.tc : Thread Cert.Kernel11Ideal.nD Cert.Kernel11Ideal.τ).loc Cert.Kernel11Ideal.main_v10)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v10) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
          ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
          ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v125) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8)
          ∧ r.2.mem ((c.tc : Thread Cert.Reference11Ideal.nD Cert.Reference11Ideal.τ).loc Cert.Reference11Ideal.main_arg9) = m' ((c.tc : Thread Cert.Reference11Ideal.nD Cert.Reference11Ideal.τ).loc Cert.Reference11Ideal.main_arg9)
          ∧ r.2.mem ((c.tc : Thread Cert.Reference11Ideal.nD Cert.Reference11Ideal.τ).loc Cert.Reference11Ideal.main_arg10) = m' ((c.tc : Thread Cert.Reference11Ideal.nD Cert.Reference11Ideal.τ).loc Cert.Reference11Ideal.main_arg10))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v8)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v8) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v37) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v4)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v8) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v14)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v14) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v45) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v27)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v27) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v9) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite_arguments : Cert.Pre_finite_arguments.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_finite_arguments.lean ====
abbrev S32x2304x3072 : Shape := ⟨3, ![32, 2304, 3072]⟩
abbrev S4x64 : Shape := ⟨2, ![4, 64]⟩
abbrev S128 : Shape := ⟨1, ![128]⟩
abbrev S_ : Shape := ⟨0, ![]⟩

class Facts : Prop where
  bitsLt_bf16_f32 : FTy.bits .bf16 < FTy.bits .f32
  bcast_S_S32x2304x3072 : S_.BroadcastsInDim S32x2304x3072 (![] : Fin 0 → Fin S32x2304x3072.rank)
  reducesTo_S32x2304x3072_S_d0_1_2 : S32x2304x3072.ReducesTo [0, 1, 2] S_
  h_S_ : 0 < S_.numel
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S32x2304x3072 .bf16) (main_arg1 : FVec F S4x64 .f32) (main_arg2 : FVec F S128 .f32) : IVec S_ 1 :=
  let main_v0 : FVec F S32x2304x3072 .f32 := (extf .f32 · bitsLt_bf16_f32) main_arg0
  let main_v1 : FVec F S32x2304x3072 .f32 := Host.absf main_v0
  let main_cst : FVec F S_ .f32 := constant S_ .f32 0x7F800000#32
  let main_v2 : FVec F S32x2304x3072 .f32 := broadcastInDim S32x2304x3072 ![] bcast_S_S32x2304x3072 main_cst
  let main_v3 : IVec S32x2304x3072 1 := cmpf .olt main_v1 main_v2
  let main_c : IVec S_ 1 := constantI S_ 1 1#1
  let main_v4 : IVec S_ 1 := (fun x v => Host.reduce IntOp.andi x v reducesTo_S32x2304x3072_S_d0_1_2 h_S_) main_v3 main_c
  let main_v5 : FVec F S4x64 .f32 := Host.absf main_arg1
  let main_cst_0 : FVec F S_ .f32 := constant S_ .f32 0x7F800000#32
  let main_v6 : FVec F S4x64 .f32 := broadcastInDim S4x64 ![] bcast_S_S4x64 main_cst_0
  let main_v7 : IVec S4x64 1 := cmpf .olt main_v5 main_v6
  let main_c_1 : IVec S_ 1 := constantI S_ 1 1#1
  let main_v8 : IVec S_ 1 := (fun x v => Host.reduce IntOp.andi x v reducesTo_S4x64_S_d0_1 h_S_) main_v7 main_c_1
  let main_v9 : IVec S_ 1 := andi main_v4 main_v8
  main_v9
-- ==== Kernel.lean ====
abbrev S32x2304x3072 : Shape := ⟨3, ![32, 2304, 3072]⟩
abbrev S4x64 : Shape := ⟨2, ![4, 64]⟩
abbrev S128 : Shape := ⟨1, ![128]⟩
abbrev S1x64 : Shape := ⟨2, ![1, 64]⟩
abbrev S64 : Shape := ⟨1, ![64]⟩
abbrev S_ : Shape := ⟨0, ![]⟩
abbrev S8x128 : Shape := ⟨2, ![8, 128]⟩
abbrev S1x128 : Shape := ⟨2, ![1, 128]⟩
abbrev S32x2304x1024 : Shape := ⟨3, ![32, 2304, 1024]⟩
abbrev S1x256x1024 : Shape := ⟨3, ![1, 256, 1024]⟩
abbrev S1x2304x1024 : Shape := ⟨3, ![1, 2304, 1024]⟩
abbrev S1x1 : Shape := ⟨2, ![1, 1]⟩
abbrev S256x128 : Shape := ⟨2, ![256, 128]⟩
abbrev S1x256x128 : Shape := ⟨3, ![1, 256, 128]⟩
abbrev S256x256 : Shape := ⟨2, ![256, 256]⟩
abbrev S256 : Shape := ⟨1, ![256]⟩
abbrev S256x1 : Shape := ⟨2, ![256, 1]⟩
abbrev S1x2304x128 : Shape := ⟨3, ![1, 2304, 128]⟩
abbrev S2304x128 : Shape := ⟨2, ![2304, 128]⟩
abbrev S256x2304 : Shape := ⟨2, ![256, 2304]⟩

abbrev nBuf : Space → Nat
  | .hbm => 25
  | .vmem => 10
  | .smem => 0
  | _ => 0

abbrev bufTy : (tb : Table) → Fin (tcTables nBuf tb) → BufTy
  | .hbm, ⟨0, _⟩ => ⟨S32x2304x3072, .bf16⟩
  | .hbm, ⟨1, _⟩ => ⟨S4x64, .f32⟩
  | .hbm, ⟨2, _⟩ => ⟨S128, .f32⟩
  | .hbm, ⟨3, _⟩ => ⟨S1x64, .f32⟩
  | .hbm, ⟨4, _⟩ => ⟨S64, .f32⟩
  | .hbm, ⟨5, _⟩ => ⟨S1x64, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1x64, .f32⟩
  | .hbm, ⟨12, _⟩ => ⟨S64, .f32⟩
  | .hbm, ⟨13, _⟩ => ⟨S1x64, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S8x128, .f32⟩
  | .hbm, ⟨23, _⟩ => ⟨S1x128, .f32⟩
  | .hbm, ⟨24, _⟩ => ⟨S32x2304x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x2304x1024, .bf16⟩
  | .local _ .vmem, ⟨3, _⟩ => ⟨S1x2304x1024, .bf16⟩
  | .local _ .vmem, ⟨4, _⟩ => ⟨S1x2304x1024, .bf16⟩
  | .local _ .vmem, ⟨5, _⟩ => ⟨S1x2304x1024, .bf16⟩
  | .local _ .vmem, ⟨6, _⟩ => ⟨S8x128, .f32⟩
  | .local _ .vmem, ⟨7, _⟩ => ⟨S1x128, .f32⟩
  | .local _ .vmem, ⟨8, _⟩ => ⟨S1x256x1024, .f32⟩
  | .local _ .vmem, ⟨9, _⟩ => ⟨S1x256x1024, .f32⟩
  | _, _ => ⟨S32x2304x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 9], ![false, false]⟩

def k0_cond1 (i : grid0.Coords) : BitVec 1 :=
  let arg1 : BitVec 32 := BitVec.ofNat 32 (i 1).val
  let c256_i32 : BitVec 32 := 256#32
  let v5 : BitVec 32 := Scalar.muli arg1 c256_i32
  let c256_i32_1 : BitVec 32 := 256#32
  let v6 : BitVec 1 := Scalar.cmpi .slt v5 c256_i32_1
  let v7 : BitVec 32 := Scalar.extui v6
  let c0_i32 : BitVec 32 := 0#32
  let v8 : BitVec 1 := Scalar.cmpi .ne v7 c0_i32
  v8

def k0_cond2 (i : grid0.Coords) : BitVec 1 :=
  let arg1 : BitVec 32 := BitVec.ofNat 32 (i 1).val
  let c256_i32 : BitVec 32 := 256#32
  let v5 : BitVec 32 := Scalar.muli arg1 c256_i32
  let c256_i32_1 : BitVec 32 := 256#32
  let v6 : BitVec 1 := Scalar.cmpi .slt v5 c256_i32_1
  let v_true : BitVec 1 := 1#1
  let v9 : BitVec 1 := Scalar.xori v6 v_true
  let v10 : BitVec 32 := Scalar.extui v9
  let c0_i32_2 : BitVec 32 := 0#32
  let v11 : BitVec 1 := Scalar.cmpi .ne v10 c0_i32_2
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2304x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S32x2304x3072 : Shape := ⟨3, ![32, 2304, 3072]⟩
abbrev S4x64 : Shape := ⟨2, ![4, 64]⟩
abbrev S128 : Shape := ⟨1, ![128]⟩
abbrev S1x64 : Shape := ⟨2, ![1, 64]⟩
abbrev S64 : Shape := ⟨1, ![64]⟩
abbrev S_ : Shape := ⟨0, ![]⟩
abbrev S32x2304x1024 : Shape := ⟨3, ![32, 2304, 1024]⟩
abbrev S32x2304x16x64 : Shape := ⟨4, ![32, 2304, 16, 64]⟩
abbrev S32x2304x8x128 : Shape := ⟨4, ![32, 2304, 8, 128]⟩
abbrev S32x256x16x64 : Shape := ⟨4, ![32, 256, 16, 64]⟩
abbrev S32x256x8x128 : Shape := ⟨4, ![32, 256, 8, 128]⟩
abbrev S32x16x256x256 : Shape := ⟨4, ![32, 16, 256, 256]⟩
abbrev S32x16x256 : Shape := ⟨3, ![32, 16, 256]⟩
abbrev S32x16x256x1 : Shape := ⟨4, ![32, 16, 256, 1]⟩
abbrev S32x8x2x256x256 : Shape := ⟨5, ![32, 8, 2, 256, 256]⟩
abbrev S32x8x1x256x256 : Shape := ⟨5, ![32, 8, 1, 256, 256]⟩
abbrev S32x8x256x256 : Shape := ⟨4, ![32, 8, 256, 256]⟩
abbrev S32x8x128x256 : Shape := ⟨4, ![32, 8, 128, 256]⟩
abbrev S32x2048x16x64 : Shape := ⟨4, ![32, 2048, 16, 64]⟩
abbrev S32x16x2048x2304 : Shape := ⟨4, ![32, 16, 2048, 2304]⟩
abbrev S32x16x2048 : Shape := ⟨3, ![32, 16, 2048]⟩
abbrev S32x16x2048x1 : Shape := ⟨4, ![32, 16, 2048, 1]⟩
abbrev S32x8x2x2048x2304 : Shape := ⟨5, ![32, 8, 2, 2048, 2304]⟩
abbrev S32x8x1x2048x2304 : Shape := ⟨5, ![32, 8, 1, 2048, 2304]⟩
abbrev S32x8x2048x2304 : Shape := ⟨4, ![32, 8, 2048, 2304]⟩
abbrev S32x8x128x2048 : Shape := ⟨4, ![32, 8, 128, 2048]⟩
abbrev S32x2048x8x128 : Shape := ⟨4, ![32, 2048, 8, 128]⟩
abbrev S32x2304x8 : Shape := ⟨3, ![32, 2304, 8]⟩
abbrev S32x2304x8x1 : Shape := ⟨4, ![32, 2304, 8, 1]⟩
abbrev S1x1x1x128 : Shape := ⟨4, ![1, 1, 1, 128]⟩

abbrev nBuf : Space → Nat
  | .hbm => 114
  | .vmem => 0
  | .smem => 0
  | _ => 0

abbrev bufTy : (tb : Table) → Fin (tcTables nBuf tb) → BufTy
  | .hbm, ⟨0, _⟩ => ⟨S32x2304x3072, .bf16⟩
  | .hbm, ⟨1, _⟩ => ⟨S4x64, .f32⟩
  | .hbm, ⟨2, _⟩ => ⟨S128, .f32⟩
  | .hbm, ⟨3, _⟩ => ⟨S1x64, .f32⟩
  | .hbm, ⟨4, _⟩ => ⟨S64, .f32⟩
  | .hbm, ⟨5, _⟩ => ⟨S1x64, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1x64, .f32⟩
  | .hbm, ⟨12, _⟩ => ⟨S64, .f32⟩
  | .hbm, ⟨13, _⟩ => ⟨S1x64, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S32x2304x3072, .f32⟩
  | .hbm, ⟨23, _⟩ => ⟨S32x2304x1024, .f32⟩
  | .hbm, ⟨24, _⟩ => ⟨S32x2304x1024, .f32⟩
  | .hbm, ⟨25, _⟩ => ⟨S32x2304x1024, .f32⟩
  | .hbm, ⟨26, _⟩ => ⟨S32x2304x16x64, .f32⟩
  | .hbm, ⟨27, _⟩ => ⟨S32x2304x16x64, .f32⟩
  | .hbm, ⟨28, _⟩ => ⟨S32x2304x8x128, .f32⟩
  | .hbm, ⟨29, _⟩ => ⟨S32x256x16x64, .f32⟩
  | .hbm, ⟨30, _⟩ => ⟨S32x256x16x64, .f32⟩
  | .hbm, ⟨31, _⟩ => ⟨S32x256x8x128, .f32⟩
  | .hbm, ⟨32, _⟩ => ⟨S32x16x256x256, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S32x16x256x256, .f32⟩
  | .hbm, ⟨37, _⟩ => ⟨S32x16x256x256, .f32⟩
  | .hbm, ⟨38, _⟩ => ⟨S_, .f32⟩
  | .hbm, ⟨39, _⟩ => ⟨S32x16x256, .f32⟩
  | .hbm, ⟨40, _⟩ => ⟨S_, .f32⟩
  | .hbm, ⟨41, _⟩ => ⟨S32x16x256, .f32⟩
  | .hbm, ⟨42, _⟩ => ⟨S32x16x256, .f32⟩
  | .hbm, ⟨43, _⟩ => ⟨S32x16x256x1, .f32⟩
  | .hbm, ⟨44, _⟩ => ⟨S32x16x256x256, .f32⟩
  | .hbm, ⟨45, _⟩ => ⟨S32x16x256x256, .f32⟩
  | .hbm, ⟨46, _⟩ => ⟨S32x16x256x256, .f32⟩
  | .hbm, ⟨47, _⟩ => ⟨S_, .f32⟩
  | .hbm, ⟨48, _⟩ => ⟨S32x16x256, .f32⟩
  | .hbm, ⟨49, _⟩ => ⟨S32x16x256x1, .f32⟩
  | .hbm, ⟨50, _⟩ => ⟨S32x16x256x256, .f32⟩
  | .hbm, ⟨51, _⟩ => ⟨S32x16x256x256, .f32⟩
  | .hbm, ⟨52, _⟩ => ⟨S32x8x2x256x256, .f32⟩
  | .hbm, ⟨53, _⟩ => ⟨S32x8x1x256x256, .f32⟩
  | .hbm, ⟨54, _⟩ => ⟨S32x8x256x256, .f32⟩
  | .hbm, ⟨55, _⟩ => ⟨S32x8x1x256x256, .f32⟩
  | .hbm, ⟨56, _⟩ => ⟨S32x8x256x256, .f32⟩
  | .hbm, ⟨57, _⟩ => ⟨S32x8x256x256, .f32⟩
  | .hbm, ⟨58, _⟩ => ⟨S32x8x256x256, .f32⟩
  | .hbm, ⟨59, _⟩ => ⟨S32x8x256x256, .f32⟩
  | .hbm, ⟨60, _⟩ => ⟨S32x8x128x256, .f32⟩
  | .hbm, ⟨61, _⟩ => ⟨S32x256x8x128, .f32⟩
  | .hbm, ⟨62, _⟩ => ⟨S32x2048x16x64, .f32⟩
  | .hbm, ⟨63, _⟩ => ⟨S32x16x2048x2304, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S32x16x2048x2304, .f32⟩
  | .hbm, ⟨68, _⟩ => ⟨S32x16x2048x2304, .f32⟩
  | .hbm, ⟨69, _⟩ => ⟨S_, .f32⟩
  | .hbm, ⟨70, _⟩ => ⟨S32x16x2048, .f32⟩
  | .hbm, ⟨71, _⟩ => ⟨S_, .f32⟩
  | .hbm, ⟨72, _⟩ => ⟨S32x16x2048, .f32⟩
  | .hbm, ⟨73, _⟩ => ⟨S32x16x2048, .f32⟩
  | .hbm, ⟨74, _⟩ => ⟨S32x16x2048x1, .f32⟩
  | .hbm, ⟨75, _⟩ => ⟨S32x16x2048x2304, .f32⟩
  | .hbm, ⟨76, _⟩ => ⟨S32x16x2048x2304, .f32⟩
  | .hbm, ⟨77, _⟩ => ⟨S32x16x2048x2304, .f32⟩
  | .hbm, ⟨78, _⟩ => ⟨S_, .f32⟩
  | .hbm, ⟨79, _⟩ => ⟨S32x16x2048, .f32⟩
  | .hbm, ⟨80, _⟩ => ⟨S32x16x2048x1, .f32⟩
  | .hbm, ⟨81, _⟩ => ⟨S32x16x2048x2304, .f32⟩
  | .hbm, ⟨82, _⟩ => ⟨S32x16x2048x2304, .f32⟩
  | .hbm, ⟨83, _⟩ => ⟨S32x8x2x2048x2304, .f32⟩
  | .hbm, ⟨84, _⟩ => ⟨S32x8x1x2048x2304, .f32⟩
  | .hbm, ⟨85, _⟩ => ⟨S32x8x2048x2304, .f32⟩
  | .hbm, ⟨86, _⟩ => ⟨S32x8x1x2048x2304, .f32⟩
  | .hbm, ⟨87, _⟩ => ⟨S32x8x2048x2304, .f32⟩
  | .hbm, ⟨88, _⟩ => ⟨S32x8x2048x2304, .f32⟩
  | .hbm, ⟨89, _⟩ => ⟨S32x8x2048x2304, .f32⟩
  | .hbm, ⟨90, _⟩ => ⟨S32x8x2048x2304, .f32⟩
  | .hbm, ⟨91, _⟩ => ⟨S32x8x128x2048, .f32⟩
  | .hbm, ⟨92, _⟩ => ⟨S32x2048x8x128, .f32⟩
  | .hbm, ⟨93, _⟩ => ⟨S32x2304x8x128, .f32⟩
  | .hbm, ⟨94, _⟩ => ⟨S32x2304x8x128, .f32⟩
  | .hbm, ⟨95, _⟩ => ⟨S_, .f32⟩
  | .hbm, ⟨96, _⟩ => ⟨S32x2304x8, .f32⟩
  | .hbm, ⟨97, _⟩ => ⟨S32x2304x8x1, .f32⟩
  | .hbm, ⟨98, _⟩ => ⟨S_, .f32⟩
  | .hbm, ⟨99, _⟩ => ⟨S32x2304x8x1, .f32⟩
  | .hbm, ⟨100, _⟩ => ⟨S32x2304x8x1, .f32⟩
  | .hbm, ⟨101, _⟩ => ⟨S_, .f32⟩
  | .hbm, ⟨102, _⟩ => ⟨S32x2304x8x1, .f32⟩
  | .hbm, ⟨103, _⟩ => ⟨S32x2304x8x1, .f32⟩
  | .hbm, ⟨104, _⟩ => ⟨S32x2304x8x1, .f32⟩
  | .hbm, ⟨105, _⟩ => ⟨S32x2304x8x128, .f32⟩
  | .hbm, ⟨106, _⟩ => ⟨S32x2304x8x128, .f32⟩
  | .hbm, ⟨107, _⟩ => ⟨S1x1x1x128, .f32⟩
  | .hbm, ⟨108, _⟩ => ⟨S32x2304x8x128, .f32⟩
  | .hbm, ⟨109, _⟩ => ⟨S32x2304x8x128, .f32⟩
  | .hbm, ⟨110, _⟩ => ⟨S_, .f32⟩
  | .hbm, ⟨111, _⟩ => ⟨S32x2304x8x128, .f32⟩
  | .hbm, ⟨112, _⟩ => ⟨S32x2304x8x128, .f32⟩
  | .hbm, ⟨113, _⟩ => ⟨S32x2304x1024, .f32⟩
  | _, _ => ⟨S32x2304x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_5 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_cst_6 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_cst_7 : Ref sig .tc := ⟨.hbm, 69, rfl⟩
abbrev main_v58 : Ref sig .tc := ⟨.hbm, 70, rfl⟩
abbrev main_cst_8 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_9 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_cst_10 : Ref sig .tc := ⟨.hbm, 95, rfl⟩
abbrev main_v81 : Ref sig .tc := ⟨.hbm, 96, rfl⟩
abbrev main_v82 : Ref sig .tc := ⟨.hbm, 97, rfl⟩
abbrev main_cst_11 : Ref sig .tc := ⟨.hbm, 98, rfl⟩
abbrev main_v83 : Ref sig .tc := ⟨.hbm, 99, rfl⟩
abbrev main_v84 : Ref sig .tc := ⟨.hbm, 100, rfl⟩
abbrev main_cst_12 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_cst_13 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩

abbrev nD : Nat := 1
abbrev τ : Topo := Topo.v7x

variable {F : FTy → Type} [FloatOps F]
-- ==== Kernel2.lean ====
abbrev S32x2304x1024 : Shape := ⟨3, ![32, 2304, 1024]⟩
abbrev S32x6144 : Shape := ⟨2, ![32, 6144]⟩
abbrev S6144 : Shape := ⟨1, ![6144]⟩
abbrev S1024x6144 : Shape := ⟨2, ![1024, 6144]⟩
abbrev S32x1x6x1024 : Shape := ⟨4, ![32, 1, 6, 1024]⟩
abbrev S1x1x6x1024 : Shape := ⟨4, ![1, 1, 6, 1024]⟩
abbrev S32x8x6x1024 : Shape := ⟨4, ![32, 8, 6, 1024]⟩
abbrev S32x9x6x1024 : Shape := ⟨4, ![32, 9, 6, 1024]⟩
abbrev S32x2304x6144 : Shape := ⟨3, ![32, 2304, 6144]⟩
abbrev S1x256x1024 : Shape := ⟨3, ![1, 256, 1024]⟩
abbrev S1x256x6144 : Shape := ⟨3, ![1, 256, 6144]⟩
abbrev S256x1024 : Shape := ⟨2, ![256, 1024]⟩
abbrev S1x1x1x1024 : Shape := ⟨4, ![1, 1, 1, 1024]⟩
abbrev S1x1024 : Shape := ⟨2, ![1, 1024]⟩
abbrev S1024x1024 : Shape := ⟨2, ![1024, 1024]⟩

abbrev nBuf : Space → Nat
  | .hbm => 11
  | .vmem => 7
  | .smem => 0
  | _ => 0

abbrev bufTy : (tb : Table) → Fin (tcTables nBuf tb) → BufTy
  | .hbm, ⟨0, _⟩ => ⟨S32x2304x1024, .f32⟩
  | .hbm, ⟨1, _⟩ => ⟨S32x6144, .f32⟩
  | .hbm, ⟨2, _⟩ => ⟨S6144, .f32⟩
  | .hbm, ⟨3, _⟩ => ⟨S1024x6144, .f32⟩
  | .hbm, ⟨4, _⟩ => ⟨S32x1x6x1024, .f32⟩
  | .hbm, ⟨5, _⟩ => ⟨S1x1x6x1024, .f32⟩
  | .hbm, ⟨6, _⟩ => ⟨S32x1x6x1024, .f32⟩
  | .hbm, ⟨7, _⟩ => ⟨S32x8x6x1024, .f32⟩
  | .hbm, ⟨8, _⟩ => ⟨S32x9x6x1024, .f32⟩
  | .hbm, ⟨9, _⟩ => ⟨S1024x6144, .bf16⟩
  | .hbm, ⟨10, _⟩ => ⟨S32x2304x6144, .f32⟩
  | .local _ .vmem, ⟨0, _⟩ => ⟨S1x256x1024, .f32⟩
  | .local _ .vmem, ⟨1, _⟩ => ⟨S1x256x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1024x6144, .bf16⟩
  | .local _ .vmem, ⟨5, _⟩ => ⟨S1x256x6144, .f32⟩
  | .local _ .vmem, ⟨6, _⟩ => ⟨S1x256x6144, .f32⟩
  | _, _ => ⟨S32x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S32x2304x1024 : Shape := ⟨3, ![32, 2304, 1024]⟩
abbrev S32x6144 : Shape := ⟨2, ![32, 6144]⟩
abbrev S6144 : Shape := ⟨1, ![6144]⟩
abbrev S1024x6144 : Shape := ⟨2, ![1024, 6144]⟩
abbrev S32x1024 : Shape := ⟨2, ![32, 1024]⟩
abbrev S32x1x1024 : Shape := ⟨3, ![32, 1, 1024]⟩
abbrev S1024 : Shape := ⟨1, ![1024]⟩
abbrev S32x256x1024 : Shape := ⟨3, ![32, 256, 1024]⟩
abbrev S32x2048x1024 : Shape := ⟨3, ![32, 2048, 1024]⟩
abbrev S_ : Shape := ⟨0, ![]⟩
abbrev S1x1x1024 : Shape := ⟨3, ![1, 1, 1024]⟩
abbrev S32x256x6144 : Shape := ⟨3, ![32, 256, 6144]⟩
abbrev S32x2048x6144 : Shape := ⟨3, ![32, 2048, 6144]⟩
abbrev S32x2304x6144 : Shape := ⟨3, ![32, 2304, 6144]⟩

abbrev nBuf : Space → Nat
  | .hbm => 43
  | .vmem => 0
  | .smem => 0
  | _ => 0

abbrev bufTy : (tb : Table) → Fin (tcTables nBuf tb) → BufTy
  | .hbm, ⟨0, _⟩ => ⟨S32x2304x1024, .f32⟩
  | .hbm, ⟨1, _⟩ => ⟨S32x6144, .f32⟩
  | .hbm, ⟨2, _⟩ => ⟨S6144, .f32⟩
  | .hbm, ⟨3, _⟩ => ⟨S1024x6144, .f32⟩
  | .hbm, ⟨4, _⟩ => ⟨S32x1024, .f32⟩
  | .hbm, ⟨5, _⟩ => ⟨S32x1024, .f32⟩
  | .hbm, ⟨6, _⟩ => ⟨S32x1024, .f32⟩
  | .hbm, ⟨7, _⟩ => ⟨S32x1024, .f32⟩
  | .hbm, ⟨8, _⟩ => ⟨S32x1024, .f32⟩
  | .hbm, ⟨9, _⟩ => ⟨S32x1024, .f32⟩
  | .hbm, ⟨10, _⟩ => ⟨S32x1x1024, .f32⟩
  | .hbm, ⟨11, _⟩ => ⟨S32x1x1024, .f32⟩
  | .hbm, ⟨12, _⟩ => ⟨S32x1x1024, .f32⟩
  | .hbm, ⟨13, _⟩ => ⟨S32x1x1024, .f32⟩
  | .hbm, ⟨14, _⟩ => ⟨S32x1x1024, .f32⟩
  | .hbm, ⟨15, _⟩ => ⟨S32x1x1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S32x256x1024, .f32⟩
  | .hbm, ⟨23, _⟩ => ⟨S32x2048x1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1x1x1024, .f32⟩
  | .hbm, ⟨28, _⟩ => ⟨S32x256x1024, .f32⟩
  | .hbm, ⟨29, _⟩ => ⟨S32x256x1024, .f32⟩
  | .hbm, ⟨30, _⟩ => ⟨S1x1x1024, .f32⟩
  | .hbm, ⟨31, _⟩ => ⟨S32x256x1024, .f32⟩
  | .hbm, ⟨32, _⟩ => ⟨S32x256x1024, .f32⟩
  | .hbm, ⟨33, _⟩ => ⟨S_, .f32⟩
  | .hbm, ⟨34, _⟩ => ⟨S32x1x1024, .f32⟩
  | .hbm, ⟨35, _⟩ => ⟨S32x1x1024, .f32⟩
  | .hbm, ⟨36, _⟩ => ⟨S32x2048x1024, .f32⟩
  | .hbm, ⟨37, _⟩ => ⟨S32x2048x1024, .f32⟩
  | .hbm, ⟨38, _⟩ => ⟨S32x2048x1024, .f32⟩
  | .hbm, ⟨39, _⟩ => ⟨S32x2048x1024, .f32⟩
  | .hbm, ⟨40, _⟩ => ⟨S32x256x6144, .f32⟩
  | .hbm, ⟨41, _⟩ => ⟨S32x2048x6144, .f32⟩
  | .hbm, ⟨42, _⟩ => ⟨S32x2304x6144, .f32⟩
  | _, _ => ⟨S32x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst_0 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩

abbrev nD : Nat := 1
abbrev τ : Topo := Topo.v7x

variable {F : FTy → Type} [FloatOps F]
-- ==== Kernel3.lean ====
abbrev S32x2304x1024 : Shape := ⟨3, ![32, 2304, 1024]⟩
abbrev S32x6144 : Shape := ⟨2, ![32, 6144]⟩
abbrev S6144 : Shape := ⟨1, ![6144]⟩
abbrev S1024x6208 : Shape := ⟨2, ![1024, 6208]⟩
abbrev S32x1x6x1024 : Shape := ⟨4, ![32, 1, 6, 1024]⟩
abbrev S1x1x6x1024 : Shape := ⟨4, ![1, 1, 6, 1024]⟩
abbrev S32x8x6x1024 : Shape := ⟨4, ![32, 8, 6, 1024]⟩
abbrev S32x9x6x1024 : Shape := ⟨4, ![32, 9, 6, 1024]⟩
abbrev S1024x6144 : Shape := ⟨2, ![1024, 6144]⟩
abbrev S32x2304x6144 : Shape := ⟨3, ![32, 2304, 6144]⟩
abbrev S1x256x1024 : Shape := ⟨3, ![1, 256, 1024]⟩
abbrev S1x256x6144 : Shape := ⟨3, ![1, 256, 6144]⟩
abbrev S256x1024 : Shape := ⟨2, ![256, 1024]⟩
abbrev S1x1x1x1024 : Shape := ⟨4, ![1, 1, 1, 1024]⟩
abbrev S1x1024 : Shape := ⟨2, ![1, 1024]⟩
abbrev S1024x1024 : Shape := ⟨2, ![1024, 1024]⟩

abbrev nBuf : Space → Nat
  | .hbm => 12
  | .vmem => 7
  | .smem => 0
  | _ => 0

abbrev bufTy : (tb : Table) → Fin (tcTables nBuf tb) → BufTy
  | .hbm, ⟨0, _⟩ => ⟨S32x2304x1024, .f32⟩
  | .hbm, ⟨1, _⟩ => ⟨S32x6144, .f32⟩
  | .hbm, ⟨2, _⟩ => ⟨S6144, .f32⟩
  | .hbm, ⟨3, _⟩ => ⟨S1024x6208, .f32⟩
  | .hbm, ⟨4, _⟩ => ⟨S32x1x6x1024, .f32⟩
  | .hbm, ⟨5, _⟩ => ⟨S1x1x6x1024, .f32⟩
  | .hbm, ⟨6, _⟩ => ⟨S32x1x6x1024, .f32⟩
  | .hbm, ⟨7, _⟩ => ⟨S32x8x6x1024, .f32⟩
  | .hbm, ⟨8, _⟩ => ⟨S32x9x6x1024, .f32⟩
  | .hbm, ⟨9, _⟩ => ⟨S1024x6144, .f32⟩
  | .hbm, ⟨10, _⟩ => ⟨S1024x6144, .bf16⟩
  | .hbm, ⟨11, _⟩ => ⟨S32x2304x6144, .f32⟩
  | .local _ .vmem, ⟨0, _⟩ => ⟨S1x256x1024, .f32⟩
  | .local _ .vmem, ⟨1, _⟩ => ⟨S1x256x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1024x6144, .bf16⟩
  | .local _ .vmem, ⟨5, _⟩ => ⟨S1x256x6144, .f32⟩
  | .local _ .vmem, ⟨6, _⟩ => ⟨S1x256x6144, .f32⟩
  | _, _ => ⟨S32x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S32x2304x1024 : Shape := ⟨3, ![32, 2304, 1024]⟩
abbrev S32x6144 : Shape := ⟨2, ![32, 6144]⟩
abbrev S6144 : Shape := ⟨1, ![6144]⟩
abbrev S1024x6208 : Shape := ⟨2, ![1024, 6208]⟩
abbrev S32x1024 : Shape := ⟨2, ![32, 1024]⟩
abbrev S32x1x1024 : Shape := ⟨3, ![32, 1, 1024]⟩
abbrev S1024 : Shape := ⟨1, ![1024]⟩
abbrev S32x256x1024 : Shape := ⟨3, ![32, 256, 1024]⟩
abbrev S32x2048x1024 : Shape := ⟨3, ![32, 2048, 1024]⟩
abbrev S_ : Shape := ⟨0, ![]⟩
abbrev S1x1x1024 : Shape := ⟨3, ![1, 1, 1024]⟩
abbrev S32x256x6208 : Shape := ⟨3, ![32, 256, 6208]⟩
abbrev S32x256x6144 : Shape := ⟨3, ![32, 256, 6144]⟩
abbrev S32x2048x6208 : Shape := ⟨3, ![32, 2048, 6208]⟩
abbrev S32x2048x6144 : Shape := ⟨3, ![32, 2048, 6144]⟩
abbrev S32x2304x6144 : Shape := ⟨3, ![32, 2304, 6144]⟩

abbrev nBuf : Space → Nat
  | .hbm => 45
  | .vmem => 0
  | .smem => 0
  | _ => 0

abbrev bufTy : (tb : Table) → Fin (tcTables nBuf tb) → BufTy
  | .hbm, ⟨0, _⟩ => ⟨S32x2304x1024, .f32⟩
  | .hbm, ⟨1, _⟩ => ⟨S32x6144, .f32⟩
  | .hbm, ⟨2, _⟩ => ⟨S6144, .f32⟩
  | .hbm, ⟨3, _⟩ => ⟨S1024x6208, .f32⟩
  | .hbm, ⟨4, _⟩ => ⟨S32x1024, .f32⟩
  | .hbm, ⟨5, _⟩ => ⟨S32x1024, .f32⟩
  | .hbm, ⟨6, _⟩ => ⟨S32x1024, .f32⟩
  | .hbm, ⟨7, _⟩ => ⟨S32x1024, .f32⟩
  | .hbm, ⟨8, _⟩ => ⟨S32x1024, .f32⟩
  | .hbm, ⟨9, _⟩ => ⟨S32x1024, .f32⟩
  | .hbm, ⟨10, _⟩ => ⟨S32x1x1024, .f32⟩
  | .hbm, ⟨11, _⟩ => ⟨S32x1x1024, .f32⟩
  | .hbm, ⟨12, _⟩ => ⟨S32x1x1024, .f32⟩
  | .hbm, ⟨13, _⟩ => ⟨S32x1x1024, .f32⟩
  | .hbm, ⟨14, _⟩ => ⟨S32x1x1024, .f32⟩
  | .hbm, ⟨15, _⟩ => ⟨S32x1x1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S32x256x1024, .f32⟩
  | .hbm, ⟨23, _⟩ => ⟨S32x2048x1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1x1x1024, .f32⟩
  | .hbm, ⟨28, _⟩ => ⟨S32x256x1024, .f32⟩
  | .hbm, ⟨29, _⟩ => ⟨S32x256x1024, .f32⟩
  | .hbm, ⟨30, _⟩ => ⟨S1x1x1024, .f32⟩
  | .hbm, ⟨31, _⟩ => ⟨S32x256x1024, .f32⟩
  | .hbm, ⟨32, _⟩ => ⟨S32x256x1024, .f32⟩
  | .hbm, ⟨33, _⟩ => ⟨S_, .f32⟩
  | .hbm, ⟨34, _⟩ => ⟨S32x1x1024, .f32⟩
  | .hbm, ⟨35, _⟩ => ⟨S32x1x1024, .f32⟩
  | .hbm, ⟨36, _⟩ => ⟨S32x2048x1024, .f32⟩
  | .hbm, ⟨37, _⟩ => ⟨S32x2048x1024, .f32⟩
  | .hbm, ⟨38, _⟩ => ⟨S32x2048x1024, .f32⟩
  | .hbm, ⟨39, _⟩ => ⟨S32x2048x1024, .f32⟩
  | .hbm, ⟨40, _⟩ => ⟨S32x256x6208, .f32⟩
  | .hbm, ⟨41, _⟩ => ⟨S32x256x6144, .f32⟩
  | .hbm, ⟨42, _⟩ => ⟨S32x2048x6208, .f32⟩
  | .hbm, ⟨43, _⟩ => ⟨S32x2048x6144, .f32⟩
  | .hbm, ⟨44, _⟩ => ⟨S32x2304x6144, .f32⟩
  | _, _ => ⟨S32x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst_0 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩

abbrev nD : Nat := 1
abbrev τ : Topo := Topo.v7x

variable {F : FTy → Type} [FloatOps F]
-- ==== Kernel4.lean ====
abbrev S32x2304x1024 : Shape := ⟨3, ![32, 2304, 1024]⟩
abbrev S32x6144 : Shape := ⟨2, ![32, 6144]⟩
abbrev S6144 : Shape := ⟨1, ![6144]⟩
abbrev S1024x3072 : Shape := ⟨2, ![1024, 3072]⟩
abbrev S32x1x6x1024 : Shape := ⟨4, ![32, 1, 6, 1024]⟩
abbrev S1x1x6x1024 : Shape := ⟨4, ![1, 1, 6, 1024]⟩
abbrev S32x8x6x1024 : Shape := ⟨4, ![32, 8, 6, 1024]⟩
abbrev S32x9x6x1024 : Shape := ⟨4, ![32, 9, 6, 1024]⟩
abbrev S32x2304x3072 : Shape := ⟨3, ![32, 2304, 3072]⟩
abbrev S1x256x1024 : Shape := ⟨3, ![1, 256, 1024]⟩
abbrev S1x256x3072 : Shape := ⟨3, ![1, 256, 3072]⟩
abbrev S256x1024 : Shape := ⟨2, ![256, 1024]⟩
abbrev S1x1x1x1024 : Shape := ⟨4, ![1, 1, 1, 1024]⟩
abbrev S1x1024 : Shape := ⟨2, ![1, 1024]⟩
abbrev S1024x1024 : Shape := ⟨2, ![1024, 1024]⟩

abbrev nBuf : Space → Nat
  | .hbm => 11
  | .vmem => 7
  | .smem => 0
  | _ => 0

abbrev bufTy : (tb : Table) → Fin (tcTables nBuf tb) → BufTy
  | .hbm, ⟨0, _⟩ => ⟨S32x2304x1024, .f32⟩
  | .hbm, ⟨1, _⟩ => ⟨S32x6144, .f32⟩
  | .hbm, ⟨2, _⟩ => ⟨S6144, .f32⟩
  | .hbm, ⟨3, _⟩ => ⟨S1024x3072, .f32⟩
  | .hbm, ⟨4, _⟩ => ⟨S32x1x6x1024, .f32⟩
  | .hbm, ⟨5, _⟩ => ⟨S1x1x6x1024, .f32⟩
  | .hbm, ⟨6, _⟩ => ⟨S32x1x6x1024, .f32⟩
  | .hbm, ⟨7, _⟩ => ⟨S32x8x6x1024, .f32⟩
  | .hbm, ⟨8, _⟩ => ⟨S32x9x6x1024, .f32⟩
  | .hbm, ⟨9, _⟩ => ⟨S1024x3072, .bf16⟩
  | .hbm, ⟨10, _⟩ => ⟨S32x2304x3072, .f32⟩
  | .local _ .vmem, ⟨0, _⟩ => ⟨S1x256x1024, .f32⟩
  | .local _ .vmem, ⟨1, _⟩ => ⟨S1x256x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1024x3072, .bf16⟩
  | .local _ .vmem, ⟨5, _⟩ => ⟨S1x256x3072, .f32⟩
  | .local _ .vmem, ⟨6, _⟩ => ⟨S1x256x3072, .f32⟩
  | _, _ => ⟨S32x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S32x2304x1024 : Shape := ⟨3, ![32, 2304, 1024]⟩
abbrev S32x6144 : Shape := ⟨2, ![32, 6144]⟩
abbrev S6144 : Shape := ⟨1, ![6144]⟩
abbrev S1024x3072 : Shape := ⟨2, ![1024, 3072]⟩
abbrev S32x1024 : Shape := ⟨2, ![32, 1024]⟩
abbrev S32x1x1024 : Shape := ⟨3, ![32, 1, 1024]⟩
abbrev S1024 : Shape := ⟨1, ![1024]⟩
abbrev S32x256x1024 : Shape := ⟨3, ![32, 256, 1024]⟩
abbrev S32x2048x1024 : Shape := ⟨3, ![32, 2048, 1024]⟩
abbrev S_ : Shape := ⟨0, ![]⟩
abbrev S1x1x1024 : Shape := ⟨3, ![1, 1, 1024]⟩
abbrev S32x256x3072 : Shape := ⟨3, ![32, 256, 3072]⟩
abbrev S32x2048x3072 : Shape := ⟨3, ![32, 2048, 3072]⟩
abbrev S32x2304x3072 : Shape := ⟨3, ![32, 2304, 3072]⟩

abbrev nBuf : Space → Nat
  | .hbm => 43
  | .vmem => 0
  | .smem => 0
  | _ => 0

abbrev bufTy : (tb : Table) → Fin (tcTables nBuf tb) → BufTy
  | .hbm, ⟨0, _⟩ => ⟨S32x2304x1024, .f32⟩
  | .hbm, ⟨1, _⟩ => ⟨S32x6144, .f32⟩
  | .hbm, ⟨2, _⟩ => ⟨S6144, .f32⟩
  | .hbm, ⟨3, _⟩ => ⟨S1024x3072, .f32⟩
  | .hbm, ⟨4, _⟩ => ⟨S32x1024, .f32⟩
  | .hbm, ⟨5, _⟩ => ⟨S32x1024, .f32⟩
  | .hbm, ⟨6, _⟩ => ⟨S32x1024, .f32⟩
  | .hbm, ⟨7, _⟩ => ⟨S32x1024, .f32⟩
  | .hbm, ⟨8, _⟩ => ⟨S32x1024, .f32⟩
  | .hbm, ⟨9, _⟩ => ⟨S32x1024, .f32⟩
  | .hbm, ⟨10, _⟩ => ⟨S32x1x1024, .f32⟩
  | .hbm, ⟨11, _⟩ => ⟨S32x1x1024, .f32⟩
  | .hbm, ⟨12, _⟩ => ⟨S32x1x1024, .f32⟩
  | .hbm, ⟨13, _⟩ => ⟨S32x1x1024, .f32⟩
  | .hbm, ⟨14, _⟩ => ⟨S32x1x1024, .f32⟩
  | .hbm, ⟨15, _⟩ => ⟨S32x1x1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S32x256x1024, .f32⟩
  | .hbm, ⟨23, _⟩ => ⟨S32x2048x1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1x1x1024, .f32⟩
  | .hbm, ⟨28, _⟩ => ⟨S32x256x1024, .f32⟩
  | .hbm, ⟨29, _⟩ => ⟨S32x256x1024, .f32⟩
  | .hbm, ⟨30, _⟩ => ⟨S1x1x1024, .f32⟩
  | .hbm, ⟨31, _⟩ => ⟨S32x256x1024, .f32⟩
  | .hbm, ⟨32, _⟩ => ⟨S32x256x1024, .f32⟩
  | .hbm, ⟨33, _⟩ => ⟨S_, .f32⟩
  | .hbm, ⟨34, _⟩ => ⟨S32x1x1024, .f32⟩
  | .hbm, ⟨35, _⟩ => ⟨S32x1x1024, .f32⟩
  | .hbm, ⟨36, _⟩ => ⟨S32x2048x1024, .f32⟩
  | .hbm, ⟨37, _⟩ => ⟨S32x2048x1024, .f32⟩
  | .hbm, ⟨38, _⟩ => ⟨S32x2048x1024, .f32⟩
  | .hbm, ⟨39, _⟩ => ⟨S32x2048x1024, .f32⟩
  | .hbm, ⟨40, _⟩ => ⟨S32x256x3072, .f32⟩
  | .hbm, ⟨41, _⟩ => ⟨S32x2048x3072, .f32⟩
  | .hbm, ⟨42, _⟩ => ⟨S32x2304x3072, .f32⟩
  | _, _ => ⟨S32x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst_0 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩

abbrev nD : Nat := 1
abbrev τ : Topo := Topo.v7x

variable {F : FTy → Type} [FloatOps F]
-- ==== Kernel5.lean ====
abbrev S32x2304x1024 : Shape := ⟨3, ![32, 2304, 1024]⟩
abbrev S32x6144 : Shape := ⟨2, ![32, 6144]⟩
abbrev S6144 : Shape := ⟨1, ![6144]⟩
abbrev S1024x2048 : Shape := ⟨2, ![1024, 2048]⟩
abbrev S32x1x6x1024 : Shape := ⟨4, ![32, 1, 6, 1024]⟩
abbrev S1x1x6x1024 : Shape := ⟨4, ![1, 1, 6, 1024]⟩
abbrev S32x8x6x1024 : Shape := ⟨4, ![32, 8, 6, 1024]⟩
abbrev S32x9x6x1024 : Shape := ⟨4, ![32, 9, 6, 1024]⟩
abbrev S16x32x2304x128 : Shape := ⟨4, ![16, 32, 2304, 128]⟩
abbrev S1x256x1024 : Shape := ⟨3, ![1, 256, 1024]⟩
abbrev S16x1x256x128 : Shape := ⟨4, ![16, 1, 256, 128]⟩
abbrev S256x1024 : Shape := ⟨2, ![256, 1024]⟩
abbrev S1x1x1x1024 : Shape := ⟨4, ![1, 1, 1, 1024]⟩
abbrev S1x1024 : Shape := ⟨2, ![1, 1024]⟩
abbrev S1024x1024 : Shape := ⟨2, ![1024, 1024]⟩
abbrev S256x128 : Shape := ⟨2, ![256, 128]⟩
abbrev S1x1x256x128 : Shape := ⟨4, ![1, 1, 256, 128]⟩

abbrev nBuf : Space → Nat
  | .hbm => 11
  | .vmem => 7
  | .smem => 0
  | _ => 0

abbrev bufTy : (tb : Table) → Fin (tcTables nBuf tb) → BufTy
  | .hbm, ⟨0, _⟩ => ⟨S32x2304x1024, .f32⟩
  | .hbm, ⟨1, _⟩ => ⟨S32x6144, .f32⟩
  | .hbm, ⟨2, _⟩ => ⟨S6144, .f32⟩
  | .hbm, ⟨3, _⟩ => ⟨S1024x2048, .f32⟩
  | .hbm, ⟨4, _⟩ => ⟨S32x1x6x1024, .f32⟩
  | .hbm, ⟨5, _⟩ => ⟨S1x1x6x1024, .f32⟩
  | .hbm, ⟨6, _⟩ => ⟨S32x1x6x1024, .f32⟩
  | .hbm, ⟨7, _⟩ => ⟨S32x8x6x1024, .f32⟩
  | .hbm, ⟨8, _⟩ => ⟨S32x9x6x1024, .f32⟩
  | .hbm, ⟨9, _⟩ => ⟨S1024x2048, .bf16⟩
  | .hbm, ⟨10, _⟩ => ⟨S16x32x2304x128, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1024x2048, .bf16⟩
  | .local _ .vmem, ⟨5, _⟩ => ⟨S16x1x256x128, .bf16⟩
  | .local _ .vmem, ⟨6, _⟩ => ⟨S16x1x256x128, .bf16⟩
  | _, _ => ⟨S32x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S16x1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S32x2304x1024 : Shape := ⟨3, ![32, 2304, 1024]⟩
abbrev S32x6144 : Shape := ⟨2, ![32, 6144]⟩
abbrev S6144 : Shape := ⟨1, ![6144]⟩
abbrev S1024x2048 : Shape := ⟨2, ![1024, 2048]⟩
abbrev S32x1024 : Shape := ⟨2, ![32, 1024]⟩
abbrev S32x1x1024 : Shape := ⟨3, ![32, 1, 1024]⟩
abbrev S1024 : Shape := ⟨1, ![1024]⟩
abbrev S32x256x1024 : Shape := ⟨3, ![32, 256, 1024]⟩
abbrev S32x2048x1024 : Shape := ⟨3, ![32, 2048, 1024]⟩
abbrev S_ : Shape := ⟨0, ![]⟩
abbrev S1x1x1024 : Shape := ⟨3, ![1, 1, 1024]⟩
abbrev S32x256x2048 : Shape := ⟨3, ![32, 256, 2048]⟩
abbrev S32x2048x2048 : Shape := ⟨3, ![32, 2048, 2048]⟩
abbrev S32x2304x2048 : Shape := ⟨3, ![32, 2304, 2048]⟩
abbrev S32x2304x16x128 : Shape := ⟨4, ![32, 2304, 16, 128]⟩
abbrev S16x32x2304x128 : Shape := ⟨4, ![16, 32, 2304, 128]⟩

abbrev nBuf : Space → Nat
  | .hbm => 46
  | .vmem => 0
  | .smem => 0
  | _ => 0

abbrev bufTy : (tb : Table) → Fin (tcTables nBuf tb) → BufTy
  | .hbm, ⟨0, _⟩ => ⟨S32x2304x1024, .f32⟩
  | .hbm, ⟨1, _⟩ => ⟨S32x6144, .f32⟩
  | .hbm, ⟨2, _⟩ => ⟨S6144, .f32⟩
  | .hbm, ⟨3, _⟩ => ⟨S1024x2048, .f32⟩
  | .hbm, ⟨4, _⟩ => ⟨S32x1024, .f32⟩
  | .hbm, ⟨5, _⟩ => ⟨S32x1024, .f32⟩
  | .hbm, ⟨6, _⟩ => ⟨S32x1024, .f32⟩
  | .hbm, ⟨7, _⟩ => ⟨S32x1024, .f32⟩
  | .hbm, ⟨8, _⟩ => ⟨S32x1024, .f32⟩
  | .hbm, ⟨9, _⟩ => ⟨S32x1024, .f32⟩
  | .hbm, ⟨10, _⟩ => ⟨S32x1x1024, .f32⟩
  | .hbm, ⟨11, _⟩ => ⟨S32x1x1024, .f32⟩
  | .hbm, ⟨12, _⟩ => ⟨S32x1x1024, .f32⟩
  | .hbm, ⟨13, _⟩ => ⟨S32x1x1024, .f32⟩
  | .hbm, ⟨14, _⟩ => ⟨S32x1x1024, .f32⟩
  | .hbm, ⟨15, _⟩ => ⟨S32x1x1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S32x256x1024, .f32⟩
  | .hbm, ⟨23, _⟩ => ⟨S32x2048x1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1x1x1024, .f32⟩
  | .hbm, ⟨28, _⟩ => ⟨S32x256x1024, .f32⟩
  | .hbm, ⟨29, _⟩ => ⟨S32x256x1024, .f32⟩
  | .hbm, ⟨30, _⟩ => ⟨S1x1x1024, .f32⟩
  | .hbm, ⟨31, _⟩ => ⟨S32x256x1024, .f32⟩
  | .hbm, ⟨32, _⟩ => ⟨S32x256x1024, .f32⟩
  | .hbm, ⟨33, _⟩ => ⟨S_, .f32⟩
  | .hbm, ⟨34, _⟩ => ⟨S32x1x1024, .f32⟩
  | .hbm, ⟨35, _⟩ => ⟨S32x1x1024, .f32⟩
  | .hbm, ⟨36, _⟩ => ⟨S32x2048x1024, .f32⟩
  | .hbm, ⟨37, _⟩ => ⟨S32x2048x1024, .f32⟩
  | .hbm, ⟨38, _⟩ => ⟨S32x2048x1024, .f32⟩
  | .hbm, ⟨39, _⟩ => ⟨S32x2048x1024, .f32⟩
  | .hbm, ⟨40, _⟩ => ⟨S32x256x2048, .f32⟩
  | .hbm, ⟨41, _⟩ => ⟨S32x2048x2048, .f32⟩
  | .hbm, ⟨42, _⟩ => ⟨S32x2304x2048, .f32⟩
  | .hbm, ⟨43, _⟩ => ⟨S32x2304x16x128, .f32⟩
  | .hbm, ⟨44, _⟩ => ⟨S16x32x2304x128, .f32⟩
  | .hbm, ⟨45, _⟩ => ⟨S16x32x2304x128, .bf16⟩
  | _, _ => ⟨S32x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst_0 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩

abbrev nD : Nat := 1
abbrev τ : Topo := Topo.v7x

variable {F : FTy → Type} [FloatOps F]
-- ==== Kernel6.lean ====
abbrev S32x2304x2048 : Shape := ⟨3, ![32, 2304, 2048]⟩
abbrev S2048x4096 : Shape := ⟨2, ![2048, 4096]⟩
abbrev S32x2304x4096 : Shape := ⟨3, ![32, 2304, 4096]⟩
abbrev S1x256x2048 : Shape := ⟨3, ![1, 256, 2048]⟩
abbrev S1x256x4096 : Shape := ⟨3, ![1, 256, 4096]⟩
abbrev S256x2048 : Shape := ⟨2, ![256, 2048]⟩
abbrev S2048x1024 : Shape := ⟨2, ![2048, 1024]⟩
abbrev S256x1024 : Shape := ⟨2, ![256, 1024]⟩
abbrev S1x256x1024 : Shape := ⟨3, ![1, 256, 1024]⟩

abbrev nBuf : Space → Nat
  | .hbm => 4
  | .vmem => 5
  | .smem => 0
  | _ => 0

abbrev bufTy : (tb : Table) → Fin (tcTables nBuf tb) → BufTy
  | .hbm, ⟨0, _⟩ => ⟨S32x2304x2048, .f32⟩
  | .hbm, ⟨1, _⟩ => ⟨S2048x4096, .f32⟩
  | .hbm, ⟨2, _⟩ => ⟨S2048x4096, .bf16⟩
  | .hbm, ⟨3, _⟩ => ⟨S32x2304x4096, .f32⟩
  | .local _ .vmem, ⟨0, _⟩ => ⟨S1x256x2048, .f32⟩
  | .local _ .vmem, ⟨1, _⟩ => ⟨S1x256x2048, .f32⟩
  | .local _ .vmem, ⟨2, _⟩ => ⟨S2048x4096, .bf16⟩
  | .local _ .vmem, ⟨3, _⟩ => ⟨S1x256x4096, .f32⟩
  | .local _ .vmem, ⟨4, _⟩ => ⟨S1x256x4096, .f32⟩
  | _, _ => ⟨S32x2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S32x2304x2048 : Shape := ⟨3, ![32, 2304, 2048]⟩
abbrev S2048x4096 : Shape := ⟨2, ![2048, 4096]⟩
abbrev S32x2304x4096 : Shape := ⟨3, ![32, 2304, 4096]⟩

abbrev nBuf : Space → Nat
  | .hbm => 3
  | .vmem => 0
  | .smem => 0
  | _ => 0

abbrev bufTy : (tb : Table) → Fin (tcTables nBuf tb) → BufTy
  | .hbm, ⟨0, _⟩ => ⟨S32x2304x2048, .f32⟩
  | .hbm, ⟨1, _⟩ => ⟨S2048x4096, .f32⟩
  | .hbm, ⟨2, _⟩ => ⟨S32x2304x4096, .f32⟩
  | _, _ => ⟨S32x2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel7.lean ====
abbrev S32x2304x6144 : Shape := ⟨3, ![32, 2304, 6144]⟩
abbrev S2048x2048 : Shape := ⟨2, ![2048, 2048]⟩
abbrev S32x2304x2048 : Shape := ⟨3, ![32, 2304, 2048]⟩
abbrev S1x256x2048 : Shape := ⟨3, ![1, 256, 2048]⟩
abbrev S256x2048 : Shape := ⟨2, ![256, 2048]⟩
abbrev S2048x1024 : Shape := ⟨2, ![2048, 1024]⟩
abbrev S256x1024 : Shape := ⟨2, ![256, 1024]⟩
abbrev S1x256x1024 : Shape := ⟨3, ![1, 256, 1024]⟩

abbrev nBuf : Space → Nat
  | .hbm => 4
  | .vmem => 5
  | .smem => 0
  | _ => 0

abbrev bufTy : (tb : Table) → Fin (tcTables nBuf tb) → BufTy
  | .hbm, ⟨0, _⟩ => ⟨S32x2304x6144, .f32⟩
  | .hbm, ⟨1, _⟩ => ⟨S2048x2048, .f32⟩
  | .hbm, ⟨2, _⟩ => ⟨S2048x2048, .bf16⟩
  | .hbm, ⟨3, _⟩ => ⟨S32x2304x2048, .f32⟩
  | .local _ .vmem, ⟨0, _⟩ => ⟨S1x256x2048, .f32⟩
  | .local _ .vmem, ⟨1, _⟩ => ⟨S1x256x2048, .f32⟩
  | .local _ .vmem, ⟨2, _⟩ => ⟨S2048x2048, .bf16⟩
  | .local _ .vmem, ⟨3, _⟩ => ⟨S1x256x2048, .f32⟩
  | .local _ .vmem, ⟨4, _⟩ => ⟨S1x256x2048, .f32⟩
  | _, _ => ⟨S32x2304x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S32x2304x6144 : Shape := ⟨3, ![32, 2304, 6144]⟩
abbrev S2048x2048 : Shape := ⟨2, ![2048, 2048]⟩
abbrev S32x2304x2048 : Shape := ⟨3, ![32, 2304, 2048]⟩

abbrev nBuf : Space → Nat
  | .hbm => 6
  | .vmem => 0
  | .smem => 0
  | _ => 0

abbrev bufTy : (tb : Table) → Fin (tcTables nBuf tb) → BufTy
  | .hbm, ⟨0, _⟩ => ⟨S32x2304x6144, .f32⟩
  | .hbm, ⟨1, _⟩ => ⟨S2048x2048, .f32⟩
  | .hbm, ⟨2, _⟩ => ⟨S32x2304x2048, .f32⟩
  | .hbm, ⟨3, _⟩ => ⟨S32x2304x2048, .f32⟩
  | .hbm, ⟨4, _⟩ => ⟨S32x2304x2048, .f32⟩
  | .hbm, ⟨5, _⟩ => ⟨S32x2304x2048, .f32⟩
  | _, _ => ⟨S32x2304x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel8.lean ====
abbrev S32x2304x1024 : Shape := ⟨3, ![32, 2304, 1024]⟩
abbrev S32x6144 : Shape := ⟨2, ![32, 6144]⟩
abbrev S6144 : Shape := ⟨1, ![6144]⟩
abbrev S1024 : Shape := ⟨1, ![1024]⟩
abbrev S1024x1024 : Shape := ⟨2, ![1024, 1024]⟩
abbrev S1x1024 : Shape := ⟨2, ![1, 1024]⟩
abbrev S32x1x6x1024 : Shape := ⟨4, ![32, 1, 6, 1024]⟩
abbrev S1x1x6x1024 : Shape := ⟨4, ![1, 1, 6, 1024]⟩
abbrev S32x8x6x1024 : Shape := ⟨4, ![32, 8, 6, 1024]⟩
abbrev S32x9x6x1024 : Shape := ⟨4, ![32, 9, 6, 1024]⟩
abbrev S1x256x1024 : Shape := ⟨3, ![1, 256, 1024]⟩
abbrev S256x1024 : Shape := ⟨2, ![256, 1024]⟩
abbrev S1x1x1x1024 : Shape := ⟨4, ![1, 1, 1, 1024]⟩
abbrev S256 : Shape := ⟨1, ![256]⟩
abbrev S256x1 : Shape := ⟨2, ![256, 1]⟩

abbrev nBuf : Space → Nat
  | .hbm => 16
  | .vmem => 11
  | .smem => 0
  | _ => 0

abbrev bufTy : (tb : Table) → Fin (tcTables nBuf tb) → BufTy
  | .hbm, ⟨0, _⟩ => ⟨S32x2304x1024, .f32⟩
  | .hbm, ⟨1, _⟩ => ⟨S32x2304x1024, .f32⟩
  | .hbm, ⟨2, _⟩ => ⟨S32x6144, .f32⟩
  | .hbm, ⟨3, _⟩ => ⟨S6144, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1x1024, .f32⟩
  | .hbm, ⟨8, _⟩ => ⟨S1x1024, .f32⟩
  | .hbm, ⟨9, _⟩ => ⟨S1024x1024, .bf16⟩
  | .hbm, ⟨10, _⟩ => ⟨S32x1x6x1024, .f32⟩
  | .hbm, ⟨11, _⟩ => ⟨S1x1x6x1024, .f32⟩
  | .hbm, ⟨12, _⟩ => ⟨S32x1x6x1024, .f32⟩
  | .hbm, ⟨13, _⟩ => ⟨S32x8x6x1024, .f32⟩
  | .hbm, ⟨14, _⟩ => ⟨S32x9x6x1024, .f32⟩
  | .hbm, ⟨15, _⟩ => ⟨S32x2304x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1x6x1024, .f32⟩
  | .local _ .vmem, ⟨5, _⟩ => ⟨S1x1x6x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1x256x1024, .f32⟩
  | .local _ .vmem, ⟨10, _⟩ => ⟨S1x256x1024, .f32⟩
  | _, _ => ⟨S32x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![32, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference8Ideal.lean ====
abbrev S32x2304x1024 : Shape := ⟨3, ![32, 2304, 1024]⟩
abbrev S32x6144 : Shape := ⟨2, ![32, 6144]⟩
abbrev S6144 : Shape := ⟨1, ![6144]⟩
abbrev S1024 : Shape := ⟨1, ![1024]⟩
abbrev S1024x1024 : Shape := ⟨2, ![1024, 1024]⟩
abbrev S32x1024 : Shape := ⟨2, ![32, 1024]⟩
abbrev S32x1x1024 : Shape := ⟨3, ![32, 1, 1024]⟩
abbrev S32x256x1024 : Shape := ⟨3, ![32, 256, 1024]⟩
abbrev S32x2048x1024 : Shape := ⟨3, ![32, 2048, 1024]⟩
abbrev S_ : Shape := ⟨0, ![]⟩
abbrev S1x1x1024 : Shape := ⟨3, ![1, 1, 1024]⟩
abbrev S32x256 : Shape := ⟨2, ![32, 256]⟩
abbrev S32x256x1 : Shape := ⟨3, ![32, 256, 1]⟩
abbrev S32x2048 : Shape := ⟨2, ![32, 2048]⟩
abbrev S32x2048x1 : Shape := ⟨3, ![32, 2048, 1]⟩

abbrev nBuf : Space → Nat
  | .hbm => 102
  | .vmem => 0
  | .smem => 0
  | _ => 0

abbrev bufTy : (tb : Table) → Fin (tcTables nBuf tb) → BufTy
  | .hbm, ⟨0, _⟩ => ⟨S32x2304x1024, .f32⟩
  | .hbm, ⟨1, _⟩ => ⟨S32x2304x1024, .f32⟩
  | .hbm, ⟨2, _⟩ => ⟨S32x6144, .f32⟩
  | .hbm, ⟨3, _⟩ => ⟨S6144, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S32x2304x1024, .f32⟩
  | .hbm, ⟨8, _⟩ => ⟨S32x1024, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S32x1024, .f32⟩
  | .hbm, ⟨13, _⟩ => ⟨S32x1024, .f32⟩
  | .hbm, ⟨14, _⟩ => ⟨S32x1x1024, .f32⟩
  | .hbm, ⟨15, _⟩ => ⟨S32x1x1024, .f32⟩
  | .hbm, ⟨16, _⟩ => ⟨S32x1x1024, .f32⟩
  | .hbm, ⟨17, _⟩ => ⟨S32x1x1024, .f32⟩
  | .hbm, ⟨18, _⟩ => ⟨S32x1x1024, .f32⟩
  | .hbm, ⟨19, _⟩ => ⟨S32x1x1024, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S32x256x1024, .f32⟩
  | .hbm, ⟨27, _⟩ => ⟨S32x2048x1024, .f32⟩
  | .hbm, ⟨28, _⟩ => ⟨S32x256x1024, .f32⟩
  | .hbm, ⟨29, _⟩ => ⟨S32x2048x1024, .f32⟩
  | .hbm, ⟨30, _⟩ => ⟨S_, .f32⟩
  | .hbm, ⟨31, _⟩ => ⟨S32x256x1024, .f32⟩
  | .hbm, ⟨32, _⟩ => ⟨S32x256x1024, .f32⟩
  | .hbm, ⟨33, _⟩ => ⟨S1x1x1024, .f32⟩
  | .hbm, ⟨34, _⟩ => ⟨S32x256x1024, .f32⟩
  | .hbm, ⟨35, _⟩ => ⟨S32x256x1024, .f32⟩
  | .hbm, ⟨36, _⟩ => ⟨S32x256x1024, .f32⟩
  | .hbm, ⟨37, _⟩ => ⟨S_, .f32⟩
  | .hbm, ⟨38, _⟩ => ⟨S32x256, .f32⟩
  | .hbm, ⟨39, _⟩ => ⟨S32x256x1, .f32⟩
  | .hbm, ⟨40, _⟩ => ⟨S_, .f32⟩
  | .hbm, ⟨41, _⟩ => ⟨S32x256x1, .f32⟩
  | .hbm, ⟨42, _⟩ => ⟨S32x256x1, .f32⟩
  | .hbm, ⟨43, _⟩ => ⟨S32x256x1024, .f32⟩
  | .hbm, ⟨44, _⟩ => ⟨S32x256x1024, .f32⟩
  | .hbm, ⟨45, _⟩ => ⟨S32x256x1024, .f32⟩
  | .hbm, ⟨46, _⟩ => ⟨S_, .f32⟩
  | .hbm, ⟨47, _⟩ => ⟨S32x256, .f32⟩
  | .hbm, ⟨48, _⟩ => ⟨S32x256x1, .f32⟩
  | .hbm, ⟨49, _⟩ => ⟨S_, .f32⟩
  | .hbm, ⟨50, _⟩ => ⟨S32x256x1, .f32⟩
  | .hbm, ⟨51, _⟩ => ⟨S32x256x1, .f32⟩
  | .hbm, ⟨52, _⟩ => ⟨S32x256x1024, .f32⟩
  | .hbm, ⟨53, _⟩ => ⟨S32x256x1024, .f32⟩
  | .hbm, ⟨54, _⟩ => ⟨S_, .f32⟩
  | .hbm, ⟨55, _⟩ => ⟨S32x256x1, .f32⟩
  | .hbm, ⟨56, _⟩ => ⟨S32x256x1, .f32⟩
  | .hbm, ⟨57, _⟩ => ⟨S32x256x1, .f32⟩
  | .hbm, ⟨58, _⟩ => ⟨S32x256x1024, .f32⟩
  | .hbm, ⟨59, _⟩ => ⟨S32x256x1024, .f32⟩
  | .hbm, ⟨60, _⟩ => ⟨S1x1x1024, .f32⟩
  | .hbm, ⟨61, _⟩ => ⟨S32x256x1024, .f32⟩
  | .hbm, ⟨62, _⟩ => ⟨S32x256x1024, .f32⟩
  | .hbm, ⟨63, _⟩ => ⟨S1x1x1024, .f32⟩
  | .hbm, ⟨64, _⟩ => ⟨S32x256x1024, .f32⟩
  | .hbm, ⟨65, _⟩ => ⟨S32x256x1024, .f32⟩
  | .hbm, ⟨66, _⟩ => ⟨S_, .f32⟩
  | .hbm, ⟨67, _⟩ => ⟨S32x2048x1024, .f32⟩
  | .hbm, ⟨68, _⟩ => ⟨S32x2048x1024, .f32⟩
  | .hbm, ⟨69, _⟩ => ⟨S32x2048x1024, .f32⟩
  | .hbm, ⟨70, _⟩ => ⟨S32x2048x1024, .f32⟩
  | .hbm, ⟨71, _⟩ => ⟨S32x2048x1024, .f32⟩
  | .hbm, ⟨72, _⟩ => ⟨S_, .f32⟩
  | .hbm, ⟨73, _⟩ => ⟨S32x2048, .f32⟩
  | .hbm, ⟨74, _⟩ => ⟨S32x2048x1, .f32⟩
  | .hbm, ⟨75, _⟩ => ⟨S_, .f32⟩
  | .hbm, ⟨76, _⟩ => ⟨S32x2048x1, .f32⟩
  | .hbm, ⟨77, _⟩ => ⟨S32x2048x1, .f32⟩
  | .hbm, ⟨78, _⟩ => ⟨S32x2048x1024, .f32⟩
  | .hbm, ⟨79, _⟩ => ⟨S32x2048x1024, .f32⟩
  | .hbm, ⟨80, _⟩ => ⟨S32x2048x1024, .f32⟩
  | .hbm, ⟨81, _⟩ => ⟨S_, .f32⟩
  | .hbm, ⟨82, _⟩ => ⟨S32x2048, .f32⟩
  | .hbm, ⟨83, _⟩ => ⟨S32x2048x1, .f32⟩
  | .hbm, ⟨84, _⟩ => ⟨S_, .f32⟩
  | .hbm, ⟨85, _⟩ => ⟨S32x2048x1, .f32⟩
  | .hbm, ⟨86, _⟩ => ⟨S32x2048x1, .f32⟩
  | .hbm, ⟨87, _⟩ => ⟨S32x2048x1024, .f32⟩
  | .hbm, ⟨88, _⟩ => ⟨S32x2048x1024, .f32⟩
  | .hbm, ⟨89, _⟩ => ⟨S_, .f32⟩
  | .hbm, ⟨90, _⟩ => ⟨S32x2048x1, .f32⟩
  | .hbm, ⟨91, _⟩ => ⟨S32x2048x1, .f32⟩
  | .hbm, ⟨92, _⟩ => ⟨S32x2048x1, .f32⟩
  | .hbm, ⟨93, _⟩ => ⟨S32x2048x1024, .f32⟩
  | .hbm, ⟨94, _⟩ => ⟨S32x2048x1024, .f32⟩
  | .hbm, ⟨95, _⟩ => ⟨S1x1x1024, .f32⟩
  | .hbm, ⟨96, _⟩ => ⟨S32x2048x1024, .f32⟩
  | .hbm, ⟨97, _⟩ => ⟨S32x2048x1024, .f32⟩
  | .hbm, ⟨98, _⟩ => ⟨S1x1x1024, .f32⟩
  | .hbm, ⟨99, _⟩ => ⟨S32x2048x1024, .f32⟩
  | .hbm, ⟨100, _⟩ => ⟨S32x2048x1024, .f32⟩
  | .hbm, ⟨101, _⟩ => ⟨S32x2304x1024, .f32⟩
  | _, _ => ⟨S32x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_0 : Ref sig .tc := ⟨.hbm, 37, rfl⟩
abbrev main_v29 : Ref sig .tc := ⟨.hbm, 38, rfl⟩
abbrev main_v30 : Ref sig .tc := ⟨.hbm, 39, rfl⟩
abbrev main_cst_1 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_2 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_4 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_5 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_6 : Ref sig .tc := ⟨.hbm, 72, rfl⟩
abbrev main_v58 : Ref sig .tc := ⟨.hbm, 73, rfl⟩
abbrev main_v59 : Ref sig .tc := ⟨.hbm, 74, rfl⟩
abbrev main_cst_7 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_8 : Ref sig .tc := ⟨.hbm, 81, rfl⟩
abbrev main_v65 : Ref sig .tc := ⟨.hbm, 82, rfl⟩
abbrev main_v66 : Ref sig .tc := ⟨.hbm, 83, rfl⟩
abbrev main_cst_9 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_10 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩

abbrev nD : Nat := 1
abbrev τ : Topo := Topo.v7x

variable {F : FTy → Type} [FloatOps F]
-- ==== Kernel9.lean ====
abbrev S32x2304x4096 : Shape := ⟨3, ![32, 2304, 4096]⟩
abbrev S32x2304x6144 : Shape := ⟨3, ![32, 2304, 6144]⟩
abbrev S32x2304x1024 : Shape := ⟨3, ![32, 2304, 1024]⟩
abbrev S32x6144 : Shape := ⟨2, ![32, 6144]⟩
abbrev S6144 : Shape := ⟨1, ![6144]⟩
abbrev S2048 : Shape := ⟨1, ![2048]⟩
abbrev S1024 : Shape := ⟨1, ![1024]⟩
abbrev S2048x1024 : Shape := ⟨2, ![2048, 1024]⟩
abbrev S1x1024 : Shape := ⟨2, ![1, 1024]⟩
abbrev S1x2048 : Shape := ⟨2, ![1, 2048]⟩
abbrev S32x1x6x1024 : Shape := ⟨4, ![32, 1, 6, 1024]⟩
abbrev S1x1x6x1024 : Shape := ⟨4, ![1, 1, 6, 1024]⟩
abbrev S32x8x6x1024 : Shape := ⟨4, ![32, 8, 6, 1024]⟩
abbrev S32x9x6x1024 : Shape := ⟨4, ![32, 9, 6, 1024]⟩
abbrev S1x256x2048 : Shape := ⟨3, ![1, 256, 2048]⟩
abbrev S1x256x1024 : Shape := ⟨3, ![1, 256, 1024]⟩
abbrev S256x2048 : Shape := ⟨2, ![256, 2048]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S1x1x1x1024 : Shape := ⟨4, ![1, 1, 1, 1024]⟩

abbrev nBuf : Space → Nat
  | .hbm => 19
  | .vmem => 16
  | .smem => 0
  | _ => 0

abbrev bufTy : (tb : Table) → Fin (tcTables nBuf tb) → BufTy
  | .hbm, ⟨0, _⟩ => ⟨S32x2304x4096, .f32⟩
  | .hbm, ⟨1, _⟩ => ⟨S32x2304x6144, .f32⟩
  | .hbm, ⟨2, _⟩ => ⟨S32x2304x1024, .f32⟩
  | .hbm, ⟨3, _⟩ => ⟨S32x6144, .f32⟩
  | .hbm, ⟨4, _⟩ => ⟨S6144, .f32⟩
  | .hbm, ⟨5, _⟩ => ⟨S2048, .f32⟩
  | .hbm, ⟨6, _⟩ => ⟨S1024, .f32⟩
  | .hbm, ⟨7, _⟩ => ⟨S1024, .f32⟩
  | .hbm, ⟨8, _⟩ => ⟨S2048x1024, .f32⟩
  | .hbm, ⟨9, _⟩ => ⟨S1x1024, .f32⟩
  | .hbm, ⟨10, _⟩ => ⟨S1x1024, .f32⟩
  | .hbm, ⟨11, _⟩ => ⟨S1x2048, .f32⟩
  | .hbm, ⟨12, _⟩ => ⟨S2048x1024, .bf16⟩
  | .hbm, ⟨13, _⟩ => ⟨S32x1x6x1024, .f32⟩
  | .hbm, ⟨14, _⟩ => ⟨S1x1x6x1024, .f32⟩
  | .hbm, ⟨15, _⟩ => ⟨S32x1x6x1024, .f32⟩
  | .hbm, ⟨16, _⟩ => ⟨S32x8x6x1024, .f32⟩
  | .hbm, ⟨17, _⟩ => ⟨S32x9x6x1024, .f32⟩
  | .hbm, ⟨18, _⟩ => ⟨S32x2304x1024, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x1024, .f32⟩
  | .local _ .vmem, ⟨7, _⟩ => ⟨S1x256x1024, .f32⟩
  | .local _ .vmem, ⟨8, _⟩ => ⟨S1x1x6x1024, .f32⟩
  | .local _ .vmem, ⟨9, _⟩ => ⟨S1x1x6x1024, .f32⟩
  | .local _ .vmem, ⟨10, _⟩ => ⟨S1x2048, .f32⟩
  | .local _ .vmem, ⟨11, _⟩ => ⟨S1x1024, .f32⟩
  | .local _ .vmem, ⟨12, _⟩ => ⟨S1x1024, .f32⟩
  | .local _ .vmem, ⟨13, _⟩ => ⟨S2048x1024, .bf16⟩
  | .local _ .vmem, ⟨14, _⟩ => ⟨S1x256x1024, .f32⟩
  | .local _ .vmem, ⟨15, _⟩ => ⟨S1x256x1024, .f32⟩
  | _, _ => ⟨S32x2304x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![32, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference9Ideal.lean ====
abbrev S32x2304x4096 : Shape := ⟨3, ![32, 2304, 4096]⟩
abbrev S32x2304x6144 : Shape := ⟨3, ![32, 2304, 6144]⟩
abbrev S32x2304x1024 : Shape := ⟨3, ![32, 2304, 1024]⟩
abbrev S32x6144 : Shape := ⟨2, ![32, 6144]⟩
abbrev S6144 : Shape := ⟨1, ![6144]⟩
abbrev S2048 : Shape := ⟨1, ![2048]⟩
abbrev S1024 : Shape := ⟨1, ![1024]⟩
abbrev S2048x1024 : Shape := ⟨2, ![2048, 1024]⟩
abbrev S32x2304x2048 : Shape := ⟨3, ![32, 2304, 2048]⟩
abbrev S32x2304x4x512 : Shape := ⟨4, ![32, 2304, 4, 512]⟩
abbrev S_ : Shape := ⟨0, ![]⟩
abbrev S32x2304x4 : Shape := ⟨3, ![32, 2304, 4]⟩
abbrev S32x2304x4x1 : Shape := ⟨4, ![32, 2304, 4, 1]⟩
abbrev S1x1x2048 : Shape := ⟨3, ![1, 1, 2048]⟩
abbrev S32x1024 : Shape := ⟨2, ![32, 1024]⟩
abbrev S32x1x1024 : Shape := ⟨3, ![32, 1, 1024]⟩
abbrev S32x256x1024 : Shape := ⟨3, ![32, 256, 1024]⟩
abbrev S32x2048x1024 : Shape := ⟨3, ![32, 2048, 1024]⟩
abbrev S1x1x1024 : Shape := ⟨3, ![1, 1, 1024]⟩
abbrev S32x256 : Shape := ⟨2, ![32, 256]⟩
abbrev S32x256x1 : Shape := ⟨3, ![32, 256, 1]⟩
abbrev S32x2048 : Shape := ⟨2, ![32, 2048]⟩
abbrev S32x2048x1 : Shape := ⟨3, ![32, 2048, 1]⟩

abbrev nBuf : Space → Nat
  | .hbm => 149
  | .vmem => 0
  | .smem => 0
  | _ => 0

abbrev hbmTy0_0 (i : Nat) : BufTy := match i % 128 with
  | 0 => ⟨S32x2304x4096, .f32⟩
  | 1 => ⟨S32x2304x6144, .f32⟩
  | 2 => ⟨S32x2304x1024, .f32⟩
  | 3 => ⟨S32x6144, .f32⟩
  | 4 => ⟨S6144, .f32⟩
  | 5 => ⟨S2048, .f32⟩
  | 6 => ⟨S1024, .f32⟩
  | 7 => ⟨S1024, .f32⟩
  | 8 => ⟨S2048x1024, .f32⟩
  | 9 => ⟨S32x2304x2048, .f32⟩
  | 10 => ⟨S32x2304x2048, .f32⟩
  | 11 => ⟨S32x2304x1024, .f32⟩
  | 12 => ⟨S32x2304x1024, .f32⟩
  | 13 => ⟨S32x2304x2048, .f32⟩
  | 14 => ⟨S32x2304x2048, .f32⟩
  | 15 => ⟨S32x2304x2048, .f32⟩
  | 16 => ⟨S32x2304x4x512, .f32⟩
  | 17 => ⟨S_, .f32⟩
  | 18 => ⟨S32x2304x4, .f32⟩
  | 19 => ⟨S32x2304x4x1, .f32⟩
  | 20 => ⟨S_, .f32⟩
  | 21 => ⟨S32x2304x4x1, .f32⟩
  | 22 => ⟨S32x2304x4x1, .f32⟩
  | 23 => ⟨S32x2304x4x512, .f32⟩
  | 24 => ⟨S32x2304x4x512, .f32⟩
  | 25 => ⟨S32x2304x4x512, .f32⟩
  | 26 => ⟨S_, .f32⟩
  | 27 => ⟨S32x2304x4, .f32⟩
  | 28 => ⟨S32x2304x4x1, .f32⟩
  | 29 => ⟨S_, .f32⟩
  | 30 => ⟨S32x2304x4x1, .f32⟩
  | 31 => ⟨S32x2304x4x1, .f32⟩
  | 32 => ⟨S32x2304x4x512, .f32⟩
  | 33 => ⟨S32x2304x4x512, .f32⟩
  | 34 => ⟨S_, .f32⟩
  | 35 => ⟨S32x2304x4x1, .f32⟩
  | 36 => ⟨S32x2304x4x1, .f32⟩
  | 37 => ⟨S32x2304x4x1, .f32⟩
  | 38 => ⟨S32x2304x4x512, .f32⟩
  | 39 => ⟨S32x2304x4x512, .f32⟩
  | 40 => ⟨S32x2304x2048, .f32⟩
  | 41 => ⟨S1x1x2048, .f32⟩
  | 42 => ⟨S32x2304x2048, .f32⟩
  | 43 => ⟨S32x2304x2048, .f32⟩
  | 44 => ⟨S32x2304x2048, .f32⟩
  | 45 => ⟨S32x2304x2048, .f32⟩
  | 46 => ⟨S_, .f32⟩
  | 47 => ⟨S32x2304x2048, .f32⟩
  | 48 => ⟨S32x2304x2048, .f32⟩
  | 49 => ⟨S_, .f32⟩
  | 50 => ⟨S32x2304x2048, .f32⟩
  | 51 => ⟨S32x2304x2048, .f32⟩
  | 52 => ⟨S32x2304x2048, .f32⟩
  | 53 => ⟨S32x2304x2048, .f32⟩
  | 54 => ⟨S32x2304x1024, .f32⟩
  | 55 => ⟨S32x1024, .f32⟩
  | 56 => ⟨S32x1024, .f32⟩
  | 57 => ⟨S32x1024, .f32⟩
  | 58 => ⟨S32x1024, .f32⟩
  | 59 => ⟨S32x1024, .f32⟩
  | 60 => ⟨S32x1024, .f32⟩
  | 61 => ⟨S32x1x1024, .f32⟩
  | 62 => ⟨S32x1x1024, .f32⟩
  | 63 => ⟨S32x1x1024, .f32⟩
  | 64 => ⟨S32x1x1024, .f32⟩
  | 65 => ⟨S32x1x1024, .f32⟩
  | 66 => ⟨S32x1x1024, .f32⟩
  | 67 => ⟨S1024, .f32⟩
  | 68 => ⟨S1024, .f32⟩
  | 69 => ⟨S1024, .f32⟩
  | 70 => ⟨S1024, .f32⟩
  | 71 => ⟨S1024, .f32⟩
  | 72 => ⟨S1024, .f32⟩
  | 73 => ⟨S32x256x1024, .f32⟩
  | 74 => ⟨S32x2048x1024, .f32⟩
  | 75 => ⟨S32x256x1024, .f32⟩
  | 76 => ⟨S32x2048x1024, .f32⟩
  | 77 => ⟨S_, .f32⟩
  | 78 => ⟨S32x256x1024, .f32⟩
  | 79 => ⟨S32x256x1024, .f32⟩
  | 80 => ⟨S1x1x1024, .f32⟩
  | 81 => ⟨S32x256x1024, .f32⟩
  | 82 => ⟨S32x256x1024, .f32⟩
  | 83 => ⟨S32x256x1024, .f32⟩
  | 84 => ⟨S_, .f32⟩
  | 85 => ⟨S32x256, .f32⟩
  | 86 => ⟨S32x256x1, .f32⟩
  | 87 => ⟨S_, .f32⟩
  | 88 => ⟨S32x256x1, .f32⟩
  | 89 => ⟨S32x256x1, .f32⟩
  | 90 => ⟨S32x256x1024, .f32⟩
  | 91 => ⟨S32x256x1024, .f32⟩
  | 92 => ⟨S32x256x1024, .f32⟩
  | 93 => ⟨S_, .f32⟩
  | 94 => ⟨S32x256, .f32⟩
  | 95 => ⟨S32x256x1, .f32⟩
  | 96 => ⟨S_, .f32⟩
  | 97 => ⟨S32x256x1, .f32⟩
  | 98 => ⟨S32x256x1, .f32⟩
  | 99 => ⟨S32x256x1024, .f32⟩
  | 100 => ⟨S32x256x1024, .f32⟩
  | 101 => ⟨S_, .f32⟩
  | 102 => ⟨S32x256x1, .f32⟩
  | 103 => ⟨S32x256x1, .f32⟩
  | 104 => ⟨S32x256x1, .f32⟩
  | 105 => ⟨S32x256x1024, .f32⟩
  | 106 => ⟨S32x256x1024, .f32⟩
  | 107 => ⟨S1x1x1024, .f32⟩
  | 108 => ⟨S32x256x1024, .f32⟩
  | 109 => ⟨S32x256x1024, .f32⟩
  | 110 => ⟨S1x1x1024, .f32⟩
  | 111 => ⟨S32x256x1024, .f32⟩
  | 112 => ⟨S32x256x1024, .f32⟩
  | 113 => ⟨S_, .f32⟩
  | 114 => ⟨S32x2048x1024, .f32⟩
  | 115 => ⟨S32x2048x1024, .f32⟩
  | 116 => ⟨S32x2048x1024, .f32⟩
  | 117 => ⟨S32x2048x1024, .f32⟩
  | 118 => ⟨S32x2048x1024, .f32⟩
  | 119 => ⟨S_, .f32⟩
  | 120 => ⟨S32x2048, .f32⟩
  | 121 => ⟨S32x2048x1, .f32⟩
  | 122 => ⟨S_, .f32⟩
  | 123 => ⟨S32x2048x1, .f32⟩
  | 124 => ⟨S32x2048x1, .f32⟩
  | 125 => ⟨S32x2048x1024, .f32⟩
  | 126 => ⟨S32x2048x1024, .f32⟩
  | 127 => ⟨S32x2048x1024, .f32⟩
  | _ => ⟨S32x2304x4096, .f32⟩

abbrev hbmTy0_1 (i : Nat) : BufTy := match i % 128 with
  | 0 => ⟨S_, .f32⟩
  | 1 => ⟨S32x2048, .f32⟩
  | 2 => ⟨S32x2048x1, .f32⟩
  | 3 => ⟨S_, .f32⟩
  | 4 => ⟨S32x2048x1, .f32⟩
  | 5 => ⟨S32x2048x1, .f32⟩
  | 6 => ⟨S32x2048x1024, .f32⟩
  | 7 => ⟨S32x2048x1024, .f32⟩
  | 8 => ⟨S_, .f32⟩
  | 9 => ⟨S32x2048x1, .f32⟩
  | 10 => ⟨S32x2048x1, .f32⟩
  | 11 => ⟨S32x2048x1, .f32⟩
  | 12 => ⟨S32x2048x1024, .f32⟩
  | 13 => ⟨S32x2048x1024, .f32⟩
  | 14 => ⟨S1x1x1024, .f32⟩
  | 15 => ⟨S32x2048x1024, .f32⟩
  | 16 => ⟨S32x2048x1024, .f32⟩
  | 17 => ⟨S1x1x1024, .f32⟩
  | 18 => ⟨S32x2048x1024, .f32⟩
  | 19 => ⟨S32x2048x1024, .f32⟩
  | 20 => ⟨S32x2304x1024, .f32⟩
  | _ => ⟨S32x2304x4096, .f32⟩

abbrev hbmTy (i : Nat) : BufTy := match i / 128 with
  | 0 => hbmTy0_0 i
  | 1 => hbmTy0_1 i
  | _ => ⟨S32x2304x4096, .f32⟩

abbrev bufTy : (tb : Table) → Fin (tcTables nBuf tb) → BufTy
  | .hbm, ⟨i, _⟩ => hbmTy i
  | _, _ => ⟨S32x2304x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_4 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_5 : Ref sig .tc := ⟨.hbm, 84, rfl⟩
abbrev main_v61 : Ref sig .tc := ⟨.hbm, 85, rfl⟩
abbrev main_v62 : Ref sig .tc := ⟨.hbm, 86, rfl⟩
abbrev main_cst_6 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_7 : Ref sig .tc := ⟨.hbm, 93, rfl⟩
abbrev main_v68 : Ref sig .tc := ⟨.hbm, 94, rfl⟩
abbrev main_v69 : Ref sig .tc := ⟨.hbm, 95, rfl⟩
abbrev main_cst_8 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_9 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_10 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_11 : Ref sig .tc := ⟨.hbm, 119, rfl⟩
abbrev main_v90 : Ref sig .tc := ⟨.hbm, 120, rfl⟩
abbrev main_v91 : Ref sig .tc := ⟨.hbm, 121, rfl⟩
abbrev main_cst_12 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_13 : Ref sig .tc := ⟨.hbm, 128, rfl⟩
abbrev main_v97 : Ref sig .tc := ⟨.hbm, 129, rfl⟩
abbrev main_v98 : Ref sig .tc := ⟨.hbm, 130, rfl⟩
abbrev main_cst_14 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_15 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩

abbrev nD : Nat := 1
abbrev τ : Topo := Topo.v7x

variable {F : FTy → Type} [FloatOps F]
-- ==== Kernel10.lean ====
abbrev S32x2304x4096 : Shape := ⟨3, ![32, 2304, 4096]⟩
abbrev S32x2304x6144 : Shape := ⟨3, ![32, 2304, 6144]⟩
abbrev S32x2304x1024 : Shape := ⟨3, ![32, 2304, 1024]⟩
abbrev S32x6144 : Shape := ⟨2, ![32, 6144]⟩
abbrev S6144 : Shape := ⟨1, ![6144]⟩
abbrev S32 : Shape := ⟨1, ![32]⟩
abbrev S2048 : Shape := ⟨1, ![2048]⟩
abbrev S1024 : Shape := ⟨1, ![1024]⟩
abbrev S2048x1024 : Shape := ⟨2, ![2048, 1024]⟩
abbrev S1x1024 : Shape := ⟨2, ![1, 1024]⟩
abbrev S32x64 : Shape := ⟨2, ![32, 64]⟩
abbrev S1x2048 : Shape := ⟨2, ![1, 2048]⟩
abbrev S32x1x6x1024 : Shape := ⟨4, ![32, 1, 6, 1024]⟩
abbrev S1x1x6x1024 : Shape := ⟨4, ![1, 1, 6, 1024]⟩
abbrev S32x8x6x1024 : Shape := ⟨4, ![32, 8, 6, 1024]⟩
abbrev S32x9x6x1024 : Shape := ⟨4, ![32, 9, 6, 1024]⟩
abbrev S1x256x2048 : Shape := ⟨3, ![1, 256, 2048]⟩
abbrev S1x256x1024 : Shape := ⟨3, ![1, 256, 1024]⟩
abbrev S256x2048 : Shape := ⟨2, ![256, 2048]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S1x1x1x1024 : Shape := ⟨4, ![1, 1, 1, 1024]⟩

abbrev nBuf : Space → Nat
  | .hbm => 24
  | .vmem => 19
  | .smem => 0
  | _ => 0

abbrev bufTy : (tb : Table) → Fin (tcTables nBuf tb) → BufTy
  | .hbm, ⟨0, _⟩ => ⟨S32x2304x4096, .f32⟩
  | .hbm, ⟨1, _⟩ => ⟨S32x2304x4096, .f32⟩
  | .hbm, ⟨2, _⟩ => ⟨S32x2304x6144, .f32⟩
  | .hbm, ⟨3, _⟩ => ⟨S32x2304x1024, .f32⟩
  | .hbm, ⟨4, _⟩ => ⟨S32x6144, .f32⟩
  | .hbm, ⟨5, _⟩ => ⟨S6144, .f32⟩
  | .hbm, ⟨6, _⟩ => ⟨S32, .f32⟩
  | .hbm, ⟨7, _⟩ => ⟨S2048, .f32⟩
  | .hbm, ⟨8, _⟩ => ⟨S1024, .f32⟩
  | .hbm, ⟨9, _⟩ => ⟨S1024, .f32⟩
  | .hbm, ⟨10, _⟩ => ⟨S2048x1024, .f32⟩
  | .hbm, ⟨11, _⟩ => ⟨S1x1024, .f32⟩
  | .hbm, ⟨12, _⟩ => ⟨S1x1024, .f32⟩
  | .hbm, ⟨13, _⟩ => ⟨S32x64, .f32⟩
  | .hbm, ⟨14, _⟩ => ⟨S2048, .f32⟩
  | .hbm, ⟨15, _⟩ => ⟨S1x2048, .f32⟩
  | .hbm, ⟨16, _⟩ => ⟨S1x2048, .f32⟩
  | .hbm, ⟨17, _⟩ => ⟨S2048x1024, .bf16⟩
  | .hbm, ⟨18, _⟩ => ⟨S32x1x6x1024, .f32⟩
  | .hbm, ⟨19, _⟩ => ⟨S1x1x6x1024, .f32⟩
  | .hbm, ⟨20, _⟩ => ⟨S32x1x6x1024, .f32⟩
  | .hbm, ⟨21, _⟩ => ⟨S32x8x6x1024, .f32⟩
  | .hbm, ⟨22, _⟩ => ⟨S32x9x6x1024, .f32⟩
  | .hbm, ⟨23, _⟩ => ⟨S32x2304x1024, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x1024, .f32⟩
  | .local _ .vmem, ⟨9, _⟩ => ⟨S1x256x1024, .f32⟩
  | .local _ .vmem, ⟨10, _⟩ => ⟨S1x1x6x1024, .f32⟩
  | .local _ .vmem, ⟨11, _⟩ => ⟨S1x1x6x1024, .f32⟩
  | .local _ .vmem, ⟨12, _⟩ => ⟨S1x2048, .f32⟩
  | .local _ .vmem, ⟨13, _⟩ => ⟨S1x2048, .f32⟩
  | .local _ .vmem, ⟨14, _⟩ => ⟨S1x1024, .f32⟩
  | .local _ .vmem, ⟨15, _⟩ => ⟨S1x1024, .f32⟩
  | .local _ .vmem, ⟨16, _⟩ => ⟨S2048x1024, .bf16⟩
  | .local _ .vmem, ⟨17, _⟩ => ⟨S1x256x1024, .f32⟩
  | .local _ .vmem, ⟨18, _⟩ => ⟨S1x256x1024, .f32⟩
  | _, _ => ⟨S32x2304x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![32, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2048x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference10Ideal.lean ====
abbrev S32x2304x4096 : Shape := ⟨3, ![32, 2304, 4096]⟩
abbrev S32x2304x6144 : Shape := ⟨3, ![32, 2304, 6144]⟩
abbrev S32x2304x1024 : Shape := ⟨3, ![32, 2304, 1024]⟩
abbrev S32x6144 : Shape := ⟨2, ![32, 6144]⟩
abbrev S6144 : Shape := ⟨1, ![6144]⟩
abbrev S32 : Shape := ⟨1, ![32]⟩
abbrev S2048 : Shape := ⟨1, ![2048]⟩
abbrev S1024 : Shape := ⟨1, ![1024]⟩
abbrev S2048x1024 : Shape := ⟨2, ![2048, 1024]⟩
abbrev S32x2304x2048 : Shape := ⟨3, ![32, 2304, 2048]⟩
abbrev S32x2304x8x4x64 : Shape := ⟨5, ![32, 2304, 8, 4, 64]⟩
abbrev S8x4 : Shape := ⟨2, ![8, 4]⟩
abbrev S8x4x1 : Shape := ⟨3, ![8, 4, 1]⟩
abbrev S1x1x8x4x1 : Shape := ⟨5, ![1, 1, 8, 4, 1]⟩
abbrev S_ : Shape := ⟨0, ![]⟩
abbrev S32x2304x8x256 : Shape := ⟨4, ![32, 2304, 8, 256]⟩
abbrev S32x2304x8 : Shape := ⟨3, ![32, 2304, 8]⟩
abbrev S32x2304x8x1 : Shape := ⟨4, ![32, 2304, 8, 1]⟩
abbrev S1x1x2048 : Shape := ⟨3, ![1, 1, 2048]⟩
abbrev S32x1024 : Shape := ⟨2, ![32, 1024]⟩
abbrev S32x1x1024 : Shape := ⟨3, ![32, 1, 1024]⟩
abbrev S32x256x1024 : Shape := ⟨3, ![32, 256, 1024]⟩
abbrev S32x2048x1024 : Shape := ⟨3, ![32, 2048, 1024]⟩
abbrev S1x1x1024 : Shape := ⟨3, ![1, 1, 1024]⟩
abbrev S32x256 : Shape := ⟨2, ![32, 256]⟩
abbrev S32x256x1 : Shape := ⟨3, ![32, 256, 1]⟩
abbrev S32x2048 : Shape := ⟨2, ![32, 2048]⟩
abbrev S32x2048x1 : Shape := ⟨3, ![32, 2048, 1]⟩

abbrev nBuf : Space → Nat
  | .hbm => 152
  | .vmem => 0
  | .smem => 0
  | _ => 0

abbrev hbmTy0_0 (i : Nat) : BufTy := match i % 128 with
  | 0 => ⟨S32x2304x4096, .f32⟩
  | 1 => ⟨S32x2304x4096, .f32⟩
  | 2 => ⟨S32x2304x6144, .f32⟩
  | 3 => ⟨S32x2304x1024, .f32⟩
  | 4 => ⟨S32x6144, .f32⟩
  | 5 => ⟨S6144, .f32⟩
  | 6 => ⟨S32, .f32⟩
  | 7 => ⟨S2048, .f32⟩
  | 8 => ⟨S1024, .f32⟩
  | 9 => ⟨S1024, .f32⟩
  | 10 => ⟨S2048x1024, .f32⟩
  | 11 => ⟨S32x2304x2048, .f32⟩
  | 12 => ⟨S32x2304x4096, .f32⟩
  | 13 => ⟨S32x2304x2048, .f32⟩
  | 14 => ⟨S32x2304x1024, .f32⟩
  | 15 => ⟨S32x2304x1024, .f32⟩
  | 16 => ⟨S32x2304x8x4x64, .f32⟩
  | 17 => ⟨S32x2304x2048, .f32⟩
  | 18 => ⟨S32x2304x2048, .f32⟩
  | 19 => ⟨S32x2304x8x4x64, .f32⟩
  | 20 => ⟨S32x2304x8x4x64, .f32⟩
  | 21 => ⟨S32x2304x8x4x64, .f32⟩
  | 22 => ⟨S8x4, .f32⟩
  | 23 => ⟨S8x4x1, .f32⟩
  | 24 => ⟨S1x1x8x4x1, .f32⟩
  | 25 => ⟨S32x2304x8x4x64, .f32⟩
  | 26 => ⟨S32x2304x8x4x64, .f32⟩
  | 27 => ⟨S32x2304x8x4x64, .f32⟩
  | 28 => ⟨S32x2304x2048, .f32⟩
  | 29 => ⟨S32x2304x2048, .f32⟩
  | 30 => ⟨S32x2304x2048, .f32⟩
  | 31 => ⟨S_, .f32⟩
  | 32 => ⟨S32x2304x2048, .f32⟩
  | 33 => ⟨S32x2304x2048, .f32⟩
  | 34 => ⟨S_, .f32⟩
  | 35 => ⟨S32x2304x2048, .f32⟩
  | 36 => ⟨S32x2304x2048, .f32⟩
  | 37 => ⟨S32x2304x2048, .f32⟩
  | 38 => ⟨S32x2304x2048, .f32⟩
  | 39 => ⟨S32x2304x8x256, .f32⟩
  | 40 => ⟨S32x2304x8x256, .f32⟩
  | 41 => ⟨S_, .f32⟩
  | 42 => ⟨S32x2304x8, .f32⟩
  | 43 => ⟨S32x2304x8x1, .f32⟩
  | 44 => ⟨S_, .f32⟩
  | 45 => ⟨S32x2304x8x1, .f32⟩
  | 46 => ⟨S32x2304x8x1, .f32⟩
  | 47 => ⟨S_, .f32⟩
  | 48 => ⟨S32x2304x8x1, .f32⟩
  | 49 => ⟨S32x2304x8x1, .f32⟩
  | 50 => ⟨S32x2304x8x1, .f32⟩
  | 51 => ⟨S32x2304x8x256, .f32⟩
  | 52 => ⟨S32x2304x8x256, .f32⟩
  | 53 => ⟨S32x2304x2048, .f32⟩
  | 54 => ⟨S1x1x2048, .f32⟩
  | 55 => ⟨S32x2304x2048, .f32⟩
  | 56 => ⟨S32x2304x2048, .f32⟩
  | 57 => ⟨S32x2304x1024, .f32⟩
  | 58 => ⟨S32x1024, .f32⟩
  | 59 => ⟨S32x1024, .f32⟩
  | 60 => ⟨S32x1024, .f32⟩
  | 61 => ⟨S32x1024, .f32⟩
  | 62 => ⟨S32x1024, .f32⟩
  | 63 => ⟨S32x1024, .f32⟩
  | 64 => ⟨S32x1x1024, .f32⟩
  | 65 => ⟨S32x1x1024, .f32⟩
  | 66 => ⟨S32x1x1024, .f32⟩
  | 67 => ⟨S32x1x1024, .f32⟩
  | 68 => ⟨S32x1x1024, .f32⟩
  | 69 => ⟨S32x1x1024, .f32⟩
  | 70 => ⟨S1024, .f32⟩
  | 71 => ⟨S1024, .f32⟩
  | 72 => ⟨S1024, .f32⟩
  | 73 => ⟨S1024, .f32⟩
  | 74 => ⟨S1024, .f32⟩
  | 75 => ⟨S1024, .f32⟩
  | 76 => ⟨S32x256x1024, .f32⟩
  | 77 => ⟨S32x2048x1024, .f32⟩
  | 78 => ⟨S32x256x1024, .f32⟩
  | 79 => ⟨S32x2048x1024, .f32⟩
  | 80 => ⟨S_, .f32⟩
  | 81 => ⟨S32x256x1024, .f32⟩
  | 82 => ⟨S32x256x1024, .f32⟩
  | 83 => ⟨S1x1x1024, .f32⟩
  | 84 => ⟨S32x256x1024, .f32⟩
  | 85 => ⟨S32x256x1024, .f32⟩
  | 86 => ⟨S32x256x1024, .f32⟩
  | 87 => ⟨S_, .f32⟩
  | 88 => ⟨S32x256, .f32⟩
  | 89 => ⟨S32x256x1, .f32⟩
  | 90 => ⟨S_, .f32⟩
  | 91 => ⟨S32x256x1, .f32⟩
  | 92 => ⟨S32x256x1, .f32⟩
  | 93 => ⟨S32x256x1024, .f32⟩
  | 94 => ⟨S32x256x1024, .f32⟩
  | 95 => ⟨S32x256x1024, .f32⟩
  | 96 => ⟨S_, .f32⟩
  | 97 => ⟨S32x256, .f32⟩
  | 98 => ⟨S32x256x1, .f32⟩
  | 99 => ⟨S_, .f32⟩
  | 100 => ⟨S32x256x1, .f32⟩
  | 101 => ⟨S32x256x1, .f32⟩
  | 102 => ⟨S32x256x1024, .f32⟩
  | 103 => ⟨S32x256x1024, .f32⟩
  | 104 => ⟨S_, .f32⟩
  | 105 => ⟨S32x256x1, .f32⟩
  | 106 => ⟨S32x256x1, .f32⟩
  | 107 => ⟨S32x256x1, .f32⟩
  | 108 => ⟨S32x256x1024, .f32⟩
  | 109 => ⟨S32x256x1024, .f32⟩
  | 110 => ⟨S1x1x1024, .f32⟩
  | 111 => ⟨S32x256x1024, .f32⟩
  | 112 => ⟨S32x256x1024, .f32⟩
  | 113 => ⟨S1x1x1024, .f32⟩
  | 114 => ⟨S32x256x1024, .f32⟩
  | 115 => ⟨S32x256x1024, .f32⟩
  | 116 => ⟨S_, .f32⟩
  | 117 => ⟨S32x2048x1024, .f32⟩
  | 118 => ⟨S32x2048x1024, .f32⟩
  | 119 => ⟨S32x2048x1024, .f32⟩
  | 120 => ⟨S32x2048x1024, .f32⟩
  | 121 => ⟨S32x2048x1024, .f32⟩
  | 122 => ⟨S_, .f32⟩
  | 123 => ⟨S32x2048, .f32⟩
  | 124 => ⟨S32x2048x1, .f32⟩
  | 125 => ⟨S_, .f32⟩
  | 126 => ⟨S32x2048x1, .f32⟩
  | 127 => ⟨S32x2048x1, .f32⟩
  | _ => ⟨S32x2304x4096, .f32⟩

abbrev hbmTy0_1 (i : Nat) : BufTy := match i % 128 with
  | 0 => ⟨S32x2048x1024, .f32⟩
  | 1 => ⟨S32x2048x1024, .f32⟩
  | 2 => ⟨S32x2048x1024, .f32⟩
  | 3 => ⟨S_, .f32⟩
  | 4 => ⟨S32x2048, .f32⟩
  | 5 => ⟨S32x2048x1, .f32⟩
  | 6 => ⟨S_, .f32⟩
  | 7 => ⟨S32x2048x1, .f32⟩
  | 8 => ⟨S32x2048x1, .f32⟩
  | 9 => ⟨S32x2048x1024, .f32⟩
  | 10 => ⟨S32x2048x1024, .f32⟩
  | 11 => ⟨S_, .f32⟩
  | 12 => ⟨S32x2048x1, .f32⟩
  | 13 => ⟨S32x2048x1, .f32⟩
  | 14 => ⟨S32x2048x1, .f32⟩
  | 15 => ⟨S32x2048x1024, .f32⟩
  | 16 => ⟨S32x2048x1024, .f32⟩
  | 17 => ⟨S1x1x1024, .f32⟩
  | 18 => ⟨S32x2048x1024, .f32⟩
  | 19 => ⟨S32x2048x1024, .f32⟩
  | 20 => ⟨S1x1x1024, .f32⟩
  | 21 => ⟨S32x2048x1024, .f32⟩
  | 22 => ⟨S32x2048x1024, .f32⟩
  | 23 => ⟨S32x2304x1024, .f32⟩
  | _ => ⟨S32x2304x4096, .f32⟩

abbrev hbmTy (i : Nat) : BufTy := match i / 128 with
  | 0 => hbmTy0_0 i
  | 1 => hbmTy0_1 i
  | _ => ⟨S32x2304x4096, .f32⟩

abbrev bufTy : (tb : Table) → Fin (tcTables nBuf tb) → BufTy
  | .hbm, ⟨i, _⟩ => hbmTy i
  | _, _ => ⟨S32x2304x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst : Ref sig .tc := ⟨.hbm, 41, rfl⟩
abbrev main_v22 : Ref sig .tc := ⟨.hbm, 42, rfl⟩
abbrev main_v23 : Ref sig .tc := ⟨.hbm, 43, rfl⟩
abbrev main_cst_0 : Ref sig .tc := ⟨.hbm, 44, rfl⟩
abbrev main_v24 : Ref sig .tc := ⟨.hbm, 45, rfl⟩
abbrev main_v25 : Ref sig .tc := ⟨.hbm, 46, rfl⟩
abbrev main_cst_1 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_2 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_3 : Ref sig .tc := ⟨.hbm, 87, rfl⟩
abbrev main_v64 : Ref sig .tc := ⟨.hbm, 88, rfl⟩
abbrev main_v65 : Ref sig .tc := ⟨.hbm, 89, rfl⟩
abbrev main_cst_4 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_5 : Ref sig .tc := ⟨.hbm, 96, rfl⟩
abbrev main_v71 : Ref sig .tc := ⟨.hbm, 97, rfl⟩
abbrev main_v72 : Ref sig .tc := ⟨.hbm, 98, rfl⟩
abbrev main_cst_6 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_7 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_8 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_cst_9 : Ref sig .tc := ⟨.hbm, 122, rfl⟩
abbrev main_v93 : Ref sig .tc := ⟨.hbm, 123, rfl⟩
abbrev main_v94 : Ref sig .tc := ⟨.hbm, 124, rfl⟩
abbrev main_cst_10 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_11 : Ref sig .tc := ⟨.hbm, 131, rfl⟩
abbrev main_v100 : Ref sig .tc := ⟨.hbm, 132, rfl⟩
abbrev main_v101 : Ref sig .tc := ⟨.hbm, 133, rfl⟩
abbrev main_cst_12 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_cst_13 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩

abbrev nD : Nat := 1
abbrev τ : Topo := Topo.v7x

variable {F : FTy → Type} [FloatOps F]
-- ==== Kernel11.lean ====
abbrev S32x2304x4096 : Shape := ⟨3, ![32, 2304, 4096]⟩
abbrev S32x2304x6144 : Shape := ⟨3, ![32, 2304, 6144]⟩
abbrev S32x2304x2048 : Shape := ⟨3, ![32, 2304, 2048]⟩
abbrev S32x2304x1024 : Shape := ⟨3, ![32, 2304, 1024]⟩
abbrev S32x6144 : Shape := ⟨2, ![32, 6144]⟩
abbrev S6144 : Shape := ⟨1, ![6144]⟩
abbrev S2048 : Shape := ⟨1, ![2048]⟩
abbrev S1024 : Shape := ⟨1, ![1024]⟩
abbrev S2048x1024 : Shape := ⟨2, ![2048, 1024]⟩
abbrev S1x1024 : Shape := ⟨2, ![1, 1024]⟩
abbrev S1x2048 : Shape := ⟨2, ![1, 2048]⟩
abbrev S32x1x6x1024 : Shape := ⟨4, ![32, 1, 6, 1024]⟩
abbrev S1x1x6x1024 : Shape := ⟨4, ![1, 1, 6, 1024]⟩
abbrev S32x8x6x1024 : Shape := ⟨4, ![32, 8, 6, 1024]⟩
abbrev S32x9x6x1024 : Shape := ⟨4, ![32, 9, 6, 1024]⟩
abbrev S1x256x2048 : Shape := ⟨3, ![1, 256, 2048]⟩
abbrev S1x256x1024 : Shape := ⟨3, ![1, 256, 1024]⟩
abbrev S256x2048 : Shape := ⟨2, ![256, 2048]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S1x1x1x1024 : Shape := ⟨4, ![1, 1, 1, 1024]⟩

abbrev nBuf : Space → Nat
  | .hbm => 22
  | .vmem => 21
  | .smem => 0
  | _ => 0

abbrev bufTy : (tb : Table) → Fin (tcTables nBuf tb) → BufTy
  | .hbm, ⟨0, _⟩ => ⟨S32x2304x4096, .f32⟩
  | .hbm, ⟨1, _⟩ => ⟨S32x2304x6144, .f32⟩
  | .hbm, ⟨2, _⟩ => ⟨S32x2304x2048, .f32⟩
  | .hbm, ⟨3, _⟩ => ⟨S32x2304x1024, .f32⟩
  | .hbm, ⟨4, _⟩ => ⟨S32x6144, .f32⟩
  | .hbm, ⟨5, _⟩ => ⟨S6144, .f32⟩
  | .hbm, ⟨6, _⟩ => ⟨S2048, .f32⟩
  | .hbm, ⟨7, _⟩ => ⟨S2048, .f32⟩
  | .hbm, ⟨8, _⟩ => ⟨S1024, .f32⟩
  | .hbm, ⟨9, _⟩ => ⟨S1024, .f32⟩
  | .hbm, ⟨10, _⟩ => ⟨S2048x1024, .f32⟩
  | .hbm, ⟨11, _⟩ => ⟨S1x1024, .f32⟩
  | .hbm, ⟨12, _⟩ => ⟨S1x1024, .f32⟩
  | .hbm, ⟨13, _⟩ => ⟨S1x2048, .f32⟩
  | .hbm, ⟨14, _⟩ => ⟨S1x2048, .f32⟩
  | .hbm, ⟨15, _⟩ => ⟨S2048x1024, .bf16⟩
  | .hbm, ⟨16, _⟩ => ⟨S32x1x6x1024, .f32⟩
  | .hbm, ⟨17, _⟩ => ⟨S1x1x6x1024, .f32⟩
  | .hbm, ⟨18, _⟩ => ⟨S32x1x6x1024, .f32⟩
  | .hbm, ⟨19, _⟩ => ⟨S32x8x6x1024, .f32⟩
  | .hbm, ⟨20, _⟩ => ⟨S32x9x6x1024, .f32⟩
  | .hbm, ⟨21, _⟩ => ⟨S32x2304x1024, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x1024, .f32⟩
  | .local _ .vmem, ⟨11, _⟩ => ⟨S1x256x1024, .f32⟩
  | .local _ .vmem, ⟨12, _⟩ => ⟨S1x1x6x1024, .f32⟩
  | .local _ .vmem, ⟨13, _⟩ => ⟨S1x1x6x1024, .f32⟩
  | .local _ .vmem, ⟨14, _⟩ => ⟨S1x2048, .f32⟩
  | .local _ .vmem, ⟨15, _⟩ => ⟨S1x2048, .f32⟩
  | .local _ .vmem, ⟨16, _⟩ => ⟨S1x1024, .f32⟩
  | .local _ .vmem, ⟨17, _⟩ => ⟨S1x1024, .f32⟩
  | .local _ .vmem, ⟨18, _⟩ => ⟨S2048x1024, .bf16⟩
  | .local _ .vmem, ⟨19, _⟩ => ⟨S1x256x1024, .f32⟩
  | .local _ .vmem, ⟨20, _⟩ => ⟨S1x256x1024, .f32⟩
  | _, _ => ⟨S32x2304x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![32, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2048x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference11Ideal.lean ====
abbrev S32x2304x4096 : Shape := ⟨3, ![32, 2304, 4096]⟩
abbrev S32x2304x6144 : Shape := ⟨3, ![32, 2304, 6144]⟩
abbrev S32x2304x2048 : Shape := ⟨3, ![32, 2304, 2048]⟩
abbrev S32x2304x1024 : Shape := ⟨3, ![32, 2304, 1024]⟩
abbrev S32x6144 : Shape := ⟨2, ![32, 6144]⟩
abbrev S6144 : Shape := ⟨1, ![6144]⟩
abbrev S2048 : Shape := ⟨1, ![2048]⟩
abbrev S1024 : Shape := ⟨1, ![1024]⟩
abbrev S2048x1024 : Shape := ⟨2, ![2048, 1024]⟩
abbrev S32x2304x4x512 : Shape := ⟨4, ![32, 2304, 4, 512]⟩
abbrev S_ : Shape := ⟨0, ![]⟩
abbrev S32x2304x4 : Shape := ⟨3, ![32, 2304, 4]⟩
abbrev S32x2304x4x1 : Shape := ⟨4, ![32, 2304, 4, 1]⟩
abbrev S1x1x2048 : Shape := ⟨3, ![1, 1, 2048]⟩
abbrev S32x1024 : Shape := ⟨2, ![32, 1024]⟩
abbrev S32x1x1024 : Shape := ⟨3, ![32, 1, 1024]⟩
abbrev S32x256x1024 : Shape := ⟨3, ![32, 256, 1024]⟩
abbrev S32x2048x1024 : Shape := ⟨3, ![32, 2048, 1024]⟩
abbrev S1x1x1024 : Shape := ⟨3, ![1, 1, 1024]⟩
abbrev S32x256 : Shape := ⟨2, ![32, 256]⟩
abbrev S32x256x1 : Shape := ⟨3, ![32, 256, 1]⟩
abbrev S32x2048 : Shape := ⟨2, ![32, 2048]⟩
abbrev S32x2048x1 : Shape := ⟨3, ![32, 2048, 1]⟩

abbrev nBuf : Space → Nat
  | .hbm => 164
  | .vmem => 0
  | .smem => 0
  | _ => 0

abbrev hbmTy0_0 (i : Nat) : BufTy := match i % 128 with
  | 0 => ⟨S32x2304x4096, .f32⟩
  | 1 => ⟨S32x2304x6144, .f32⟩
  | 2 => ⟨S32x2304x2048, .f32⟩
  | 3 => ⟨S32x2304x1024, .f32⟩
  | 4 => ⟨S32x6144, .f32⟩
  | 5 => ⟨S6144, .f32⟩
  | 6 => ⟨S2048, .f32⟩
  | 7 => ⟨S2048, .f32⟩
  | 8 => ⟨S1024, .f32⟩
  | 9 => ⟨S1024, .f32⟩
  | 10 => ⟨S2048x1024, .f32⟩
  | 11 => ⟨S32x2304x2048, .f32⟩
  | 12 => ⟨S32x2304x2048, .f32⟩
  | 13 => ⟨S32x2304x2048, .f32⟩
  | 14 => ⟨S32x2304x2048, .f32⟩
  | 15 => ⟨S32x2304x2048, .f32⟩
  | 16 => ⟨S32x2304x2048, .f32⟩
  | 17 => ⟨S32x2304x4x512, .f32⟩
  | 18 => ⟨S32x2304x2048, .f32⟩
  | 19 => ⟨S32x2304x2048, .f32⟩
  | 20 => ⟨S_, .f32⟩
  | 21 => ⟨S32x2304x2048, .f32⟩
  | 22 => ⟨S32x2304x2048, .f32⟩
  | 23 => ⟨S_, .f32⟩
  | 24 => ⟨S32x2304x2048, .f32⟩
  | 25 => ⟨S32x2304x2048, .f32⟩
  | 26 => ⟨S32x2304x4x512, .f32⟩
  | 27 => ⟨S32x2304x4x512, .f32⟩
  | 28 => ⟨S_, .f32⟩
  | 29 => ⟨S32x2304x4, .f32⟩
  | 30 => ⟨S32x2304x4x1, .f32⟩
  | 31 => ⟨S_, .f32⟩
  | 32 => ⟨S32x2304x4x1, .f32⟩
  | 33 => ⟨S32x2304x4x1, .f32⟩
  | 34 => ⟨S32x2304x4x512, .f32⟩
  | 35 => ⟨S32x2304x4x512, .f32⟩
  | 36 => ⟨S32x2304x4x512, .f32⟩
  | 37 => ⟨S_, .f32⟩
  | 38 => ⟨S32x2304x4, .f32⟩
  | 39 => ⟨S32x2304x4x1, .f32⟩
  | 40 => ⟨S_, .f32⟩
  | 41 => ⟨S32x2304x4x1, .f32⟩
  | 42 => ⟨S32x2304x4x1, .f32⟩
  | 43 => ⟨S32x2304x4x512, .f32⟩
  | 44 => ⟨S32x2304x4x512, .f32⟩
  | 45 => ⟨S_, .f32⟩
  | 46 => ⟨S32x2304x4x1, .f32⟩
  | 47 => ⟨S32x2304x4x1, .f32⟩
  | 48 => ⟨S32x2304x4x1, .f32⟩
  | 49 => ⟨S32x2304x4x512, .f32⟩
  | 50 => ⟨S32x2304x4x512, .f32⟩
  | 51 => ⟨S32x2304x2048, .f32⟩
  | 52 => ⟨S1x1x2048, .f32⟩
  | 53 => ⟨S32x2304x2048, .f32⟩
  | 54 => ⟨S32x2304x2048, .f32⟩
  | 55 => ⟨S1x1x2048, .f32⟩
  | 56 => ⟨S32x2304x2048, .f32⟩
  | 57 => ⟨S32x2304x2048, .f32⟩
  | 58 => ⟨S32x2304x2048, .f32⟩
  | 59 => ⟨S32x2304x2048, .f32⟩
  | 60 => ⟨S32x2304x2048, .f32⟩
  | 61 => ⟨S_, .f32⟩
  | 62 => ⟨S32x2304x2048, .f32⟩
  | 63 => ⟨S32x2304x2048, .f32⟩
  | 64 => ⟨S_, .f32⟩
  | 65 => ⟨S32x2304x2048, .f32⟩
  | 66 => ⟨S32x2304x2048, .f32⟩
  | 67 => ⟨S32x2304x2048, .f32⟩
  | 68 => ⟨S32x2304x2048, .f32⟩
  | 69 => ⟨S32x2304x1024, .f32⟩
  | 70 => ⟨S32x1024, .f32⟩
  | 71 => ⟨S32x1024, .f32⟩
  | 72 => ⟨S32x1024, .f32⟩
  | 73 => ⟨S32x1024, .f32⟩
  | 74 => ⟨S32x1024, .f32⟩
  | 75 => ⟨S32x1024, .f32⟩
  | 76 => ⟨S32x1x1024, .f32⟩
  | 77 => ⟨S32x1x1024, .f32⟩
  | 78 => ⟨S32x1x1024, .f32⟩
  | 79 => ⟨S32x1x1024, .f32⟩
  | 80 => ⟨S32x1x1024, .f32⟩
  | 81 => ⟨S32x1x1024, .f32⟩
  | 82 => ⟨S1024, .f32⟩
  | 83 => ⟨S1024, .f32⟩
  | 84 => ⟨S1024, .f32⟩
  | 85 => ⟨S1024, .f32⟩
  | 86 => ⟨S1024, .f32⟩
  | 87 => ⟨S1024, .f32⟩
  | 88 => ⟨S32x256x1024, .f32⟩
  | 89 => ⟨S32x2048x1024, .f32⟩
  | 90 => ⟨S32x256x1024, .f32⟩
  | 91 => ⟨S32x2048x1024, .f32⟩
  | 92 => ⟨S_, .f32⟩
  | 93 => ⟨S32x256x1024, .f32⟩
  | 94 => ⟨S32x256x1024, .f32⟩
  | 95 => ⟨S1x1x1024, .f32⟩
  | 96 => ⟨S32x256x1024, .f32⟩
  | 97 => ⟨S32x256x1024, .f32⟩
  | 98 => ⟨S32x256x1024, .f32⟩
  | 99 => ⟨S_, .f32⟩
  | 100 => ⟨S32x256, .f32⟩
  | 101 => ⟨S32x256x1, .f32⟩
  | 102 => ⟨S_, .f32⟩
  | 103 => ⟨S32x256x1, .f32⟩
  | 104 => ⟨S32x256x1, .f32⟩
  | 105 => ⟨S32x256x1024, .f32⟩
  | 106 => ⟨S32x256x1024, .f32⟩
  | 107 => ⟨S32x256x1024, .f32⟩
  | 108 => ⟨S_, .f32⟩
  | 109 => ⟨S32x256, .f32⟩
  | 110 => ⟨S32x256x1, .f32⟩
  | 111 => ⟨S_, .f32⟩
  | 112 => ⟨S32x256x1, .f32⟩
  | 113 => ⟨S32x256x1, .f32⟩
  | 114 => ⟨S32x256x1024, .f32⟩
  | 115 => ⟨S32x256x1024, .f32⟩
  | 116 => ⟨S_, .f32⟩
  | 117 => ⟨S32x256x1, .f32⟩
  | 118 => ⟨S32x256x1, .f32⟩
  | 119 => ⟨S32x256x1, .f32⟩
  | 120 => ⟨S32x256x1024, .f32⟩
  | 121 => ⟨S32x256x1024, .f32⟩
  | 122 => ⟨S1x1x1024, .f32⟩
  | 123 => ⟨S32x256x1024, .f32⟩
  | 124 => ⟨S32x256x1024, .f32⟩
  | 125 => ⟨S1x1x1024, .f32⟩
  | 126 => ⟨S32x256x1024, .f32⟩
  | 127 => ⟨S32x256x1024, .f32⟩
  | _ => ⟨S32x2304x4096, .f32⟩

abbrev hbmTy0_1 (i : Nat) : BufTy := match i % 128 with
  | 0 => ⟨S_, .f32⟩
  | 1 => ⟨S32x2048x1024, .f32⟩
  | 2 => ⟨S32x2048x1024, .f32⟩
  | 3 => ⟨S32x2048x1024, .f32⟩
  | 4 => ⟨S32x2048x1024, .f32⟩
  | 5 => ⟨S32x2048x1024, .f32⟩
  | 6 => ⟨S_, .f32⟩
  | 7 => ⟨S32x2048, .f32⟩
  | 8 => ⟨S32x2048x1, .f32⟩
  | 9 => ⟨S_, .f32⟩
  | 10 => ⟨S32x2048x1, .f32⟩
  | 11 => ⟨S32x2048x1, .f32⟩
  | 12 => ⟨S32x2048x1024, .f32⟩
  | 13 => ⟨S32x2048x1024, .f32⟩
  | 14 => ⟨S32x2048x1024, .f32⟩
  | 15 => ⟨S_, .f32⟩
  | 16 => ⟨S32x2048, .f32⟩
  | 17 => ⟨S32x2048x1, .f32⟩
  | 18 => ⟨S_, .f32⟩
  | 19 => ⟨S32x2048x1, .f32⟩
  | 20 => ⟨S32x2048x1, .f32⟩
  | 21 => ⟨S32x2048x1024, .f32⟩
  | 22 => ⟨S32x2048x1024, .f32⟩
  | 23 => ⟨S_, .f32⟩
  | 24 => ⟨S32x2048x1, .f32⟩
  | 25 => ⟨S32x2048x1, .f32⟩
  | 26 => ⟨S32x2048x1, .f32⟩
  | 27 => ⟨S32x2048x1024, .f32⟩
  | 28 => ⟨S32x2048x1024, .f32⟩
  | 29 => ⟨S1x1x1024, .f32⟩
  | 30 => ⟨S32x2048x1024, .f32⟩
  | 31 => ⟨S32x2048x1024, .f32⟩
  | 32 => ⟨S1x1x1024, .f32⟩
  | 33 => ⟨S32x2048x1024, .f32⟩
  | 34 => ⟨S32x2048x1024, .f32⟩
  | 35 => ⟨S32x2304x1024, .f32⟩
  | _ => ⟨S32x2304x4096, .f32⟩

abbrev hbmTy (i : Nat) : BufTy := match i / 128 with
  | 0 => hbmTy0_0 i
  | 1 => hbmTy0_1 i
  | _ => ⟨S32x2304x4096, .f32⟩

abbrev bufTy : (tb : Table) → Fin (tcTables nBuf tb) → BufTy
  | .hbm, ⟨i, _⟩ => hbmTy i
  | _, _ => ⟨S32x2304x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_call0_v5 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_6 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_7 : Ref sig .tc := ⟨.hbm, 99, rfl⟩
abbrev main_v72 : Ref sig .tc := ⟨.hbm, 100, rfl⟩
abbrev main_v73 : Ref sig .tc := ⟨.hbm, 101, rfl⟩
abbrev main_cst_8 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_9 : Ref sig .tc := ⟨.hbm, 108, rfl⟩
abbrev main_v79 : Ref sig .tc := ⟨.hbm, 109, rfl⟩
abbrev main_v80 : Ref sig .tc := ⟨.hbm, 110, rfl⟩
abbrev main_cst_10 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_11 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_12 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_cst_13 : Ref sig .tc := ⟨.hbm, 134, rfl⟩
abbrev main_v101 : Ref sig .tc := ⟨.hbm, 135, rfl⟩
abbrev main_v102 : Ref sig .tc := ⟨.hbm, 136, rfl⟩
abbrev main_cst_14 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_cst_15 : Ref sig .tc := ⟨.hbm, 143, rfl⟩
abbrev main_v108 : Ref sig .tc := ⟨.hbm, 144, rfl⟩
abbrev main_v109 : Ref sig .tc := ⟨.hbm, 145, rfl⟩
abbrev main_cst_16 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_cst_17 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩

abbrev nD : Nat := 1
abbrev τ : Topo := Topo.v7x

variable {F : FTy → Type} [FloatOps F]
-- ==== Kernel12.lean ====
abbrev S32x2304x1024 : Shape := ⟨3, ![32, 2304, 1024]⟩
abbrev S32x6144 : Shape := ⟨2, ![32, 6144]⟩
abbrev S6144 : Shape := ⟨1, ![6144]⟩
abbrev S1024x2048 : Shape := ⟨2, ![1024, 2048]⟩
abbrev S32x2048x1024 : Shape := ⟨3, ![32, 2048, 1024]⟩
abbrev S32x1x6x1024 : Shape := ⟨4, ![32, 1, 6, 1024]⟩
abbrev S1x1x6x1024 : Shape := ⟨4, ![1, 1, 6, 1024]⟩
abbrev S32x8x6x1024 : Shape := ⟨4, ![32, 8, 6, 1024]⟩
abbrev S32x9x6x1024 : Shape := ⟨4, ![32, 9, 6, 1024]⟩
abbrev S16x32x2048x128 : Shape := ⟨4, ![16, 32, 2048, 128]⟩
abbrev S1x256x1024 : Shape := ⟨3, ![1, 256, 1024]⟩
abbrev S16x1x256x128 : Shape := ⟨4, ![16, 1, 256, 128]⟩
abbrev S256x1024 : Shape := ⟨2, ![256, 1024]⟩
abbrev S1x1x1x1024 : Shape := ⟨4, ![1, 1, 1, 1024]⟩
abbrev S1x1024 : Shape := ⟨2, ![1, 1024]⟩
abbrev S1024x1024 : Shape := ⟨2, ![1024, 1024]⟩
abbrev S256x128 : Shape := ⟨2, ![256, 128]⟩
abbrev S1x1x256x128 : Shape := ⟨4, ![1, 1, 256, 128]⟩

abbrev nBuf : Space → Nat
  | .hbm => 13
  | .vmem => 7
  | .smem => 0
  | _ => 0

abbrev bufTy : (tb : Table) → Fin (tcTables nBuf tb) → BufTy
  | .hbm, ⟨0, _⟩ => ⟨S32x2304x1024, .f32⟩
  | .hbm, ⟨1, _⟩ => ⟨S32x6144, .f32⟩
  | .hbm, ⟨2, _⟩ => ⟨S6144, .f32⟩
  | .hbm, ⟨3, _⟩ => ⟨S1024x2048, .f32⟩
  | .hbm, ⟨4, _⟩ => ⟨S32x2048x1024, .f32⟩
  | .hbm, ⟨5, _⟩ => ⟨S32x1x6x1024, .f32⟩
  | .hbm, ⟨6, _⟩ => ⟨S1x1x6x1024, .f32⟩
  | .hbm, ⟨7, _⟩ => ⟨S32x1x6x1024, .f32⟩
  | .hbm, ⟨8, _⟩ => ⟨S32x8x6x1024, .f32⟩
  | .hbm, ⟨9, _⟩ => ⟨S32x9x6x1024, .f32⟩
  | .hbm, ⟨10, _⟩ => ⟨S32x8x6x1024, .f32⟩
  | .hbm, ⟨11, _⟩ => ⟨S1024x2048, .bf16⟩
  | .hbm, ⟨12, _⟩ => ⟨S16x32x2048x128, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1024x2048, .bf16⟩
  | .local _ .vmem, ⟨5, _⟩ => ⟨S16x1x256x128, .bf16⟩
  | .local _ .vmem, ⟨6, _⟩ => ⟨S16x1x256x128, .bf16⟩
  | _, _ => ⟨S32x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S16x1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S32x2304x1024 : Shape := ⟨3, ![32, 2304, 1024]⟩
abbrev S32x6144 : Shape := ⟨2, ![32, 6144]⟩
abbrev S6144 : Shape := ⟨1, ![6144]⟩
abbrev S1024x2048 : Shape := ⟨2, ![1024, 2048]⟩
abbrev S32x1024 : Shape := ⟨2, ![32, 1024]⟩
abbrev S32x1x1024 : Shape := ⟨3, ![32, 1, 1024]⟩
abbrev S1024 : Shape := ⟨1, ![1024]⟩
abbrev S32x256x1024 : Shape := ⟨3, ![32, 256, 1024]⟩
abbrev S32x2048x1024 : Shape := ⟨3, ![32, 2048, 1024]⟩
abbrev S_ : Shape := ⟨0, ![]⟩
abbrev S1x1x1024 : Shape := ⟨3, ![1, 1, 1024]⟩
abbrev S32x2048x2048 : Shape := ⟨3, ![32, 2048, 2048]⟩
abbrev S32x2048x16x128 : Shape := ⟨4, ![32, 2048, 16, 128]⟩
abbrev S16x32x2048x128 : Shape := ⟨4, ![16, 32, 2048, 128]⟩

abbrev nBuf : Space → Nat
  | .hbm => 44
  | .vmem => 0
  | .smem => 0
  | _ => 0

abbrev bufTy : (tb : Table) → Fin (tcTables nBuf tb) → BufTy
  | .hbm, ⟨0, _⟩ => ⟨S32x2304x1024, .f32⟩
  | .hbm, ⟨1, _⟩ => ⟨S32x6144, .f32⟩
  | .hbm, ⟨2, _⟩ => ⟨S6144, .f32⟩
  | .hbm, ⟨3, _⟩ => ⟨S1024x2048, .f32⟩
  | .hbm, ⟨4, _⟩ => ⟨S32x1024, .f32⟩
  | .hbm, ⟨5, _⟩ => ⟨S32x1024, .f32⟩
  | .hbm, ⟨6, _⟩ => ⟨S32x1024, .f32⟩
  | .hbm, ⟨7, _⟩ => ⟨S32x1024, .f32⟩
  | .hbm, ⟨8, _⟩ => ⟨S32x1024, .f32⟩
  | .hbm, ⟨9, _⟩ => ⟨S32x1024, .f32⟩
  | .hbm, ⟨10, _⟩ => ⟨S32x1x1024, .f32⟩
  | .hbm, ⟨11, _⟩ => ⟨S32x1x1024, .f32⟩
  | .hbm, ⟨12, _⟩ => ⟨S32x1x1024, .f32⟩
  | .hbm, ⟨13, _⟩ => ⟨S32x1x1024, .f32⟩
  | .hbm, ⟨14, _⟩ => ⟨S32x1x1024, .f32⟩
  | .hbm, ⟨15, _⟩ => ⟨S32x1x1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S32x256x1024, .f32⟩
  | .hbm, ⟨23, _⟩ => ⟨S32x2048x1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1x1x1024, .f32⟩
  | .hbm, ⟨28, _⟩ => ⟨S32x256x1024, .f32⟩
  | .hbm, ⟨29, _⟩ => ⟨S32x256x1024, .f32⟩
  | .hbm, ⟨30, _⟩ => ⟨S1x1x1024, .f32⟩
  | .hbm, ⟨31, _⟩ => ⟨S32x256x1024, .f32⟩
  | .hbm, ⟨32, _⟩ => ⟨S32x256x1024, .f32⟩
  | .hbm, ⟨33, _⟩ => ⟨S_, .f32⟩
  | .hbm, ⟨34, _⟩ => ⟨S32x1x1024, .f32⟩
  | .hbm, ⟨35, _⟩ => ⟨S32x1x1024, .f32⟩
  | .hbm, ⟨36, _⟩ => ⟨S32x2048x1024, .f32⟩
  | .hbm, ⟨37, _⟩ => ⟨S32x2048x1024, .f32⟩
  | .hbm, ⟨38, _⟩ => ⟨S32x2048x1024, .f32⟩
  | .hbm, ⟨39, _⟩ => ⟨S32x2048x1024, .f32⟩
  | .hbm, ⟨40, _⟩ => ⟨S32x2048x2048, .f32⟩
  | .hbm, ⟨41, _⟩ => ⟨S32x2048x16x128, .f32⟩
  | .hbm, ⟨42, _⟩ => ⟨S16x32x2048x128, .f32⟩
  | .hbm, ⟨43, _⟩ => ⟨S16x32x2048x128, .bf16⟩
  | _, _ => ⟨S32x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst_0 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩

abbrev nD : Nat := 1
abbrev τ : Topo := Topo.v7x

variable {F : FTy → Type} [FloatOps F]
-- ==== Kernel13.lean ====
abbrev S32x1024 : Shape := ⟨2, ![32, 1024]⟩
abbrev S1024 : Shape := ⟨1, ![1024]⟩
abbrev S4x1024x6144 : Shape := ⟨3, ![4, 1024, 6144]⟩
abbrev S4x6144 : Shape := ⟨2, ![4, 6144]⟩
abbrev S1x1024 : Shape := ⟨2, ![1, 1024]⟩
abbrev S_ : Shape := ⟨0, ![]⟩
abbrev S7x1024 : Shape := ⟨2, ![7, 1024]⟩
abbrev S40x1024 : Shape := ⟨2, ![40, 1024]⟩
abbrev S4x1x6144 : Shape := ⟨3, ![4, 1, 6144]⟩
abbrev S4x40x6144 : Shape := ⟨3, ![4, 40, 6144]⟩
abbrev S1x1024x1024 : Shape := ⟨3, ![1, 1024, 1024]⟩
abbrev S1x1x1024 : Shape := ⟨3, ![1, 1, 1024]⟩
abbrev S1x40x1024 : Shape := ⟨3, ![1, 40, 1024]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S40x1024, .f32⟩
  | .hbm, ⟨8, _⟩ => ⟨S4x1x6144, .f32⟩
  | .hbm, ⟨9, _⟩ => ⟨S4x40x6144, .f32⟩
  | .local _ .vmem, ⟨0, _⟩ => ⟨S40x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x40x1024, .f32⟩
  | .local _ .vmem, ⟨6, _⟩ => ⟨S1x40x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x40x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference13Ideal.lean ====
abbrev S32x1024 : Shape := ⟨2, ![32, 1024]⟩
abbrev S1024 : Shape := ⟨1, ![1024]⟩
abbrev S4x1024x6144 : Shape := ⟨3, ![4, 1024, 6144]⟩
abbrev S4x6144 : Shape := ⟨2, ![4, 6144]⟩
abbrev S1x1024 : Shape := ⟨2, ![1, 1024]⟩
abbrev S_ : Shape := ⟨0, ![]⟩
abbrev S7x1024 : Shape := ⟨2, ![7, 1024]⟩
abbrev S40x1024 : Shape := ⟨2, ![40, 1024]⟩
abbrev S4x6144x40 : Shape := ⟨3, ![4, 6144, 40]⟩
abbrev S4x40x6144 : Shape := ⟨3, ![4, 40, 6144]⟩
abbrev S4x1x6144 : Shape := ⟨3, ![4, 1, 6144]⟩

abbrev nBuf : Space → Nat
  | .hbm => 22
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S40x1024, .f32⟩
  | .hbm, ⟨8, _⟩ => ⟨S40x1024, .f32⟩
  | .hbm, ⟨9, _⟩ => ⟨S40x1024, .f32⟩
  | .hbm, ⟨10, _⟩ => ⟨S_, .f32⟩
  | .hbm, ⟨11, _⟩ => ⟨S40x1024, .f32⟩
  | .hbm, ⟨12, _⟩ => ⟨S40x1024, .f32⟩
  | .hbm, ⟨13, _⟩ => ⟨S_, .f32⟩
  | .hbm, ⟨14, _⟩ => ⟨S40x1024, .f32⟩
  | .hbm, ⟨15, _⟩ => ⟨S40x1024, .f32⟩
  | .hbm, ⟨16, _⟩ => ⟨S40x1024, .f32⟩
  | .hbm, ⟨17, _⟩ => ⟨S4x6144x40, .f32⟩
  | .hbm, ⟨18, _⟩ => ⟨S4x40x6144, .f32⟩
  | .hbm, ⟨19, _⟩ => ⟨S4x1x6144, .f32⟩
  | .hbm, ⟨20, _⟩ => ⟨S4x40x6144, .f32⟩
  | .hbm, ⟨21, _⟩ => ⟨S4x40x6144, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Kernel14.lean ====
abbrev S32x2304x1024 : Shape := ⟨3, ![32, 2304, 1024]⟩
abbrev S32x6144 : Shape := ⟨2, ![32, 6144]⟩
abbrev S6144 : Shape := ⟨1, ![6144]⟩
abbrev S1024x6208 : Shape := ⟨2, ![1024, 6208]⟩
abbrev S1024x64 : Shape := ⟨2, ![1024, 64]⟩
abbrev S1024x2x32 : Shape := ⟨3, ![1024, 2, 32]⟩
abbrev S_ : Shape := ⟨0, ![]⟩
abbrev S1024x96 : Shape := ⟨2, ![1024, 96]⟩
abbrev S1024x1x32 : Shape := ⟨3, ![1024, 1, 32]⟩
abbrev S1024x32 : Shape := ⟨2, ![1024, 32]⟩
abbrev S1024x256 : Shape := ⟨2, ![1024, 256]⟩
abbrev S32x1x6x1024 : Shape := ⟨4, ![32, 1, 6, 1024]⟩
abbrev S1x1x6x1024 : Shape := ⟨4, ![1, 1, 6, 1024]⟩
abbrev S32x8x6x1024 : Shape := ⟨4, ![32, 8, 6, 1024]⟩
abbrev S32x9x6x1024 : Shape := ⟨4, ![32, 9, 6, 1024]⟩
abbrev S32x2304x256 : Shape := ⟨3, ![32, 2304, 256]⟩
abbrev S1x256x1024 : Shape := ⟨3, ![1, 256, 1024]⟩
abbrev S1x256x256 : Shape := ⟨3, ![1, 256, 256]⟩
abbrev S256x1024 : Shape := ⟨2, ![256, 1024]⟩
abbrev S1x1x1x1024 : Shape := ⟨4, ![1, 1, 1, 1024]⟩
abbrev S1x1024 : Shape := ⟨2, ![1, 1024]⟩
abbrev S256x256 : Shape := ⟨2, ![256, 256]⟩

abbrev nBuf : Space → Nat
  | .hbm => 20
  | .vmem => 7
  | .smem => 0
  | _ => 0

abbrev bufTy : (tb : Table) → Fin (tcTables nBuf tb) → BufTy
  | .hbm, ⟨0, _⟩ => ⟨S32x2304x1024, .f32⟩
  | .hbm, ⟨1, _⟩ => ⟨S32x6144, .f32⟩
  | .hbm, ⟨2, _⟩ => ⟨S6144, .f32⟩
  | .hbm, ⟨3, _⟩ => ⟨S1024x6208, .f32⟩
  | .hbm, ⟨4, _⟩ => ⟨S1024x64, .f32⟩
  | .hbm, ⟨5, _⟩ => ⟨S1024x2x32, .f32⟩
  | .hbm, ⟨6, _⟩ => ⟨S_, .f32⟩
  | .hbm, ⟨7, _⟩ => ⟨S1024x96, .f32⟩
  | .hbm, ⟨8, _⟩ => ⟨S1024x1x32, .f32⟩
  | .hbm, ⟨9, _⟩ => ⟨S1024x32, .f32⟩
  | .hbm, ⟨10, _⟩ => ⟨S1024x1x32, .f32⟩
  | .hbm, ⟨11, _⟩ => ⟨S1024x32, .f32⟩
  | .hbm, ⟨12, _⟩ => ⟨S1024x256, .f32⟩
  | .hbm, ⟨13, _⟩ => ⟨S1024x256, .bf16⟩
  | .hbm, ⟨14, _⟩ => ⟨S32x1x6x1024, .f32⟩
  | .hbm, ⟨15, _⟩ => ⟨S1x1x6x1024, .f32⟩
  | .hbm, ⟨16, _⟩ => ⟨S32x1x6x1024, .f32⟩
  | .hbm, ⟨17, _⟩ => ⟨S32x8x6x1024, .f32⟩
  | .hbm, ⟨18, _⟩ => ⟨S32x9x6x1024, .f32⟩
  | .hbm, ⟨19, _⟩ => ⟨S32x2304x256, .f32⟩
  | .local _ .vmem, ⟨0, _⟩ => ⟨S1x256x1024, .f32⟩
  | .local _ .vmem, ⟨1, _⟩ => ⟨S1x256x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1024x256, .bf16⟩
  | .local _ .vmem, ⟨5, _⟩ => ⟨S1x256x256, .f32⟩
  | .local _ .vmem, ⟨6, _⟩ => ⟨S1x256x256, .f32⟩
  | _, _ => ⟨S32x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference14Ideal.lean ====
abbrev S32x2304x1024 : Shape := ⟨3, ![32, 2304, 1024]⟩
abbrev S32x6144 : Shape := ⟨2, ![32, 6144]⟩
abbrev S6144 : Shape := ⟨1, ![6144]⟩
abbrev S1024x6208 : Shape := ⟨2, ![1024, 6208]⟩
abbrev S32x1024 : Shape := ⟨2, ![32, 1024]⟩
abbrev S32x1x1024 : Shape := ⟨3, ![32, 1, 1024]⟩
abbrev S1024 : Shape := ⟨1, ![1024]⟩
abbrev S32x256x1024 : Shape := ⟨3, ![32, 256, 1024]⟩
abbrev S32x2048x1024 : Shape := ⟨3, ![32, 2048, 1024]⟩
abbrev S_ : Shape := ⟨0, ![]⟩
abbrev S1x1x1024 : Shape := ⟨3, ![1, 1, 1024]⟩
abbrev S32x256x6208 : Shape := ⟨3, ![32, 256, 6208]⟩
abbrev S32x256x2048 : Shape := ⟨3, ![32, 256, 2048]⟩
abbrev S32x256x4096 : Shape := ⟨3, ![32, 256, 4096]⟩
abbrev S32x256x64 : Shape := ⟨3, ![32, 256, 64]⟩
abbrev S32x2048x6208 : Shape := ⟨3, ![32, 2048, 6208]⟩
abbrev S32x2048x2048 : Shape := ⟨3, ![32, 2048, 2048]⟩
abbrev S32x2048x4096 : Shape := ⟨3, ![32, 2048, 4096]⟩
abbrev S32x2048x64 : Shape := ⟨3, ![32, 2048, 64]⟩
abbrev S32x2304x64 : Shape := ⟨3, ![32, 2304, 64]⟩
abbrev S32x2304x2x32 : Shape := ⟨4, ![32, 2304, 2, 32]⟩
abbrev S32x2304x2x128 : Shape := ⟨4, ![32, 2304, 2, 128]⟩
abbrev S32x2304x256 : Shape := ⟨3, ![32, 2304, 256]⟩

abbrev nBuf : Space → Nat
  | .hbm => 54
  | .vmem => 0
  | .smem => 0
  | _ => 0

abbrev bufTy : (tb : Table) → Fin (tcTables nBuf tb) → BufTy
  | .hbm, ⟨0, _⟩ => ⟨S32x2304x1024, .f32⟩
  | .hbm, ⟨1, _⟩ => ⟨S32x6144, .f32⟩
  | .hbm, ⟨2, _⟩ => ⟨S6144, .f32⟩
  | .hbm, ⟨3, _⟩ => ⟨S1024x6208, .f32⟩
  | .hbm, ⟨4, _⟩ => ⟨S32x1024, .f32⟩
  | .hbm, ⟨5, _⟩ => ⟨S32x1024, .f32⟩
  | .hbm, ⟨6, _⟩ => ⟨S32x1024, .f32⟩
  | .hbm, ⟨7, _⟩ => ⟨S32x1024, .f32⟩
  | .hbm, ⟨8, _⟩ => ⟨S32x1024, .f32⟩
  | .hbm, ⟨9, _⟩ => ⟨S32x1024, .f32⟩
  | .hbm, ⟨10, _⟩ => ⟨S32x1x1024, .f32⟩
  | .hbm, ⟨11, _⟩ => ⟨S32x1x1024, .f32⟩
  | .hbm, ⟨12, _⟩ => ⟨S32x1x1024, .f32⟩
  | .hbm, ⟨13, _⟩ => ⟨S32x1x1024, .f32⟩
  | .hbm, ⟨14, _⟩ => ⟨S32x1x1024, .f32⟩
  | .hbm, ⟨15, _⟩ => ⟨S32x1x1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S32x256x1024, .f32⟩
  | .hbm, ⟨23, _⟩ => ⟨S32x2048x1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1x1x1024, .f32⟩
  | .hbm, ⟨28, _⟩ => ⟨S32x256x1024, .f32⟩
  | .hbm, ⟨29, _⟩ => ⟨S32x256x1024, .f32⟩
  | .hbm, ⟨30, _⟩ => ⟨S1x1x1024, .f32⟩
  | .hbm, ⟨31, _⟩ => ⟨S32x256x1024, .f32⟩
  | .hbm, ⟨32, _⟩ => ⟨S32x256x1024, .f32⟩
  | .hbm, ⟨33, _⟩ => ⟨S_, .f32⟩
  | .hbm, ⟨34, _⟩ => ⟨S32x1x1024, .f32⟩
  | .hbm, ⟨35, _⟩ => ⟨S32x1x1024, .f32⟩
  | .hbm, ⟨36, _⟩ => ⟨S32x2048x1024, .f32⟩
  | .hbm, ⟨37, _⟩ => ⟨S32x2048x1024, .f32⟩
  | .hbm, ⟨38, _⟩ => ⟨S32x2048x1024, .f32⟩
  | .hbm, ⟨39, _⟩ => ⟨S32x2048x1024, .f32⟩
  | .hbm, ⟨40, _⟩ => ⟨S32x256x6208, .f32⟩
  | .hbm, ⟨41, _⟩ => ⟨S32x256x2048, .f32⟩
  | .hbm, ⟨42, _⟩ => ⟨S32x256x4096, .f32⟩
  | .hbm, ⟨43, _⟩ => ⟨S32x256x64, .f32⟩
  | .hbm, ⟨44, _⟩ => ⟨S32x2048x6208, .f32⟩
  | .hbm, ⟨45, _⟩ => ⟨S32x2048x2048, .f32⟩
  | .hbm, ⟨46, _⟩ => ⟨S32x2048x4096, .f32⟩
  | .hbm, ⟨47, _⟩ => ⟨S32x2048x64, .f32⟩
  | .hbm, ⟨48, _⟩ => ⟨S32x2304x64, .f32⟩
  | .hbm, ⟨49, _⟩ => ⟨S32x2304x2x32, .f32⟩
  | .hbm, ⟨50, _⟩ => ⟨S_, .i32⟩
  | .hbm, ⟨51, _⟩ => ⟨S_, .f32⟩
  | .hbm, ⟨52, _⟩ => ⟨S32x2304x2x128, .f32⟩
  | .hbm, ⟨53, _⟩ => ⟨S32x2304x256, .f32⟩
  | _, _ => ⟨S32x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst_0 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_c : Ref sig .tc := ⟨.hbm, 50, rfl⟩
abbrev main_call0_v0 : Ref sig .tc := ⟨.hbm, 51, rfl⟩
abbrev main_v44 : Ref sig .tc := ⟨.hbm, 52, rfl⟩
abbrev main_v45 : Ref sig .tc := ⟨.hbm, 53, rfl⟩

abbrev nD : Nat := 1
abbrev τ : Topo := Topo.v7x

variable {F : FTy → Type} [FloatOps F]
-- ==== Kernel15.lean ====
abbrev S32x2304x4096 : Shape := ⟨3, ![32, 2304, 4096]⟩
abbrev S32x2304x2048 : Shape := ⟨3, ![32, 2304, 2048]⟩
abbrev S6144x16 : Shape := ⟨2, ![6144, 16]⟩
abbrev S16 : Shape := ⟨1, ![16]⟩
abbrev S6144x4x4 : Shape := ⟨3, ![6144, 4, 4]⟩
abbrev S4x4 : Shape := ⟨2, ![4, 4]⟩
abbrev S_ : Shape := ⟨0, ![]⟩
abbrev S6144x120 : Shape := ⟨2, ![6144, 120]⟩
abbrev S120 : Shape := ⟨1, ![120]⟩
abbrev S6144x1x4 : Shape := ⟨3, ![6144, 1, 4]⟩
abbrev S6144x4 : Shape := ⟨2, ![6144, 4]⟩
abbrev S6144x256 : Shape := ⟨2, ![6144, 256]⟩
abbrev S1x4 : Shape := ⟨2, ![1, 4]⟩
abbrev S4 : Shape := ⟨1, ![4]⟩
abbrev S256 : Shape := ⟨1, ![256]⟩
abbrev S1x256 : Shape := ⟨2, ![1, 256]⟩
abbrev S2048x256 : Shape := ⟨2, ![2048, 256]⟩
abbrev S32x2304x256 : Shape := ⟨3, ![32, 2304, 256]⟩
abbrev S1x256x2048 : Shape := ⟨3, ![1, 256, 2048]⟩
abbrev S1x256x256 : Shape := ⟨3, ![1, 256, 256]⟩
abbrev S256x2048 : Shape := ⟨2, ![256, 2048]⟩
abbrev S256x256 : Shape := ⟨2, ![256, 256]⟩

abbrev nBuf : Space → Nat
  | .hbm => 34
  | .vmem => 12
  | .smem => 0
  | _ => 0

abbrev bufTy : (tb : Table) → Fin (tcTables nBuf tb) → BufTy
  | .hbm, ⟨0, _⟩ => ⟨S32x2304x4096, .f32⟩
  | .hbm, ⟨1, _⟩ => ⟨S32x2304x2048, .f32⟩
  | .hbm, ⟨2, _⟩ => ⟨S6144x16, .f32⟩
  | .hbm, ⟨3, _⟩ => ⟨S16, .f32⟩
  | .hbm, ⟨4, _⟩ => ⟨S6144x4x4, .f32⟩
  | .hbm, ⟨5, _⟩ => ⟨S4x4, .f32⟩
  | .hbm, ⟨6, _⟩ => ⟨S_, .f32⟩
  | .hbm, ⟨7, _⟩ => ⟨S6144x120, .f32⟩
  | .hbm, ⟨8, _⟩ => ⟨S_, .f32⟩
  | .hbm, ⟨9, _⟩ => ⟨S120, .f32⟩
  | .hbm, ⟨10, _⟩ => ⟨S6144x1x4, .f32⟩
  | .hbm, ⟨11, _⟩ => ⟨S6144x4, .f32⟩
  | .hbm, ⟨12, _⟩ => ⟨S6144x1x4, .f32⟩
  | .hbm, ⟨13, _⟩ => ⟨S6144x4, .f32⟩
  | .hbm, ⟨14, _⟩ => ⟨S6144x1x4, .f32⟩
  | .hbm, ⟨15, _⟩ => ⟨S6144x4, .f32⟩
  | .hbm, ⟨16, _⟩ => ⟨S6144x1x4, .f32⟩
  | .hbm, ⟨17, _⟩ => ⟨S6144x4, .f32⟩
  | .hbm, ⟨18, _⟩ => ⟨S6144x256, .f32⟩
  | .hbm, ⟨19, _⟩ => ⟨S6144x256, .bf16⟩
  | .hbm, ⟨20, _⟩ => ⟨S1x4, .f32⟩
  | .hbm, ⟨21, _⟩ => ⟨S4, .f32⟩
  | .hbm, ⟨22, _⟩ => ⟨S1x4, .f32⟩
  | .hbm, ⟨23, _⟩ => ⟨S4, .f32⟩
  | .hbm, ⟨24, _⟩ => ⟨S1x4, .f32⟩
  | .hbm, ⟨25, _⟩ => ⟨S4, .f32⟩
  | .hbm, ⟨26, _⟩ => ⟨S1x4, .f32⟩
  | .hbm, ⟨27, _⟩ => ⟨S4, .f32⟩
  | .hbm, ⟨28, _⟩ => ⟨S256, .f32⟩
  | .hbm, ⟨29, _⟩ => ⟨S1x256, .f32⟩
  | .hbm, ⟨30, _⟩ => ⟨S2048x256, .bf16⟩
  | .hbm, ⟨31, _⟩ => ⟨S2048x256, .bf16⟩
  | .hbm, ⟨32, _⟩ => ⟨S2048x256, .bf16⟩
  | .hbm, ⟨33, _⟩ => ⟨S32x2304x256, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S2048x256, .bf16⟩
  | .local _ .vmem, ⟨7, _⟩ => ⟨S2048x256, .bf16⟩
  | .local _ .vmem, ⟨8, _⟩ => ⟨S1x256, .f32⟩
  | .local _ .vmem, ⟨9, _⟩ => ⟨S2048x256, .bf16⟩
  | .local _ .vmem, ⟨10, _⟩ => ⟨S1x256x256, .f32⟩
  | .local _ .vmem, ⟨11, _⟩ => ⟨S1x256x256, .f32⟩
  | _, _ => ⟨S32x2304x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![32, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference15Ideal.lean ====
abbrev S32x2304x4096 : Shape := ⟨3, ![32, 2304, 4096]⟩
abbrev S32x2304x2048 : Shape := ⟨3, ![32, 2304, 2048]⟩
abbrev S6144x16 : Shape := ⟨2, ![6144, 16]⟩
abbrev S16 : Shape := ⟨1, ![16]⟩
abbrev S32x2304x6144 : Shape := ⟨3, ![32, 2304, 6144]⟩
abbrev S32x2304x16 : Shape := ⟨3, ![32, 2304, 16]⟩
abbrev S1x1x16 : Shape := ⟨3, ![1, 1, 16]⟩
abbrev S32x2304x2x8 : Shape := ⟨4, ![32, 2304, 2, 8]⟩
abbrev S_ : Shape := ⟨0, ![]⟩
abbrev S32x2304x2x128 : Shape := ⟨4, ![32, 2304, 2, 128]⟩
abbrev S32x2304x256 : Shape := ⟨3, ![32, 2304, 256]⟩

abbrev nBuf : Space → Nat
  | .hbm => 16
  | .vmem => 0
  | .smem => 0
  | _ => 0

abbrev bufTy : (tb : Table) → Fin (tcTables nBuf tb) → BufTy
  | .hbm, ⟨0, _⟩ => ⟨S32x2304x4096, .f32⟩
  | .hbm, ⟨1, _⟩ => ⟨S32x2304x2048, .f32⟩
  | .hbm, ⟨2, _⟩ => ⟨S6144x16, .f32⟩
  | .hbm, ⟨3, _⟩ => ⟨S16, .f32⟩
  | .hbm, ⟨4, _⟩ => ⟨S32x2304x2048, .f32⟩
  | .hbm, ⟨5, _⟩ => ⟨S32x2304x2048, .f32⟩
  | .hbm, ⟨6, _⟩ => ⟨S32x2304x6144, .f32⟩
  | .hbm, ⟨7, _⟩ => ⟨S32x2304x16, .f32⟩
  | .hbm, ⟨8, _⟩ => ⟨S1x1x16, .f32⟩
  | .hbm, ⟨9, _⟩ => ⟨S32x2304x16, .f32⟩
  | .hbm, ⟨10, _⟩ => ⟨S32x2304x16, .f32⟩
  | .hbm, ⟨11, _⟩ => ⟨S32x2304x2x8, .f32⟩
  | .hbm, ⟨12, _⟩ => ⟨S_, .i32⟩
  | .hbm, ⟨13, _⟩ => ⟨S_, .f32⟩
  | .hbm, ⟨14, _⟩ => ⟨S32x2304x2x128, .f32⟩
  | .hbm, ⟨15, _⟩ => ⟨S32x2304x256, .f32⟩
  | _, _ => ⟨S32x2304x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Proof.Attn.Head.lean ====
/-
  One head of the attention kernel as ONE function of the blocks it reads, and the stored pieces of each
  branch as that function of the head's lanes.
-/
module

public import proofs.«01_k».proof.Proof.Gen.KernelIdeal.Value
public import Idealize.ShloMosaic.Lib.Tactic
public import Idealize.ShloMosaic.Lib.Pointwise

@[expose] public section

set_option maxRecDepth 16384
noncomputable section
open Idealize.ShloMosaic Idealize.ShloMosaic.TcCoe Idealize.SL.Sem

namespace Cert.KernelIdeal.Attn
open Cert.KernelIdeal Cert.KernelIdeal.Gen
variable {F : FTy → Type} [FloatOps F]

/-- One map of the context branch: the exponentials of the scores `s` less their row maximum, weighing the
    values `v`, over their row sum. -/
def mapA (s : FVec F S256x256 .f32) (v : FVec F S256x128 .bf16) : FVec F S256x128 .f32 :=
  let p : FVec F S256x256 .f32 := exp2 (subf s (broadcastTo S256x256 (shapeCast S256x1 (multiReduction .maximumf [1] S256 s 0xFF800000#32 reduces_S256x256_S256 (.inl rfl) rfl) shapeCasts_S256_S256x1) broadcasts_S256x1_S256x256))
  divf (matmul dot_S256x256_S256x128_S256x128_1_0_0_1_n_n none (truncf .bf16 p bitsLt_bf16_f32) v (constant S256x128 .f32 0x00000000#32))
    (broadcastTo S256x128 (shapeCast S256x1 (multiReduction .add [1] S256 p 0x00000000#32 reduces_S256x256_S256 (.inl rfl) rfl) shapeCasts_S256_S256x1) broadcasts_S256x1_S256x128)

/-- The same of the branch over all keys. -/
def mapB (s : FVec F S256x2304 .f32) (v : FVec F S2304x128 .bf16) : FVec F S256x128 .f32 :=
  let p : FVec F S256x2304 .f32 := exp2 (subf s (broadcastTo S256x2304 (shapeCast S256x1 (multiReduction .maximumf [1] S256 s 0xFF800000#32 reduces_S256x2304_S256 (.inl rfl) rfl) shapeCasts_S256_S256x1) broadcasts_S256x1_S256x2304))
  divf (matmul dot_S256x2304_S2304x128_S256x128_1_0_0_1_n_n none (truncf .bf16 p bitsLt_bf16_f32) v (constant S256x128 .f32 0x00000000#32))
    (broadcastTo S256x128 (shapeCast S256x1 (multiReduction .add [1] S256 p 0x00000000#32 reduces_S256x2304_S256 (.inl rfl) rfl) shapeCasts_S256_S256x1) broadcasts_S256x1_S256x128)

/-- The query rows with the lanes outside the mask `b` set to zero. -/
def masked (b : IVec S256x128 1) (q : Vec F S1x256x128 .bf16) : FVec F S256x128 .bf16 :=
  select b (shapeCast S256x128 q shapeCasts_S1x256x128_S256x128) (broadcast S256x128 (Scalar.ofBits .bf16 0x0000#16))

/-- The lanes of the first map, and of the second. -/
def lanes0 : IVec S256x128 1 := cmpi .slt (iota .tc S256x128 32 [1] iota_S256x128_d1_w32) (broadcast S256x128 64#32)
def lanes1 : IVec S256x128 1 := xori lanes0 (constantI S256x128 1 1#1)

/-- The two maps' difference, normalised by its mean square, scaled. -/
def finish (l : Vec F S1x1 .f32) (g : Vec F S1x128 .f32) (a b : FVec F S256x128 .f32) : FVec F S1x256x128 .f32 :=
  let o : FVec F S256x128 .f32 := subf a (mulf (broadcastTo S256x128 (shapeCast S1x1 l shapeCasts_S1x1_S1x1) broadcasts_S1x1_S256x128) b)
  let n : FVec F S256x1 .f32 := rsqrt (addf (divf (shapeCast S256x1 (multiReduction .add [1] S256 (mulf o o) 0x00000000#32 reduces_S256x128_S256 (.inl rfl) rfl) shapeCasts_S256_S256x1)
    (broadcast S256x1 (Scalar.ofBits .f32 0x43000000#32))) (broadcast S256x1 (Scalar.ofBits .f32 0x358637BD#32)))
  shapeCast S1x256x128 (mulf (mulf (mulf o (broadcastTo S256x128 n broadcasts_S256x1_S256x128))
    (broadcastTo S256x128 (shapeCast S1x128 g shapeCasts_S1x128_S1x128) broadcasts_S1x128_S256x128))
    (broadcast S256x128 (Scalar.ofBits .f32 0x3F077F5A#32))) shapeCasts_S256x128_S1x256x128

/-- The scores of one map against the context keys, and against all keys. -/
def scoresA (b : IVec S256x128 1) (q k : Vec F S1x256x128 .bf16) : FVec F S256x256 .f32 :=
  matmul dot_S256x128_S256x128_S256x256_1_1_0_0_n_n none (masked b q) (shapeCast S256x128 k shapeCasts_S1x256x128_S256x128 : FVec F S256x128 .bf16) (constant S256x256 .f32 0x00000000#32)
def scoresB (b : IVec S256x128 1) (q : Vec F S1x256x128 .bf16) (k : Vec F S1x2304x128 .bf16) : FVec F S256x2304 .f32 :=
  matmul dot_S256x128_S2304x128_S256x2304_1_1_0_0_n_n none (masked b q) (shapeCast S2304x128 k shapeCasts_S1x2304x128_S2304x128 : FVec F S2304x128 .bf16) (constant S256x2304 .f32 0x00000000#32)

/-- A head of the context branch. -/
def headA (q k v : Vec F S1x256x128 .bf16) (l : Vec F S1x1 .f32) (g : Vec F S1x128 .f32) : FVec F S1x256x128 .f32 :=
  finish l g (mapA (scoresA lanes0 q k) (shapeCast S256x128 v shapeCasts_S1x256x128_S256x128))
    (mapA (scoresA lanes1 q k) (shapeCast S256x128 v shapeCasts_S1x256x128_S256x128))

/-- A head of the branch over all keys. -/
def headB (q : Vec F S1x256x128 .bf16) (k v : Vec F S1x2304x128 .bf16) (l : Vec F S1x1 .f32) (g : Vec F S1x128 .f32) : FVec F S1x256x128 .f32 :=
  finish l g (mapB (scoresB lanes0 q k) (shapeCast S2304x128 v shapeCasts_S1x2304x128_S2304x128))
    (mapB (scoresB lanes1 q k) (shapeCast S2304x128 v shapeCasts_S1x2304x128_S2304x128))

end Cert.KernelIdeal.Attn
end
-- ==== Proof.Attn.Math.lean ====
/-
  The differential attention of one query row over extended reals, in the form the kernel computes and in
  the form the reference states, and their equality on real scores, values and coefficient.
-/
module

public import Idealize.ShloMosaic.PureOps
public import Idealize.ShloMosaic.PureOps.Ideal
public import Idealize.ShloMosaic.PureOps.Ideal.Laws

@[expose] public section

noncomputable section
open Idealize.ShloMosaic

namespace Cert.Attn

/-- The largest of the scores. -/
def top {n : Nat} (s : Fin n → EReal) : EReal := Finset.univ.fold max ⊥ s

/-- Base-two exponentials of the scores less their largest, weighing `v`, over their sum. -/
def weighted {n : Nat} (s v : Fin n → EReal) : EReal :=
  Ideal.div (∑ j, Ideal.exp2 (s j - top s) * v j) (∑ j, Ideal.exp2 (s j - top s))

/-- The difference of two such maps. -/
def diff {n : Nat} (s0 s1 : Fin n → EReal) (lam : EReal) (v : Fin n → EReal) : EReal :=
  weighted s0 v - lam * weighted s1 v

/-- A row `o` divided by its root mean square, times the gain, times a constant. -/
def normed (o g : Fin 128 → EReal) (d : Fin 128) : EReal :=
  o d * Ideal.rsqrt (Ideal.div (∑ x, o x * o x) (Ideal.ofBits .f32 0x43000000#32) + Ideal.ofBits .f32 0x358637BD#32)
    * g d * Ideal.ofBits .f32 0x3F077F5A#32

/-- The reference's softmax of the scores times `c`, at key `j`. -/
def soft {n : Nat} (s : Fin n → EReal) (c : EReal) (j : Fin n) : EReal :=
  Ideal.div (Ideal.exp (s j * c - max ⊥ (top fun k => s k * c)))
    (0 + ∑ j, Ideal.exp (s j * c - max ⊥ (top fun k => s k * c)))

/-- The reference's row: the difference of the two softmaxes weighing `v`. -/
def refDiff {n : Nat} (s0 s1 : Fin n → EReal) (c lam : EReal) (v : Fin n → EReal) : EReal :=
  ∑ j, v j * (soft s0 c j - lam * soft s1 c j)

/-- The largest of finitely many reals, at least one, is a real. -/
theorem top_coe {n : Nat} (h : 0 < n) (f : Fin n → ℝ) : ∃ m : ℝ, top (fun j => (f j : EReal)) = (m : EReal) := by
  have ht : top (fun j => (f j : EReal)) < ⊤ := by
    unfold top
    rw [Finset.fold_max_lt]
    exact ⟨bot_lt_top, fun j _ => EReal.coe_lt_top _⟩
  have hb : ⊥ < top (fun j => (f j : EReal)) := by
    unfold top
    rw [Finset.lt_fold_max]
    exact Or.inr ⟨⟨0, h⟩, Finset.mem_univ _, EReal.bot_lt_coe _⟩
  exact ⟨_, (EReal.coe_toReal ht.ne hb.ne').symm⟩

theorem coe_sum {n : Nat} (f : Fin n → ℝ) : (∑ j, ((f j : ℝ) : EReal)) = ((∑ j, f j : ℝ) : EReal) :=
  (map_sum (⟨⟨fun x : ℝ => (x : EReal), EReal.coe_zero⟩, EReal.coe_add⟩ : ℝ →+ EReal) f Finset.univ).symm

theorem div_coe' {x y : ℝ} (h : y ≠ 0) : Ideal.div (x : EReal) (y : EReal) = ((x / y : ℝ) : EReal) := by
  rw [Ideal.div_coe h, ← EReal.coe_mul, mul_one_div]

/-- On reals the kernel's weighted average is a real quotient. -/
theorem weighted_coe {n : Nat} (h : 0 < n) (f v : Fin n → ℝ) : ∃ m : ℝ,
    weighted (fun j => (f j : EReal)) (fun j => (v j : EReal))
      = (((∑ j, Real.rpow 2 (f j - m) * v j) / (∑ j, Real.rpow 2 (f j - m)) : ℝ) : EReal) := by
  obtain ⟨m, hm⟩ := top_coe h f
  refine ⟨m, ?_⟩
  have : Nonempty (Fin n) := ⟨⟨0, h⟩⟩
  have hz : (∑ j, Real.rpow 2 (f j - m)) ≠ 0 :=
    (Finset.sum_pos (fun j _ => Real.rpow_pos_of_pos two_pos _) Finset.univ_nonempty).ne'
  unfold weighted
  rw [hm]
  simp only [← EReal.coe_sub, Ideal.exp2_coe, ← EReal.coe_mul, coe_sum]
  exact div_coe' hz

/-- On reals the reference's softmax is a real quotient. -/
theorem soft_coe {n : Nat} (h : 0 < n) (f : Fin n → ℝ) (c : ℝ) : ∃ m : ℝ, ∀ j,
    soft (fun j => (f j : EReal)) (c : EReal) j
      = ((Real.exp (f j * c - m) / (∑ j, Real.exp (f j * c - m)) : ℝ) : EReal) := by
  obtain ⟨m, hm⟩ := top_coe h (fun j => f j * c)
  refine ⟨m, fun j => ?_⟩
  have : Nonempty (Fin n) := ⟨⟨0, h⟩⟩
  have hz : (∑ j, Real.exp (f j * c - m)) ≠ 0 :=
    (Finset.sum_pos (fun j _ => Real.exp_pos _) Finset.univ_nonempty).ne'
  unfold soft
  simp only [← EReal.coe_mul, hm, max_eq_right bot_le, ← EReal.coe_sub, Ideal.exp_coe, coe_sum, zero_add]
  exact div_coe' hz

/-- Base-two exponentials and natural ones of the scores times `log 2` give the same weights, whatever is
    subtracted. -/
theorem weights_eq {n : Nat} (h : 0 < n) (f : Fin n → ℝ) (m m' : ℝ) (j : Fin n) :
    Real.exp (f j * Real.log 2 - m') / (∑ j, Real.exp (f j * Real.log 2 - m'))
      = Real.rpow 2 (f j - m) / (∑ j, Real.rpow 2 (f j - m)) := by
  have : Nonempty (Fin n) := ⟨⟨0, h⟩⟩
  have e : ∀ k, Real.exp (f k * Real.log 2 - m') = Real.rpow 2 (f k - m) * Real.exp (m * Real.log 2 - m') := by
    intro k
    show _ = (2 : ℝ) ^ (f k - m) * _
    rw [Real.rpow_def_of_pos two_pos, ← Real.exp_add]
    congr 1
    ring
  simp only [e, ← Finset.sum_mul]
  exact mul_div_mul_right _ _ (Real.exp_pos _).ne'

/-- THE ROW: with real scores, values and coefficient the kernel's difference of two quotients is the
    reference's sum over the difference of two softmaxes. -/
theorem diff_eq {n : Nat} (h : 0 < n) (f0 f1 v : Fin n → ℝ) (lam : ℝ) :
    diff (fun j => (f0 j : EReal)) (fun j => (f1 j : EReal)) (lam : EReal) (fun j => (v j : EReal))
      = refDiff (fun j => (f0 j : EReal)) (fun j => (f1 j : EReal)) ((Real.log 2 : ℝ) : EReal) (lam : EReal) (fun j => (v j : EReal)) := by
  obtain ⟨m0, h0⟩ := weighted_coe h f0 v
  obtain ⟨m1, h1⟩ := weighted_coe h f1 v
  obtain ⟨n0, k0⟩ := soft_coe h f0 (Real.log 2)
  obtain ⟨n1, k1⟩ := soft_coe h f1 (Real.log 2)
  unfold diff refDiff
  rw [h0, h1]
  simp only [k0, k1, weights_eq h f0 m0 n0, weights_eq h f1 m1 n1, ← EReal.coe_mul, ← EReal.coe_sub, coe_sum]
  congr 1
  rw [Finset.sum_div, Finset.sum_div, Finset.mul_sum, ← Finset.sum_sub_distrib]
  refine Finset.sum_congr rfl fun j _ => ?_
  ring

end Cert.Attn
end
-- ==== Proof.Attn.HeadValue.lean ====
/-
  A head of each branch read at an index, over extended reals.
-/
module

public import proofs.«01_k».proof.Proof.Attn.Head
public import proofs.«01_k».proof.Proof.Attn.Math

@[expose] public section

set_option maxRecDepth 16384
noncomputable section
open Idealize.ShloMosaic Idealize.ShloMosaic.TcCoe Idealize.SL.Sem

namespace Cert.KernelIdeal.Attn
open Cert.KernelIdeal Cert.KernelIdeal.Gen Cert.Attn

theorem ofBits_negInf : Ideal.ofBits .f32 0xFF800000#32 = ⊥ := by
  simp [Ideal.ofBits, Ideal.ieee]

theorem mapA_apply (s : FVec Ideal S256x256 .f32) (v : FVec Ideal S256x128 .bf16) (r : Fin 256) (d : Fin 128) :
    mapA s v (ix2 r d) = weighted (fun j => s (ix2 r j)) (fun j => v (ix2 j d)) := by
  pointwise [mapA]
  rw [ofBits_negInf]
  rfl

theorem mapB_apply (s : FVec Ideal S256x2304 .f32) (v : FVec Ideal S2304x128 .bf16) (r : Fin 256) (d : Fin 128) :
    mapB s v (ix2 r d) = weighted (fun j => s (ix2 r j)) (fun j => v (ix2 j d)) := by
  pointwise [mapB]
  rw [ofBits_negInf]
  rfl

theorem lane_lo : ∀ x : Fin 64, IntOp.cmpi CmpIPredicate.slt (BitVec.ofNat 32 x.val) 64#32 = 1#1 := by
  decide
theorem lane_hi : ∀ x : Fin 64, IntOp.cmpi CmpIPredicate.slt (BitVec.ofNat 32 (64 + x.val)) 64#32 = 0#1 := by
  decide

theorem select_one (a b : EReal) : Scalar.select (1#1) a b = a := rfl
theorem select_zero (a b : EReal) : Scalar.select (0#1) a b = b := rfl
theorem xori_one : IntOp.xori (1#1) (1#1) = 0#1 := by decide
theorem xori_zero : IntOp.xori (0#1) (1#1) = 1#1 := by decide

/-- A sum over the lanes kept by the first mask is the sum over the first 64. -/
theorem sum_lanes0 (f : Fin 128 → EReal) :
    (∑ x : Fin 128, Scalar.select (IntOp.cmpi CmpIPredicate.slt (BitVec.ofNat 32 x.val) 64#32) (f x) 0)
      = ∑ x : Fin 64, f ⟨64 * 0 + x.val, by omega⟩ := by
  rw [Fin.sum_univ_two_halves 64 64 rfl]
  simp only [lane_lo, lane_hi, select_one, select_zero, Finset.sum_const_zero, add_zero]
  refine Finset.sum_congr rfl fun x _ => congrArg f (Fin.ext ?_)
  show x.val = 64 * 0 + x.val
  omega

/-- A sum over the lanes kept by the second mask is the sum over the last 64. -/
theorem sum_lanes1 (f : Fin 128 → EReal) :
    (∑ x : Fin 128, Scalar.select (IntOp.xori (IntOp.cmpi CmpIPredicate.slt (BitVec.ofNat 32 x.val) 64#32) 1#1) (f x) 0)
      = ∑ x : Fin 64, f ⟨64 * 1 + x.val, by omega⟩ := by
  rw [Fin.sum_univ_two_halves 64 64 rfl]
  simp only [lane_lo, lane_hi, xori_one, xori_zero, select_one, select_zero, Finset.sum_const_zero, zero_add]

theorem scoresA0_apply (q k : Vec Ideal S1x256x128 .bf16) (r : Fin 256) (j : Fin 256) :
    scoresA lanes0 q k (ix2 r j) = ∑ x : Fin 64, q (ix3 0 r ⟨64 * 0 + x.val, by omega⟩) * k (ix3 0 j ⟨64 * 0 + x.val, by omega⟩) := by
  pointwise [scoresA, masked, lanes0]
  exact sum_lanes0 fun x => q (ix3 0 r x) * k (ix3 0 j x)

theorem scoresA1_apply (q k : Vec Ideal S1x256x128 .bf16) (r : Fin 256) (j : Fin 256) :
    scoresA lanes1 q k (ix2 r j) = ∑ x : Fin 64, q (ix3 0 r ⟨64 * 1 + x.val, by omega⟩) * k (ix3 0 j ⟨64 * 1 + x.val, by omega⟩) := by
  pointwise [scoresA, masked, lanes0, lanes1]
  exact sum_lanes1 fun x => q (ix3 0 r x) * k (ix3 0 j x)

theorem scoresB0_apply (q : Vec Ideal S1x256x128 .bf16) (k : Vec Ideal S1x2304x128 .bf16) (r : Fin 256) (j : Fin 2304) :
    scoresB lanes0 q k (ix2 r j) = ∑ x : Fin 64, q (ix3 0 r ⟨64 * 0 + x.val, by omega⟩) * k (ix3 0 j ⟨64 * 0 + x.val, by omega⟩) := by
  pointwise [scoresB, masked, lanes0]
  exact sum_lanes0 fun x => q (ix3 0 r x) * k (ix3 0 j x)

theorem scoresB1_apply (q : Vec Ideal S1x256x128 .bf16) (k : Vec Ideal S1x2304x128 .bf16) (r : Fin 256) (j : Fin 2304) :
    scoresB lanes1 q k (ix2 r j) = ∑ x : Fin 64, q (ix3 0 r ⟨64 * 1 + x.val, by omega⟩) * k (ix3 0 j ⟨64 * 1 + x.val, by omega⟩) := by
  pointwise [scoresB, masked, lanes0, lanes1]
  exact sum_lanes1 fun x => q (ix3 0 r x) * k (ix3 0 j x)

theorem finish_apply (l : Vec Ideal S1x1 .f32) (g : Vec Ideal S1x128 .f32) (a b : FVec Ideal S256x128 .f32) (z : Fin 1) (r : Fin 256) (d : Fin 128) :
    finish l g a b (ix3 z r d) = normed (fun e => a (ix2 r e) - l (ix2 0 0) * b (ix2 r e)) (fun e => g (ix2 0 e)) d := by
  pointwise [finish]
  rfl

/-- A head of the context branch at an index. -/
theorem headA_apply (q k v : Vec Ideal S1x256x128 .bf16) (l : Vec Ideal S1x1 .f32) (g : Vec Ideal S1x128 .f32) (z : Fin 1) (r : Fin 256) (d : Fin 128) :
    headA q k v l g (ix3 z r d) = normed (fun e => diff
        (fun j => ∑ x : Fin 64, q (ix3 0 r ⟨64 * 0 + x.val, by omega⟩) * k (ix3 0 j ⟨64 * 0 + x.val, by omega⟩))
        (fun j => ∑ x : Fin 64, q (ix3 0 r ⟨64 * 1 + x.val, by omega⟩) * k (ix3 0 j ⟨64 * 1 + x.val, by omega⟩))
        (l (ix2 0 0)) (fun j => v (ix3 0 j e))) (fun e => g (ix2 0 e)) d := by
  unfold headA diff
  rw [finish_apply]
  simp only [mapA_apply, scoresA0_apply, scoresA1_apply]
  pointwise

/-- A head of the branch over all keys at an index. -/
theorem headB_apply (q : Vec Ideal S1x256x128 .bf16) (k v : Vec Ideal S1x2304x128 .bf16) (l : Vec Ideal S1x1 .f32) (g : Vec Ideal S1x128 .f32) (z : Fin 1) (r : Fin 256) (d : Fin 128) :
    headB q k v l g (ix3 z r d) = normed (fun e => diff
        (fun j => ∑ x : Fin 64, q (ix3 0 r ⟨64 * 0 + x.val, by omega⟩) * k (ix3 0 j ⟨64 * 0 + x.val, by omega⟩))
        (fun j => ∑ x : Fin 64, q (ix3 0 r ⟨64 * 1 + x.val, by omega⟩) * k (ix3 0 j ⟨64 * 1 + x.val, by omega⟩))
        (l (ix2 0 0)) (fun j => v (ix3 0 j e))) (fun e => g (ix2 0 e)) d := by
  unfold headB diff
  rw [finish_apply]
  simp only [mapB_apply, scoresB0_apply, scoresB1_apply]
  pointwise

end Cert.KernelIdeal.Attn
end
-- ==== Proof.Attn.Pieces.lean ====
/-
  The stored pieces of each branch of the attention kernel, and the block they leave at every index.
-/
module

public import proofs.«01_k».proof.Proof.Attn.HeadValue
public import Idealize.ShloMosaic.Lib.Pipeline.ValueKit

@[expose] public section

set_option maxRecDepth 16384
noncomputable section
open Idealize.ShloMosaic Idealize.ShloMosaic.TcCoe Idealize.SL.Sem

namespace Cert.KernelIdeal.Attn
open Cert.KernelIdeal Cert.KernelIdeal.Gen Cert.Attn

/-- Row `r` of head `h` of a block over the first `n` keys: the normalised difference of its two maps. -/
def blockRow (n : Nat) (hn : n ≤ 2304) (x0 : Vec Ideal S1x256x1024 .bf16) (x1 : Vec Ideal S1x2304x1024 .bf16) (x2 : Vec Ideal S1x2304x1024 .bf16) (x3 : Vec Ideal S8x128 .f32) (x4 : Vec Ideal S1x128 .f32)
    (r : Fin 256) (h : Fin 8) (d : Fin 128) : EReal :=
  normed (fun e => diff
      (fun j : Fin n => ∑ x : Fin 64, x0 (ix3 0 r ⟨128 * h.val + (64 * 0 + x.val), by omega⟩) * x1 (ix3 0 ⟨j.val, by omega⟩ ⟨128 * h.val + (64 * 0 + x.val), by omega⟩))
      (fun j : Fin n => ∑ x : Fin 64, x0 (ix3 0 r ⟨128 * h.val + (64 * 1 + x.val), by omega⟩) * x1 (ix3 0 ⟨j.val, by omega⟩ ⟨128 * h.val + (64 * 1 + x.val), by omega⟩))
      (x3 (ix2 0 0)) (fun j : Fin n => x2 (ix3 0 ⟨j.val, by omega⟩ ⟨128 * h.val + e.val, by omega⟩))) (fun e => x4 (ix2 0 e)) d

/-- The whole block: lane `128 h + d` of row `r` belongs to head `h`. -/
def block (n : Nat) (hn : n ≤ 2304) (x0 : Vec Ideal S1x256x1024 .bf16) (x1 : Vec Ideal S1x2304x1024 .bf16) (x2 : Vec Ideal S1x2304x1024 .bf16) (x3 : Vec Ideal S8x128 .f32) (x4 : Vec Ideal S1x128 .f32) : Vec Ideal S1x256x1024 .f32 :=
  fun y => blockRow n hn x0 x1 x2 x3 x4 (y 1) ⟨(y 2).val / 128, by have h : (y 2).val < 1024 := (y 2).isLt; omega⟩ ⟨(y 2).val % 128, by omega⟩

theorem block_ix (n : Nat) (hn : n ≤ 2304) (x0 : Vec Ideal S1x256x1024 .bf16) (x1 : Vec Ideal S1x2304x1024 .bf16) (x2 : Vec Ideal S1x2304x1024 .bf16) (x3 : Vec Ideal S8x128 .f32) (x4 : Vec Ideal S1x128 .f32)
    (r : Fin 256) (h : Fin 8) (d : Fin 128) :
    block n hn x0 x1 x2 x3 x4 (ix3 0 r ⟨128 * h.val + d.val, by omega⟩) = blockRow n hn x0 x1 x2 x3 x4 r h d := by
  show blockRow n hn x0 x1 x2 x3 x4 r ⟨(128 * h.val + d.val) / 128, _⟩ ⟨(128 * h.val + d.val) % 128, _⟩ = _
  congr 1
  · exact Fin.ext (by show (128 * h.val + d.val) / 128 = h.val; omega)
  · exact Fin.ext (by show (128 * h.val + d.val) % 128 = d.val; omega)

/-- Eight boxes of 128 lanes cover a block. -/
theorem covered (y : S1x256x1024.Idx) (L : List (View.Piece (Elt Ideal) S1x256x1024 .f32))
    (h : ∀ k : Fin 8, ∃ p ∈ L, ∃ i, p.1 = Rect.unit ![0, 0, 128 * k.val] ![1, 256, 128] i) : ∃ p ∈ L, y ∈ p.1.set := by
  have h2 : (y 2).val < 1024 := (y 2).isLt
  have h1 : (y 1).val < 256 := (y 1).isLt
  have h0 : (y 0).val < 1 := (y 0).isLt
  obtain ⟨p, hp, i, e⟩ := h ⟨(y 2).val / 128, by omega⟩
  refine ⟨p, hp, ?_⟩
  rw [e, Rect.mem_set_unit]
  intro a
  match a with
  | ⟨0, _⟩ => show 0 ≤ (y 0).val ∧ (y 0).val < 0 + 1; omega
  | ⟨1, _⟩ => show 0 ≤ (y 1).val ∧ (y 1).val < 0 + 256; omega
  | ⟨2, _⟩ => show 128 * ((y 2).val / 128) ≤ (y 2).val ∧ (y 2).val < 128 * ((y 2).val / 128) + 128; omega

/-- What the stores of the context branch leave: eight heads, each in its 128 lanes. -/
theorem canon_A (c : Dev nD) (i : grid0.Coords) (arg2 : Memref sig .tc .vmem S1x256x1024 .bf16) (harg2 : arg2.IsWhole) (arg3 : Memref sig .tc .vmem S1x2304x1024 .bf16) (harg3 : arg3.IsWhole) (arg4 : Memref sig .tc .vmem S1x2304x1024 .bf16) (harg4 : arg4.IsWhole) (arg5 : Memref sig .tc .vmem S8x128 .f32) (harg5 : arg5.IsWhole) (arg6 : Memref sig .tc .vmem S1x128 .f32) (harg6 : arg6.IsWhole) (arg7 : Memref sig .tc .vmem S1x256x1024 .f32) (harg7 : arg7.IsWhole) (hc0 : cond0_0 i) (hc1 : ¬cond0_1 i)
    (x0 : Vec Ideal S1x256x1024 .bf16) (x1 : Vec Ideal S1x2304x1024 .bf16) (x2 : Vec Ideal S1x2304x1024 .bf16) (x3 : Vec Ideal S8x128 .f32) (x4 : Vec Ideal S1x128 .f32) :
    out0_A_5 c i arg2 harg2 arg3 harg3 arg4 harg4 arg5 harg5 arg6 harg6 arg7 harg7 hc0 hc1 x0 x1 x2 x3 x4 = View.canon
      [⟨Rect.unit ![0, 0, 896] ![1, 256, 128] inb_S1x256x1024_S1x256x128_0_0_896, headA (View.ld x0 (Rect.unit ![0, 0, 896] ![1, 256, 128] inb_S1x256x1024_S1x256x128_0_0_896)) (View.ld x1 (Rect.unit ![0, 0, 896] ![1, 256, 128] inb_S1x2304x1024_S1x256x128_0_0_896)) (View.ld x2 (Rect.unit ![0, 0, 896] ![1, 256, 128] inb_S1x2304x1024_S1x256x128_0_0_896)) (View.ld x3 (Rect.unit ![0, 0] ![1, 1] inb_S8x128_S1x1_0_0)) (View.ld x4 (Rect.unit ![0, 0] ![1, 128] inb_S1x128_S1x128_0_0))⟩,
        ⟨Rect.unit ![0, 0, 768] ![1, 256, 128] inb_S1x256x1024_S1x256x128_0_0_768, headA (View.ld x0 (Rect.unit ![0, 0, 768] ![1, 256, 128] inb_S1x256x1024_S1x256x128_0_0_768)) (View.ld x1 (Rect.unit ![0, 0, 768] ![1, 256, 128] inb_S1x2304x1024_S1x256x128_0_0_768)) (View.ld x2 (Rect.unit ![0, 0, 768] ![1, 256, 128] inb_S1x2304x1024_S1x256x128_0_0_768)) (View.ld x3 (Rect.unit ![0, 0] ![1, 1] inb_S8x128_S1x1_0_0)) (View.ld x4 (Rect.unit ![0, 0] ![1, 128] inb_S1x128_S1x128_0_0))⟩,
        ⟨Rect.unit ![0, 0, 640] ![1, 256, 128] inb_S1x256x1024_S1x256x128_0_0_640, headA (View.ld x0 (Rect.unit ![0, 0, 640] ![1, 256, 128] inb_S1x256x1024_S1x256x128_0_0_640)) (View.ld x1 (Rect.unit ![0, 0, 640] ![1, 256, 128] inb_S1x2304x1024_S1x256x128_0_0_640)) (View.ld x2 (Rect.unit ![0, 0, 640] ![1, 256, 128] inb_S1x2304x1024_S1x256x128_0_0_640)) (View.ld x3 (Rect.unit ![0, 0] ![1, 1] inb_S8x128_S1x1_0_0)) (View.ld x4 (Rect.unit ![0, 0] ![1, 128] inb_S1x128_S1x128_0_0))⟩,
        ⟨Rect.unit ![0, 0, 512] ![1, 256, 128] inb_S1x256x1024_S1x256x128_0_0_512, headA (View.ld x0 (Rect.unit ![0, 0, 512] ![1, 256, 128] inb_S1x256x1024_S1x256x128_0_0_512)) (View.ld x1 (Rect.unit ![0, 0, 512] ![1, 256, 128] inb_S1x2304x1024_S1x256x128_0_0_512)) (View.ld x2 (Rect.unit ![0, 0, 512] ![1, 256, 128] inb_S1x2304x1024_S1x256x128_0_0_512)) (View.ld x3 (Rect.unit ![0, 0] ![1, 1] inb_S8x128_S1x1_0_0)) (View.ld x4 (Rect.unit ![0, 0] ![1, 128] inb_S1x128_S1x128_0_0))⟩,
        ⟨Rect.unit ![0, 0, 384] ![1, 256, 128] inb_S1x256x1024_S1x256x128_0_0_384, headA (View.ld x0 (Rect.unit ![0, 0, 384] ![1, 256, 128] inb_S1x256x1024_S1x256x128_0_0_384)) (View.ld x1 (Rect.unit ![0, 0, 384] ![1, 256, 128] inb_S1x2304x1024_S1x256x128_0_0_384)) (View.ld x2 (Rect.unit ![0, 0, 384] ![1, 256, 128] inb_S1x2304x1024_S1x256x128_0_0_384)) (View.ld x3 (Rect.unit ![0, 0] ![1, 1] inb_S8x128_S1x1_0_0)) (View.ld x4 (Rect.unit ![0, 0] ![1, 128] inb_S1x128_S1x128_0_0))⟩,
        ⟨Rect.unit ![0, 0, 256] ![1, 256, 128] inb_S1x256x1024_S1x256x128_0_0_256, headA (View.ld x0 (Rect.unit ![0, 0, 256] ![1, 256, 128] inb_S1x256x1024_S1x256x128_0_0_256)) (View.ld x1 (Rect.unit ![0, 0, 256] ![1, 256, 128] inb_S1x2304x1024_S1x256x128_0_0_256)) (View.ld x2 (Rect.unit ![0, 0, 256] ![1, 256, 128] inb_S1x2304x1024_S1x256x128_0_0_256)) (View.ld x3 (Rect.unit ![0, 0] ![1, 1] inb_S8x128_S1x1_0_0)) (View.ld x4 (Rect.unit ![0, 0] ![1, 128] inb_S1x128_S1x128_0_0))⟩,
        ⟨Rect.unit ![0, 0, 128] ![1, 256, 128] inb_S1x256x1024_S1x256x128_0_0_128, headA (View.ld x0 (Rect.unit ![0, 0, 128] ![1, 256, 128] inb_S1x256x1024_S1x256x128_0_0_128)) (View.ld x1 (Rect.unit ![0, 0, 128] ![1, 256, 128] inb_S1x2304x1024_S1x256x128_0_0_128)) (View.ld x2 (Rect.unit ![0, 0, 128] ![1, 256, 128] inb_S1x2304x1024_S1x256x128_0_0_128)) (View.ld x3 (Rect.unit ![0, 0] ![1, 1] inb_S8x128_S1x1_0_0)) (View.ld x4 (Rect.unit ![0, 0] ![1, 128] inb_S1x128_S1x128_0_0))⟩,
        ⟨Rect.unit ![0, 0, 0] ![1, 256, 128] inb_S1x256x1024_S1x256x128_0_0_0, headA (View.ld x0 (Rect.unit ![0, 0, 0] ![1, 256, 128] inb_S1x256x1024_S1x256x128_0_0_0)) (View.ld x1 (Rect.unit ![0, 0, 0] ![1, 256, 128] inb_S1x2304x1024_S1x256x128_0_0_0)) (View.ld x2 (Rect.unit ![0, 0, 0] ![1, 256, 128] inb_S1x2304x1024_S1x256x128_0_0_0)) (View.ld x3 (Rect.unit ![0, 0] ![1, 1] inb_S8x128_S1x1_0_0)) (View.ld x4 (Rect.unit ![0, 0] ![1, 128] inb_S1x128_S1x128_0_0))⟩] := by
  unfold out0_A_5
  refine (View.read_writes_eq_canon _ _ _ (cover0_A_5 c i arg2 harg2 arg3 harg3 arg4 harg4 arg5 harg5 arg6 harg6 arg7 harg7 hc0 hc1 x0 x1 x2 x3 x4)).trans ?_
  unfold kernelRun0_A
  dsimp only
  sl_unfold_words
  simp only [View.readAt_eq_ld, harg2.read_unread, harg3.read_unread, harg4.read_unread, harg5.read_unread, harg6.read_unread]
  rfl

/-- A head whose operands are the lanes of head `h` is that head's row of the block. -/
theorem headA_row (x0 : Vec Ideal S1x256x1024 .bf16) (x1 : Vec Ideal S1x2304x1024 .bf16) (x2 : Vec Ideal S1x2304x1024 .bf16) (x3 : Vec Ideal S8x128 .f32) (x4 : Vec Ideal S1x128 .f32)
    (h : Fin 8) (q : Vec Ideal S1x256x128 .bf16) (k v : Vec Ideal S1x256x128 .bf16) (l : Vec Ideal S1x1 .f32) (g : Vec Ideal S1x128 .f32)
    (hq : ∀ (r : Fin 256) (y : Fin 128), q (ix3 0 r y) = x0 (ix3 0 r ⟨128 * h.val + y.val, by omega⟩))
    (hk : ∀ (j : Fin 256) (y : Fin 128), k (ix3 0 j y) = x1 (ix3 0 ⟨j.val, by omega⟩ ⟨128 * h.val + y.val, by omega⟩))
    (hv : ∀ (j : Fin 256) (y : Fin 128), v (ix3 0 j y) = x2 (ix3 0 ⟨j.val, by omega⟩ ⟨128 * h.val + y.val, by omega⟩))
    (hl : l (ix2 0 0) = x3 (ix2 0 0)) (hg : ∀ y : Fin 128, g (ix2 0 y) = x4 (ix2 0 y)) (z : Fin 1) (r : Fin 256) (d : Fin 128) :
    headA q k v l g (ix3 z r d) = blockRow 256 (by decide) x0 x1 x2 x3 x4 r h d := by
  rw [headA_apply]
  unfold blockRow
  simp only [hq, hk, hv, hl, hg]

/-- A stored head at its lanes is the block's value there. -/
theorem piece_A (x0 : Vec Ideal S1x256x1024 .bf16) (x1 : Vec Ideal S1x2304x1024 .bf16) (x2 : Vec Ideal S1x2304x1024 .bf16) (x3 : Vec Ideal S8x128 .f32) (x4 : Vec Ideal S1x128 .f32)
    (h : Fin 8) (o : Nat) (ho : o = 128 * h.val) (i0) (i1) (z : Fin 1) (r : Fin 256) (d : Fin 128) :
    headA (View.ld x0 (Rect.unit ![0, 0, o] ![1, 256, 128] i0)) (View.ld x1 (Rect.unit ![0, 0, o] ![1, 256, 128] i1)) (View.ld x2 (Rect.unit ![0, 0, o] ![1, 256, 128] i1)) (View.ld x3 (Rect.unit ![0, 0] ![1, 1] inb_S8x128_S1x1_0_0)) (View.ld x4 (Rect.unit ![0, 0] ![1, 128] inb_S1x128_S1x128_0_0)) (ix3 z r d)
      = block 256 (by decide) x0 x1 x2 x3 x4 ((Rect.unit (s := S1x256x1024) ![0, 0, o] ![1, 256, 128] i0).emb (ix3 z r d)) := by
  subst ho
  have e : (Rect.unit (s := S1x256x1024) ![0, 0, 128 * h.val] ![1, 256, 128] i0).emb (ix3 z r d) = ix3 0 r ⟨128 * h.val + d.val, by omega⟩ := by
    funext a
    match a with
    | ⟨0, _⟩ => exact Fin.ext (by show 0 + 1 * z.val = 0; omega)
    | ⟨1, _⟩ => exact Fin.ext (by show 0 + 1 * r.val = r.val; omega)
    | ⟨2, _⟩ => exact Fin.ext (by show 128 * h.val + 1 * d.val = 128 * h.val + d.val; omega)
  rw [e, block_ix]
  have hq : ∀ (r : Fin 256) (y : Fin 128), View.ld x0 (Rect.unit (s := S1x256x1024) ![0, 0, 128 * h.val] ![1, 256, 128] i0) (ix3 0 r y) = x0 (ix3 0 r ⟨128 * h.val + y.val, by omega⟩) := fun r y =>
    View.ld_unit_apply_of _ _ _ _ _ _ (fun a => by fin_cases a <;> simp [ix3])
  have hk : ∀ (X : Vec Ideal S1x2304x1024 .bf16) (j : Fin 256) (y : Fin 128), View.ld X (Rect.unit (s := S1x2304x1024) ![0, 0, 128 * h.val] ![1, 256, 128] i1) (ix3 0 j y) = X (ix3 0 ⟨j.val, by omega⟩ ⟨128 * h.val + y.val, by omega⟩) := fun X j y =>
    View.ld_unit_apply_of _ _ _ _ _ _ (fun a => by fin_cases a <;> simp [ix3])
  have hl : View.ld x3 (Rect.unit (s := S8x128) ![0, 0] ![1, 1] inb_S8x128_S1x1_0_0) (ix2 0 0) = x3 (ix2 0 0) :=
    View.ld_unit_apply_of _ _ _ _ _ _ (fun a => by fin_cases a <;> simp [ix2])
  have hg : ∀ y : Fin 128, View.ld x4 (Rect.unit (s := S1x128) ![0, 0] ![1, 128] inb_S1x128_S1x128_0_0) (ix2 0 y) = x4 (ix2 0 y) := fun y =>
    View.ld_unit_apply_of _ _ _ _ _ _ (fun a => by fin_cases a <;> simp [ix2])
  exact headA_row x0 x1 x2 x3 x4 h _ _ _ _ _ hq (hk x1) (hk x2) hl hg z r d

/-- The block a point of the context branch leaves, at every index. -/
theorem out_A (c : Dev nD) (i : grid0.Coords) (arg2 : Memref sig .tc .vmem S1x256x1024 .bf16) (harg2 : arg2.IsWhole) (arg3 : Memref sig .tc .vmem S1x2304x1024 .bf16) (harg3 : arg3.IsWhole) (arg4 : Memref sig .tc .vmem S1x2304x1024 .bf16) (harg4 : arg4.IsWhole) (arg5 : Memref sig .tc .vmem S8x128 .f32) (harg5 : arg5.IsWhole) (arg6 : Memref sig .tc .vmem S1x128 .f32) (harg6 : arg6.IsWhole) (arg7 : Memref sig .tc .vmem S1x256x1024 .f32) (harg7 : arg7.IsWhole) (hc0 : cond0_0 i) (hc1 : ¬cond0_1 i)
    (x0 : Vec Ideal S1x256x1024 .bf16) (x1 : Vec Ideal S1x2304x1024 .bf16) (x2 : Vec Ideal S1x2304x1024 .bf16) (x3 : Vec Ideal S8x128 .f32) (x4 : Vec Ideal S1x128 .f32) :
    out0_A_5 c i arg2 harg2 arg3 harg3 arg4 harg4 arg5 harg5 arg6 harg6 arg7 harg7 hc0 hc1 x0 x1 x2 x3 x4 = block 256 (by decide) x0 x1 x2 x3 x4 := by
  rw [canon_A]
  funext y
  refine View.canon_apply_of_pieces _ _ ?_ y ?_
  · intro p hp x
    simp only [List.mem_cons, List.not_mem_nil, or_false] at hp
    rcases hp with rfl | rfl | rfl | rfl | rfl | rfl | rfl | rfl
    · rw [eq_ix3 x]; exact piece_A x0 x1 x2 x3 x4 7 896 rfl _ _ _ _ _
    · rw [eq_ix3 x]; exact piece_A x0 x1 x2 x3 x4 6 768 rfl _ _ _ _ _
    · rw [eq_ix3 x]; exact piece_A x0 x1 x2 x3 x4 5 640 rfl _ _ _ _ _
    · rw [eq_ix3 x]; exact piece_A x0 x1 x2 x3 x4 4 512 rfl _ _ _ _ _
    · rw [eq_ix3 x]; exact piece_A x0 x1 x2 x3 x4 3 384 rfl _ _ _ _ _
    · rw [eq_ix3 x]; exact piece_A x0 x1 x2 x3 x4 2 256 rfl _ _ _ _ _
    · rw [eq_ix3 x]; exact piece_A x0 x1 x2 x3 x4 1 128 rfl _ _ _ _ _
    · rw [eq_ix3 x]; exact piece_A x0 x1 x2 x3 x4 0 0 rfl _ _ _ _ _
  · refine covered y _ fun k => ?_
    match k with
    | 0 => exact ⟨_, (.tail _ (.tail _ (.tail _ (.tail _ (.tail _ (.tail _ (.tail _ (.head _))))))) : List.Mem _ _), inb_S1x256x1024_S1x256x128_0_0_0, rfl⟩
    | 1 => exact ⟨_, (.tail _ (.tail _ (.tail _ (.tail _ (.tail _ (.tail _ (.head _)))))) : List.Mem _ _), inb_S1x256x1024_S1x256x128_0_0_128, rfl⟩
    | 2 => exact ⟨_, (.tail _ (.tail _ (.tail _ (.tail _ (.tail _ (.head _))))) : List.Mem _ _), inb_S1x256x1024_S1x256x128_0_0_256, rfl⟩
    | 3 => exact ⟨_, (.tail _ (.tail _ (.tail _ (.tail _ (.head _)))) : List.Mem _ _), inb_S1x256x1024_S1x256x128_0_0_384, rfl⟩
    | 4 => exact ⟨_, (.tail _ (.tail _ (.tail _ (.head _))) : List.Mem _ _), inb_S1x256x1024_S1x256x128_0_0_512, rfl⟩
    | 5 => exact ⟨_, (.tail _ (.tail _ (.head _)) : List.Mem _ _), inb_S1x256x1024_S1x256x128_0_0_640, rfl⟩
    | 6 => exact ⟨_, (.tail _ (.head _) : List.Mem _ _), inb_S1x256x1024_S1x256x128_0_0_768, rfl⟩
    | 7 => exact ⟨_, (.head _ : List.Mem _ _), inb_S1x256x1024_S1x256x128_0_0_896, rfl⟩

/-- What the stores of the branch over all keys leave: eight heads, each in its 128 lanes. -/
theorem canon_B (c : Dev nD) (i : grid0.Coords) (arg2 : Memref sig .tc .vmem S1x256x1024 .bf16) (harg2 : arg2.IsWhole) (arg3 : Memref sig .tc .vmem S1x2304x1024 .bf16) (harg3 : arg3.IsWhole) (arg4 : Memref sig .tc .vmem S1x2304x1024 .bf16) (harg4 : arg4.IsWhole) (arg5 : Memref sig .tc .vmem S8x128 .f32) (harg5 : arg5.IsWhole) (arg6 : Memref sig .tc .vmem S1x128 .f32) (harg6 : arg6.IsWhole) (arg7 : Memref sig .tc .vmem S1x256x1024 .f32) (harg7 : arg7.IsWhole) (hc0 : ¬cond0_0 i) (hc1 : cond0_1 i)
    (x0 : Vec Ideal S1x256x1024 .bf16) (x1 : Vec Ideal S1x2304x1024 .bf16) (x2 : Vec Ideal S1x2304x1024 .bf16) (x3 : Vec Ideal S8x128 .f32) (x4 : Vec Ideal S1x128 .f32) :
    out0_B_5 c i arg2 harg2 arg3 harg3 arg4 harg4 arg5 harg5 arg6 harg6 arg7 harg7 hc0 hc1 x0 x1 x2 x3 x4 = View.canon
      [⟨Rect.unit ![0, 0, 896] ![1, 256, 128] inb_S1x256x1024_S1x256x128_0_0_896, headB (View.ld x0 (Rect.unit ![0, 0, 896] ![1, 256, 128] inb_S1x256x1024_S1x256x128_0_0_896)) (View.ld x1 (Rect.unit ![0, 0, 896] ![1, 2304, 128] inb_S1x2304x1024_S1x2304x128_0_0_896)) (View.ld x2 (Rect.unit ![0, 0, 896] ![1, 2304, 128] inb_S1x2304x1024_S1x2304x128_0_0_896)) (View.ld x3 (Rect.unit ![0, 0] ![1, 1] inb_S8x128_S1x1_0_0)) (View.ld x4 (Rect.unit ![0, 0] ![1, 128] inb_S1x128_S1x128_0_0))⟩,
        ⟨Rect.unit ![0, 0, 768] ![1, 256, 128] inb_S1x256x1024_S1x256x128_0_0_768, headB (View.ld x0 (Rect.unit ![0, 0, 768] ![1, 256, 128] inb_S1x256x1024_S1x256x128_0_0_768)) (View.ld x1 (Rect.unit ![0, 0, 768] ![1, 2304, 128] inb_S1x2304x1024_S1x2304x128_0_0_768)) (View.ld x2 (Rect.unit ![0, 0, 768] ![1, 2304, 128] inb_S1x2304x1024_S1x2304x128_0_0_768)) (View.ld x3 (Rect.unit ![0, 0] ![1, 1] inb_S8x128_S1x1_0_0)) (View.ld x4 (Rect.unit ![0, 0] ![1, 128] inb_S1x128_S1x128_0_0))⟩,
        ⟨Rect.unit ![0, 0, 640] ![1, 256, 128] inb_S1x256x1024_S1x256x128_0_0_640, headB (View.ld x0 (Rect.unit ![0, 0, 640] ![1, 256, 128] inb_S1x256x1024_S1x256x128_0_0_640)) (View.ld x1 (Rect.unit ![0, 0, 640] ![1, 2304, 128] inb_S1x2304x1024_S1x2304x128_0_0_640)) (View.ld x2 (Rect.unit ![0, 0, 640] ![1, 2304, 128] inb_S1x2304x1024_S1x2304x128_0_0_640)) (View.ld x3 (Rect.unit ![0, 0] ![1, 1] inb_S8x128_S1x1_0_0)) (View.ld x4 (Rect.unit ![0, 0] ![1, 128] inb_S1x128_S1x128_0_0))⟩,
        ⟨Rect.unit ![0, 0, 512] ![1, 256, 128] inb_S1x256x1024_S1x256x128_0_0_512, headB (View.ld x0 (Rect.unit ![0, 0, 512] ![1, 256, 128] inb_S1x256x1024_S1x256x128_0_0_512)) (View.ld x1 (Rect.unit ![0, 0, 512] ![1, 2304, 128] inb_S1x2304x1024_S1x2304x128_0_0_512)) (View.ld x2 (Rect.unit ![0, 0, 512] ![1, 2304, 128] inb_S1x2304x1024_S1x2304x128_0_0_512)) (View.ld x3 (Rect.unit ![0, 0] ![1, 1] inb_S8x128_S1x1_0_0)) (View.ld x4 (Rect.unit ![0, 0] ![1, 128] inb_S1x128_S1x128_0_0))⟩,
        ⟨Rect.unit ![0, 0, 384] ![1, 256, 128] inb_S1x256x1024_S1x256x128_0_0_384, headB (View.ld x0 (Rect.unit ![0, 0, 384] ![1, 256, 128] inb_S1x256x1024_S1x256x128_0_0_384)) (View.ld x1 (Rect.unit ![0, 0, 384] ![1, 2304, 128] inb_S1x2304x1024_S1x2304x128_0_0_384)) (View.ld x2 (Rect.unit ![0, 0, 384] ![1, 2304, 128] inb_S1x2304x1024_S1x2304x128_0_0_384)) (View.ld x3 (Rect.unit ![0, 0] ![1, 1] inb_S8x128_S1x1_0_0)) (View.ld x4 (Rect.unit ![0, 0] ![1, 128] inb_S1x128_S1x128_0_0))⟩,
        ⟨Rect.unit ![0, 0, 256] ![1, 256, 128] inb_S1x256x1024_S1x256x128_0_0_256, headB (View.ld x0 (Rect.unit ![0, 0, 256] ![1, 256, 128] inb_S1x256x1024_S1x256x128_0_0_256)) (View.ld x1 (Rect.unit ![0, 0, 256] ![1, 2304, 128] inb_S1x2304x1024_S1x2304x128_0_0_256)) (View.ld x2 (Rect.unit ![0, 0, 256] ![1, 2304, 128] inb_S1x2304x1024_S1x2304x128_0_0_256)) (View.ld x3 (Rect.unit ![0, 0] ![1, 1] inb_S8x128_S1x1_0_0)) (View.ld x4 (Rect.unit ![0, 0] ![1, 128] inb_S1x128_S1x128_0_0))⟩,
        ⟨Rect.unit ![0, 0, 128] ![1, 256, 128] inb_S1x256x1024_S1x256x128_0_0_128, headB (View.ld x0 (Rect.unit ![0, 0, 128] ![1, 256, 128] inb_S1x256x1024_S1x256x128_0_0_128)) (View.ld x1 (Rect.unit ![0, 0, 128] ![1, 2304, 128] inb_S1x2304x1024_S1x2304x128_0_0_128)) (View.ld x2 (Rect.unit ![0, 0, 128] ![1, 2304, 128] inb_S1x2304x1024_S1x2304x128_0_0_128)) (View.ld x3 (Rect.unit ![0, 0] ![1, 1] inb_S8x128_S1x1_0_0)) (View.ld x4 (Rect.unit ![0, 0] ![1, 128] inb_S1x128_S1x128_0_0))⟩,
        ⟨Rect.unit ![0, 0, 0] ![1, 256, 128] inb_S1x256x1024_S1x256x128_0_0_0, headB (View.ld x0 (Rect.unit ![0, 0, 0] ![1, 256, 128] inb_S1x256x1024_S1x256x128_0_0_0)) (View.ld x1 (Rect.unit ![0, 0, 0] ![1, 2304, 128] inb_S1x2304x1024_S1x2304x128_0_0_0)) (View.ld x2 (Rect.unit ![0, 0, 0] ![1, 2304, 128] inb_S1x2304x1024_S1x2304x128_0_0_0)) (View.ld x3 (Rect.unit ![0, 0] ![1, 1] inb_S8x128_S1x1_0_0)) (View.ld x4 (Rect.unit ![0, 0] ![1, 128] inb_S1x128_S1x128_0_0))⟩] := by
  unfold out0_B_5
  refine (View.read_writes_eq_canon _ _ _ (cover0_B_5 c i arg2 harg2 arg3 harg3 arg4 harg4 arg5 harg5 arg6 harg6 arg7 harg7 hc0 hc1 x0 x1 x2 x3 x4)).trans ?_
  unfold kernelRun0_B
  dsimp only
  sl_unfold_words
  simp only [View.readAt_eq_ld, harg2.read_unread, harg3.read_unread, harg4.read_unread, harg5.read_unread, harg6.read_unread]
  rfl

/-- A head whose operands are the lanes of head `h` is that head's row of the block. -/
theorem headB_row (x0 : Vec Ideal S1x256x1024 .bf16) (x1 : Vec Ideal S1x2304x1024 .bf16) (x2 : Vec Ideal S1x2304x1024 .bf16) (x3 : Vec Ideal S8x128 .f32) (x4 : Vec Ideal S1x128 .f32)
    (h : Fin 8) (q : Vec Ideal S1x256x128 .bf16) (k v : Vec Ideal S1x2304x128 .bf16) (l : Vec Ideal S1x1 .f32) (g : Vec Ideal S1x128 .f32)
    (hq : ∀ (r : Fin 256) (y : Fin 128), q (ix3 0 r y) = x0 (ix3 0 r ⟨128 * h.val + y.val, by omega⟩))
    (hk : ∀ (j : Fin 2304) (y : Fin 128), k (ix3 0 j y) = x1 (ix3 0 ⟨j.val, by omega⟩ ⟨128 * h.val + y.val, by omega⟩))
    (hv : ∀ (j : Fin 2304) (y : Fin 128), v (ix3 0 j y) = x2 (ix3 0 ⟨j.val, by omega⟩ ⟨128 * h.val + y.val, by omega⟩))
    (hl : l (ix2 0 0) = x3 (ix2 0 0)) (hg : ∀ y : Fin 128, g (ix2 0 y) = x4 (ix2 0 y)) (z : Fin 1) (r : Fin 256) (d : Fin 128) :
    headB q k v l g (ix3 z r d) = blockRow 2304 (by decide) x0 x1 x2 x3 x4 r h d := by
  rw [headB_apply]
  unfold blockRow
  simp only [hq, hk, hv, hl, hg]

/-- A stored head at its lanes is the block's value there. -/
theorem piece_B (x0 : Vec Ideal S1x256x1024 .bf16) (x1 : Vec Ideal S1x2304x1024 .bf16) (x2 : Vec Ideal S1x2304x1024 .bf16) (x3 : Vec Ideal S8x128 .f32) (x4 : Vec Ideal S1x128 .f32)
    (h : Fin 8) (o : Nat) (ho : o = 128 * h.val) (i0) (i1) (z : Fin 1) (r : Fin 256) (d : Fin 128) :
    headB (View.ld x0 (Rect.unit ![0, 0, o] ![1, 256, 128] i0)) (View.ld x1 (Rect.unit ![0, 0, o] ![1, 2304, 128] i1)) (View.ld x2 (Rect.unit ![0, 0, o] ![1, 2304, 128] i1)) (View.ld x3 (Rect.unit ![0, 0] ![1, 1] inb_S8x128_S1x1_0_0)) (View.ld x4 (Rect.unit ![0, 0] ![1, 128] inb_S1x128_S1x128_0_0)) (ix3 z r d)
      = block 2304 (by decide) x0 x1 x2 x3 x4 ((Rect.unit (s := S1x256x1024) ![0, 0, o] ![1, 256, 128] i0).emb (ix3 z r d)) := by
  subst ho
  have e : (Rect.unit (s := S1x256x1024) ![0, 0, 128 * h.val] ![1, 256, 128] i0).emb (ix3 z r d) = ix3 0 r ⟨128 * h.val + d.val, by omega⟩ := by
    funext a
    match a with
    | ⟨0, _⟩ => exact Fin.ext (by show 0 + 1 * z.val = 0; omega)
    | ⟨1, _⟩ => exact Fin.ext (by show 0 + 1 * r.val = r.val; omega)
    | ⟨2, _⟩ => exact Fin.ext (by show 128 * h.val + 1 * d.val = 128 * h.val + d.val; omega)
  rw [e, block_ix]
  have hq : ∀ (r : Fin 256) (y : Fin 128), View.ld x0 (Rect.unit (s := S1x256x1024) ![0, 0, 128 * h.val] ![1, 256, 128] i0) (ix3 0 r y) = x0 (ix3 0 r ⟨128 * h.val + y.val, by omega⟩) := fun r y =>
    View.ld_unit_apply_of _ _ _ _ _ _ (fun a => by fin_cases a <;> simp [ix3])
  have hk : ∀ (X : Vec Ideal S1x2304x1024 .bf16) (j : Fin 2304) (y : Fin 128), View.ld X (Rect.unit (s := S1x2304x1024) ![0, 0, 128 * h.val] ![1, 2304, 128] i1) (ix3 0 j y) = X (ix3 0 ⟨j.val, by omega⟩ ⟨128 * h.val + y.val, by omega⟩) := fun X j y =>
    View.ld_unit_apply_of _ _ _ _ _ _ (fun a => by fin_cases a <;> simp [ix3])
  have hl : View.ld x3 (Rect.unit (s := S8x128) ![0, 0] ![1, 1] inb_S8x128_S1x1_0_0) (ix2 0 0) = x3 (ix2 0 0) :=
    View.ld_unit_apply_of _ _ _ _ _ _ (fun a => by fin_cases a <;> simp [ix2])
  have hg : ∀ y : Fin 128, View.ld x4 (Rect.unit (s := S1x128) ![0, 0] ![1, 128] inb_S1x128_S1x128_0_0) (ix2 0 y) = x4 (ix2 0 y) := fun y =>
    View.ld_unit_apply_of _ _ _ _ _ _ (fun a => by fin_cases a <;> simp [ix2])
  exact headB_row x0 x1 x2 x3 x4 h _ _ _ _ _ hq (hk x1) (hk x2) hl hg z r d

/-- The block a point of the branch over all keys leaves, at every index. -/
theorem out_B (c : Dev nD) (i : grid0.Coords) (arg2 : Memref sig .tc .vmem S1x256x1024 .bf16) (harg2 : arg2.IsWhole) (arg3 : Memref sig .tc .vmem S1x2304x1024 .bf16) (harg3 : arg3.IsWhole) (arg4 : Memref sig .tc .vmem S1x2304x1024 .bf16) (harg4 : arg4.IsWhole) (arg5 : Memref sig .tc .vmem S8x128 .f32) (harg5 : arg5.IsWhole) (arg6 : Memref sig .tc .vmem S1x128 .f32) (harg6 : arg6.IsWhole) (arg7 : Memref sig .tc .vmem S1x256x1024 .f32) (harg7 : arg7.IsWhole) (hc0 : ¬cond0_0 i) (hc1 : cond0_1 i)
    (x0 : Vec Ideal S1x256x1024 .bf16) (x1 : Vec Ideal S1x2304x1024 .bf16) (x2 : Vec Ideal S1x2304x1024 .bf16) (x3 : Vec Ideal S8x128 .f32) (x4 : Vec Ideal S1x128 .f32) :
    out0_B_5 c i arg2 harg2 arg3 harg3 arg4 harg4 arg5 harg5 arg6 harg6 arg7 harg7 hc0 hc1 x0 x1 x2 x3 x4 = block 2304 (by decide) x0 x1 x2 x3 x4 := by
  rw [canon_B]
  funext y
  refine View.canon_apply_of_pieces _ _ ?_ y ?_
  · intro p hp x
    simp only [List.mem_cons, List.not_mem_nil, or_false] at hp
    rcases hp with rfl | rfl | rfl | rfl | rfl | rfl | rfl | rfl
    · rw [eq_ix3 x]; exact piece_B x0 x1 x2 x3 x4 7 896 rfl _ _ _ _ _
    · rw [eq_ix3 x]; exact piece_B x0 x1 x2 x3 x4 6 768 rfl _ _ _ _ _
    · rw [eq_ix3 x]; exact piece_B x0 x1 x2 x3 x4 5 640 rfl _ _ _ _ _
    · rw [eq_ix3 x]; exact piece_B x0 x1 x2 x3 x4 4 512 rfl _ _ _ _ _
    · rw [eq_ix3 x]; exact piece_B x0 x1 x2 x3 x4 3 384 rfl _ _ _ _ _
    · rw [eq_ix3 x]; exact piece_B x0 x1 x2 x3 x4 2 256 rfl _ _ _ _ _
    · rw [eq_ix3 x]; exact piece_B x0 x1 x2 x3 x4 1 128 rfl _ _ _ _ _
    · rw [eq_ix3 x]; exact piece_B x0 x1 x2 x3 x4 0 0 rfl _ _ _ _ _
  · refine covered y _ fun k => ?_
    match k with
    | 0 => exact ⟨_, (.tail _ (.tail _ (.tail _ (.tail _ (.tail _ (.tail _ (.tail _ (.head _))))))) : List.Mem _ _), inb_S1x256x1024_S1x256x128_0_0_0, rfl⟩
    | 1 => exact ⟨_, (.tail _ (.tail _ (.tail _ (.tail _ (.tail _ (.tail _ (.head _)))))) : List.Mem _ _), inb_S1x256x1024_S1x256x128_0_0_128, rfl⟩
    | 2 => exact ⟨_, (.tail _ (.tail _ (.tail _ (.tail _ (.tail _ (.head _))))) : List.Mem _ _), inb_S1x256x1024_S1x256x128_0_0_256, rfl⟩
    | 3 => exact ⟨_, (.tail _ (.tail _ (.tail _ (.tail _ (.head _)))) : List.Mem _ _), inb_S1x256x1024_S1x256x128_0_0_384, rfl⟩
    | 4 => exact ⟨_, (.tail _ (.tail _ (.tail _ (.head _))) : List.Mem _ _), inb_S1x256x1024_S1x256x128_0_0_512, rfl⟩
    | 5 => exact ⟨_, (.tail _ (.tail _ (.head _)) : List.Mem _ _), inb_S1x256x1024_S1x256x128_0_0_640, rfl⟩
    | 6 => exact ⟨_, (.tail _ (.head _) : List.Mem _ _), inb_S1x256x1024_S1x256x128_0_0_768, rfl⟩
    | 7 => exact ⟨_, (.head _ : List.Mem _ _), inb_S1x256x1024_S1x256x128_0_0_896, rfl⟩

end Cert.KernelIdeal.Attn
end
-- ==== Proof.Attn.Rows.lean ====
/-
  One output element of the differential attention, as a function of the prepared array of queries, keys
  and values, in the form the kernel computes and in the form the reference states.
-/
module

public import proofs.«01_k».proof.Proof.Attn.Math

@[expose] public section

noncomputable section
open Idealize.ShloMosaic

namespace Cert.Attn

/-- The score of query row `row` against key row `j`, in map `u` of head `h`. -/
def score (X : Fin 32 → Fin 2304 → Fin 3072 → EReal) (n : Nat) (hn : n ≤ 2304) (b : Fin 32) (row : Fin 2304) (h : Fin 8) (u : Fin 2) (j : Fin n) : EReal :=
  ∑ x : Fin 64, X b row ⟨128 * h.val + (64 * u.val + x.val), by omega⟩ * X b ⟨j.val, by omega⟩ ⟨1024 + (128 * h.val + (64 * u.val + x.val)), by omega⟩

/-- Lane `e` of the value at key row `j` in head `h`. -/
def value (X : Fin 32 → Fin 2304 → Fin 3072 → EReal) (n : Nat) (hn : n ≤ 2304) (b : Fin 32) (h : Fin 8) (e : Fin 128) (j : Fin n) : EReal :=
  X b ⟨j.val, by omega⟩ ⟨2048 + (128 * h.val + e.val), by omega⟩

/-- The kernel's output element over the first `n` keys. -/
def rowOut (X : Fin 32 → Fin 2304 → Fin 3072 → EReal) (lam : EReal) (g : Fin 128 → EReal) (n : Nat) (hn : n ≤ 2304) (b : Fin 32) (row : Fin 2304) (h : Fin 8) (d : Fin 128) : EReal :=
  normed (fun e => diff (score X n hn b row h 0) (score X n hn b row h 1) lam (value X n hn b h e)) g d

/-- The reference's output element over the first `n` keys. -/
def rowRef (X : Fin 32 → Fin 2304 → Fin 3072 → EReal) (lam : EReal) (g : Fin 128 → EReal) (n : Nat) (hn : n ≤ 2304) (b : Fin 32) (row : Fin 2304) (h : Fin 8) (d : Fin 128) : EReal :=
  normed (fun e => refDiff (score X n hn b row h 0) (score X n hn b row h 1) (Real.log 2 : ℝ) lam (value X n hn b h e)) g d

/-- On real inputs and a real coefficient the two agree. -/
theorem rowOut_eq (X : Fin 32 → Fin 2304 → Fin 3072 → EReal) (lam : EReal) (g : Fin 128 → EReal) (n : Nat) (hn : n ≤ 2304) (h0 : 0 < n)
    (b : Fin 32) (row : Fin 2304) (h : Fin 8) (d : Fin 128) (hX : ∀ i j k, ∃ r : ℝ, X i j k = (r : EReal)) (hl : ∃ r : ℝ, lam = (r : EReal)) :
    rowOut X lam g n hn b row h d = rowRef X lam g n hn b row h d := by
  choose f hf using hX
  obtain ⟨l, rfl⟩ := hl
  obtain rfl : X = fun i j k => ((f i j k : ℝ) : EReal) := by funext i j k; exact hf i j k
  have hs : ∀ u, score (fun i j k => ((f i j k : ℝ) : EReal)) n hn b row h u = fun j => ((∑ x : Fin 64, f b row ⟨128 * h.val + (64 * u.val + x.val), by omega⟩ * f b ⟨j.val, by omega⟩ ⟨1024 + (128 * h.val + (64 * u.val + x.val)), by omega⟩ : ℝ) : EReal) := by
    intro u
    funext j
    unfold score
    rw [← coe_sum]
    exact Finset.sum_congr rfl fun x _ => (EReal.coe_mul _ _).symm
  unfold rowOut rowRef
  congr 1
  funext e
  rw [hs 0, hs 1]
  exact diff_eq h0 _ _ (fun j => f b ⟨j.val, by omega⟩ ⟨2048 + (128 * h.val + e.val), by omega⟩) l

end Cert.Attn
end
-- ==== Proof.Attn.Array.lean ====
/-
  The attention kernel's output array at every index, from the arrays its windows read.
-/
module

public import proofs.«01_k».proof.Proof.Attn.Pieces
public import proofs.«01_k».proof.Proof.Attn.Rows
public import proofs.«01_k».proof.Proof.Gen.KernelIdeal.Value

@[expose] public section

set_option maxRecDepth 16384
noncomputable section
open Idealize.ShloMosaic Idealize.ShloMosaic.TcCoe Idealize.SL.Sem
open Idealize.ShloMosaic.Pipeline (Dat)

namespace Cert.KernelIdeal.Attn
open Cert.KernelIdeal Cert.KernelIdeal.Gen Cert.KernelIdeal.Value Cert.Attn

variable (m : (ℓ : Loc nD τ sig) → Buf (Elt Ideal) ℓ)

theorem index_0 : ∀ t : Fin cfg0.N, win0_0.index t 0 = t.val / 9 ∧ win0_0.index t 1 = t.val % 9 ∧ win0_0.index t 2 = 0 := by decide +kernel
theorem index_1 : ∀ t : Fin cfg0.N, win0_1.index t 0 = t.val / 9 ∧ win0_1.index t 1 = 0 ∧ win0_1.index t 2 = 1 := by decide +kernel
theorem index_2 : ∀ t : Fin cfg0.N, win0_2.index t 0 = t.val / 9 ∧ win0_2.index t 1 = 0 ∧ win0_2.index t 2 = 2 := by decide +kernel
theorem index_3 : ∀ t : Fin cfg0.N, win0_3.index t 0 = 0 ∧ win0_3.index t 1 = 0 := by decide +kernel
theorem index_4 : ∀ t : Fin cfg0.N, win0_4.index t 0 = 0 ∧ win0_4.index t 1 = 0 := by decide +kernel
theorem index_5 : ∀ t : Fin cfg0.N, win0_5.index t 0 = t.val / 9 ∧ win0_5.index t 1 = t.val % 9 ∧ win0_5.index t 2 = 0 := by decide +kernel

theorem point_lt (t : Fin cfg0.N) : t.val < 288 :=
  lt_of_lt_of_eq t.isLt N_0

/-- The queries' block: row `r` of row block `t % 9` of batch `t / 9`. -/
theorem read_q (c : Dev nD) (t : Fin cfg0.N) (r : Fin 256) (e : Fin 1024) :
    (iblk m c 0 t : Vec Ideal S1x256x1024 .bf16) (ix3 0 r e)
      = (V m c main_arg0 : Vec Ideal S32x2304x3072 .bf16) (ix3 ⟨t.val / 9, by have := point_lt t; omega⟩ ⟨256 * (t.val % 9) + r.val, by omega⟩ ⟨e.val, by omega⟩) := by
  unfold iblk
  rw [View.read_apply]
  show V m c main_arg0 _ = V m c main_arg0 _
  congr 1
  have hi := index_0 t
  funext a
  apply Fin.ext
  match a with
  | ⟨0, _⟩ => show win0_0.index t 0 * 1 + 1 * 0 = t.val / 9; rw [hi.1]; omega
  | ⟨1, _⟩ => show win0_0.index t 1 * 256 + 1 * r.val = 256 * (t.val % 9) + r.val; rw [hi.2.1]; omega
  | ⟨2, _⟩ => show win0_0.index t 2 * 1024 + 1 * e.val = e.val; rw [hi.2.2]; omega

/-- The keys' block: all rows of batch `t / 9`, the second third of the lanes. -/
theorem read_k (c : Dev nD) (t : Fin cfg0.N) (r : Fin 2304) (e : Fin 1024) :
    (iblk m c 1 t : Vec Ideal S1x2304x1024 .bf16) (ix3 0 r e)
      = (V m c main_arg0 : Vec Ideal S32x2304x3072 .bf16) (ix3 ⟨t.val / 9, by have := point_lt t; omega⟩ r ⟨1024 + e.val, by omega⟩) := by
  unfold iblk
  rw [View.read_apply]
  show V m c main_arg0 _ = V m c main_arg0 _
  congr 1
  have hi := index_1 t
  funext a
  apply Fin.ext
  match a with
  | ⟨0, _⟩ => show win0_1.index t 0 * 1 + 1 * 0 = t.val / 9; rw [hi.1]; omega
  | ⟨1, _⟩ => show win0_1.index t 1 * 2304 + 1 * r.val = r.val; rw [hi.2.1]; omega
  | ⟨2, _⟩ => show win0_1.index t 2 * 1024 + 1 * e.val = 1024 + e.val; rw [hi.2.2]; omega

/-- The values' block: all rows of batch `t / 9`, the last third of the lanes. -/
theorem read_v (c : Dev nD) (t : Fin cfg0.N) (r : Fin 2304) (e : Fin 1024) :
    (iblk m c 2 t : Vec Ideal S1x2304x1024 .bf16) (ix3 0 r e)
      = (V m c main_arg0 : Vec Ideal S32x2304x3072 .bf16) (ix3 ⟨t.val / 9, by have := point_lt t; omega⟩ r ⟨2048 + e.val, by omega⟩) := by
  unfold iblk
  rw [View.read_apply]
  show V m c main_arg0 _ = V m c main_arg0 _
  congr 1
  have hi := index_2 t
  funext a
  apply Fin.ext
  match a with
  | ⟨0, _⟩ => show win0_2.index t 0 * 1 + 1 * 0 = t.val / 9; rw [hi.1]; omega
  | ⟨1, _⟩ => show win0_2.index t 1 * 2304 + 1 * r.val = r.val; rw [hi.2.1]; omega
  | ⟨2, _⟩ => show win0_2.index t 2 * 1024 + 1 * e.val = 2048 + e.val; rw [hi.2.2]; omega

/-- The coefficient's block is its array. -/
theorem read_l (c : Dev nD) (t : Fin cfg0.N) (r : Fin 8) (e : Fin 128) :
    (iblk m c 3 t : Vec Ideal S8x128 .f32) (ix2 r e) = (V m c main_v16 : Vec Ideal S8x128 .f32) (ix2 r e) := by
  unfold iblk
  rw [View.read_apply]
  show V m c main_v16 _ = V m c main_v16 _
  congr 1
  have hi := index_3 t
  funext a
  apply Fin.ext
  match a with
  | ⟨0, _⟩ => show win0_3.index t 0 * 8 + 1 * r.val = r.val; rw [hi.1]; omega
  | ⟨1, _⟩ => show win0_3.index t 1 * 128 + 1 * e.val = e.val; rw [hi.2]; omega

/-- The gain's block is its array. -/
theorem read_g (c : Dev nD) (t : Fin cfg0.N) (e : Fin 128) :
    (iblk m c 4 t : Vec Ideal S1x128 .f32) (ix2 0 e) = (V m c main_v17 : Vec Ideal S1x128 .f32) (ix2 0 e) := by
  unfold iblk
  rw [View.read_apply]
  show V m c main_v17 _ = V m c main_v17 _
  congr 1
  have hi := index_4 t
  funext a
  apply Fin.ext
  match a with
  | ⟨0, _⟩ => show win0_4.index t 0 * 1 + 1 * 0 = 0; rw [hi.1]
  | ⟨1, _⟩ => show win0_4.index t 1 * 128 + 1 * e.val = e.val; rw [hi.2]; omega

/-- The array of queries, keys and values, the coefficient and the gain as the region finds them. -/
def inX (c : Dev nD) (b : Fin 32) (r : Fin 2304) (e : Fin 3072) : EReal := (V m c main_arg0 : Vec Ideal S32x2304x3072 .bf16) (ix3 b r e)
def inLam (c : Dev nD) : EReal := (V m c main_v16 : Vec Ideal S8x128 .f32) (ix2 0 0)
def inG (c : Dev nD) (e : Fin 128) : EReal := (V m c main_v17 : Vec Ideal S1x128 .f32) (ix2 0 e)

/-- A block's row over the first `n` keys is a row of the output, when the block's operands read the arrays there. -/
theorem blockRow_of (x0 : Vec Ideal S1x256x1024 .bf16) (x1 : Vec Ideal S1x2304x1024 .bf16) (x2 : Vec Ideal S1x2304x1024 .bf16) (x3 : Vec Ideal S8x128 .f32) (x4 : Vec Ideal S1x128 .f32)
    (X : Fin 32 → Fin 2304 → Fin 3072 → EReal) (lam : EReal) (g : Fin 128 → EReal) (b : Fin 32) (row : Fin 2304) (r : Fin 256)
    (h0 : ∀ e : Fin 1024, x0 (ix3 0 r e) = X b row ⟨e.val, by omega⟩)
    (h1 : ∀ (j : Fin 2304) (e : Fin 1024), x1 (ix3 0 j e) = X b j ⟨1024 + e.val, by omega⟩)
    (h2 : ∀ (j : Fin 2304) (e : Fin 1024), x2 (ix3 0 j e) = X b j ⟨2048 + e.val, by omega⟩)
    (h3 : x3 (ix2 0 0) = lam) (h4 : ∀ e : Fin 128, x4 (ix2 0 e) = g e)
    (n : Nat) (hn : n ≤ 2304) (h : Fin 8) (d : Fin 128) :
    blockRow n hn x0 x1 x2 x3 x4 r h d = rowOut X lam g n hn b row h d := by
  unfold blockRow rowOut score value
  simp only [h0, h1, h2, h3, h4]
  rfl

/-- A block over the first `n` keys, at point `t`, is the rows of the output. -/
theorem blockRow_eq (c : Dev nD) (t : Fin cfg0.N) (n : Nat) (hn : n ≤ 2304) (r : Fin 256) (h : Fin 8) (d : Fin 128) :
    blockRow n hn (iblk m c 0 t) (iblk m c 1 t) (iblk m c 2 t) (iblk m c 3 t) (iblk m c 4 t) r h d
      = rowOut (inX m c) (inLam m c) (inG m c) n hn ⟨t.val / 9, by have := point_lt t; omega⟩ ⟨256 * (t.val % 9) + r.val, by omega⟩ h d :=
  blockRow_of _ _ _ _ _ _ _ _ _ _ _ (read_q m c t r) (read_k m c t) (read_v m c t) (read_l m c t 0 0) (read_g m c t) n hn h d

/-- The whole output: the first 256 rows of a batch attend to the first 256 keys, the others to all. -/
def result (c : Dev nD) : Buf (Elt Ideal) ((c : Thread nD τ).loc main_v18) :=
  fun i : S32x2304x1024.Idx => if (i 1).val < 256
    then rowOut (inX m c) (inLam m c) (inG m c) 256 (by decide) (i 0) (i 1) ⟨(i 2).val / 128, by have h : (i 2).val < 1024 := (i 2).isLt; omega⟩ ⟨(i 2).val % 128, by omega⟩
    else rowOut (inX m c) (inLam m c) (inG m c) 2304 (by decide) (i 0) (i 1) ⟨(i 2).val / 128, by have h : (i 2).val < 1024 := (i 2).isLt; omega⟩ ⟨(i 2).val % 128, by omega⟩

/-- Reading the output's block at point `t`. -/
theorem read_result (c : Dev nD) (t : Fin cfg0.N) (y : S1x256x1024.Idx) :
    (((cfg0.win 5).blk t).view.read (Elt Ideal) (result m c) : Vec Ideal S1x256x1024 .f32) y
      = (result m c : Vec Ideal S32x2304x1024 .f32) (ix3 ⟨t.val / 9, by have := point_lt t; omega⟩ ⟨256 * (t.val % 9) + (y 1).val, by have h : (y 1).val < 256 := (y 1).isLt; omega⟩ ⟨(y 2).val, (y 2).isLt⟩) := by
  rw [View.read_apply]
  show result m c _ = result m c _
  congr 1
  have hi := index_5 t
  have h0 : (y 0).val < 1 := (y 0).isLt
  funext a
  apply Fin.ext
  match a with
  | ⟨0, _⟩ => show win0_5.index t 0 * 1 + 1 * (y 0).val = t.val / 9; rw [hi.1]; omega
  | ⟨1, _⟩ => show win0_5.index t 1 * 256 + 1 * (y 1).val = 256 * (t.val % 9) + (y 1).val; rw [hi.2.1]; omega
  | ⟨2, _⟩ => show win0_5.index t 2 * 1024 + 1 * (y 2).val = (y 2).val; rw [hi.2.2]; omega

/-- What a point writes back is its block of the output. -/
theorem flushed_eq (c : Dev nD) (t : Fin cfg0.N) :
    (dats m 0 c).flushed 5 t = ((cfg0.win 5).blk t).view.read (Elt Ideal) (result m c) := by
  by_cases h0 : t.val % 9 = 0
  · rw [flushed5_A m c t h0 (by omega), out_A]
    refine funext fun (y : S1x256x1024.Idx) => ?_
    refine Eq.trans ?_ (read_result m c t y).symm
    have hy : (y 1).val < 256 := (y 1).isLt
    refine Eq.trans (blockRow_eq m c t 256 (by decide) (y 1) ⟨(y 2).val / 128, by have h : (y 2).val < 1024 := (y 2).isLt; omega⟩ ⟨(y 2).val % 128, by omega⟩) ?_
    exact (if_pos (show 256 * (t.val % 9) + (y 1).val < 256 by omega)).symm
  · rw [flushed5_B m c t h0 (by omega), out_B]
    refine funext fun (y : S1x256x1024.Idx) => ?_
    refine Eq.trans ?_ (read_result m c t y).symm
    refine Eq.trans (blockRow_eq m c t 2304 (by decide) (y 1) ⟨(y 2).val / 128, by have h : (y 2).val < 1024 := (y 2).isLt; omega⟩ ⟨(y 2).val % 128, by omega⟩) ?_
    exact (if_neg (show ¬ 256 * (t.val % 9) + (y 1).val < 256 by omega)).symm

/-- So the output array ends at `result`. -/
theorem final (c : Dev nD) : (dats m 0 c).arrAt 5 cfg0.N = result m c :=
  (dats m 0 c).arrAt_eq_of_cover 5 (result m c) (fun t _ => flushed_eq m c t) fun i : S32x2304x1024.Idx => by
    have h0 : (i 0 : Nat) < 32 := (i 0).isLt
    have h1 : (i 1 : Nat) < 2304 := (i 1).isLt
    have h2 : (i 2 : Nat) < 1024 := (i 2).isLt
    have hN : cfg0.N = 288 := N_0
    obtain ⟨t, ht⟩ : ∃ t : Fin cfg0.N, t.val = 9 * (i 0 : Nat) + (i 1 : Nat) / 256 := ⟨⟨9 * (i 0 : Nat) + (i 1 : Nat) / 256, by omega⟩, rfl⟩
    refine ⟨t, flush0_5 t, ?_⟩
    have hi := index_5 t
    show i ∈ ((View.whole main_v18).slice (win0_5.rect t)).set
    rw [View.set_slice_whole, Rect.mem_set_unit]
    intro a
    match a with
    | ⟨0, _⟩ => show win0_5.index t 0 * 1 ≤ (i 0 : Nat) ∧ (i 0 : Nat) < win0_5.index t 0 * 1 + 1
                rw [hi.1]; omega
    | ⟨1, _⟩ => show win0_5.index t 1 * 256 ≤ (i 1 : Nat) ∧ (i 1 : Nat) < win0_5.index t 1 * 256 + 256
                rw [hi.2.1]; omega
    | ⟨2, _⟩ => show win0_5.index t 2 * 1024 ≤ (i 2 : Nat) ∧ (i 2 : Nat) < win0_5.index t 2 * 1024 + 1024
                rw [hi.2.2]; omega

end Cert.KernelIdeal.Attn
end
-- ==== Proof.Attn.RefBase.lean ====
/-
  The reference's output array at every index.
-/
module

public import proofs.«01_k».proof.Proof.Attn.Rows
public import proofs.«01_k».proof.Proof.Gen.ReferenceIdeal.Read
public import Idealize.ShloMosaic.Lib.Pointwise
public import Idealize.ShloMosaic.Lib.Pipeline.Value

@[expose] public section

set_option maxRecDepth 16384
noncomputable section
open Idealize.ShloMosaic Idealize.ShloMosaic.TcCoe Idealize.SL.Sem

namespace Cert.ReferenceIdeal.Attn
open Cert.ReferenceIdeal Cert.ReferenceIdeal.Gen Cert.ReferenceIdeal.Read Cert.Attn

theorem negInf : Ideal.ofBits .f32 0xFF800000#32 = ⊥ := by
  simp [Ideal.ofBits, Ideal.ieee]

theorem max_at (S : Shape) (v w : FVec Ideal S .f32) (i : S.Idx) : maximumf v w i = max (v i) (w i) := rfl

theorem sub_at (S : Shape) (v w : FVec Ideal S .f32) (i : S.Idx) : subf v w i = v i - w i := rfl

theorem mul_at (S : Shape) (v w : FVec Ideal S .f32) (i : S.Idx) : mulf v w i = v i * w i := rfl

/-- The logarithm the scores are scaled by. -/
theorem log_two : Ideal.log (Ideal.ofBits .f32 0x40000000#32) = (Real.log 2 : ℝ) := by
  have h : Ideal.ofBits .f32 0x40000000#32 = ((2 : ℝ) : EReal) := by
    simp [Ideal.ofBits, Ideal.ieee]
    rw [← EReal.coe_mul]
    norm_num
  rw [h]
  exact if_neg (by norm_num)

variable (x0 : Vec Ideal S32x2304x3072 .bf16) (x1 : Vec Ideal S4x64 .f32) (x2 : Vec Ideal S128 .f32)

/-- The array of queries, keys and values by its coordinates. -/
def arr (b : Fin 32) (r : Fin 2304) (e : Fin 3072) : EReal := x0 (ix3 b r e)

/-- The dot product of query row `row` and key row `j` in half-head `h`. -/
def dot (n : Nat) (hn : n ≤ 2304) (b : Fin 32) (row : Fin 2304) (h : Fin 16) (j : Fin n) : EReal :=
  ∑ x : Fin 64, arr x0 b row ⟨64 * h.val + x.val, by omega⟩ * arr x0 b ⟨j.val, by omega⟩ ⟨1024 + (64 * h.val + x.val), by omega⟩

theorem dot_eq (n : Nat) (hn : n ≤ 2304) (b : Fin 32) (row : Fin 2304) (h : Fin 8) (u : Fin 2) (hh : Fin 16) (e : hh.val = h.val * 2 + u.val) :
    dot x0 n hn b row hh = score (arr x0) n hn b row h u := by
  funext j
  unfold dot score
  refine Finset.sum_congr rfl fun x _ => ?_
  congr 2 <;> exact Fin.ext (by dsimp only; omega)

theorem q_apply (b : Fin 32) (r : Fin 2304) (h : Fin 16) (d : Fin 64) :
    val_main_v20 (F := Ideal) x0 (ix4 b r h d) = arr x0 b r ⟨64 * h.val + d.val, by omega⟩ := by
  unfold arr
  pointwise [val_main_v20, val_main_v17, val_main_v16]
  simp only [Nat.mul_comm]

theorem k_apply (b : Fin 32) (r : Fin 2304) (h : Fin 16) (d : Fin 64) :
    val_main_v21 (F := Ideal) x0 (ix4 b r h d) = arr x0 b r ⟨1024 + (64 * h.val + d.val), by omega⟩ := by
  unfold arr
  pointwise [val_main_v21, val_main_v18, val_main_v16]
  simp only [Nat.mul_comm]

theorem v_apply (b : Fin 32) (r : Fin 2304) (h : Fin 8) (d : Fin 128) :
    val_main_v22 (F := Ideal) x0 (ix4 b r h d) = arr x0 b r ⟨2048 + (128 * h.val + d.val), by omega⟩ := by
  unfold arr
  pointwise [val_main_v22, val_main_v19, val_main_v16]
  simp only [Nat.mul_comm]

end Cert.ReferenceIdeal.Attn
end
-- ==== Proof.Attn.RefA.lean ====
/-
  The reference's context rows at every index.
-/
module

public import proofs.«01_k».proof.Proof.Attn.RefBase
public import proofs.«01_k».proof.Proof.Attn.Rows
public import proofs.«01_k».proof.Proof.Gen.ReferenceIdeal.Read
public import Idealize.ShloMosaic.Lib.Pointwise
public import Idealize.ShloMosaic.Lib.Pipeline.Value

@[expose] public section

set_option maxRecDepth 16384
noncomputable section
open Idealize.ShloMosaic Idealize.ShloMosaic.TcCoe Idealize.SL.Sem

namespace Cert.ReferenceIdeal.Attn
open Cert.ReferenceIdeal Cert.ReferenceIdeal.Gen Cert.ReferenceIdeal.Read Cert.Attn

variable (x0 : Vec Ideal S32x2304x3072 .bf16) (x1 : Vec Ideal S4x64 .f32) (x2 : Vec Ideal S128 .f32)

/-! ## The context rows -/

theorem sA_apply (b : Fin 32) (h : Fin 16) (i : Fin 256) (j : Fin 256) :
    val_main_v30 (F := Ideal) x0 (ix4 b h i j) = dot x0 256 (by decide) b ⟨i.val, by omega⟩ h j * (Real.log 2 : ℝ) := by
  have hc : val_main_v28 (F := Ideal) ix0 = (Real.log 2 : ℝ) := log_two
  pointwise [val_main_v30, val_main_v29, val_main_v26, val_main_v24, val_main_v23]
  rw [hc]
  congr 1
  unfold dot
  refine Finset.sum_congr rfl fun x _ => ?_
  rw [q_apply, k_apply]

theorem tA_apply (b : Fin 32) (h : Fin 16) (i : Fin 256) :
    val_main_v31 (F := Ideal) x0 (ix3 b h i) = top (fun j => dot x0 256 (by decide) b ⟨i.val, by omega⟩ h j * (Real.log 2 : ℝ)) := by
  have e : val_main_v31 (F := Ideal) x0 (ix3 b h i) = Finset.univ.fold max (Ideal.ofBits .f32 0xFF800000#32) (fun j => val_main_v30 (F := Ideal) x0 (ix4 b h i j)) := by
    pointwise [val_main_v31, val_main_cst_3]
  rw [e, negInf]
  simp only [sA_apply]
  rfl

theorem maxA_apply (w : FVec Ideal S32x16x256 .f32) (b : Fin 32) (h : Fin 16) (i : Fin 256) :
    maximumf (F := Ideal) (val_main_v32 (F := Ideal)) w (ix3 b h i) = max ⊥ (w (ix3 b h i)) := by
  have e : val_main_v32 (F := Ideal) (ix3 b h i) = ⊥ := Eq.trans rfl negInf
  rw [max_at, e]

theorem rA_apply (b : Fin 32) (h : Fin 16) (i : Fin 256) (j : Fin 256) :
    val_main_v35 (F := Ideal) x0 (ix4 b h i j) = max ⊥ (top (fun j => dot x0 256 (by decide) b ⟨i.val, by omega⟩ h j * (Real.log 2 : ℝ))) := by
  have e : val_main_v35 (F := Ideal) x0 (ix4 b h i j) = val_main_v33 (F := Ideal) x0 (ix3 b h i) := by
    pointwise [val_main_v35, val_main_v34]
  rw [e]
  unfold val_main_v33
  rw [maxA_apply, tA_apply]

theorem eA_apply (b : Fin 32) (h : Fin 16) (i : Fin 256) (j : Fin 256) :
    val_main_v37 (F := Ideal) x0 (ix4 b h i j) = Ideal.exp (dot x0 256 (by decide) b ⟨i.val, by omega⟩ h j * (Real.log 2 : ℝ) - max ⊥ (top (fun j => dot x0 256 (by decide) b ⟨i.val, by omega⟩ h j * (Real.log 2 : ℝ)))) := by
  rw [← rA_apply x0 b h i j, ← sA_apply]
  rfl

theorem wA_apply (b : Fin 32) (h : Fin 16) (i : Fin 256) (j : Fin 256) :
    val_main_v41 (F := Ideal) x0 (ix4 b h i j) = soft (dot x0 256 (by decide) b ⟨i.val, by omega⟩ h) (Real.log 2 : ℝ) j := by
  have e : val_main_v41 (F := Ideal) x0 (ix4 b h i j) = Ideal.div (val_main_v37 (F := Ideal) x0 (ix4 b h i j)) (val_main_v38 (F := Ideal) x0 (ix3 b h i)) := by
    pointwise [val_main_v41, val_main_v40, val_main_v39]
  have e' : val_main_v38 (F := Ideal) x0 (ix3 b h i) = ∑ j, val_main_v37 (F := Ideal) x0 (ix4 b h i j) := by
    pointwise [val_main_v38, val_main_cst_5]
  rw [e, e']
  simp only [eA_apply]
  unfold soft
  simp only [zero_add]

theorem dA_apply (b : Fin 32) (h : Fin 8) (i : Fin 256) (j : Fin 256) :
    val_main_v49 (F := Ideal) x0 x1 (ix4 b h i j) = val_main_v41 (F := Ideal) x0 (ix4 b ⟨h.val * 2, by omega⟩ i j) - val_main_v15 (F := Ideal) x1 ix0 * val_main_v41 (F := Ideal) x0 (ix4 b ⟨h.val * 2 + 1, by omega⟩ i j) := by
  have e0 : val_main_v44 (F := Ideal) x0 (ix4 b h i j) = val_main_v41 (F := Ideal) x0 (ix4 b ⟨h.val * 2, by omega⟩ i j) := by
    pointwise [val_main_v44, val_main_v43, val_main_v42]
  have e1 : val_main_v46 (F := Ideal) x0 (ix4 b h i j) = val_main_v41 (F := Ideal) x0 (ix4 b ⟨h.val * 2 + 1, by omega⟩ i j) := by
    pointwise [val_main_v46, val_main_v45, val_main_v42]
  have e2 : val_main_v47 (F := Ideal) x1 (ix4 b h i j) = val_main_v15 (F := Ideal) x1 ix0 := by
    pointwise [val_main_v47]
  unfold val_main_v49 val_main_v48
  rw [sub_at, mul_at, e0, e1, e2]

theorem pA_apply (b : Fin 32) (i : Fin 256) (h : Fin 8) (d : Fin 128) :
    val_main_v51 (F := Ideal) x0 x1 (ix4 b i h d)
      = refDiff (score (arr x0) 256 (by decide) b ⟨i.val, by omega⟩ h 0) (score (arr x0) 256 (by decide) b ⟨i.val, by omega⟩ h 1) (Real.log 2 : ℝ)
          (val_main_v15 (F := Ideal) x1 ix0) (value (arr x0) 256 (by decide) b h d) := by
  have e : val_main_v51 (F := Ideal) x0 x1 (ix4 b i h d) = ∑ x : Fin 256, val_main_v22 (F := Ideal) x0 (ix4 b ⟨x.val, by omega⟩ h d)
      * (val_main_v41 (F := Ideal) x0 (ix4 b ⟨h.val * 2, by omega⟩ i x) - val_main_v15 (F := Ideal) x1 ix0 * val_main_v41 (F := Ideal) x0 (ix4 b ⟨h.val * 2 + 1, by omega⟩ i x)) := by
    have e' : val_main_v51 (F := Ideal) x0 x1 (ix4 b i h d) = ∑ x : Fin 256, val_main_v25 (F := Ideal) x0 (ix4 b x h d) * val_main_v49 (F := Ideal) x0 x1 (ix4 b h i x) := by
      pointwise [val_main_v51, val_main_v50]
    rw [e']
    refine Finset.sum_congr rfl fun x _ => ?_
    have e4 : val_main_v25 (F := Ideal) x0 (ix4 b x h d) = val_main_v22 (F := Ideal) x0 (ix4 b ⟨x.val, by omega⟩ h d) := by
      pointwise [val_main_v25]
    rw [dA_apply, e4]
  rw [e]
  unfold refDiff value
  refine Finset.sum_congr rfl fun x _ => ?_
  rw [v_apply, wA_apply, wA_apply, dot_eq x0 256 (by decide) b ⟨i.val, by omega⟩ h 0 ⟨h.val * 2, by omega⟩ (Nat.add_zero _).symm, dot_eq x0 256 (by decide) b ⟨i.val, by omega⟩ h 1 ⟨h.val * 2 + 1, by omega⟩ (Eq.refl (h.val * 2 + 1))]

end Cert.ReferenceIdeal.Attn
end
-- ==== Proof.Attn.RefB.lean ====
/-
  The reference's latent rows at every index.
-/
module

public import proofs.«01_k».proof.Proof.Attn.RefBase
public import proofs.«01_k».proof.Proof.Attn.Rows
public import proofs.«01_k».proof.Proof.Gen.ReferenceIdeal.Read
public import Idealize.ShloMosaic.Lib.Pointwise
public import Idealize.ShloMosaic.Lib.Pipeline.Value

@[expose] public section

set_option maxRecDepth 16384
noncomputable section
open Idealize.ShloMosaic Idealize.ShloMosaic.TcCoe Idealize.SL.Sem

namespace Cert.ReferenceIdeal.Attn
open Cert.ReferenceIdeal Cert.ReferenceIdeal.Gen Cert.ReferenceIdeal.Read Cert.Attn

variable (x0 : Vec Ideal S32x2304x3072 .bf16) (x1 : Vec Ideal S4x64 .f32) (x2 : Vec Ideal S128 .f32)

/-! ## The latent rows -/

theorem sB_apply (b : Fin 32) (h : Fin 16) (i : Fin 2048) (j : Fin 2304) :
    val_main_v57 (F := Ideal) x0 (ix4 b h i j) = dot x0 2304 (by decide) b ⟨256 + i.val, by omega⟩ h j * (Real.log 2 : ℝ) := by
  have hc : val_main_v55 (F := Ideal) ix0 = (Real.log 2 : ℝ) := log_two
  pointwise [val_main_v57, val_main_v56, val_main_v53, val_main_v52]
  rw [hc]
  congr 1
  unfold dot
  refine Finset.sum_congr rfl fun x _ => ?_
  rw [q_apply, k_apply]

theorem tB_apply (b : Fin 32) (h : Fin 16) (i : Fin 2048) :
    val_main_v58 (F := Ideal) x0 (ix3 b h i) = top (fun j => dot x0 2304 (by decide) b ⟨256 + i.val, by omega⟩ h j * (Real.log 2 : ℝ)) := by
  have e : val_main_v58 (F := Ideal) x0 (ix3 b h i) = Finset.univ.fold max (Ideal.ofBits .f32 0xFF800000#32) (fun j => val_main_v57 (F := Ideal) x0 (ix4 b h i j)) := by
    pointwise [val_main_v58, val_main_cst_7]
  rw [e, negInf]
  simp only [sB_apply]
  rfl

theorem maxB_apply (w : FVec Ideal S32x16x2048 .f32) (b : Fin 32) (h : Fin 16) (i : Fin 2048) :
    maximumf (F := Ideal) (val_main_v59 (F := Ideal)) w (ix3 b h i) = max ⊥ (w (ix3 b h i)) := by
  have e : val_main_v59 (F := Ideal) (ix3 b h i) = ⊥ := Eq.trans rfl negInf
  rw [max_at, e]

theorem rB_apply (b : Fin 32) (h : Fin 16) (i : Fin 2048) (j : Fin 2304) :
    val_main_v62 (F := Ideal) x0 (ix4 b h i j) = max ⊥ (top (fun j => dot x0 2304 (by decide) b ⟨256 + i.val, by omega⟩ h j * (Real.log 2 : ℝ))) := by
  have e : val_main_v62 (F := Ideal) x0 (ix4 b h i j) = val_main_v60 (F := Ideal) x0 (ix3 b h i) := by
    pointwise [val_main_v62, val_main_v61]
  rw [e]
  unfold val_main_v60
  rw [maxB_apply, tB_apply]

theorem eB_apply (b : Fin 32) (h : Fin 16) (i : Fin 2048) (j : Fin 2304) :
    val_main_v64 (F := Ideal) x0 (ix4 b h i j) = Ideal.exp (dot x0 2304 (by decide) b ⟨256 + i.val, by omega⟩ h j * (Real.log 2 : ℝ) - max ⊥ (top (fun j => dot x0 2304 (by decide) b ⟨256 + i.val, by omega⟩ h j * (Real.log 2 : ℝ)))) := by
  rw [← rB_apply x0 b h i j, ← sB_apply]
  rfl

theorem wB_apply (b : Fin 32) (h : Fin 16) (i : Fin 2048) (j : Fin 2304) :
    val_main_v68 (F := Ideal) x0 (ix4 b h i j) = soft (dot x0 2304 (by decide) b ⟨256 + i.val, by omega⟩ h) (Real.log 2 : ℝ) j := by
  have e : val_main_v68 (F := Ideal) x0 (ix4 b h i j) = Ideal.div (val_main_v64 (F := Ideal) x0 (ix4 b h i j)) (val_main_v65 (F := Ideal) x0 (ix3 b h i)) := by
    pointwise [val_main_v68, val_main_v67, val_main_v66]
  have e' : val_main_v65 (F := Ideal) x0 (ix3 b h i) = ∑ j, val_main_v64 (F := Ideal) x0 (ix4 b h i j) := by
    pointwise [val_main_v65, val_main_cst_9]
  rw [e, e']
  simp only [eB_apply]
  unfold soft
  simp only [zero_add]

theorem dB_apply (b : Fin 32) (h : Fin 8) (i : Fin 2048) (j : Fin 2304) :
    val_main_v76 (F := Ideal) x0 x1 (ix4 b h i j) = val_main_v68 (F := Ideal) x0 (ix4 b ⟨h.val * 2, by omega⟩ i j) - val_main_v15 (F := Ideal) x1 ix0 * val_main_v68 (F := Ideal) x0 (ix4 b ⟨h.val * 2 + 1, by omega⟩ i j) := by
  have e0 : val_main_v71 (F := Ideal) x0 (ix4 b h i j) = val_main_v68 (F := Ideal) x0 (ix4 b ⟨h.val * 2, by omega⟩ i j) := by
    pointwise [val_main_v71, val_main_v70, val_main_v69]
  have e1 : val_main_v73 (F := Ideal) x0 (ix4 b h i j) = val_main_v68 (F := Ideal) x0 (ix4 b ⟨h.val * 2 + 1, by omega⟩ i j) := by
    pointwise [val_main_v73, val_main_v72, val_main_v69]
  have e2 : val_main_v74 (F := Ideal) x1 (ix4 b h i j) = val_main_v15 (F := Ideal) x1 ix0 := by
    pointwise [val_main_v74]
  unfold val_main_v76 val_main_v75
  rw [sub_at, mul_at, e0, e1, e2]

theorem pB_apply (b : Fin 32) (i : Fin 2048) (h : Fin 8) (d : Fin 128) :
    val_main_v78 (F := Ideal) x0 x1 (ix4 b i h d)
      = refDiff (score (arr x0) 2304 (by decide) b ⟨256 + i.val, by omega⟩ h 0) (score (arr x0) 2304 (by decide) b ⟨256 + i.val, by omega⟩ h 1) (Real.log 2 : ℝ)
          (val_main_v15 (F := Ideal) x1 ix0) (value (arr x0) 2304 (by decide) b h d) := by
  have e : val_main_v78 (F := Ideal) x0 x1 (ix4 b i h d) = ∑ x : Fin 2304, val_main_v22 (F := Ideal) x0 (ix4 b x h d)
      * (val_main_v68 (F := Ideal) x0 (ix4 b ⟨h.val * 2, by omega⟩ i x) - val_main_v15 (F := Ideal) x1 ix0 * val_main_v68 (F := Ideal) x0 (ix4 b ⟨h.val * 2 + 1, by omega⟩ i x)) := by
    have e' : val_main_v78 (F := Ideal) x0 x1 (ix4 b i h d) = ∑ x : Fin 2304, val_main_v22 (F := Ideal) x0 (ix4 b x h d) * val_main_v76 (F := Ideal) x0 x1 (ix4 b h i x) := by
      pointwise [val_main_v78, val_main_v77]
    rw [e']
    refine Finset.sum_congr rfl fun x _ => ?_
    rw [dB_apply]
  rw [e]
  unfold refDiff value
  refine Finset.sum_congr rfl fun x _ => ?_
  rw [v_apply, wB_apply, wB_apply, dot_eq x0 2304 (by decide) b ⟨256 + i.val, by omega⟩ h 0 ⟨h.val * 2, by omega⟩ (Nat.add_zero _).symm, dot_eq x0 2304 (by decide) b ⟨256 + i.val, by omega⟩ h 1 ⟨h.val * 2 + 1, by omega⟩ (Eq.refl (h.val * 2 + 1))]

end Cert.ReferenceIdeal.Attn
end
-- ==== Proof.Attn.Ref.lean ====
/-
  The reference's output array at every index.
-/
module

public import proofs.«01_k».proof.Proof.Attn.RefA
public import proofs.«01_k».proof.Proof.Attn.RefB
public import proofs.«01_k».proof.Proof.Attn.Rows
public import proofs.«01_k».proof.Proof.Gen.ReferenceIdeal.Read
public import Idealize.ShloMosaic.Lib.Pointwise
public import Idealize.ShloMosaic.Lib.Pipeline.Value

@[expose] public section

set_option maxRecDepth 16384
noncomputable section
open Idealize.ShloMosaic Idealize.ShloMosaic.TcCoe Idealize.SL.Sem

namespace Cert.ReferenceIdeal.Attn
open Cert.ReferenceIdeal Cert.ReferenceIdeal.Gen Cert.ReferenceIdeal.Read Cert.Attn

variable (x0 : Vec Ideal S32x2304x3072 .bf16) (x1 : Vec Ideal S4x64 .f32) (x2 : Vec Ideal S128 .f32)

/-! ## The two kinds of row together, and the normalisation -/

/-- Row `r` before the normalisation. -/
def row (b : Fin 32) (r : Fin 2304) (h : Fin 8) (d : Fin 128) : EReal :=
  if r.val < 256 then refDiff (score (arr x0) 256 (by decide) b r h 0) (score (arr x0) 256 (by decide) b r h 1) (Real.log 2 : ℝ) (val_main_v15 (F := Ideal) x1 ix0) (value (arr x0) 256 (by decide) b h d)
  else refDiff (score (arr x0) 2304 (by decide) b r h 0) (score (arr x0) 2304 (by decide) b r h 1) (Real.log 2 : ℝ) (val_main_v15 (F := Ideal) x1 ix0) (value (arr x0) 2304 (by decide) b h d)

theorem cat_apply (b : Fin 32) (r : Fin 2304) (h : Fin 8) (d : Fin 128) :
    val_main_v79 (F := Ideal) x0 x1 (ix4 b r h d) = row x0 x1 b r h d := by
  unfold val_main_v79 row
  by_cases hr : r.val < 256
  · rw [if_pos hr]
    refine (concatenate_pair_apply_left (t := S32x2304x8x128) (s₁ := S32x256x8x128) (s₂ := S32x2048x8x128) 1 _ _ _ _ rfl (ix4 b ⟨r.val, hr⟩ h d) (fun a => by
      match a with
      | ⟨0, _⟩ => rfl
      | ⟨1, _⟩ => rfl
      | ⟨2, _⟩ => rfl
      | ⟨3, _⟩ => rfl)).trans ?_
    rw [pA_apply]
  · rw [if_neg hr]
    refine (concatenate_pair_apply_right (t := S32x2304x8x128) (s₁ := S32x256x8x128) (s₂ := S32x2048x8x128) 1 _ _ _ _ rfl rfl (ix4 b ⟨r.val - 256, by omega⟩ h d) (fun a ha => by
      match a with
      | ⟨0, _⟩ => rfl
      | ⟨1, _⟩ => exact absurd rfl ha
      | ⟨2, _⟩ => rfl
      | ⟨3, _⟩ => rfl) (Nat.sub_add_cancel (by omega))).trans ?_
    rw [pB_apply]
    have e : (⟨256 + (⟨r.val - 256, by omega⟩ : Fin 2048).val, by omega⟩ : Fin 2304) = r := Fin.ext (by dsimp only; omega)
    rw [e]

theorem out_apply (b : Fin 32) (r : Fin 2304) (h : Fin 8) (d : Fin 128) :
    val_main_v95 (F := Ideal) x0 x1 x2 (ix3 b r ⟨128 * h.val + d.val, by omega⟩)
      = if r.val < 256 then rowRef (arr x0) (val_main_v15 (F := Ideal) x1 ix0) (fun e => x2 (ix1 e)) 256 (by decide) b r h d
        else rowRef (arr x0) (val_main_v15 (F := Ideal) x1 ix0) (fun e => x2 (ix1 e)) 2304 (by decide) b r h d := by
  have e : val_main_v95 (F := Ideal) x0 x1 x2 (ix3 b r ⟨128 * h.val + d.val, by omega⟩) = normed (row x0 x1 b r h) (fun e => x2 (ix1 e)) d := by
    unfold normed
    simp only [← cat_apply]
    pointwise [val_main_v95, val_main_v94, val_main_v93, val_main_v92, val_main_v91, val_main_v90, val_main_v89, val_main_v88, val_main_v87, val_main_v86, val_main_v85, val_main_v84, val_main_v83, val_main_v82, val_main_v81, val_main_v80, val_main_cst_10, val_main_cst_11, val_main_cst_12, val_main_cst_13]
  rw [e]
  unfold rowRef
  by_cases hr : r.val < 256
  · rw [if_pos hr]
    congr 1
    funext e
    exact if_pos hr
  · rw [if_neg hr]
    congr 1
    funext e
    exact if_neg hr

/-- The coefficient. -/
theorem lam_apply : val_main_v15 (F := Ideal) x1 ix0
    = Ideal.exp (∑ x : Fin 64, x1 (ix2 0 x) * x1 (ix2 1 x)) - Ideal.exp (∑ x : Fin 64, x1 (ix2 2 x) * x1 (ix2 3 x)) + Ideal.ofBits .f32 0x3EF1014C#32 := by
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

end Cert.ReferenceIdeal.Attn
end
-- ==== Proof.Attn.Pre.lean ====
/-
  What the precondition says: every element of the first two arguments is a real.
-/
module

public import proofs.«01_k».proof.Pre_finite_arguments
public import Idealize.ShloMosaic.Lib.ReduceAll
public import Idealize.ShloMosaic.Lib.Pointwise

@[expose] public section

set_option maxRecDepth 16384
noncomputable section
open Idealize.ShloMosaic

namespace Cert.Pre_finite_arguments.Attn
open Cert.Pre_finite_arguments

theorem inf : Ideal.ofBits .f32 0x7F800000#32 = ⊤ := by
  simp [Ideal.ofBits, Ideal.ieee]

/-- An extended real whose absolute value is below infinity is a real. -/
theorem real_of_lt (x : EReal) (h : Ideal.cmp .olt (max x (-x)) (Ideal.ofBits .f32 0x7F800000#32) = 1#1) : ∃ r : ℝ, x = (r : EReal) := by
  rw [inf] at h
  induction x with
  | bot => simp [Ideal.cmp] at h
  | top => simp [Ideal.cmp] at h
  | coe r => exact ⟨r, rfl⟩

instance : Subsingleton S_.Idx := ⟨fun _ _ => funext fun a => a.elim0⟩

variable [Facts]

theorem reals (x0 : FVec Ideal S32x2304x3072 .bf16) (x1 : FVec Ideal S4x64 .f32) (x2 : FVec Ideal S128 .f32)
    (h : fn (F := Ideal) x0 x1 x2 = fun _ => 1#1) :
    (∀ i, ∃ r : ℝ, x0 i = (r : EReal)) ∧ (∀ i, ∃ r : ℝ, x1 i = (r : EReal)) := by
  have h' := congrFun h (fun a => a.elim0)
  unfold fn at h'
  dsimp only at h'
  obtain ⟨h0, h1⟩ := IntOp.andi_eq_one.1 h'
  exact ⟨fun i => real_of_lt _ (Host.reduce_andi_all _ _ _ _ _ h0 i), fun i => real_of_lt _ (Host.reduce_andi_all _ _ _ _ _ h1 i)⟩

end Cert.Pre_finite_arguments.Attn
end
-- ==== Proof.Attn.Final.lean ====
/-
  The attention kernel's output equals the reference's on real inputs.
-/
module

public import proofs.«01_k».proof.Defs
public import proofs.«01_k».proof.Proof.Attn.Array
public import proofs.«01_k».proof.Proof.Attn.Ref
public import proofs.«01_k».proof.Proof.Attn.Pre
public import proofs.«01_k».proof.Proof.Gen.ReferenceIdeal.Run
public import proofs.«01_k».proof.Proof.Gen.Pre_finite_arguments
public import Idealize.ShloMosaic.Lib.StableHlo.Run
public import Idealize.ShloMosaic.Lib.Quiescent

@[expose] public section

set_option maxRecDepth 16384
noncomputable section
open Idealize.ShloMosaic Idealize.ShloMosaic.TcCoe Idealize.SL.Sem

namespace Cert.KernelIdeal.Attn
open Cert.KernelIdeal Cert.KernelIdeal.Gen Cert.Attn

/-- The coefficient the host computes for the kernel from the four vectors. -/
def coefficient (x1 : FVec Ideal S4x64 .f32) : FVec Ideal S_ .f32 :=
  addf (subf
    (Host.exp (Host.reduceAdd (mulf (shapeCast S64 (extractStridedSlice S1x64 ![0, 0] x1 slices_S4x64_S1x64_0_0) shapeCasts_S1x64_S64)
      (shapeCast S64 (extractStridedSlice S1x64 ![1, 0] x1 slices_S4x64_S1x64_1_0) shapeCasts_S1x64_S64)) (constant S_ .f32 0x00000000#32) reducesTo_S64_S_d0 h_S_))
    (Host.exp (Host.reduceAdd (mulf (shapeCast S64 (extractStridedSlice S1x64 ![2, 0] x1 slices_S4x64_S1x64_2_0) shapeCasts_S1x64_S64)
      (shapeCast S64 (extractStridedSlice S1x64 ![3, 0] x1 slices_S4x64_S1x64_3_0) shapeCasts_S1x64_S64)) (constant S_ .f32 0x00000000#32) reducesTo_S64_S_d0 h_S_)))
    (constant S_ .f32 0x3EF1014C#32)

theorem coefficient_apply (x1 : FVec Ideal S4x64 .f32) : coefficient x1 ix0
    = Ideal.exp (∑ x : Fin 64, x1 (ix2 0 x) * x1 (ix2 1 x)) - Ideal.exp (∑ x : Fin 64, x1 (ix2 2 x) * x1 (ix2 3 x)) + Ideal.ofBits .f32 0x3EF1014C#32 := by
  pointwise [coefficient]

/-- On real vectors it is a real. -/
theorem coefficient_real (x1 : FVec Ideal S4x64 .f32) (h : ∀ i, ∃ r : ℝ, x1 i = (r : EReal)) : ∃ r : ℝ, coefficient x1 ix0 = (r : EReal) := by
  choose f hf using h
  have hk : Ideal.ofBits .f32 0x3EF1014C#32 = ((15794508 * (1 / 33554432) : ℝ) : EReal) := by
    rw [EReal.coe_mul]
    simp [Ideal.ofBits, Ideal.ieee]
    norm_num
  have hs : ∀ a b : Fin 4, (∑ x : Fin 64, x1 (ix2 a x) * x1 (ix2 b x)) = ((∑ x : Fin 64, f (ix2 a x) * f (ix2 b x) : ℝ) : EReal) := by
    intro a b
    rw [← coe_sum]
    refine Finset.sum_congr rfl fun x _ => ?_
    rw [hf, hf, EReal.coe_mul]
  rw [coefficient_apply, hs, hs, hk]
  exact ⟨Real.exp (∑ x : Fin 64, f (ix2 0 x) * f (ix2 1 x)) - Real.exp (∑ x : Fin 64, f (ix2 2 x) * f (ix2 3 x)) + 15794508 * (1 / 33554432),
    by rw [EReal.coe_add, EReal.coe_sub]; rfl⟩

variable (m : (ℓ : Loc nD τ sig) → Buf (Elt Ideal) ℓ)

theorem inX_eq (c : Dev nD) : inX m c = Cert.ReferenceIdeal.Attn.arr (m ((c : Thread nD τ).loc main_arg0)) := by
  unfold inX
  rw [V_main_arg0]
  rfl

theorem inLam_eq (c : Dev nD) : inLam m c = coefficient (m ((c : Thread nD τ).loc main_arg1)) ix0 := by
  have e : V m c main_v16 = broadcastInDim S8x128 ![] bcast_S_S8x128 (coefficient (m ((c : Thread nD τ).loc main_arg1))) := by
    unfold V coefficient
    after_results_simp <;> rfl
  unfold inLam
  rw [e]
  pointwise []

theorem inG_eq (c : Dev nD) : inG m c = fun e => (m ((c : Thread nD τ).loc main_arg2) : Vec Ideal S128 .f32) (ix1 e) := by
  have e : V m c main_v17 = shapeCast S1x128 (m ((c : Thread nD τ).loc main_arg2) : Vec Ideal S128 .f32) shapeCasts_S128_S1x128 := by
    unfold V
    after_results_simp <;> rfl
  unfold inG
  rw [e]
  funext e
  pointwise []

/-- The reference's array, at the kernel's arguments, is the kernel's, when the arguments are real. -/
theorem result_eq (c : Dev nD) (h0 : ∀ i, ∃ r : ℝ, (m ((c : Thread nD τ).loc main_arg0) : Vec Ideal S32x2304x3072 .bf16) i = (r : EReal))
    (h1 : ∀ i, ∃ r : ℝ, (m ((c : Thread nD τ).loc main_arg1) : Vec Ideal S4x64 .f32) i = (r : EReal)) :
    Cert.ReferenceIdeal.Read.val_main_v95 (F := Ideal) (m ((c : Thread nD τ).loc main_arg0)) (m ((c : Thread nD τ).loc main_arg1)) (m ((c : Thread nD τ).loc main_arg2)) = result m c := by
  refine funext fun (i : S32x2304x1024.Idx) => ?_
  have h2 : (i 2).val < 1024 := (i 2).isLt
  have hl : Cert.ReferenceIdeal.Read.val_main_v15 (F := Ideal) (m ((c : Thread nD τ).loc main_arg1)) ix0 = inLam m c := by
    rw [inLam_eq, coefficient_apply]
    exact Cert.ReferenceIdeal.Attn.lam_apply _
  have hr : ∃ r : ℝ, inLam m c = (r : EReal) := by rw [inLam_eq]; exact coefficient_real _ h1
  have hX : ∀ a b d, ∃ r : ℝ, inX m c a b d = (r : EReal) := by
    intro a b d
    rw [inX_eq]
    exact h0 _
  have e : i = ix3 (i 0) (i 1) ⟨128 * (⟨(i 2).val / 128, by omega⟩ : Fin 8).val + (⟨(i 2).val % 128, by omega⟩ : Fin 128).val, by dsimp only; omega⟩ := by
    funext a
    match a with
    | ⟨0, _⟩ => rfl
    | ⟨1, _⟩ => rfl
    | ⟨2, _⟩ => exact Fin.ext (by show (i 2).val = 128 * ((i 2).val / 128) + (i 2).val % 128; omega)
  refine ((congrArg _ e).trans (Cert.ReferenceIdeal.Attn.out_apply _ _ _ (i 0) (i 1) ⟨(i 2).val / 128, by omega⟩ ⟨(i 2).val % 128, by omega⟩)).trans ?_
  unfold result
  rw [hl, ← inX_eq, ← inG_eq]
  by_cases h : (i 1).val < 256
  · exact (if_pos h).trans ((rowOut_eq _ _ _ _ _ (by decide) _ _ _ _ hX hr).symm.trans (if_pos h).symm)
  · exact (if_neg h).trans ((rowOut_eq _ _ _ _ _ (by decide) _ _ _ _ hX hr).symm.trans (if_neg h).symm)

end Cert.KernelIdeal.Attn

namespace Cert.Attn

theorem frame_ReferenceIdeal : Cert.quiescent_ReferenceIdeal := fun m ρ _ =>
  (θ_run _ _ _).mono (fun r h => ⟨fun c => (h c).2, Idealize.ShloMosaic.sem_eq_zero_of_no_sems (by decide) r.2⟩) (Cert.ReferenceIdeal.Value.run m ρ)

theorem algebraic : Cert.algebraic_KernelIdeal_ReferenceIdeal_pre_finite_arguments := fun m g m' g' hp ha =>
  ⟨fun c => Cert.KernelIdeal.Attn.result m c,
    (θ_run _ _ _).mono (fun r h c => ⟨(h c).1.trans (Cert.KernelIdeal.Attn.final m c), (h c).2⟩) (Cert.KernelIdeal.Value.run_blocks m g),
    (θ_run _ _ _).mono (fun r h c => ⟨(h c).1.trans (by
      have hr := Cert.Pre_finite_arguments.Attn.reals _ _ _ (hp c)
      rw [Cert.ReferenceIdeal.Read.val_main_v95_eq, (ha c).1, (ha c).2.1, (ha c).2.2]
      exact Cert.KernelIdeal.Attn.result_eq m c hr.1 hr.2), (h c).2⟩) (Cert.ReferenceIdeal.Value.run m' g')⟩

end Cert.Attn
end
-- ==== Proof.Proj.Columns.lean ====
/-
  A block of 256 rows stored in bands of 1024 columns, each band a product with the same columns of a weight.
-/
module

public import Idealize.ShloMosaic.Lib.Pipeline.Value
public import Idealize.ShloMosaic.Lib.Pipeline.ValueKit
public import Idealize.ShloMosaic.Lib.Pointwise
public import Idealize.ShloMosaic.PureOps.Ideal

@[expose] public section

set_option maxRecDepth 16384
noncomputable section
open Idealize.ShloMosaic Idealize.ShloMosaic.TcCoe Idealize.SL.Sem

namespace Cert.Proj

/-- Reading a band of 1024 columns of a matrix. -/
theorem ld_cols {K N : Nat} {t : EltTy} (X : Vec Ideal ⟨2, ![K, N]⟩ t) (o : Nat) (i) (k : Fin K) (n : Fin 1024) (h : o + n.val < N) :
    View.ld X (Rect.unit (s := ⟨2, ![K, N]⟩) ![0, o] ![K, 1024] i) (ix2 k n) = X (ix2 k ⟨o + n.val, h⟩) :=
  View.ld_unit_apply_of _ _ _ _ _ _ (fun a => by fin_cases a <;> simp [ix2])

/-- Reading a whole block of 256 rows. -/
theorem ld_rows {K : Nat} {t : EltTy} (X : Vec Ideal ⟨3, ![1, 256, K]⟩ t) (i) (z : Fin 1) (r : Fin 256) (k : Fin K) :
    View.ld X (Rect.unit (s := ⟨3, ![1, 256, K]⟩) ![0, 0, 0] ![1, 256, K] i) (ix3 z r k) = X (ix3 z r k) :=
  View.ld_unit_apply_of _ _ _ _ _ _ (fun a => by fin_cases a <;> simp [ix3])

/-- Reading one row of the six modulation rows. -/
theorem ld_mod {t : EltTy} (X : Vec Ideal ⟨4, ![1, 1, 6, 1024]⟩ t) (o : Nat) (ho : o < 6) (i) (a b z : Fin 1) (k : Fin 1024) :
    View.ld X (Rect.unit (s := ⟨4, ![1, 1, 6, 1024]⟩) ![0, 0, o, 0] ![1, 1, 1, 1024] i) (ix4 a b z k) = X (ix4 0 0 ⟨o, ho⟩ k) :=
  View.ld_unit_apply_of _ _ _ _ _ _ (fun a => by fin_cases a <;> simp [ix4])

/-- What bands of columns leave in a block, when each holds its columns of `G` and every column lies in one. -/
theorem canon_cols {N : Nat} {t : EltTy} (G : Fin 256 → Fin N → Elt Ideal t) (L : List (View.Piece (Elt Ideal) ⟨3, ![1, 256, N]⟩ t))
    (hL : ∀ p ∈ L, ∃ (o : Nat) (i : _) (h : ∀ n : Fin 1024, o + n.val < N) (w : Vec Ideal ⟨3, ![1, 256, 1024]⟩ t),
      p = ⟨Rect.unit ![0, 0, o] ![1, 256, 1024] i, w⟩ ∧ ∀ (r : Fin 256) (n : Fin 1024), w (ix3 0 r n) = G r ⟨o + n.val, h n⟩)
    (hc : ∀ n : Fin N, ∃ p ∈ L, ∃ i, p.1 = Rect.unit ![0, 0, 1024 * (n.val / 1024)] ![1, 256, 1024] i)
    (y : (⟨3, ![1, 256, N]⟩ : Shape).Idx) : View.canon L y = G (y 1) (y 2) := by
  refine View.canon_apply_of_pieces (fun y => G (y 1) (y 2)) L ?_ y ?_
  · intro p hp x
    obtain ⟨o, i, h, w, rfl, hw⟩ := hL p hp
    have hx : ∀ x : (⟨3, ![1, 256, 1024]⟩ : Shape).Idx, w x = G ((Rect.unit (s := ⟨3, ![1, 256, N]⟩) ![0, 0, o] ![1, 256, 1024] i).emb x 1) ((Rect.unit (s := ⟨3, ![1, 256, N]⟩) ![0, 0, o] ![1, 256, 1024] i).emb x 2) := by
      intro x
      have hz : x = ix3 0 (x 1) (x 2) := by
        have h0 : (x 0).val < 1 := (x 0).isLt
        funext a
        match a with
        | ⟨0, _⟩ => exact Fin.ext (by show (x 0).val = 0; omega)
        | ⟨1, _⟩ => rfl
        | ⟨2, _⟩ => rfl
      refine ((congrArg w hz).trans (hw (x 1) (x 2))).trans ?_
      congr 1
      · exact Fin.ext (by show (x 1).val = 0 + 1 * (x 1).val; omega)
      · exact Fin.ext (by show o + (x 2).val = o + 1 * (x 2).val; omega)
    exact hx x
  · obtain ⟨p, hp, i, e⟩ := hc (y 2)
    refine ⟨p, hp, ?_⟩
    have h1 : (y 1).val < 256 := (y 1).isLt
    have h0 : (y 0).val < 1 := (y 0).isLt
    rw [e, Rect.mem_set_unit]
    intro a
    match a with
    | ⟨0, _⟩ => show 0 ≤ (y 0).val ∧ (y 0).val < 0 + 1; omega
    | ⟨1, _⟩ => show 0 ≤ (y 1).val ∧ (y 1).val < 0 + 256; omega
    | ⟨2, _⟩ => show 1024 * ((y 2).val / 1024) ≤ (y 2).val ∧ (y 2).val < 1024 * ((y 2).val / 1024) + 1024; omega

end Cert.Proj
end
-- ==== Proof.Proj.Modulate.lean ====
/-
  Rows scaled and shifted by modulation: a batch's first 256 rows by the context's rows, the others by the latent's.
-/
module

public import proofs.«01_k».proof.Proof.Proj.Columns

@[expose] public section

set_option maxRecDepth 16384
noncomputable section
open Idealize.ShloMosaic Idealize.ShloMosaic.TcCoe Idealize.SL.Sem

namespace Cert.Proj

/-- Row `s` of the six modulation rows: the context's, or batch `a`'s. -/
def modRow (ml : FVec Ideal ⟨2, ![32, 6144]⟩ .f32) (mc : FVec Ideal ⟨1, ![6144]⟩ .f32) (a : Fin 32) (ctx : Prop) [Decidable ctx] (s : Fin 6) (k : Fin 1024) : EReal :=
  if ctx then mc (ix1 ⟨s.val * 1024 + k.val, by omega⟩) else ml (ix2 a ⟨s.val * 1024 + k.val, by omega⟩)

/-- A number scaled by one plus `s` and shifted by `h`. -/
abbrev modulate (x s h : EReal) : EReal := x * (Ideal.ofBits .f32 0x3F800000#32 + s) + h

/-- A row of the activations, scaled by row `s₁` and shifted by row `s₀`. -/
def modulated (x : FVec Ideal ⟨3, ![32, 2304, 1024]⟩ .f32) (ml : FVec Ideal ⟨2, ![32, 6144]⟩ .f32) (mc : FVec Ideal ⟨1, ![6144]⟩ .f32) (s₀ s₁ : Fin 6)
    (a : Fin 32) (b : Fin 2304) (k : Fin 1024) : EReal :=
  x (ix3 a b k) * (Ideal.ofBits .f32 0x3F800000#32 + modRow ml mc a (b.val < 256) s₁ k) + modRow ml mc a (b.val < 256) s₀ k

/-- The first 256 rows of each batch, then the other 2048. -/
theorem join_apply {N : Nat} (A : Vec Ideal ⟨3, ![32, 256, N]⟩ .f32) (B : Vec Ideal ⟨3, ![32, 2048, N]⟩ .f32) (h) (a : Fin 32) (b : Fin 2304) (d : Fin N) :
    concatenate ⟨3, ![32, 2304, N]⟩ 1 [⟨⟨3, ![32, 256, N]⟩, A⟩, ⟨⟨3, ![32, 2048, N]⟩, B⟩] h (ix3 a b d)
      = if hb : b.val < 256 then A (ix3 a ⟨b.val, hb⟩ d) else B (ix3 a ⟨b.val - 256, by omega⟩ d) := by
  by_cases hb : b.val < 256
  · rw [dif_pos hb]
    exact concatenate_pair_apply_left (t := ⟨3, ![32, 2304, N]⟩) (s₁ := ⟨3, ![32, 256, N]⟩) (s₂ := ⟨3, ![32, 2048, N]⟩) 1 _ _ _ _ rfl (ix3 a ⟨b.val, hb⟩ d) (fun a => by
      match a with
      | ⟨0, _⟩ => rfl
      | ⟨1, _⟩ => rfl
      | ⟨2, _⟩ => rfl)
  · rw [dif_neg hb]
    exact concatenate_pair_apply_right (t := ⟨3, ![32, 2304, N]⟩) (s₁ := ⟨3, ![32, 256, N]⟩) (s₂ := ⟨3, ![32, 2048, N]⟩) 1 _ _ _ _ rfl rfl (ix3 a ⟨b.val - 256, by omega⟩ d) (fun a ha => by
      match a with
      | ⟨0, _⟩ => rfl
      | ⟨1, _⟩ => exact absurd rfl ha
      | ⟨2, _⟩ => rfl) (Nat.sub_add_cancel (by omega))

/-- The modulation rows laid out per batch and block of 256 rows: block 0 has the context's, the others the batch's. -/
theorem mods_apply (ml : FVec Ideal ⟨2, ![32, 6144]⟩ .f32) (mc : FVec Ideal ⟨1, ![6144]⟩ .f32)
    (h₁ : Shape.ShapeCasts ⟨2, ![32, 6144]⟩ ⟨4, ![32, 1, 6, 1024]⟩) (h₂ : Shape.ShapeCasts ⟨1, ![6144]⟩ ⟨4, ![1, 1, 6, 1024]⟩) (h₃ h₄) (h)
    (a : Fin 32) (j : Fin 9) (s : Fin 6) (k : Fin 1024) :
    concatenate ⟨4, ![32, 9, 6, 1024]⟩ 1
      [⟨⟨4, ![32, 1, 6, 1024]⟩, broadcastInDim (s := ⟨4, ![1, 1, 6, 1024]⟩) ⟨4, ![32, 1, 6, 1024]⟩ ![0, 1, 2, 3] h₃ (shapeCast ⟨4, ![1, 1, 6, 1024]⟩ mc h₂)⟩,
       ⟨⟨4, ![32, 8, 6, 1024]⟩, broadcastInDim (s := ⟨4, ![32, 1, 6, 1024]⟩) ⟨4, ![32, 8, 6, 1024]⟩ ![0, 1, 2, 3] h₄ (shapeCast ⟨4, ![32, 1, 6, 1024]⟩ ml h₁)⟩] h (ix4 a j s k)
      = modRow ml mc a (j.val = 0) s k := by
  unfold modRow
  by_cases hj : j.val = 0
  · rw [if_pos hj]
    refine (concatenate_pair_apply_left (t := ⟨4, ![32, 9, 6, 1024]⟩) (s₁ := ⟨4, ![32, 1, 6, 1024]⟩) (s₂ := ⟨4, ![32, 8, 6, 1024]⟩) 1 _ _ _ _ rfl (ix4 a 0 s k) (fun a => by
      match a with
      | ⟨0, _⟩ => rfl
      | ⟨1, _⟩ => exact hj.symm
      | ⟨2, _⟩ => rfl
      | ⟨3, _⟩ => rfl)).trans ?_
    pointwise
  · rw [if_neg hj]
    refine (concatenate_pair_apply_right (t := ⟨4, ![32, 9, 6, 1024]⟩) (s₁ := ⟨4, ![32, 1, 6, 1024]⟩) (s₂ := ⟨4, ![32, 8, 6, 1024]⟩) 1 _ _ _ _ rfl rfl (ix4 a ⟨j.val - 1, by omega⟩ s k) (fun a ha => by
      match a with
      | ⟨0, _⟩ => rfl
      | ⟨1, _⟩ => exact absurd rfl ha
      | ⟨2, _⟩ => rfl
      | ⟨3, _⟩ => rfl) (Nat.sub_add_cancel (by omega))).trans ?_
    pointwise

end Cert.Proj
end
-- ==== Proof.Proj.Up.lean ====
/-
  The mLSTM's up projection: the kernel's output array and the reference's are one product of modulated rows.
-/
module

public import proofs.«01_k».proof.Defs
public import proofs.«01_k».proof.Proof.Proj.Modulate
public import proofs.«01_k».proof.Proof.Gen.Kernel2Ideal.Value
public import proofs.«01_k».proof.Proof.Gen.Reference2Ideal.Run
public import proofs.«01_k».proof.Proof.Gen.Reference2Ideal.Read
public import Idealize.ShloMosaic.Lib.StableHlo.Run
public import Idealize.ShloMosaic.Lib.Quiescent

@[expose] public section

set_option maxRecDepth 16384
noncomputable section
open Idealize.ShloMosaic Idealize.ShloMosaic.TcCoe Idealize.SL.Sem
open Idealize.ShloMosaic.Pipeline (Dat)

namespace Cert.Kernel2Ideal.Proj
open Cert.Kernel2Ideal Cert.Kernel2Ideal.Gen Cert.Kernel2Ideal.Value Cert.Proj

/-- The modulated rows of a block. -/
theorem rows_apply (x : Vec Ideal S1x256x1024 .f32) (s h : Vec Ideal S1x1x1x1024 .f32) (r : Fin 256) (k : Fin 1024) :
    k0_pay5 x s h (ix2 r k) = x (ix3 0 r k) * (Ideal.ofBits .f32 0x3F800000#32 + s (ix4 0 0 0 k)) + h (ix4 0 0 0 k) := by
  pointwise [k0_pay5]

/-- One band of columns of the product. -/
theorem band (v : FVec Ideal S256x1024 .bf16) (w : Vec Ideal S1024x1024 .bf16) (z : Fin 1) (r : Fin 256) (n : Fin 1024) :
    k0_pay2 v w (ix3 z r n) = ∑ k : Fin 1024, v (ix2 r k) * w (ix2 k n) := by
  pointwise [k0_pay2]

/-- The whole block. -/
theorem out_apply (x0 : Vec Ideal S1x256x1024 .f32) (x1 : Vec Ideal S1x1x6x1024 .f32) (x2 : Vec Ideal S1024x6144 .bf16) (y : S1x256x6144.Idx) :
    out0_3 x0 x1 x2 y = ∑ k : Fin 1024, (x0 (ix3 0 (y 1) k) * (Ideal.ofBits .f32 0x3F800000#32 + x1 (ix4 0 0 1 k)) + x1 (ix4 0 0 0 k)) * x2 (ix2 k (y 2)) := by
  have hb : ∀ (o : Nat) (i) (h : ∀ n : Fin 1024, o + n.val < 6144) (r : Fin 256) (n : Fin 1024),
      k0_pay2 (k0_pay9 x0 x1 x2) (View.ld x2 (Rect.unit (s := S1024x6144) ![0, o] ![1024, 1024] i)) (ix3 0 r n)
        = ∑ k : Fin 1024, (x0 (ix3 0 r k) * (Ideal.ofBits .f32 0x3F800000#32 + x1 (ix4 0 0 1 k)) + x1 (ix4 0 0 0 k)) * x2 (ix2 k ⟨o + n.val, h n⟩) := by
    intro o i h r n
    rw [band]
    refine Finset.sum_congr rfl fun k _ => ?_
    rw [ld_cols x2 o i k n (h n)]
    refine congrArg (· * _) ?_
    unfold k0_pay9
    rw [rows_apply]
    exact congrArg₂ (· + ·) (congrArg₂ (fun p q => p * (_ + q)) (ld_rows x0 _ 0 r k) (ld_mod x1 1 (by decide) _ 0 0 0 k)) (ld_mod x1 0 (by decide) _ 0 0 0 k)
  unfold out0_3
  refine canon_cols (fun r n => ∑ k : Fin 1024, (x0 (ix3 0 r k) * (Ideal.ofBits .f32 0x3F800000#32 + x1 (ix4 0 0 1 k)) + x1 (ix4 0 0 0 k)) * x2 (ix2 k n)) _ ?_ ?_ y
  · intro p hp
    simp only [List.mem_cons, List.not_mem_nil, or_false] at hp
    rcases hp with rfl | rfl | rfl | rfl | rfl | rfl
    · exact ⟨5120, _, fun n => by omega, _, rfl, hb 5120 _ _⟩
    · exact ⟨4096, _, fun n => by omega, _, rfl, hb 4096 _ _⟩
    · exact ⟨3072, _, fun n => by omega, _, rfl, hb 3072 _ _⟩
    · exact ⟨2048, _, fun n => by omega, _, rfl, hb 2048 _ _⟩
    · exact ⟨1024, _, fun n => by omega, _, rfl, hb 1024 _ _⟩
    · exact ⟨0, _, fun n => by omega, _, rfl, hb 0 _ _⟩
  · intro n
    have hn : n.val / 1024 = 0 ∨ n.val / 1024 = 1 ∨ n.val / 1024 = 2 ∨ n.val / 1024 = 3 ∨ n.val / 1024 = 4 ∨ n.val / 1024 = 5 := by omega
    rcases hn with e | e | e | e | e | e <;> rw [e]
    · exact ⟨_, .tail _ (.tail _ (.tail _ (.tail _ (.tail _ (.head _))))), inb_S1x256x6144_S1x256x1024_0_0_0, rfl⟩
    · exact ⟨_, .tail _ (.tail _ (.tail _ (.tail _ (.head _)))), inb_S1x256x6144_S1x256x1024_0_0_1024, rfl⟩
    · exact ⟨_, .tail _ (.tail _ (.tail _ (.head _))), inb_S1x256x6144_S1x256x1024_0_0_2048, rfl⟩
    · exact ⟨_, .tail _ (.tail _ (.head _)), inb_S1x256x6144_S1x256x1024_0_0_3072, rfl⟩
    · exact ⟨_, .tail _ (.head _), inb_S1x256x6144_S1x256x1024_0_0_4096, rfl⟩
    · exact ⟨_, .head _, inb_S1x256x6144_S1x256x1024_0_0_5120, rfl⟩

theorem index_0 : ∀ t : Fin cfg0.N, win0_0.index t 0 = t.val / 9 ∧ win0_0.index t 1 = t.val % 9 ∧ win0_0.index t 2 = 0 := by decide +kernel
theorem index_1 : ∀ t : Fin cfg0.N, win0_1.index t 0 = t.val / 9 ∧ win0_1.index t 1 = t.val % 9 ∧ win0_1.index t 2 = 0 ∧ win0_1.index t 3 = 0 := by decide +kernel
theorem index_2 : ∀ t : Fin cfg0.N, win0_2.index t 0 = 0 ∧ win0_2.index t 1 = 0 := by decide +kernel
theorem index_3 : ∀ t : Fin cfg0.N, win0_3.index t 0 = t.val / 9 ∧ win0_3.index t 1 = t.val % 9 ∧ win0_3.index t 2 = 0 := by decide +kernel

theorem point_lt (t : Fin cfg0.N) : t.val < 288 := lt_of_lt_of_eq t.isLt N_0

variable (m : (ℓ : Loc nD τ sig) → Buf (Elt Ideal) ℓ)

/-- The activations, the latent's and the context's modulation, and the weight. -/
def inX (c : Dev nD) : Vec Ideal S32x2304x1024 .f32 := m ((c : Thread nD τ).loc main_arg0)
def inL (c : Dev nD) : Vec Ideal S32x6144 .f32 := m ((c : Thread nD τ).loc main_arg1)
def inC (c : Dev nD) : Vec Ideal S6144 .f32 := m ((c : Thread nD τ).loc main_arg2)
def inW (c : Dev nD) (k : Fin 1024) (n : Fin 6144) : EReal := (m ((c : Thread nD τ).loc main_arg3) : Vec Ideal S1024x6144 .f32) (ix2 k n)

/-- The rows' block is its rows of the activations. -/
theorem read_x (c : Dev nD) (t : Fin cfg0.N) (r : Fin 256) (k : Fin 1024) :
    (iblk m c 0 t : Vec Ideal S1x256x1024 .f32) (ix3 0 r k)
      = inX m c (ix3 ⟨t.val / 9, by have := point_lt t; omega⟩ ⟨256 * (t.val % 9) + r.val, by omega⟩ k) := by
  unfold inX
  rw [← V_main_arg0 m c]
  unfold iblk
  rw [View.read_apply]
  show V m c main_arg0 _ = V m c main_arg0 _
  congr 1
  have hi := index_0 t
  funext a
  apply Fin.ext
  match a with
  | ⟨0, _⟩ => show win0_0.index t 0 * 1 + 1 * 0 = t.val / 9; rw [hi.1]; omega
  | ⟨1, _⟩ => show win0_0.index t 1 * 256 + 1 * r.val = 256 * (t.val % 9) + r.val; rw [hi.2.1]; omega
  | ⟨2, _⟩ => show win0_0.index t 2 * 1024 + 1 * k.val = k.val; rw [hi.2.2]; omega

/-- The modulation's block has the rows of its batch and block. -/
theorem read_m (c : Dev nD) (t : Fin cfg0.N) (s : Fin 6) (k : Fin 1024) :
    (iblk m c 1 t : Vec Ideal S1x1x6x1024 .f32) (ix4 0 0 s k)
      = modRow (inL m c) (inC m c) ⟨t.val / 9, by have := point_lt t; omega⟩ (t.val % 9 = 0) s k := by
  have e : V m c main_v4 (ix4 ⟨t.val / 9, by have := point_lt t; omega⟩ ⟨t.val % 9, by omega⟩ s k)
      = modRow (inL m c) (inC m c) ⟨t.val / 9, by have := point_lt t; omega⟩ (t.val % 9 = 0) s k := by
    refine Eq.trans ?_ (mods_apply (inL m c) (inC m c) shapeCasts_S32x6144_S32x1x6x1024 shapeCasts_S6144_S1x1x6x1024 bcast_S1x1x6x1024_S32x1x6x1024_0_1_2_3
      bcast_S32x1x6x1024_S32x8x6x1024_0_1_2_3 concatenates_S32x1x6x1024_S32x8x6x1024_S32x9x6x1024_d1 _ ⟨t.val % 9, by omega⟩ s k)
    unfold V
    after_results_simp <;> rfl
  rw [← e]
  unfold iblk
  rw [View.read_apply]
  show V m c main_v4 _ = V m c main_v4 _
  congr 1
  have hi := index_1 t
  funext a
  apply Fin.ext
  match a with
  | ⟨0, _⟩ => show win0_1.index t 0 * 1 + 1 * 0 = t.val / 9; rw [hi.1]; omega
  | ⟨1, _⟩ => show win0_1.index t 1 * 1 + 1 * 0 = t.val % 9; rw [hi.2.1]; omega
  | ⟨2, _⟩ => show win0_1.index t 2 * 6 + 1 * s.val = s.val; rw [hi.2.2.1]; omega
  | ⟨3, _⟩ => show win0_1.index t 3 * 1024 + 1 * k.val = k.val; rw [hi.2.2.2]; omega

/-- The weight's block is the weight. -/
theorem read_w (c : Dev nD) (t : Fin cfg0.N) (k : Fin 1024) (n : Fin 6144) :
    (iblk m c 2 t : Vec Ideal S1024x6144 .bf16) (ix2 k n) = inW m c k n := by
  unfold inW
  have e : V m c main_v5 = (m ((c : Thread nD τ).loc main_arg3) : Vec Ideal S1024x6144 .f32) := by
    unfold V
    after_results_simp <;> rfl
  rw [← e]
  unfold iblk
  rw [View.read_apply]
  show V m c main_v5 _ = V m c main_v5 _
  congr 1
  have hi := index_2 t
  funext a
  apply Fin.ext
  match a with
  | ⟨0, _⟩ => show win0_2.index t 0 * 1024 + 1 * k.val = k.val; rw [hi.1]; omega
  | ⟨1, _⟩ => show win0_2.index t 1 * 6144 + 1 * n.val = n.val; rw [hi.2]; omega

/-- The product of the modulated rows and the weight. -/
def result (c : Dev nD) : Buf (Elt Ideal) ((c : Thread nD τ).loc main_v6) :=
  fun i : S32x2304x6144.Idx => (∑ k : Fin 1024, modulated (inX m c) (inL m c) (inC m c) 0 1 (i 0) (i 1) k * inW m c k (i 2) : EReal)

/-- A point's modulated rows are its rows of the modulated activations. -/
theorem read_modulated (c : Dev nD) (t : Fin cfg0.N) (r : Fin 256) (k : Fin 1024) :
    modulate ((iblk m c 0 t : Vec Ideal S1x256x1024 .f32) (ix3 0 r k)) ((iblk m c 1 t : Vec Ideal S1x1x6x1024 .f32) (ix4 0 0 1 k)) ((iblk m c 1 t : Vec Ideal S1x1x6x1024 .f32) (ix4 0 0 0 k))
      = modulated (inX m c) (inL m c) (inC m c) 0 1 ⟨t.val / 9, by have := point_lt t; omega⟩ ⟨256 * (t.val % 9) + r.val, by omega⟩ k := by
  have hc : (t.val % 9 = 0) = (256 * (t.val % 9) + r.val < 256) := propext (by omega)
  unfold modulated
  refine congrArg₂ (· + ·) (congrArg₂ (fun p q => p * (_ + q)) (read_x m c t r k) ((read_m m c t 1 k).trans ?_)) ((read_m m c t 0 k).trans ?_) <;>
    (unfold modRow; simp only [hc])

/-- What a point writes back is its block of the product. -/
theorem flushed_eq (c : Dev nD) (t : Fin cfg0.N) :
    (dats m 0 c).flushed 3 t = ((cfg0.win 3).blk t).view.read (Elt Ideal) (result m c) := by
  rw [flushed3]
  refine funext fun (y : S1x256x6144.Idx) => ?_
  refine Eq.trans (out_apply _ _ _ y) ?_
  rw [View.read_apply]
  have hi := index_3 t
  have h0 : (y 0).val < 1 := (y 0).isLt
  have e : ((cfg0.win 3).blk t).view.emb y = ix3 ⟨t.val / 9, by have := point_lt t; omega⟩ ⟨256 * (t.val % 9) + (y 1).val, by have h : (y 1).val < 256 := (y 1).isLt; omega⟩ (y 2) := by
    funext a
    apply Fin.ext
    match a with
    | ⟨0, _⟩ => show win0_3.index t 0 * 1 + 1 * (y 0).val = t.val / 9; rw [hi.1]; omega
    | ⟨1, _⟩ => show win0_3.index t 1 * 256 + 1 * (y 1).val = 256 * (t.val % 9) + (y 1).val; rw [hi.2.1]; omega
    | ⟨2, _⟩ => show win0_3.index t 2 * 6144 + 1 * (y 2).val = (y 2).val; rw [hi.2.2]; omega
  refine Eq.trans ?_ (congrArg (result m c) e).symm
  refine Finset.sum_congr rfl fun k _ => ?_
  exact congrArg₂ (· * ·) (read_modulated m c t (y 1) k) (read_w m c t k (y 2))

/-- So the output array ends as the product. -/
theorem final (c : Dev nD) : (dats m 0 c).arrAt 3 cfg0.N = result m c :=
  (dats m 0 c).arrAt_eq_of_cover 3 (result m c) (fun t _ => flushed_eq m c t) fun i : S32x2304x6144.Idx => by
    have h0 : (i 0 : Nat) < 32 := (i 0).isLt
    have h1 : (i 1 : Nat) < 2304 := (i 1).isLt
    have h2 : (i 2 : Nat) < 6144 := (i 2).isLt
    have hN : cfg0.N = 288 := N_0
    obtain ⟨t, ht⟩ : ∃ t : Fin cfg0.N, t.val = 9 * (i 0 : Nat) + (i 1 : Nat) / 256 := ⟨⟨9 * (i 0 : Nat) + (i 1 : Nat) / 256, by omega⟩, rfl⟩
    refine ⟨t, flush0_3 t, ?_⟩
    have hi := index_3 t
    show i ∈ ((View.whole main_v6).slice (win0_3.rect t)).set
    rw [View.set_slice_whole, Rect.mem_set_unit]
    intro a
    match a with
    | ⟨0, _⟩ => show win0_3.index t 0 * 1 ≤ (i 0 : Nat) ∧ (i 0 : Nat) < win0_3.index t 0 * 1 + 1
                rw [hi.1]; omega
    | ⟨1, _⟩ => show win0_3.index t 1 * 256 ≤ (i 1 : Nat) ∧ (i 1 : Nat) < win0_3.index t 1 * 256 + 256
                rw [hi.2.1]; omega
    | ⟨2, _⟩ => show win0_3.index t 2 * 6144 ≤ (i 2 : Nat) ∧ (i 2 : Nat) < win0_3.index t 2 * 6144 + 6144
                rw [hi.2.2]; omega

end Cert.Kernel2Ideal.Proj

namespace Cert.Reference2Ideal.Proj
open Cert.Reference2Ideal Cert.Reference2Ideal.Read Cert.Proj

variable (x0 : FVec Ideal S32x2304x1024 .f32) (x1 : FVec Ideal S32x6144 .f32) (x2 : FVec Ideal S6144 .f32) (x3 : FVec Ideal S1024x6144 .f32)

/-- The context's modulated rows. -/
theorem ctx_apply (a : Fin 32) (b : Fin 256) (k : Fin 1024) :
    val_main_v27 (F := Ideal) x0 x2 (ix3 a b k) = modulated x0 x1 x2 0 1 a ⟨b.val, by omega⟩ k := by
  have e : val_main_v27 (F := Ideal) x0 x2 (ix3 a b k)
      = x0 (ix3 a ⟨b.val, by omega⟩ k) * (Ideal.ofBits .f32 0x3F800000#32 + x2 (ix1 ⟨1024 + k.val, by omega⟩)) + x2 (ix1 ⟨k.val, by omega⟩) := by
    pointwise [val_main_v27, val_main_v26, val_main_v25, val_main_v24, val_main_v23, val_main_v22, val_main_v21, val_main_v20, val_main_cst, val_main_v18, val_main_v13, val_main_v12]
  rw [e]
  unfold modulated modRow
  rw [if_pos b.isLt, if_pos b.isLt]
  simp

/-- The latent's. -/
theorem lat_apply (a : Fin 32) (b : Fin 2048) (k : Fin 1024) :
    val_main_v33 (F := Ideal) x0 x1 (ix3 a b k) = modulated x0 x1 x2 0 1 a ⟨256 + b.val, by omega⟩ k := by
  have e : val_main_v33 (F := Ideal) x0 x1 (ix3 a b k)
      = x0 (ix3 a ⟨256 + b.val, by omega⟩ k) * (Ideal.ofBits .f32 0x3F800000#32 + x1 (ix2 a ⟨1024 + k.val, by omega⟩)) + x1 (ix2 a ⟨k.val, by omega⟩) := by
    pointwise [val_main_v33, val_main_v32, val_main_v31, val_main_v30, val_main_v29, val_main_v28, val_main_cst_0, val_main_v19, val_main_v7, val_main_v6, val_main_v1, val_main_v0]
  rw [e]
  unfold modulated modRow
  rw [if_neg (by show ¬ (256 + b.val < 256); omega), if_neg (by show ¬ (256 + b.val < 256); omega)]
  simp

theorem dot_ctx (a : Fin 32) (b : Fin 256) (d : Fin 6144) :
    val_main_v34 (F := Ideal) x0 x2 x3 (ix3 a b d) = ∑ k : Fin 1024, val_main_v27 (F := Ideal) x0 x2 (ix3 a b k) * x3 (ix2 k d) := by
  pointwise [val_main_v34]

theorem dot_lat (a : Fin 32) (b : Fin 2048) (d : Fin 6144) :
    val_main_v35 (F := Ideal) x0 x1 x3 (ix3 a b d) = ∑ k : Fin 1024, val_main_v33 (F := Ideal) x0 x1 (ix3 a b k) * x3 (ix2 k d) := by
  pointwise [val_main_v35]

/-- The reference's product. -/
theorem out_apply (a : Fin 32) (b : Fin 2304) (d : Fin 6144) :
    val_main_v36 (F := Ideal) x0 x1 x2 x3 (ix3 a b d) = ∑ k : Fin 1024, modulated x0 x1 x2 0 1 a b k * x3 (ix2 k d) := by
  unfold val_main_v36
  refine (join_apply _ _ _ a b d).trans ?_
  by_cases hb : b.val < 256
  · rw [dif_pos hb, dot_ctx]
    exact Finset.sum_congr rfl fun k _ => congrArg (· * _) (ctx_apply x0 x1 x2 a ⟨b.val, hb⟩ k)
  · rw [dif_neg hb, dot_lat]
    have e : (⟨256 + (b.val - 256), by omega⟩ : Fin 2304) = b := Fin.ext (by dsimp only; omega)
    exact Finset.sum_congr rfl fun k _ => congrArg (· * _) ((lat_apply x0 x1 x2 a ⟨b.val - 256, by omega⟩ k).trans (congrArg (fun b => modulated x0 x1 x2 0 1 a b k) e))

end Cert.Reference2Ideal.Proj

namespace Cert.Proj

theorem frame_Reference2Ideal : Cert.quiescent_Reference2Ideal := fun m ρ _ =>
  (θ_run _ _ _).mono (fun r h => ⟨fun c => (h c).2, Idealize.ShloMosaic.sem_eq_zero_of_no_sems (by decide) r.2⟩) (Cert.Reference2Ideal.Value.run m ρ)

/-- The kernel's projection and the reference's are the same array. -/
theorem algebraic2 : Cert.algebraic_Kernel2Ideal_Reference2Ideal := fun m g m' g' _ ha =>
  ⟨fun c => Cert.Kernel2Ideal.Proj.result m c,
    (θ_run _ _ _).mono (fun r h c => ⟨(h c).1.trans (Cert.Kernel2Ideal.Proj.final m c), (h c).2⟩) (Cert.Kernel2Ideal.Value.run_blocks m g),
    (θ_run _ _ _).mono (fun r h c => ⟨(h c).1.trans (by
      rw [Cert.Reference2Ideal.Read.val_main_v36_eq, (ha c).1, (ha c).2.1, (ha c).2.2.1, (ha c).2.2.2]
      exact funext fun i : Cert.Kernel2Ideal.S32x2304x6144.Idx => (congrArg _ (eq_ix3 i)).trans (Cert.Reference2Ideal.Proj.out_apply _ _ _ _ (i 0) (i 1) (i 2))), (h c).2⟩) (Cert.Reference2Ideal.Value.run m' g')⟩

end Cert.Proj
end
-- ==== Proof.Proj.SsdIn.lean ====
/-
  The state-space layer's input projection, its weight's first 6144 columns: the kernel's output array and the reference's are one product of modulated rows.
-/
module

public import proofs.«01_k».proof.Defs
public import proofs.«01_k».proof.Proof.Proj.Up
public import proofs.«01_k».proof.Proof.Gen.Kernel3Ideal.Value
public import proofs.«01_k».proof.Proof.Gen.Reference3Ideal.Run
public import proofs.«01_k».proof.Proof.Gen.Reference3Ideal.Read
public import Idealize.ShloMosaic.Lib.StableHlo.Run
public import Idealize.ShloMosaic.Lib.Quiescent

@[expose] public section

set_option maxRecDepth 16384
noncomputable section
open Idealize.ShloMosaic Idealize.ShloMosaic.TcCoe Idealize.SL.Sem
open Idealize.ShloMosaic.Pipeline (Dat)

namespace Cert.Kernel3Ideal.Proj
open Cert.Kernel3Ideal Cert.Kernel3Ideal.Gen Cert.Kernel3Ideal.Value Cert.Proj

/-- The whole block. -/
theorem out_apply (x0 : Vec Ideal S1x256x1024 .f32) (x1 : Vec Ideal S1x1x6x1024 .f32) (x2 : Vec Ideal S1024x6144 .bf16) (y : S1x256x6144.Idx) :
    out0_3 x0 x1 x2 y = ∑ k : Fin 1024, (x0 (ix3 0 (y 1) k) * (Ideal.ofBits .f32 0x3F800000#32 + x1 (ix4 0 0 1 k)) + x1 (ix4 0 0 0 k)) * x2 (ix2 k (y 2)) :=
  Cert.Kernel2Ideal.Proj.out_apply x0 x1 x2 y

theorem index_0 : ∀ t : Fin cfg0.N, win0_0.index t 0 = t.val / 9 ∧ win0_0.index t 1 = t.val % 9 ∧ win0_0.index t 2 = 0 := by decide +kernel
theorem index_1 : ∀ t : Fin cfg0.N, win0_1.index t 0 = t.val / 9 ∧ win0_1.index t 1 = t.val % 9 ∧ win0_1.index t 2 = 0 ∧ win0_1.index t 3 = 0 := by decide +kernel
theorem index_2 : ∀ t : Fin cfg0.N, win0_2.index t 0 = 0 ∧ win0_2.index t 1 = 0 := by decide +kernel
theorem index_3 : ∀ t : Fin cfg0.N, win0_3.index t 0 = t.val / 9 ∧ win0_3.index t 1 = t.val % 9 ∧ win0_3.index t 2 = 0 := by decide +kernel

theorem point_lt (t : Fin cfg0.N) : t.val < 288 := lt_of_lt_of_eq t.isLt N_0

variable (m : (ℓ : Loc nD τ sig) → Buf (Elt Ideal) ℓ)

/-- The activations, the latent's and the context's modulation, and the weight. -/
def inX (c : Dev nD) : Vec Ideal S32x2304x1024 .f32 := m ((c : Thread nD τ).loc main_arg0)
def inL (c : Dev nD) : Vec Ideal S32x6144 .f32 := m ((c : Thread nD τ).loc main_arg1)
def inC (c : Dev nD) : Vec Ideal S6144 .f32 := m ((c : Thread nD τ).loc main_arg2)
def inW (c : Dev nD) (k : Fin 1024) (n : Fin 6144) : EReal := (m ((c : Thread nD τ).loc main_arg3) : Vec Ideal S1024x6208 .f32) (ix2 k ⟨n.val, by omega⟩)

/-- The rows' block is its rows of the activations. -/
theorem read_x (c : Dev nD) (t : Fin cfg0.N) (r : Fin 256) (k : Fin 1024) :
    (iblk m c 0 t : Vec Ideal S1x256x1024 .f32) (ix3 0 r k)
      = inX m c (ix3 ⟨t.val / 9, by have := point_lt t; omega⟩ ⟨256 * (t.val % 9) + r.val, by omega⟩ k) := by
  unfold inX
  rw [← V_main_arg0 m c]
  unfold iblk
  rw [View.read_apply]
  show V m c main_arg0 _ = V m c main_arg0 _
  congr 1
  have hi := index_0 t
  funext a
  apply Fin.ext
  match a with
  | ⟨0, _⟩ => show win0_0.index t 0 * 1 + 1 * 0 = t.val / 9; rw [hi.1]; omega
  | ⟨1, _⟩ => show win0_0.index t 1 * 256 + 1 * r.val = 256 * (t.val % 9) + r.val; rw [hi.2.1]; omega
  | ⟨2, _⟩ => show win0_0.index t 2 * 1024 + 1 * k.val = k.val; rw [hi.2.2]; omega

/-- The modulation's block has the rows of its batch and block. -/
theorem read_m (c : Dev nD) (t : Fin cfg0.N) (s : Fin 6) (k : Fin 1024) :
    (iblk m c 1 t : Vec Ideal S1x1x6x1024 .f32) (ix4 0 0 s k)
      = modRow (inL m c) (inC m c) ⟨t.val / 9, by have := point_lt t; omega⟩ (t.val % 9 = 0) s k := by
  have e : V m c main_v4 (ix4 ⟨t.val / 9, by have := point_lt t; omega⟩ ⟨t.val % 9, by omega⟩ s k)
      = modRow (inL m c) (inC m c) ⟨t.val / 9, by have := point_lt t; omega⟩ (t.val % 9 = 0) s k := by
    refine Eq.trans ?_ (mods_apply (inL m c) (inC m c) shapeCasts_S32x6144_S32x1x6x1024 shapeCasts_S6144_S1x1x6x1024 bcast_S1x1x6x1024_S32x1x6x1024_0_1_2_3
      bcast_S32x1x6x1024_S32x8x6x1024_0_1_2_3 concatenates_S32x1x6x1024_S32x8x6x1024_S32x9x6x1024_d1 _ ⟨t.val % 9, by omega⟩ s k)
    unfold V
    after_results_simp <;> rfl
  rw [← e]
  unfold iblk
  rw [View.read_apply]
  show V m c main_v4 _ = V m c main_v4 _
  congr 1
  have hi := index_1 t
  funext a
  apply Fin.ext
  match a with
  | ⟨0, _⟩ => show win0_1.index t 0 * 1 + 1 * 0 = t.val / 9; rw [hi.1]; omega
  | ⟨1, _⟩ => show win0_1.index t 1 * 1 + 1 * 0 = t.val % 9; rw [hi.2.1]; omega
  | ⟨2, _⟩ => show win0_1.index t 2 * 6 + 1 * s.val = s.val; rw [hi.2.2.1]; omega
  | ⟨3, _⟩ => show win0_1.index t 3 * 1024 + 1 * k.val = k.val; rw [hi.2.2.2]; omega

/-- The first 6144 columns. -/
theorem cols_apply (w : Vec Ideal S1024x6208 .f32) (h) (k : Fin 1024) (n : Fin 6144) :
    extractStridedSlice S1024x6144 ![0, 0] w h (ix2 k n) = w (ix2 k ⟨n.val, by omega⟩) := by
  pointwise

/-- The weight's block is the weight's first 6144 columns. -/
theorem read_w (c : Dev nD) (t : Fin cfg0.N) (k : Fin 1024) (n : Fin 6144) :
    (iblk m c 2 t : Vec Ideal S1024x6144 .bf16) (ix2 k n) = inW m c k n := by
  unfold inW
  have e : V m c main_v6 (ix2 k n) = (m ((c : Thread nD τ).loc main_arg3) : Vec Ideal S1024x6208 .f32) (ix2 k ⟨n.val, by omega⟩) := by
    have e₁ : V m c main_v6 = extractStridedSlice S1024x6144 ![0, 0] (m ((c : Thread nD τ).loc main_arg3) : Vec Ideal S1024x6208 .f32) slices_S1024x6208_S1024x6144_0_0 := by
      unfold V
      after_results_simp <;> rfl
    rw [e₁]
    exact cols_apply _ _ k n
  rw [← e]
  unfold iblk
  rw [View.read_apply]
  show V m c main_v6 _ = V m c main_v6 _
  congr 1
  have hi := index_2 t
  funext a
  apply Fin.ext
  match a with
  | ⟨0, _⟩ => show win0_2.index t 0 * 1024 + 1 * k.val = k.val; rw [hi.1]; omega
  | ⟨1, _⟩ => show win0_2.index t 1 * 6144 + 1 * n.val = n.val; rw [hi.2]; omega

/-- The product of the modulated rows and the weight. -/
def result (c : Dev nD) : Buf (Elt Ideal) ((c : Thread nD τ).loc main_v7) :=
  fun i : S32x2304x6144.Idx => (∑ k : Fin 1024, modulated (inX m c) (inL m c) (inC m c) 0 1 (i 0) (i 1) k * inW m c k (i 2) : EReal)

/-- A point's modulated rows are its rows of the modulated activations. -/
theorem read_modulated (c : Dev nD) (t : Fin cfg0.N) (r : Fin 256) (k : Fin 1024) :
    modulate ((iblk m c 0 t : Vec Ideal S1x256x1024 .f32) (ix3 0 r k)) ((iblk m c 1 t : Vec Ideal S1x1x6x1024 .f32) (ix4 0 0 1 k)) ((iblk m c 1 t : Vec Ideal S1x1x6x1024 .f32) (ix4 0 0 0 k))
      = modulated (inX m c) (inL m c) (inC m c) 0 1 ⟨t.val / 9, by have := point_lt t; omega⟩ ⟨256 * (t.val % 9) + r.val, by omega⟩ k := by
  have hc : (t.val % 9 = 0) = (256 * (t.val % 9) + r.val < 256) := propext (by omega)
  unfold modulated
  refine congrArg₂ (· + ·) (congrArg₂ (fun p q => p * (_ + q)) (read_x m c t r k) ((read_m m c t 1 k).trans ?_)) ((read_m m c t 0 k).trans ?_) <;>
    (unfold modRow; simp only [hc])

/-- What a point writes back is its block of the product. -/
theorem flushed_eq (c : Dev nD) (t : Fin cfg0.N) :
    (dats m 0 c).flushed 3 t = ((cfg0.win 3).blk t).view.read (Elt Ideal) (result m c) := by
  rw [flushed3]
  refine funext fun (y : S1x256x6144.Idx) => ?_
  refine Eq.trans (out_apply _ _ _ y) ?_
  rw [View.read_apply]
  have hi := index_3 t
  have h0 : (y 0).val < 1 := (y 0).isLt
  have e : ((cfg0.win 3).blk t).view.emb y = ix3 ⟨t.val / 9, by have := point_lt t; omega⟩ ⟨256 * (t.val % 9) + (y 1).val, by have h : (y 1).val < 256 := (y 1).isLt; omega⟩ (y 2) := by
    funext a
    apply Fin.ext
    match a with
    | ⟨0, _⟩ => show win0_3.index t 0 * 1 + 1 * (y 0).val = t.val / 9; rw [hi.1]; omega
    | ⟨1, _⟩ => show win0_3.index t 1 * 256 + 1 * (y 1).val = 256 * (t.val % 9) + (y 1).val; rw [hi.2.1]; omega
    | ⟨2, _⟩ => show win0_3.index t 2 * 6144 + 1 * (y 2).val = (y 2).val; rw [hi.2.2]; omega
  refine Eq.trans ?_ (congrArg (result m c) e).symm
  refine Finset.sum_congr rfl fun k _ => ?_
  exact congrArg₂ (· * ·) (read_modulated m c t (y 1) k) (read_w m c t k (y 2))

/-- So the output array ends as the product. -/
theorem final (c : Dev nD) : (dats m 0 c).arrAt 3 cfg0.N = result m c :=
  (dats m 0 c).arrAt_eq_of_cover 3 (result m c) (fun t _ => flushed_eq m c t) fun i : S32x2304x6144.Idx => by
    have h0 : (i 0 : Nat) < 32 := (i 0).isLt
    have h1 : (i 1 : Nat) < 2304 := (i 1).isLt
    have h2 : (i 2 : Nat) < 6144 := (i 2).isLt
    have hN : cfg0.N = 288 := N_0
    obtain ⟨t, ht⟩ : ∃ t : Fin cfg0.N, t.val = 9 * (i 0 : Nat) + (i 1 : Nat) / 256 := ⟨⟨9 * (i 0 : Nat) + (i 1 : Nat) / 256, by omega⟩, rfl⟩
    refine ⟨t, flush0_3 t, ?_⟩
    have hi := index_3 t
    show i ∈ ((View.whole main_v7).slice (win0_3.rect t)).set
    rw [View.set_slice_whole, Rect.mem_set_unit]
    intro a
    match a with
    | ⟨0, _⟩ => show win0_3.index t 0 * 1 ≤ (i 0 : Nat) ∧ (i 0 : Nat) < win0_3.index t 0 * 1 + 1
                rw [hi.1]; omega
    | ⟨1, _⟩ => show win0_3.index t 1 * 256 ≤ (i 1 : Nat) ∧ (i 1 : Nat) < win0_3.index t 1 * 256 + 256
                rw [hi.2.1]; omega
    | ⟨2, _⟩ => show win0_3.index t 2 * 6144 ≤ (i 2 : Nat) ∧ (i 2 : Nat) < win0_3.index t 2 * 6144 + 6144
                rw [hi.2.2]; omega

end Cert.Kernel3Ideal.Proj

namespace Cert.Reference3Ideal.Proj
open Cert.Reference3Ideal Cert.Reference3Ideal.Read Cert.Proj

variable (x0 : FVec Ideal S32x2304x1024 .f32) (x1 : FVec Ideal S32x6144 .f32) (x2 : FVec Ideal S6144 .f32) (x3 : FVec Ideal S1024x6208 .f32)

/-- The context's rows of the product. -/
theorem dot_ctx (a : Fin 32) (b : Fin 256) (d : Fin 6144) :
    val_main_v35 (F := Ideal) x0 x2 x3 (ix3 a b d) = ∑ k : Fin 1024, val_main_v27 (F := Ideal) x0 x2 (ix3 a b k) * x3 (ix2 k ⟨d.val, by omega⟩) := by
  pointwise [val_main_v35, val_main_v34]

/-- The latent's. -/
theorem dot_lat (a : Fin 32) (b : Fin 2048) (d : Fin 6144) :
    val_main_v37 (F := Ideal) x0 x1 x3 (ix3 a b d) = ∑ k : Fin 1024, val_main_v33 (F := Ideal) x0 x1 (ix3 a b k) * x3 (ix2 k ⟨d.val, by omega⟩) := by
  pointwise [val_main_v37, val_main_v36]

/-- The reference's product. -/
theorem out_apply (a : Fin 32) (b : Fin 2304) (d : Fin 6144) :
    val_main_v38 (F := Ideal) x0 x1 x2 x3 (ix3 a b d) = ∑ k : Fin 1024, modulated x0 x1 x2 0 1 a b k * x3 (ix2 k ⟨d.val, by omega⟩) := by
  unfold val_main_v38
  refine (join_apply _ _ _ a b d).trans ?_
  by_cases hb : b.val < 256
  · rw [dif_pos hb, dot_ctx]
    exact Finset.sum_congr rfl fun k _ => congrArg (· * _) (Cert.Reference2Ideal.Proj.ctx_apply x0 x1 x2 a ⟨b.val, hb⟩ k)
  · rw [dif_neg hb, dot_lat]
    have e : (⟨256 + (b.val - 256), by omega⟩ : Fin 2304) = b := Fin.ext (by dsimp only; omega)
    exact Finset.sum_congr rfl fun k _ => congrArg (· * _) ((Cert.Reference2Ideal.Proj.lat_apply x0 x1 x2 a ⟨b.val - 256, by omega⟩ k).trans (congrArg (fun b => modulated x0 x1 x2 0 1 a b k) e))

end Cert.Reference3Ideal.Proj

namespace Cert.Proj

theorem frame_Reference3Ideal : Cert.quiescent_Reference3Ideal := fun m ρ _ =>
  (θ_run _ _ _).mono (fun r h => ⟨fun c => (h c).2, Idealize.ShloMosaic.sem_eq_zero_of_no_sems (by decide) r.2⟩) (Cert.Reference3Ideal.Value.run m ρ)

/-- The kernel's projection and the reference's are the same array. -/
theorem algebraic3 : Cert.algebraic_Kernel3Ideal_Reference3Ideal := fun m g m' g' _ ha =>
  ⟨fun c => Cert.Kernel3Ideal.Proj.result m c,
    (θ_run _ _ _).mono (fun r h c => ⟨(h c).1.trans (Cert.Kernel3Ideal.Proj.final m c), (h c).2⟩) (Cert.Kernel3Ideal.Value.run_blocks m g),
    (θ_run _ _ _).mono (fun r h c => ⟨(h c).1.trans (by
      rw [Cert.Reference3Ideal.Read.val_main_v38_eq, (ha c).1, (ha c).2.1, (ha c).2.2.1, (ha c).2.2.2]
      exact funext fun i : Cert.Kernel3Ideal.S32x2304x6144.Idx => (congrArg _ (eq_ix3 i)).trans (Cert.Reference3Ideal.Proj.out_apply _ _ _ _ (i 0) (i 1) (i 2))), (h c).2⟩) (Cert.Reference3Ideal.Value.run m' g')⟩

end Cert.Proj
end
-- ==== Proof.Proj.DiffQkv.lean ====
/-
  The differential attention's projection: the kernel's output array and the reference's are one product of modulated rows.
-/
module

public import proofs.«01_k».proof.Defs
public import proofs.«01_k».proof.Proof.Proj.Up
public import proofs.«01_k».proof.Proof.Gen.Kernel4Ideal.Value
public import proofs.«01_k».proof.Proof.Gen.Reference4Ideal.Run
public import proofs.«01_k».proof.Proof.Gen.Reference4Ideal.Read
public import Idealize.ShloMosaic.Lib.StableHlo.Run
public import Idealize.ShloMosaic.Lib.Quiescent

@[expose] public section

set_option maxRecDepth 16384
noncomputable section
open Idealize.ShloMosaic Idealize.ShloMosaic.TcCoe Idealize.SL.Sem
open Idealize.ShloMosaic.Pipeline (Dat)

namespace Cert.Kernel4Ideal.Proj
open Cert.Kernel4Ideal Cert.Kernel4Ideal.Gen Cert.Kernel4Ideal.Value Cert.Proj

/-- The whole block. -/
theorem out_apply (x0 : Vec Ideal S1x256x1024 .f32) (x1 : Vec Ideal S1x1x6x1024 .f32) (x2 : Vec Ideal S1024x3072 .bf16) (y : S1x256x3072.Idx) :
    out0_3 x0 x1 x2 y = ∑ k : Fin 1024, (x0 (ix3 0 (y 1) k) * (Ideal.ofBits .f32 0x3F800000#32 + x1 (ix4 0 0 1 k)) + x1 (ix4 0 0 0 k)) * x2 (ix2 k (y 2)) := by
  have hb : ∀ (o : Nat) (i) (h : ∀ n : Fin 1024, o + n.val < 3072) (r : Fin 256) (n : Fin 1024),
      k0_pay3 (View.ld x0 r0_0) (View.ld x1 r0_1) (View.ld x1 r0_2) (View.ld x2 (Rect.unit (s := S1024x3072) ![0, o] ![1024, 1024] i)) (ix3 0 r n)
        = ∑ k : Fin 1024, (x0 (ix3 0 r k) * (Ideal.ofBits .f32 0x3F800000#32 + x1 (ix4 0 0 1 k)) + x1 (ix4 0 0 0 k)) * x2 (ix2 k ⟨o + n.val, h n⟩) := by
    intro o i h r n
    refine (Cert.Kernel2Ideal.Proj.band (Cert.Kernel2Ideal.Gen.k0_pay5 _ _ _) _ 0 r n).trans ?_
    refine Finset.sum_congr rfl fun k _ => ?_
    rw [ld_cols x2 o i k n (h n)]
    refine congrArg (· * _) ?_
    rw [Cert.Kernel2Ideal.Proj.rows_apply]
    exact congrArg₂ (· + ·) (congrArg₂ (fun p q => p * (_ + q)) (ld_rows x0 _ 0 r k) (ld_mod x1 1 (by decide) _ 0 0 0 k)) (ld_mod x1 0 (by decide) _ 0 0 0 k)
  unfold out0_3
  refine canon_cols (fun r n => ∑ k : Fin 1024, (x0 (ix3 0 r k) * (Ideal.ofBits .f32 0x3F800000#32 + x1 (ix4 0 0 1 k)) + x1 (ix4 0 0 0 k)) * x2 (ix2 k n)) _ ?_ ?_ y
  · intro p hp
    simp only [List.mem_cons, List.not_mem_nil, or_false] at hp
    rcases hp with rfl | rfl | rfl
    · exact ⟨2048, _, fun n => by omega, _, rfl, hb 2048 _ _⟩
    · exact ⟨1024, _, fun n => by omega, _, rfl, hb 1024 _ _⟩
    · exact ⟨0, _, fun n => by omega, _, rfl, hb 0 _ _⟩
  · intro n
    have hn : n.val / 1024 = 0 ∨ n.val / 1024 = 1 ∨ n.val / 1024 = 2 := by omega
    rcases hn with e | e | e <;> rw [e]
    · exact ⟨_, .tail _ (.tail _ (.head _)), inb_S1x256x3072_S1x256x1024_0_0_0, rfl⟩
    · exact ⟨_, .tail _ (.head _), inb_S1x256x3072_S1x256x1024_0_0_1024, rfl⟩
    · exact ⟨_, .head _, inb_S1x256x3072_S1x256x1024_0_0_2048, rfl⟩

theorem index_0 : ∀ t : Fin cfg0.N, win0_0.index t 0 = t.val / 9 ∧ win0_0.index t 1 = t.val % 9 ∧ win0_0.index t 2 = 0 := by decide +kernel
theorem index_1 : ∀ t : Fin cfg0.N, win0_1.index t 0 = t.val / 9 ∧ win0_1.index t 1 = t.val % 9 ∧ win0_1.index t 2 = 0 ∧ win0_1.index t 3 = 0 := by decide +kernel
theorem index_2 : ∀ t : Fin cfg0.N, win0_2.index t 0 = 0 ∧ win0_2.index t 1 = 0 := by decide +kernel
theorem index_3 : ∀ t : Fin cfg0.N, win0_3.index t 0 = t.val / 9 ∧ win0_3.index t 1 = t.val % 9 ∧ win0_3.index t 2 = 0 := by decide +kernel

theorem point_lt (t : Fin cfg0.N) : t.val < 288 := lt_of_lt_of_eq t.isLt N_0

variable (m : (ℓ : Loc nD τ sig) → Buf (Elt Ideal) ℓ)

/-- The activations, the latent's and the context's modulation, and the weight. -/
def inX (c : Dev nD) : Vec Ideal S32x2304x1024 .f32 := m ((c : Thread nD τ).loc main_arg0)
def inL (c : Dev nD) : Vec Ideal S32x6144 .f32 := m ((c : Thread nD τ).loc main_arg1)
def inC (c : Dev nD) : Vec Ideal S6144 .f32 := m ((c : Thread nD τ).loc main_arg2)
def inW (c : Dev nD) (k : Fin 1024) (n : Fin 3072) : EReal := (m ((c : Thread nD τ).loc main_arg3) : Vec Ideal S1024x3072 .f32) (ix2 k n)

/-- The rows' block is its rows of the activations. -/
theorem read_x (c : Dev nD) (t : Fin cfg0.N) (r : Fin 256) (k : Fin 1024) :
    (iblk m c 0 t : Vec Ideal S1x256x1024 .f32) (ix3 0 r k)
      = inX m c (ix3 ⟨t.val / 9, by have := point_lt t; omega⟩ ⟨256 * (t.val % 9) + r.val, by omega⟩ k) := by
  unfold inX
  rw [← V_main_arg0 m c]
  unfold iblk
  rw [View.read_apply]
  show V m c main_arg0 _ = V m c main_arg0 _
  congr 1
  have hi := index_0 t
  funext a
  apply Fin.ext
  match a with
  | ⟨0, _⟩ => show win0_0.index t 0 * 1 + 1 * 0 = t.val / 9; rw [hi.1]; omega
  | ⟨1, _⟩ => show win0_0.index t 1 * 256 + 1 * r.val = 256 * (t.val % 9) + r.val; rw [hi.2.1]; omega
  | ⟨2, _⟩ => show win0_0.index t 2 * 1024 + 1 * k.val = k.val; rw [hi.2.2]; omega

/-- The modulation's block has the rows of its batch and block. -/
theorem read_m (c : Dev nD) (t : Fin cfg0.N) (s : Fin 6) (k : Fin 1024) :
    (iblk m c 1 t : Vec Ideal S1x1x6x1024 .f32) (ix4 0 0 s k)
      = modRow (inL m c) (inC m c) ⟨t.val / 9, by have := point_lt t; omega⟩ (t.val % 9 = 0) s k := by
  have e : V m c main_v4 (ix4 ⟨t.val / 9, by have := point_lt t; omega⟩ ⟨t.val % 9, by omega⟩ s k)
      = modRow (inL m c) (inC m c) ⟨t.val / 9, by have := point_lt t; omega⟩ (t.val % 9 = 0) s k := by
    refine Eq.trans ?_ (mods_apply (inL m c) (inC m c) shapeCasts_S32x6144_S32x1x6x1024 shapeCasts_S6144_S1x1x6x1024 bcast_S1x1x6x1024_S32x1x6x1024_0_1_2_3
      bcast_S32x1x6x1024_S32x8x6x1024_0_1_2_3 concatenates_S32x1x6x1024_S32x8x6x1024_S32x9x6x1024_d1 _ ⟨t.val % 9, by omega⟩ s k)
    unfold V
    after_results_simp <;> rfl
  rw [← e]
  unfold iblk
  rw [View.read_apply]
  show V m c main_v4 _ = V m c main_v4 _
  congr 1
  have hi := index_1 t
  funext a
  apply Fin.ext
  match a with
  | ⟨0, _⟩ => show win0_1.index t 0 * 1 + 1 * 0 = t.val / 9; rw [hi.1]; omega
  | ⟨1, _⟩ => show win0_1.index t 1 * 1 + 1 * 0 = t.val % 9; rw [hi.2.1]; omega
  | ⟨2, _⟩ => show win0_1.index t 2 * 6 + 1 * s.val = s.val; rw [hi.2.2.1]; omega
  | ⟨3, _⟩ => show win0_1.index t 3 * 1024 + 1 * k.val = k.val; rw [hi.2.2.2]; omega

/-- The weight's block is the weight. -/
theorem read_w (c : Dev nD) (t : Fin cfg0.N) (k : Fin 1024) (n : Fin 3072) :
    (iblk m c 2 t : Vec Ideal S1024x3072 .bf16) (ix2 k n) = inW m c k n := by
  unfold inW
  have e : V m c main_v5 = (m ((c : Thread nD τ).loc main_arg3) : Vec Ideal S1024x3072 .f32) := by
    unfold V
    after_results_simp <;> rfl
  rw [← e]
  unfold iblk
  rw [View.read_apply]
  show V m c main_v5 _ = V m c main_v5 _
  congr 1
  have hi := index_2 t
  funext a
  apply Fin.ext
  match a with
  | ⟨0, _⟩ => show win0_2.index t 0 * 1024 + 1 * k.val = k.val; rw [hi.1]; omega
  | ⟨1, _⟩ => show win0_2.index t 1 * 3072 + 1 * n.val = n.val; rw [hi.2]; omega

/-- The product of the modulated rows and the weight. -/
def result (c : Dev nD) : Buf (Elt Ideal) ((c : Thread nD τ).loc main_v6) :=
  fun i : S32x2304x3072.Idx => (∑ k : Fin 1024, modulated (inX m c) (inL m c) (inC m c) 0 1 (i 0) (i 1) k * inW m c k (i 2) : EReal)

/-- A point's modulated rows are its rows of the modulated activations. -/
theorem read_modulated (c : Dev nD) (t : Fin cfg0.N) (r : Fin 256) (k : Fin 1024) :
    modulate ((iblk m c 0 t : Vec Ideal S1x256x1024 .f32) (ix3 0 r k)) ((iblk m c 1 t : Vec Ideal S1x1x6x1024 .f32) (ix4 0 0 1 k)) ((iblk m c 1 t : Vec Ideal S1x1x6x1024 .f32) (ix4 0 0 0 k))
      = modulated (inX m c) (inL m c) (inC m c) 0 1 ⟨t.val / 9, by have := point_lt t; omega⟩ ⟨256 * (t.val % 9) + r.val, by omega⟩ k := by
  have hc : (t.val % 9 = 0) = (256 * (t.val % 9) + r.val < 256) := propext (by omega)
  unfold modulated
  refine congrArg₂ (· + ·) (congrArg₂ (fun p q => p * (_ + q)) (read_x m c t r k) ((read_m m c t 1 k).trans ?_)) ((read_m m c t 0 k).trans ?_) <;>
    (unfold modRow; simp only [hc])

/-- What a point writes back is its block of the product. -/
theorem flushed_eq (c : Dev nD) (t : Fin cfg0.N) :
    (dats m 0 c).flushed 3 t = ((cfg0.win 3).blk t).view.read (Elt Ideal) (result m c) := by
  rw [flushed3]
  refine funext fun (y : S1x256x3072.Idx) => ?_
  refine Eq.trans (out_apply _ _ _ y) ?_
  rw [View.read_apply]
  have hi := index_3 t
  have h0 : (y 0).val < 1 := (y 0).isLt
  have e : ((cfg0.win 3).blk t).view.emb y = ix3 ⟨t.val / 9, by have := point_lt t; omega⟩ ⟨256 * (t.val % 9) + (y 1).val, by have h : (y 1).val < 256 := (y 1).isLt; omega⟩ (y 2) := by
    funext a
    apply Fin.ext
    match a with
    | ⟨0, _⟩ => show win0_3.index t 0 * 1 + 1 * (y 0).val = t.val / 9; rw [hi.1]; omega
    | ⟨1, _⟩ => show win0_3.index t 1 * 256 + 1 * (y 1).val = 256 * (t.val % 9) + (y 1).val; rw [hi.2.1]; omega
    | ⟨2, _⟩ => show win0_3.index t 2 * 3072 + 1 * (y 2).val = (y 2).val; rw [hi.2.2]; omega
  refine Eq.trans ?_ (congrArg (result m c) e).symm
  refine Finset.sum_congr rfl fun k _ => ?_
  exact congrArg₂ (· * ·) (read_modulated m c t (y 1) k) (read_w m c t k (y 2))

/-- So the output array ends as the product. -/
theorem final (c : Dev nD) : (dats m 0 c).arrAt 3 cfg0.N = result m c :=
  (dats m 0 c).arrAt_eq_of_cover 3 (result m c) (fun t _ => flushed_eq m c t) fun i : S32x2304x3072.Idx => by
    have h0 : (i 0 : Nat) < 32 := (i 0).isLt
    have h1 : (i 1 : Nat) < 2304 := (i 1).isLt
    have h2 : (i 2 : Nat) < 3072 := (i 2).isLt
    have hN : cfg0.N = 288 := N_0
    obtain ⟨t, ht⟩ : ∃ t : Fin cfg0.N, t.val = 9 * (i 0 : Nat) + (i 1 : Nat) / 256 := ⟨⟨9 * (i 0 : Nat) + (i 1 : Nat) / 256, by omega⟩, rfl⟩
    refine ⟨t, flush0_3 t, ?_⟩
    have hi := index_3 t
    show i ∈ ((View.whole main_v6).slice (win0_3.rect t)).set
    rw [View.set_slice_whole, Rect.mem_set_unit]
    intro a
    match a with
    | ⟨0, _⟩ => show win0_3.index t 0 * 1 ≤ (i 0 : Nat) ∧ (i 0 : Nat) < win0_3.index t 0 * 1 + 1
                rw [hi.1]; omega
    | ⟨1, _⟩ => show win0_3.index t 1 * 256 ≤ (i 1 : Nat) ∧ (i 1 : Nat) < win0_3.index t 1 * 256 + 256
                rw [hi.2.1]; omega
    | ⟨2, _⟩ => show win0_3.index t 2 * 3072 ≤ (i 2 : Nat) ∧ (i 2 : Nat) < win0_3.index t 2 * 3072 + 3072
                rw [hi.2.2]; omega

end Cert.Kernel4Ideal.Proj

namespace Cert.Reference4Ideal.Proj
open Cert.Reference4Ideal Cert.Reference4Ideal.Read Cert.Proj

variable (x0 : FVec Ideal S32x2304x1024 .f32) (x1 : FVec Ideal S32x6144 .f32) (x2 : FVec Ideal S6144 .f32) (x3 : FVec Ideal S1024x3072 .f32)

/-- The context's rows of the product. -/
theorem dot_ctx (a : Fin 32) (b : Fin 256) (d : Fin 3072) :
    val_main_v34 (F := Ideal) x0 x2 x3 (ix3 a b d) = ∑ k : Fin 1024, val_main_v27 (F := Ideal) x0 x2 (ix3 a b k) * x3 (ix2 k d) := by
  pointwise [val_main_v34]

/-- The latent's. -/
theorem dot_lat (a : Fin 32) (b : Fin 2048) (d : Fin 3072) :
    val_main_v35 (F := Ideal) x0 x1 x3 (ix3 a b d) = ∑ k : Fin 1024, val_main_v33 (F := Ideal) x0 x1 (ix3 a b k) * x3 (ix2 k d) := by
  pointwise [val_main_v35]

/-- The reference's product. -/
theorem out_apply (a : Fin 32) (b : Fin 2304) (d : Fin 3072) :
    val_main_v36 (F := Ideal) x0 x1 x2 x3 (ix3 a b d) = ∑ k : Fin 1024, modulated x0 x1 x2 0 1 a b k * x3 (ix2 k d) := by
  unfold val_main_v36
  refine (join_apply _ _ _ a b d).trans ?_
  by_cases hb : b.val < 256
  · rw [dif_pos hb, dot_ctx]
    exact Finset.sum_congr rfl fun k _ => congrArg (· * _) (Cert.Reference2Ideal.Proj.ctx_apply x0 x1 x2 a ⟨b.val, hb⟩ k)
  · rw [dif_neg hb, dot_lat]
    have e : (⟨256 + (b.val - 256), by omega⟩ : Fin 2304) = b := Fin.ext (by dsimp only; omega)
    exact Finset.sum_congr rfl fun k _ => congrArg (· * _) ((Cert.Reference2Ideal.Proj.lat_apply x0 x1 x2 a ⟨b.val - 256, by omega⟩ k).trans (congrArg (fun b => modulated x0 x1 x2 0 1 a b k) e))

end Cert.Reference4Ideal.Proj

namespace Cert.Proj

theorem frame_Reference4Ideal : Cert.quiescent_Reference4Ideal := fun m ρ _ =>
  (θ_run _ _ _).mono (fun r h => ⟨fun c => (h c).2, Idealize.ShloMosaic.sem_eq_zero_of_no_sems (by decide) r.2⟩) (Cert.Reference4Ideal.Value.run m ρ)

/-- The kernel's projection and the reference's are the same array. -/
theorem algebraic4 : Cert.algebraic_Kernel4Ideal_Reference4Ideal := fun m g m' g' _ ha =>
  ⟨fun c => Cert.Kernel4Ideal.Proj.result m c,
    (θ_run _ _ _).mono (fun r h c => ⟨(h c).1.trans (Cert.Kernel4Ideal.Proj.final m c), (h c).2⟩) (Cert.Kernel4Ideal.Value.run_blocks m g),
    (θ_run _ _ _).mono (fun r h c => ⟨(h c).1.trans (by
      rw [Cert.Reference4Ideal.Read.val_main_v36_eq, (ha c).1, (ha c).2.1, (ha c).2.2.1, (ha c).2.2.2]
      exact funext fun i : Cert.Kernel4Ideal.S32x2304x3072.Idx => (congrArg _ (eq_ix3 i)).trans (Cert.Reference4Ideal.Proj.out_apply _ _ _ _ (i 0) (i 1) (i 2))), (h c).2⟩) (Cert.Reference4Ideal.Value.run m' g')⟩

end Cert.Proj
end
-- ==== Proof.Proj.PeerQ.lean ====
/-
  The experts' query projection, its columns by head: the kernel's output array and the reference's are one product of modulated rows.
-/
module

public import proofs.«01_k».proof.Defs
public import proofs.«01_k».proof.Proof.Proj.Up
public import proofs.«01_k».proof.Proof.Gen.Kernel5Ideal.Value
public import proofs.«01_k».proof.Proof.Gen.Reference5Ideal.Run
public import proofs.«01_k».proof.Proof.Gen.Reference5Ideal.Read
public import Idealize.ShloMosaic.Lib.StableHlo.Run
public import Idealize.ShloMosaic.Lib.Quiescent

@[expose] public section

set_option maxRecDepth 16384
noncomputable section
open Idealize.ShloMosaic Idealize.ShloMosaic.TcCoe Idealize.SL.Sem
open Idealize.ShloMosaic.Pipeline (Dat)

namespace Cert.Kernel5Ideal.Proj
open Cert.Kernel5Ideal Cert.Kernel5Ideal.Gen Cert.Kernel5Ideal.Value Cert.Proj

/-- The columns of one head. -/
theorem head_apply (v : FVec Ideal S256x1024 .bf16) (q : Nat) (hq : q + 128 ≤ 1024) (hs) (hc : S256x128.ShapeCasts S1x1x256x128) (r : Fin 256) (d : Fin 128) :
    shapeCast S1x1x256x128 (extractStridedSlice S256x128 ![0, q] v hs) hc (ix4 0 0 r d) = v (ix2 r ⟨q + d.val, by omega⟩) := by
  pointwise

/-- A piece holding one head holds its part of the block. -/
theorem piece (G : Fin 16 → Fin 256 → Fin 128 → EReal) (sp : Fin 16) (i) (w : Vec Ideal S1x1x256x128 .bf16) (hw : ∀ r d, w (ix4 0 0 r d) = G sp r d) (x : S1x1x256x128.Idx) :
    w x = G ((Rect.unit (s := S16x1x256x128) ![sp.val, 0, 0, 0] S1x1x256x128.size i).emb x 0) ((Rect.unit (s := S16x1x256x128) ![sp.val, 0, 0, 0] S1x1x256x128.size i).emb x 2)
      ((Rect.unit (s := S16x1x256x128) ![sp.val, 0, 0, 0] S1x1x256x128.size i).emb x 3) := by
  have h0 : (x 0).val < 1 := (x 0).isLt
  have h1 : (x 1).val < 1 := (x 1).isLt
  have hz : x = ix4 0 0 (x 2) (x 3) := by
    funext a
    match a with
    | ⟨0, _⟩ => exact Fin.ext (by show (x 0).val = 0; omega)
    | ⟨1, _⟩ => exact Fin.ext (by show (x 1).val = 0; omega)
    | ⟨2, _⟩ => rfl
    | ⟨3, _⟩ => rfl
  refine ((congrArg w hz).trans (hw (x 2) (x 3))).trans ?_
  exact congr (congr (congrArg G (Fin.ext (by show sp.val = sp.val + 1 * (x 0).val; omega))) (Fin.ext (by show (x 2).val = 0 + 1 * (x 2).val; omega)))
    (Fin.ext (by show (x 3).val = 0 + 1 * (x 3).val; omega))

/-- Half of the product. -/
theorem half_apply (v : FVec Ideal S256x1024 .bf16) (w : Vec Ideal S1024x1024 .bf16) (r : Fin 256) (n : Fin 1024) :
    k0_pay12 v w (ix2 r n) = ∑ k : Fin 1024, v (ix2 r k) * w (ix2 k n) := by
  pointwise [k0_pay12]

/-- A block's product, its columns by head. -/
def heads (x0 : Vec Ideal S1x256x1024 .f32) (x1 : Vec Ideal S1x1x6x1024 .f32) (x2 : Vec Ideal S1024x2048 .bf16) (sp : Fin 16) (r : Fin 256) (d : Fin 128) : EReal :=
  ∑ k : Fin 1024, modulate (x0 (ix3 0 r k)) (x1 (ix4 0 0 4 k)) (x1 (ix4 0 0 3 k)) * x2 (ix2 k ⟨sp.val * 128 + d.val, by omega⟩)

/-- One head's columns, from the half of the product that has them. -/
theorem head_eq (x0 : Vec Ideal S1x256x1024 .f32) (x1 : Vec Ideal S1x1x6x1024 .f32) (x2 : Vec Ideal S1024x2048 .bf16)
    (o q : Nat) (i) (hs) (hc : S256x128.ShapeCasts S1x1x256x128) (sp : Fin 16) (e : o + q = sp.val * 128) (hq : q + 128 ≤ 1024) (r : Fin 256) (d : Fin 128) :
    shapeCast S1x1x256x128 (extractStridedSlice S256x128 ![0, q] (k0_pay12 (k0_pay22 x0 x1 x2) (View.ld x2 (Rect.unit (s := S1024x2048) ![0, o] ![1024, 1024] i))) hs) hc (ix4 0 0 r d)
      = heads x0 x1 x2 sp r d := by
  rw [head_apply _ q hq, half_apply]
  refine Finset.sum_congr rfl fun k _ => ?_
  refine congrArg₂ (· * ·) ((Cert.Kernel2Ideal.Proj.rows_apply _ _ _ r k).trans <| congrArg₂ (· + ·) (congrArg₂ (fun p q => p * (_ + q)) (ld_rows x0 _ 0 r k) (ld_mod x1 4 (by decide) _ 0 0 0 k)) (ld_mod x1 3 (by decide) _ 0 0 0 k)) ?_
  refine (ld_cols x2 o i k _ (by show o + (q + d.val) < 2048; omega)).trans (congrArg (fun n => x2 (ix2 k n)) (Fin.ext ?_))
  show o + (q + d.val) = sp.val * 128 + d.val
  omega

/-- The whole block. -/
theorem out_apply (x0 : Vec Ideal S1x256x1024 .f32) (x1 : Vec Ideal S1x1x6x1024 .f32) (x2 : Vec Ideal S1024x2048 .bf16) (y : S16x1x256x128.Idx) :
    out0_3 x0 x1 x2 y = heads x0 x1 x2 (y 0) (y 2) (y 3) := by
  unfold out0_3
  refine View.canon_apply_of_pieces (Val := Elt Ideal) (e := .bf16) (fun y : S16x1x256x128.Idx => (heads x0 x1 x2 (y 0) (y 2) (y 3) : Elt Ideal .bf16)) _ ?_ y (cover0_3 _ _ _ _ _ _ _ _ _ _ _ _ _ _ _ _ y)
  · intro p hm x
    simp only [List.mem_cons, List.not_mem_nil, or_false] at hm
    rcases hm with rfl | rfl | rfl | rfl | rfl | rfl | rfl | rfl | rfl | rfl | rfl | rfl | rfl | rfl | rfl | rfl
    · exact piece (heads x0 x1 x2) 15 inb_S16x1x256x128_S1x1x256x128_15_0_0_0 _ (head_eq x0 x1 x2 1024 896 inb_S1024x2048_S1024x1024_0_1024 slices_S256x1024_o0_896_S256x128 shapeCasts_S256x128_S1x1x256x128 15 rfl (by decide)) x
    · exact piece (heads x0 x1 x2) 14 inb_S16x1x256x128_S1x1x256x128_14_0_0_0 _ (head_eq x0 x1 x2 1024 768 inb_S1024x2048_S1024x1024_0_1024 slices_S256x1024_o0_768_S256x128 shapeCasts_S256x128_S1x1x256x128 14 rfl (by decide)) x
    · exact piece (heads x0 x1 x2) 13 inb_S16x1x256x128_S1x1x256x128_13_0_0_0 _ (head_eq x0 x1 x2 1024 640 inb_S1024x2048_S1024x1024_0_1024 slices_S256x1024_o0_640_S256x128 shapeCasts_S256x128_S1x1x256x128 13 rfl (by decide)) x
    · exact piece (heads x0 x1 x2) 12 inb_S16x1x256x128_S1x1x256x128_12_0_0_0 _ (head_eq x0 x1 x2 1024 512 inb_S1024x2048_S1024x1024_0_1024 slices_S256x1024_o0_512_S256x128 shapeCasts_S256x128_S1x1x256x128 12 rfl (by decide)) x
    · exact piece (heads x0 x1 x2) 11 inb_S16x1x256x128_S1x1x256x128_11_0_0_0 _ (head_eq x0 x1 x2 1024 384 inb_S1024x2048_S1024x1024_0_1024 slices_S256x1024_o0_384_S256x128 shapeCasts_S256x128_S1x1x256x128 11 rfl (by decide)) x
    · exact piece (heads x0 x1 x2) 10 inb_S16x1x256x128_S1x1x256x128_10_0_0_0 _ (head_eq x0 x1 x2 1024 256 inb_S1024x2048_S1024x1024_0_1024 slices_S256x1024_o0_256_S256x128 shapeCasts_S256x128_S1x1x256x128 10 rfl (by decide)) x
    · exact piece (heads x0 x1 x2) 9 inb_S16x1x256x128_S1x1x256x128_9_0_0_0 _ (head_eq x0 x1 x2 1024 128 inb_S1024x2048_S1024x1024_0_1024 slices_S256x1024_o0_128_S256x128 shapeCasts_S256x128_S1x1x256x128 9 rfl (by decide)) x
    · exact piece (heads x0 x1 x2) 8 inb_S16x1x256x128_S1x1x256x128_8_0_0_0 _ (head_eq x0 x1 x2 1024 0 inb_S1024x2048_S1024x1024_0_1024 slices_S256x1024_o0_0_S256x128 shapeCasts_S256x128_S1x1x256x128 8 rfl (by decide)) x
    · exact piece (heads x0 x1 x2) 7 inb_S16x1x256x128_S1x1x256x128_7_0_0_0 _ (head_eq x0 x1 x2 0 896 inb_S1024x2048_S1024x1024_0_0 slices_S256x1024_o0_896_S256x128 shapeCasts_S256x128_S1x1x256x128 7 rfl (by decide)) x
    · exact piece (heads x0 x1 x2) 6 inb_S16x1x256x128_S1x1x256x128_6_0_0_0 _ (head_eq x0 x1 x2 0 768 inb_S1024x2048_S1024x1024_0_0 slices_S256x1024_o0_768_S256x128 shapeCasts_S256x128_S1x1x256x128 6 rfl (by decide)) x
    · exact piece (heads x0 x1 x2) 5 inb_S16x1x256x128_S1x1x256x128_5_0_0_0 _ (head_eq x0 x1 x2 0 640 inb_S1024x2048_S1024x1024_0_0 slices_S256x1024_o0_640_S256x128 shapeCasts_S256x128_S1x1x256x128 5 rfl (by decide)) x
    · exact piece (heads x0 x1 x2) 4 inb_S16x1x256x128_S1x1x256x128_4_0_0_0 _ (head_eq x0 x1 x2 0 512 inb_S1024x2048_S1024x1024_0_0 slices_S256x1024_o0_512_S256x128 shapeCasts_S256x128_S1x1x256x128 4 rfl (by decide)) x
    · exact piece (heads x0 x1 x2) 3 inb_S16x1x256x128_S1x1x256x128_3_0_0_0 _ (head_eq x0 x1 x2 0 384 inb_S1024x2048_S1024x1024_0_0 slices_S256x1024_o0_384_S256x128 shapeCasts_S256x128_S1x1x256x128 3 rfl (by decide)) x
    · exact piece (heads x0 x1 x2) 2 inb_S16x1x256x128_S1x1x256x128_2_0_0_0 _ (head_eq x0 x1 x2 0 256 inb_S1024x2048_S1024x1024_0_0 slices_S256x1024_o0_256_S256x128 shapeCasts_S256x128_S1x1x256x128 2 rfl (by decide)) x
    · exact piece (heads x0 x1 x2) 1 inb_S16x1x256x128_S1x1x256x128_1_0_0_0 _ (head_eq x0 x1 x2 0 128 inb_S1024x2048_S1024x1024_0_0 slices_S256x1024_o0_128_S256x128 shapeCasts_S256x128_S1x1x256x128 1 rfl (by decide)) x
    · exact piece (heads x0 x1 x2) 0 inb_S16x1x256x128_S1x1x256x128_0_0_0_0 _ (head_eq x0 x1 x2 0 0 inb_S1024x2048_S1024x1024_0_0 slices_S256x1024_o0_0_S256x128 shapeCasts_S256x128_S1x1x256x128 0 rfl (by decide)) x

theorem index_0 : ∀ t : Fin cfg0.N, win0_0.index t 0 = t.val / 9 ∧ win0_0.index t 1 = t.val % 9 ∧ win0_0.index t 2 = 0 := by decide +kernel
theorem index_1 : ∀ t : Fin cfg0.N, win0_1.index t 0 = t.val / 9 ∧ win0_1.index t 1 = t.val % 9 ∧ win0_1.index t 2 = 0 ∧ win0_1.index t 3 = 0 := by decide +kernel
theorem index_2 : ∀ t : Fin cfg0.N, win0_2.index t 0 = 0 ∧ win0_2.index t 1 = 0 := by decide +kernel
theorem index_3 : ∀ t : Fin cfg0.N, win0_3.index t 0 = 0 ∧ win0_3.index t 1 = t.val / 9 ∧ win0_3.index t 2 = t.val % 9 ∧ win0_3.index t 3 = 0 := by decide +kernel

theorem point_lt (t : Fin cfg0.N) : t.val < 288 := lt_of_lt_of_eq t.isLt N_0

variable (m : (ℓ : Loc nD τ sig) → Buf (Elt Ideal) ℓ)

/-- The activations, the latent's and the context's modulation, and the weight. -/
def inX (c : Dev nD) : Vec Ideal S32x2304x1024 .f32 := m ((c : Thread nD τ).loc main_arg0)
def inL (c : Dev nD) : Vec Ideal S32x6144 .f32 := m ((c : Thread nD τ).loc main_arg1)
def inC (c : Dev nD) : Vec Ideal S6144 .f32 := m ((c : Thread nD τ).loc main_arg2)
def inW (c : Dev nD) (k : Fin 1024) (n : Fin 2048) : EReal := (m ((c : Thread nD τ).loc main_arg3) : Vec Ideal S1024x2048 .f32) (ix2 k n)

/-- The rows' block is its rows of the activations. -/
theorem read_x (c : Dev nD) (t : Fin cfg0.N) (r : Fin 256) (k : Fin 1024) :
    (iblk m c 0 t : Vec Ideal S1x256x1024 .f32) (ix3 0 r k)
      = inX m c (ix3 ⟨t.val / 9, by have := point_lt t; omega⟩ ⟨256 * (t.val % 9) + r.val, by omega⟩ k) := by
  unfold inX
  rw [← V_main_arg0 m c]
  unfold iblk
  rw [View.read_apply]
  show V m c main_arg0 _ = V m c main_arg0 _
  congr 1
  have hi := index_0 t
  funext a
  apply Fin.ext
  match a with
  | ⟨0, _⟩ => show win0_0.index t 0 * 1 + 1 * 0 = t.val / 9; rw [hi.1]; omega
  | ⟨1, _⟩ => show win0_0.index t 1 * 256 + 1 * r.val = 256 * (t.val % 9) + r.val; rw [hi.2.1]; omega
  | ⟨2, _⟩ => show win0_0.index t 2 * 1024 + 1 * k.val = k.val; rw [hi.2.2]; omega

/-- The modulation's block has the rows of its batch and block. -/
theorem read_m (c : Dev nD) (t : Fin cfg0.N) (s : Fin 6) (k : Fin 1024) :
    (iblk m c 1 t : Vec Ideal S1x1x6x1024 .f32) (ix4 0 0 s k)
      = modRow (inL m c) (inC m c) ⟨t.val / 9, by have := point_lt t; omega⟩ (t.val % 9 = 0) s k := by
  have e : V m c main_v4 (ix4 ⟨t.val / 9, by have := point_lt t; omega⟩ ⟨t.val % 9, by omega⟩ s k)
      = modRow (inL m c) (inC m c) ⟨t.val / 9, by have := point_lt t; omega⟩ (t.val % 9 = 0) s k := by
    refine Eq.trans ?_ (mods_apply (inL m c) (inC m c) shapeCasts_S32x6144_S32x1x6x1024 shapeCasts_S6144_S1x1x6x1024 bcast_S1x1x6x1024_S32x1x6x1024_0_1_2_3
      bcast_S32x1x6x1024_S32x8x6x1024_0_1_2_3 concatenates_S32x1x6x1024_S32x8x6x1024_S32x9x6x1024_d1 _ ⟨t.val % 9, by omega⟩ s k)
    unfold V
    after_results_simp <;> rfl
  rw [← e]
  unfold iblk
  rw [View.read_apply]
  show V m c main_v4 _ = V m c main_v4 _
  congr 1
  have hi := index_1 t
  funext a
  apply Fin.ext
  match a with
  | ⟨0, _⟩ => show win0_1.index t 0 * 1 + 1 * 0 = t.val / 9; rw [hi.1]; omega
  | ⟨1, _⟩ => show win0_1.index t 1 * 1 + 1 * 0 = t.val % 9; rw [hi.2.1]; omega
  | ⟨2, _⟩ => show win0_1.index t 2 * 6 + 1 * s.val = s.val; rw [hi.2.2.1]; omega
  | ⟨3, _⟩ => show win0_1.index t 3 * 1024 + 1 * k.val = k.val; rw [hi.2.2.2]; omega

/-- The weight's block is the weight. -/
theorem read_w (c : Dev nD) (t : Fin cfg0.N) (k : Fin 1024) (n : Fin 2048) :
    (iblk m c 2 t : Vec Ideal S1024x2048 .bf16) (ix2 k n) = inW m c k n := by
  unfold inW
  have e : V m c main_v5 = (m ((c : Thread nD τ).loc main_arg3) : Vec Ideal S1024x2048 .f32) := by
    unfold V
    after_results_simp <;> rfl
  rw [← e]
  unfold iblk
  rw [View.read_apply]
  show V m c main_v5 _ = V m c main_v5 _
  congr 1
  have hi := index_2 t
  funext a
  apply Fin.ext
  match a with
  | ⟨0, _⟩ => show win0_2.index t 0 * 1024 + 1 * k.val = k.val; rw [hi.1]; omega
  | ⟨1, _⟩ => show win0_2.index t 1 * 2048 + 1 * n.val = n.val; rw [hi.2]; omega

/-- The product of the modulated rows and the weight. -/
def result (c : Dev nD) : Buf (Elt Ideal) ((c : Thread nD τ).loc main_v6) :=
  fun i : S16x32x2304x128.Idx => (∑ k : Fin 1024, modulated (inX m c) (inL m c) (inC m c) 3 4 (i 1) (i 2) k * inW m c k ⟨(i 0).val * 128 + (i 3).val, by have h0 : (i 0).val < 16 := (i 0).isLt; have h3 : (i 3).val < 128 := (i 3).isLt; omega⟩ : EReal)

/-- A point's modulated rows are its rows of the modulated activations. -/
theorem read_modulated (c : Dev nD) (t : Fin cfg0.N) (r : Fin 256) (k : Fin 1024) :
    modulate ((iblk m c 0 t : Vec Ideal S1x256x1024 .f32) (ix3 0 r k)) ((iblk m c 1 t : Vec Ideal S1x1x6x1024 .f32) (ix4 0 3 4 k)) ((iblk m c 1 t : Vec Ideal S1x1x6x1024 .f32) (ix4 0 0 3 k))
      = modulated (inX m c) (inL m c) (inC m c) 3 4 ⟨t.val / 9, by have := point_lt t; omega⟩ ⟨256 * (t.val % 9) + r.val, by omega⟩ k := by
  have hc : (t.val % 9 = 0) = (256 * (t.val % 9) + r.val < 256) := propext (by omega)
  unfold modulated
  refine congrArg₂ (· + ·) (congrArg₂ (fun p q => p * (_ + q)) (read_x m c t r k) ((read_m m c t 4 k).trans ?_)) ((read_m m c t 3 k).trans ?_) <;>
    (unfold modRow; simp only [hc])

/-- What a point writes back is its block of the product. -/
theorem flushed_eq (c : Dev nD) (t : Fin cfg0.N) :
    (dats m 0 c).flushed 3 t = ((cfg0.win 3).blk t).view.read (Elt Ideal) (result m c) := by
  rw [flushed3]
  refine funext fun (y : S16x1x256x128.Idx) => ?_
  refine Eq.trans (out_apply _ _ _ y) ?_
  rw [View.read_apply]
  have hi := index_3 t
  have h1 : (y 1).val < 1 := (y 1).isLt
  have e : ((cfg0.win 3).blk t).view.emb y = ix4 (y 0) ⟨t.val / 9, by have := point_lt t; omega⟩ ⟨256 * (t.val % 9) + (y 2).val, by have h : (y 2).val < 256 := (y 2).isLt; omega⟩ (y 3) := by
    funext a
    apply Fin.ext
    match a with
    | ⟨0, _⟩ => show win0_3.index t 0 * 16 + 1 * (y 0).val = (y 0).val; rw [hi.1]; omega
    | ⟨1, _⟩ => show win0_3.index t 1 * 1 + 1 * (y 1).val = t.val / 9; rw [hi.2.1]; omega
    | ⟨2, _⟩ => show win0_3.index t 2 * 256 + 1 * (y 2).val = 256 * (t.val % 9) + (y 2).val; rw [hi.2.2.1]; omega
    | ⟨3, _⟩ => show win0_3.index t 3 * 128 + 1 * (y 3).val = (y 3).val; rw [hi.2.2.2]; omega
  refine Eq.trans ?_ (congrArg (result m c) e).symm
  refine Finset.sum_congr rfl fun k _ => ?_
  exact congrArg₂ (· * ·) (read_modulated m c t (y 2) k) (read_w m c t k _)

/-- So the output array ends as the product. -/
theorem final (c : Dev nD) : (dats m 0 c).arrAt 3 cfg0.N = result m c :=
  (dats m 0 c).arrAt_eq_of_cover 3 (result m c) (fun t _ => flushed_eq m c t) fun i : S16x32x2304x128.Idx => by
    have h0 : (i 0 : Nat) < 16 := (i 0).isLt
    have h1 : (i 1 : Nat) < 32 := (i 1).isLt
    have h2 : (i 2 : Nat) < 2304 := (i 2).isLt
    have h3 : (i 3 : Nat) < 128 := (i 3).isLt
    have hN : cfg0.N = 288 := N_0
    obtain ⟨t, ht⟩ : ∃ t : Fin cfg0.N, t.val = 9 * (i 1 : Nat) + (i 2 : Nat) / 256 := ⟨⟨9 * (i 1 : Nat) + (i 2 : Nat) / 256, by omega⟩, rfl⟩
    refine ⟨t, flush0_3 t, ?_⟩
    have hi := index_3 t
    show i ∈ ((View.whole main_v6).slice (win0_3.rect t)).set
    rw [View.set_slice_whole, Rect.mem_set_unit]
    intro a
    match a with
    | ⟨0, _⟩ => show win0_3.index t 0 * 16 ≤ (i 0 : Nat) ∧ (i 0 : Nat) < win0_3.index t 0 * 16 + 16
                rw [hi.1]; omega
    | ⟨1, _⟩ => show win0_3.index t 1 * 1 ≤ (i 1 : Nat) ∧ (i 1 : Nat) < win0_3.index t 1 * 1 + 1
                rw [hi.2.1]; omega
    | ⟨2, _⟩ => show win0_3.index t 2 * 256 ≤ (i 2 : Nat) ∧ (i 2 : Nat) < win0_3.index t 2 * 256 + 256
                rw [hi.2.2.1]; omega
    | ⟨3, _⟩ => show win0_3.index t 3 * 128 ≤ (i 3 : Nat) ∧ (i 3 : Nat) < win0_3.index t 3 * 128 + 128
                rw [hi.2.2.2]; omega

end Cert.Kernel5Ideal.Proj

namespace Cert.Reference5Ideal.Proj
open Cert.Reference5Ideal Cert.Reference5Ideal.Read Cert.Proj

variable (x0 : FVec Ideal S32x2304x1024 .f32) (x1 : FVec Ideal S32x6144 .f32) (x2 : FVec Ideal S6144 .f32) (x3 : FVec Ideal S1024x2048 .f32)

/-- The context's modulated rows. -/
theorem ctx_apply (a : Fin 32) (b : Fin 256) (k : Fin 1024) :
    val_main_v27 (F := Ideal) x0 x2 (ix3 a b k) = modulated x0 x1 x2 3 4 a ⟨b.val, by omega⟩ k := by
  have e : val_main_v27 (F := Ideal) x0 x2 (ix3 a b k)
      = x0 (ix3 a ⟨b.val, by omega⟩ k) * (Ideal.ofBits .f32 0x3F800000#32 + x2 (ix1 ⟨4096 + k.val, by omega⟩)) + x2 (ix1 ⟨3072 + k.val, by omega⟩) := by
    pointwise [val_main_v27, val_main_v26, val_main_v25, val_main_v24, val_main_v23, val_main_v22, val_main_v21, val_main_v20, val_main_cst, val_main_v18, val_main_v16, val_main_v15]
  rw [e]
  unfold modulated modRow
  rw [if_pos b.isLt, if_pos b.isLt]
  have h3 : ((3 : Fin 6) : Nat) * 1024 = 3072 := rfl
  have h4 : ((4 : Fin 6) : Nat) * 1024 = 4096 := rfl
  simp only [h3, h4]

/-- The latent's. -/
theorem lat_apply (a : Fin 32) (b : Fin 2048) (k : Fin 1024) :
    val_main_v33 (F := Ideal) x0 x1 (ix3 a b k) = modulated x0 x1 x2 3 4 a ⟨256 + b.val, by omega⟩ k := by
  have e : val_main_v33 (F := Ideal) x0 x1 (ix3 a b k)
      = x0 (ix3 a ⟨256 + b.val, by omega⟩ k) * (Ideal.ofBits .f32 0x3F800000#32 + x1 (ix2 a ⟨4096 + k.val, by omega⟩)) + x1 (ix2 a ⟨3072 + k.val, by omega⟩) := by
    pointwise [val_main_v33, val_main_v32, val_main_v31, val_main_v30, val_main_v29, val_main_v28, val_main_cst_0, val_main_v19, val_main_v10, val_main_v9, val_main_v4, val_main_v3]
  rw [e]
  unfold modulated modRow
  rw [if_neg (by show ¬ (256 + b.val < 256); omega), if_neg (by show ¬ (256 + b.val < 256); omega)]
  have h3 : ((3 : Fin 6) : Nat) * 1024 = 3072 := rfl
  have h4 : ((4 : Fin 6) : Nat) * 1024 = 4096 := rfl
  simp only [h3, h4]

theorem dot_ctx (a : Fin 32) (b : Fin 256) (d : Fin 2048) :
    val_main_v34 (F := Ideal) x0 x2 x3 (ix3 a b d) = ∑ k : Fin 1024, val_main_v27 (F := Ideal) x0 x2 (ix3 a b k) * x3 (ix2 k d) := by
  pointwise [val_main_v34]

theorem dot_lat (a : Fin 32) (b : Fin 2048) (d : Fin 2048) :
    val_main_v35 (F := Ideal) x0 x1 x3 (ix3 a b d) = ∑ k : Fin 1024, val_main_v33 (F := Ideal) x0 x1 (ix3 a b k) * x3 (ix2 k d) := by
  pointwise [val_main_v35]

/-- The reference's product. -/
theorem join (a : Fin 32) (b : Fin 2304) (d : Fin 2048) :
    val_main_v36 (F := Ideal) x0 x1 x2 x3 (ix3 a b d) = ∑ k : Fin 1024, modulated x0 x1 x2 3 4 a b k * x3 (ix2 k d) := by
  unfold val_main_v36
  refine (join_apply _ _ _ a b d).trans ?_
  by_cases hb : b.val < 256
  · rw [dif_pos hb, dot_ctx]
    exact Finset.sum_congr rfl fun k _ => congrArg (· * _) (ctx_apply x0 x1 x2 a ⟨b.val, hb⟩ k)
  · rw [dif_neg hb, dot_lat]
    have e : (⟨256 + (b.val - 256), by omega⟩ : Fin 2304) = b := Fin.ext (by dsimp only; omega)
    exact Finset.sum_congr rfl fun k _ => congrArg (· * _) ((lat_apply x0 x1 x2 a ⟨b.val - 256, by omega⟩ k).trans (congrArg (fun b => modulated x0 x1 x2 3 4 a b k) e))

/-- A row's columns as heads. -/
theorem cast_apply (y : FVec Ideal S32x2304x2048 .f32) (h : S32x2304x2048.ShapeCasts S32x2304x16x128) (a : Fin 32) (b : Fin 2304) (sp : Fin 16) (d : Fin 128) :
    shapeCast S32x2304x16x128 y h (ix4 a b sp d) = y (ix3 a b ⟨sp.val * 128 + d.val, by omega⟩) :=
  shapeCast_apply y h (ix4 a b sp d) (ix3 a b ⟨sp.val * 128 + d.val, by omega⟩) (by
    rewrite [Shape.rowMajor_val_three, Shape.rowMajor_val_four]
    show (a.val * 2304 + b.val) * 2048 + (sp.val * 128 + d.val) = ((a.val * 2304 + b.val) * 16 + sp.val) * 128 + d.val
    omega)

/-- Its columns by head. -/
theorem out_apply (sp : Fin 16) (a : Fin 32) (b : Fin 2304) (d : Fin 128) :
    val_main_v39 (F := Ideal) x0 x1 x2 x3 (ix4 sp a b d) = ∑ k : Fin 1024, modulated x0 x1 x2 3 4 a b k * x3 (ix2 k ⟨sp.val * 128 + d.val, by omega⟩) := by
  have hi : idx_main_v38 (ix4 sp a b d) = ix4 a b sp d := by
    funext c
    match c with
    | ⟨0, _⟩ => rfl
    | ⟨1, _⟩ => rfl
    | ⟨2, _⟩ => rfl
    | ⟨3, _⟩ => rfl
  have e : val_main_v38 (F := Ideal) x0 x1 x2 x3 (ix4 sp a b d) = val_main_v36 (F := Ideal) x0 x1 x2 x3 (ix3 a b ⟨sp.val * 128 + d.val, by omega⟩) := by
    rw [val_main_v38_apply, hi]
    unfold val_main_v37
    exact cast_apply _ _ a b sp d
  rw [val_main_v39_apply]
  refine Eq.trans ?_ (e.trans (join x0 x1 x2 x3 a b _))
  rfl

end Cert.Reference5Ideal.Proj

namespace Cert.Proj

theorem frame_Reference5Ideal : Cert.quiescent_Reference5Ideal := fun m ρ _ =>
  (θ_run _ _ _).mono (fun r h => ⟨fun c => (h c).2, Idealize.ShloMosaic.sem_eq_zero_of_no_sems (by decide) r.2⟩) (Cert.Reference5Ideal.Value.run m ρ)

/-- The kernel's projection and the reference's are the same array. -/
theorem algebraic5 : Cert.algebraic_Kernel5Ideal_Reference5Ideal := fun m g m' g' _ ha =>
  ⟨fun c => Cert.Kernel5Ideal.Proj.result m c,
    (θ_run _ _ _).mono (fun r h c => ⟨(h c).1.trans (Cert.Kernel5Ideal.Proj.final m c), (h c).2⟩) (Cert.Kernel5Ideal.Value.run_blocks m g),
    (θ_run _ _ _).mono (fun r h c => ⟨(h c).1.trans (by
      rw [Cert.Reference5Ideal.Read.val_main_v39_eq, (ha c).1, (ha c).2.1, (ha c).2.2.1, (ha c).2.2.2]
      exact funext fun i : Cert.Kernel5Ideal.S16x32x2304x128.Idx => (congrArg _ (eq_ix4 i)).trans (Cert.Reference5Ideal.Proj.out_apply _ _ _ _ (i 0) (i 1) (i 2) (i 3))), (h c).2⟩) (Cert.Reference5Ideal.Value.run m' g')⟩

end Cert.Proj
end
-- ==== Proof.Proj.Qk.lean ====
/-
  The mLSTM's query and key projection: the kernel's output array and the reference's are one product.
-/
module

public import proofs.«01_k».proof.Defs
public import proofs.«01_k».proof.Proof.Proj.Columns
public import proofs.«01_k».proof.Proof.Gen.Kernel6Ideal.Value
public import proofs.«01_k».proof.Proof.Gen.Reference6Ideal.Run
public import proofs.«01_k».proof.Proof.Gen.Reference6Ideal.Read
public import Idealize.ShloMosaic.Lib.StableHlo.Run
public import Idealize.ShloMosaic.Lib.Quiescent

@[expose] public section

set_option maxRecDepth 16384
noncomputable section
open Idealize.ShloMosaic Idealize.ShloMosaic.TcCoe Idealize.SL.Sem
open Idealize.ShloMosaic.Pipeline (Dat)

namespace Cert.Kernel6Ideal.Proj
open Cert.Kernel6Ideal Cert.Kernel6Ideal.Gen Cert.Kernel6Ideal.Value Cert.Proj

/-- One band of columns of the product. -/
theorem band (x : Vec Ideal S1x256x2048 .f32) (w : Vec Ideal S2048x1024 .bf16) (z : Fin 1) (r : Fin 256) (n : Fin 1024) :
    k0_pay2 x w (ix3 z r n) = ∑ k : Fin 2048, x (ix3 0 r k) * w (ix2 k n) := by
  pointwise [k0_pay2, k0_pay1]

/-- The whole block. -/
theorem out_apply (x0 : Vec Ideal S1x256x2048 .f32) (x1 : Vec Ideal S2048x4096 .bf16) (y : S1x256x4096.Idx) :
    out0_2 x0 x1 y = ∑ k : Fin 2048, x0 (ix3 0 (y 1) k) * x1 (ix2 k (y 2)) := by
  have hb : ∀ (o : Nat) (i) (h : ∀ n : Fin 1024, o + n.val < 4096) (r : Fin 256) (n : Fin 1024),
      k0_pay2 (View.ld x0 r0_0) (View.ld x1 (Rect.unit (s := S2048x4096) ![0, o] ![2048, 1024] i)) (ix3 0 r n)
        = ∑ k : Fin 2048, x0 (ix3 0 r k) * x1 (ix2 k ⟨o + n.val, h n⟩) := by
    intro o i h r n
    rw [band]
    refine Finset.sum_congr rfl fun k _ => ?_
    rw [ld_cols x1 o i k n (h n)]
    exact congrArg (· * _) (ld_rows x0 _ 0 r k)
  unfold out0_2
  refine canon_cols (fun r n => ∑ k : Fin 2048, x0 (ix3 0 r k) * x1 (ix2 k n)) _ ?_ ?_ y
  · intro p hp
    simp only [List.mem_cons, List.not_mem_nil, or_false] at hp
    rcases hp with rfl | rfl | rfl | rfl
    · exact ⟨3072, _, fun n => by omega, _, rfl, hb 3072 _ _⟩
    · exact ⟨2048, _, fun n => by omega, _, rfl, hb 2048 _ _⟩
    · exact ⟨1024, _, fun n => by omega, _, rfl, hb 1024 _ _⟩
    · exact ⟨0, _, fun n => by omega, _, rfl, hb 0 _ _⟩
  · intro n
    have hn : n.val / 1024 = 0 ∨ n.val / 1024 = 1 ∨ n.val / 1024 = 2 ∨ n.val / 1024 = 3 := by omega
    rcases hn with e | e | e | e <;> rw [e]
    · exact ⟨_, .tail _ (.tail _ (.tail _ (.head _))), inb_S1x256x4096_S1x256x1024_0_0_0, rfl⟩
    · exact ⟨_, .tail _ (.tail _ (.head _)), inb_S1x256x4096_S1x256x1024_0_0_1024, rfl⟩
    · exact ⟨_, .tail _ (.head _), inb_S1x256x4096_S1x256x1024_0_0_2048, rfl⟩
    · exact ⟨_, .head _, inb_S1x256x4096_S1x256x1024_0_0_3072, rfl⟩

theorem index_0 : ∀ t : Fin cfg0.N, win0_0.index t 0 = t.val / 9 ∧ win0_0.index t 1 = t.val % 9 ∧ win0_0.index t 2 = 0 := by decide +kernel
theorem index_1 : ∀ t : Fin cfg0.N, win0_1.index t 0 = 0 ∧ win0_1.index t 1 = 0 := by decide +kernel
theorem index_2 : ∀ t : Fin cfg0.N, win0_2.index t 0 = t.val / 9 ∧ win0_2.index t 1 = t.val % 9 ∧ win0_2.index t 2 = 0 := by decide +kernel

theorem point_lt (t : Fin cfg0.N) : t.val < 288 := lt_of_lt_of_eq t.isLt N_0

variable (m : (ℓ : Loc nD τ sig) → Buf (Elt Ideal) ℓ)

/-- The activations and the weight. -/
def inX (c : Dev nD) (a : Fin 32) (b : Fin 2304) (k : Fin 2048) : EReal := (m ((c : Thread nD τ).loc main_arg0) : Vec Ideal S32x2304x2048 .f32) (ix3 a b k)
def inW (c : Dev nD) (k : Fin 2048) (n : Fin 4096) : EReal := (m ((c : Thread nD τ).loc main_arg1) : Vec Ideal S2048x4096 .f32) (ix2 k n)

/-- The rows' block is its rows of the activations. -/
theorem read_x (c : Dev nD) (t : Fin cfg0.N) (r : Fin 256) (k : Fin 2048) :
    (iblk m c 0 t : Vec Ideal S1x256x2048 .f32) (ix3 0 r k)
      = inX m c ⟨t.val / 9, by have := point_lt t; omega⟩ ⟨256 * (t.val % 9) + r.val, by omega⟩ k := by
  unfold inX
  rw [← V_main_arg0 m c]
  unfold iblk
  rw [View.read_apply]
  show V m c main_arg0 _ = V m c main_arg0 _
  congr 1
  have hi := index_0 t
  funext a
  apply Fin.ext
  match a with
  | ⟨0, _⟩ => show win0_0.index t 0 * 1 + 1 * 0 = t.val / 9; rw [hi.1]; omega
  | ⟨1, _⟩ => show win0_0.index t 1 * 256 + 1 * r.val = 256 * (t.val % 9) + r.val; rw [hi.2.1]; omega
  | ⟨2, _⟩ => show win0_0.index t 2 * 2048 + 1 * k.val = k.val; rw [hi.2.2]; omega

/-- The weight's block is the weight. -/
theorem read_w (c : Dev nD) (t : Fin cfg0.N) (k : Fin 2048) (n : Fin 4096) :
    (iblk m c 1 t : Vec Ideal S2048x4096 .bf16) (ix2 k n) = inW m c k n := by
  unfold inW
  have e : V m c main_v0 = (m ((c : Thread nD τ).loc main_arg1) : Vec Ideal S2048x4096 .f32) := by
    unfold V
    after_results_simp <;> rfl
  rw [← e]
  unfold iblk
  rw [View.read_apply]
  show V m c main_v0 _ = V m c main_v0 _
  congr 1
  have hi := index_1 t
  funext a
  apply Fin.ext
  match a with
  | ⟨0, _⟩ => show win0_1.index t 0 * 2048 + 1 * k.val = k.val; rw [hi.1]; omega
  | ⟨1, _⟩ => show win0_1.index t 1 * 4096 + 1 * n.val = n.val; rw [hi.2]; omega

/-- The product of activations and weight. -/
def result (c : Dev nD) : Buf (Elt Ideal) ((c : Thread nD τ).loc main_v1) :=
  fun i : S32x2304x4096.Idx => (∑ k : Fin 2048, inX m c (i 0) (i 1) k * inW m c k (i 2) : EReal)

/-- What a point writes back is its block of the product. -/
theorem flushed_eq (c : Dev nD) (t : Fin cfg0.N) :
    (dats m 0 c).flushed 2 t = ((cfg0.win 2).blk t).view.read (Elt Ideal) (result m c) := by
  rw [flushed2]
  refine funext fun (y : S1x256x4096.Idx) => ?_
  refine Eq.trans (out_apply _ _ y) ?_
  rw [View.read_apply]
  have hi := index_2 t
  have h0 : (y 0).val < 1 := (y 0).isLt
  have e : ((cfg0.win 2).blk t).view.emb y = ix3 ⟨t.val / 9, by have := point_lt t; omega⟩ ⟨256 * (t.val % 9) + (y 1).val, by have h : (y 1).val < 256 := (y 1).isLt; omega⟩ (y 2) := by
    funext a
    apply Fin.ext
    match a with
    | ⟨0, _⟩ => show win0_2.index t 0 * 1 + 1 * (y 0).val = t.val / 9; rw [hi.1]; omega
    | ⟨1, _⟩ => show win0_2.index t 1 * 256 + 1 * (y 1).val = 256 * (t.val % 9) + (y 1).val; rw [hi.2.1]; omega
    | ⟨2, _⟩ => show win0_2.index t 2 * 4096 + 1 * (y 2).val = (y 2).val; rw [hi.2.2]; omega
  refine Eq.trans ?_ (congrArg (result m c) e).symm
  refine Finset.sum_congr rfl fun k _ => ?_
  exact congrArg₂ (· * ·) (read_x m c t (y 1) k) (read_w m c t k (y 2))

/-- So the output array ends as the product. -/
theorem final (c : Dev nD) : (dats m 0 c).arrAt 2 cfg0.N = result m c :=
  (dats m 0 c).arrAt_eq_of_cover 2 (result m c) (fun t _ => flushed_eq m c t) fun i : S32x2304x4096.Idx => by
    have h0 : (i 0 : Nat) < 32 := (i 0).isLt
    have h1 : (i 1 : Nat) < 2304 := (i 1).isLt
    have h2 : (i 2 : Nat) < 4096 := (i 2).isLt
    have hN : cfg0.N = 288 := N_0
    obtain ⟨t, ht⟩ : ∃ t : Fin cfg0.N, t.val = 9 * (i 0 : Nat) + (i 1 : Nat) / 256 := ⟨⟨9 * (i 0 : Nat) + (i 1 : Nat) / 256, by omega⟩, rfl⟩
    refine ⟨t, flush0_2 t, ?_⟩
    have hi := index_2 t
    show i ∈ ((View.whole main_v1).slice (win0_2.rect t)).set
    rw [View.set_slice_whole, Rect.mem_set_unit]
    intro a
    match a with
    | ⟨0, _⟩ => show win0_2.index t 0 * 1 ≤ (i 0 : Nat) ∧ (i 0 : Nat) < win0_2.index t 0 * 1 + 1
                rw [hi.1]; omega
    | ⟨1, _⟩ => show win0_2.index t 1 * 256 ≤ (i 1 : Nat) ∧ (i 1 : Nat) < win0_2.index t 1 * 256 + 256
                rw [hi.2.1]; omega
    | ⟨2, _⟩ => show win0_2.index t 2 * 4096 ≤ (i 2 : Nat) ∧ (i 2 : Nat) < win0_2.index t 2 * 4096 + 4096
                rw [hi.2.2]; omega

/-- The reference's product. -/
theorem ref_apply (x0 : FVec Ideal S32x2304x2048 .f32) (x1 : FVec Ideal S2048x4096 .f32) (a : Fin 32) (b : Fin 2304) (d : Fin 4096) :
    Cert.Reference6Ideal.Read.val_main_v0 (F := Ideal) x0 x1 (ix3 a b d) = ∑ k : Fin 2048, x0 (ix3 a b k) * x1 (ix2 k d) := by
  pointwise [Cert.Reference6Ideal.Read.val_main_v0]

end Cert.Kernel6Ideal.Proj

namespace Cert.Proj

theorem frame_Reference6Ideal : Cert.quiescent_Reference6Ideal := fun m ρ _ =>
  (θ_run _ _ _).mono (fun r h => ⟨fun c => (h c).2, Idealize.ShloMosaic.sem_eq_zero_of_no_sems (by decide) r.2⟩) (Cert.Reference6Ideal.Value.run m ρ)

/-- The kernel's projection and the reference's are the same array. -/
theorem algebraic6 : Cert.algebraic_Kernel6Ideal_Reference6Ideal := fun m g m' g' _ ha =>
  ⟨fun c => Cert.Kernel6Ideal.Proj.result m c,
    (θ_run _ _ _).mono (fun r h c => ⟨(h c).1.trans (Cert.Kernel6Ideal.Proj.final m c), (h c).2⟩) (Cert.Kernel6Ideal.Value.run_blocks m g),
    (θ_run _ _ _).mono (fun r h c => ⟨(h c).1.trans (by
      rw [Cert.Reference6Ideal.Read.val_main_v0_eq, (ha c).1, (ha c).2]
      exact funext fun i : Cert.Kernel6Ideal.S32x2304x4096.Idx => (congrArg _ (eq_ix3 i)).trans (Cert.Kernel6Ideal.Proj.ref_apply _ _ (i 0) (i 1) (i 2))), (h c).2⟩) (Cert.Reference6Ideal.Value.run m' g')⟩

end Cert.Proj
end
-- ==== Proof.Proj.V.lean ====
/-
  The mLSTM's value projection: the kernel's output array and the reference's are one product.
-/
module

public import proofs.«01_k».proof.Defs
public import proofs.«01_k».proof.Proof.Proj.Columns
public import proofs.«01_k».proof.Proof.Gen.Kernel7Ideal.Value
public import proofs.«01_k».proof.Proof.Gen.Reference7Ideal.Run
public import proofs.«01_k».proof.Proof.Gen.Reference7Ideal.Read
public import Idealize.ShloMosaic.Lib.StableHlo.Run
public import Idealize.ShloMosaic.Lib.Quiescent

@[expose] public section

set_option maxRecDepth 16384
noncomputable section
open Idealize.ShloMosaic Idealize.ShloMosaic.TcCoe Idealize.SL.Sem
open Idealize.ShloMosaic.Pipeline (Dat)

namespace Cert.Kernel7Ideal.Proj
open Cert.Kernel7Ideal Cert.Kernel7Ideal.Gen Cert.Kernel7Ideal.Value Cert.Proj

/-- One band of columns of the product. -/
theorem band (x : Vec Ideal S1x256x2048 .f32) (w : Vec Ideal S2048x1024 .bf16) (z : Fin 1) (r : Fin 256) (n : Fin 1024) :
    k0_pay2 x w (ix3 z r n) = ∑ k : Fin 2048, x (ix3 0 r k) * w (ix2 k n) := by
  pointwise [k0_pay2, k0_pay1]

/-- The whole block. -/
theorem out_apply (x0 : Vec Ideal S1x256x2048 .f32) (x1 : Vec Ideal S2048x2048 .bf16) (y : S1x256x2048.Idx) :
    out0_2 x0 x1 y = ∑ k : Fin 2048, x0 (ix3 0 (y 1) k) * x1 (ix2 k (y 2)) := by
  have hb : ∀ (o : Nat) (i) (h : ∀ n : Fin 1024, o + n.val < 2048) (r : Fin 256) (n : Fin 1024),
      k0_pay2 (View.ld x0 r0_0) (View.ld x1 (Rect.unit (s := S2048x2048) ![0, o] ![2048, 1024] i)) (ix3 0 r n)
        = ∑ k : Fin 2048, x0 (ix3 0 r k) * x1 (ix2 k ⟨o + n.val, h n⟩) := by
    intro o i h r n
    rw [band]
    refine Finset.sum_congr rfl fun k _ => ?_
    rw [ld_cols x1 o i k n (h n)]
    exact congrArg (· * _) (ld_rows x0 _ 0 r k)
  unfold out0_2
  refine canon_cols (fun r n => ∑ k : Fin 2048, x0 (ix3 0 r k) * x1 (ix2 k n)) _ ?_ ?_ y
  · intro p hp
    simp only [List.mem_cons, List.not_mem_nil, or_false] at hp
    rcases hp with rfl | rfl
    · exact ⟨1024, _, fun n => by omega, _, rfl, hb 1024 _ _⟩
    · exact ⟨0, _, fun n => by omega, _, rfl, hb 0 _ _⟩
  · intro n
    have hn : n.val / 1024 = 0 ∨ n.val / 1024 = 1 := by omega
    rcases hn with e | e <;> rw [e]
    · exact ⟨_, .tail _ (.head _), inb_S1x256x2048_S1x256x1024_0_0_0, rfl⟩
    · exact ⟨_, .head _, inb_S1x256x2048_S1x256x1024_0_0_1024, rfl⟩

theorem index_0 : ∀ t : Fin cfg0.N, win0_0.index t 0 = t.val / 9 ∧ win0_0.index t 1 = t.val % 9 ∧ win0_0.index t 2 = 0 := by decide +kernel
theorem index_1 : ∀ t : Fin cfg0.N, win0_1.index t 0 = 0 ∧ win0_1.index t 1 = 0 := by decide +kernel
theorem index_2 : ∀ t : Fin cfg0.N, win0_2.index t 0 = t.val / 9 ∧ win0_2.index t 1 = t.val % 9 ∧ win0_2.index t 2 = 0 := by decide +kernel

theorem point_lt (t : Fin cfg0.N) : t.val < 288 := lt_of_lt_of_eq t.isLt N_0

variable (m : (ℓ : Loc nD τ sig) → Buf (Elt Ideal) ℓ)

/-- The values' part of the activations, their first 2048 columns, and the weight. -/
def inX (c : Dev nD) (a : Fin 32) (b : Fin 2304) (k : Fin 2048) : EReal := (m ((c : Thread nD τ).loc main_arg0) : Vec Ideal S32x2304x6144 .f32) (ix3 a b ⟨k.val, by omega⟩)
def inW (c : Dev nD) (k : Fin 2048) (n : Fin 2048) : EReal := (m ((c : Thread nD τ).loc main_arg1) : Vec Ideal S2048x2048 .f32) (ix2 k n)

/-- The rows' block is its rows of the activations. -/
theorem read_x (c : Dev nD) (t : Fin cfg0.N) (r : Fin 256) (k : Fin 2048) :
    (iblk m c 0 t : Vec Ideal S1x256x2048 .f32) (ix3 0 r k)
      = inX m c ⟨t.val / 9, by have := point_lt t; omega⟩ ⟨256 * (t.val % 9) + r.val, by omega⟩ k := by
  unfold inX
  rw [← V_main_arg0 m c]
  unfold iblk
  rw [View.read_apply]
  show V m c main_arg0 _ = V m c main_arg0 _
  congr 1
  have hi := index_0 t
  funext a
  apply Fin.ext
  match a with
  | ⟨0, _⟩ => show win0_0.index t 0 * 1 + 1 * 0 = t.val / 9; rw [hi.1]; omega
  | ⟨1, _⟩ => show win0_0.index t 1 * 256 + 1 * r.val = 256 * (t.val % 9) + r.val; rw [hi.2.1]; omega
  | ⟨2, _⟩ => show win0_0.index t 2 * 2048 + 1 * k.val = k.val; rw [hi.2.2]; omega

/-- The weight's block is the weight. -/
theorem read_w (c : Dev nD) (t : Fin cfg0.N) (k : Fin 2048) (n : Fin 2048) :
    (iblk m c 1 t : Vec Ideal S2048x2048 .bf16) (ix2 k n) = inW m c k n := by
  unfold inW
  have e : V m c main_v0 = (m ((c : Thread nD τ).loc main_arg1) : Vec Ideal S2048x2048 .f32) := by
    unfold V
    after_results_simp <;> rfl
  rw [← e]
  unfold iblk
  rw [View.read_apply]
  show V m c main_v0 _ = V m c main_v0 _
  congr 1
  have hi := index_1 t
  funext a
  apply Fin.ext
  match a with
  | ⟨0, _⟩ => show win0_1.index t 0 * 2048 + 1 * k.val = k.val; rw [hi.1]; omega
  | ⟨1, _⟩ => show win0_1.index t 1 * 2048 + 1 * n.val = n.val; rw [hi.2]; omega

/-- The product of activations and weight. -/
def result (c : Dev nD) : Buf (Elt Ideal) ((c : Thread nD τ).loc main_v1) :=
  fun i : S32x2304x2048.Idx => (∑ k : Fin 2048, inX m c (i 0) (i 1) k * inW m c k (i 2) : EReal)

/-- What a point writes back is its block of the product. -/
theorem flushed_eq (c : Dev nD) (t : Fin cfg0.N) :
    (dats m 0 c).flushed 2 t = ((cfg0.win 2).blk t).view.read (Elt Ideal) (result m c) := by
  rw [flushed2]
  refine funext fun (y : S1x256x2048.Idx) => ?_
  refine Eq.trans (out_apply _ _ y) ?_
  rw [View.read_apply]
  have hi := index_2 t
  have h0 : (y 0).val < 1 := (y 0).isLt
  have e : ((cfg0.win 2).blk t).view.emb y = ix3 ⟨t.val / 9, by have := point_lt t; omega⟩ ⟨256 * (t.val % 9) + (y 1).val, by have h : (y 1).val < 256 := (y 1).isLt; omega⟩ (y 2) := by
    funext a
    apply Fin.ext
    match a with
    | ⟨0, _⟩ => show win0_2.index t 0 * 1 + 1 * (y 0).val = t.val / 9; rw [hi.1]; omega
    | ⟨1, _⟩ => show win0_2.index t 1 * 256 + 1 * (y 1).val = 256 * (t.val % 9) + (y 1).val; rw [hi.2.1]; omega
    | ⟨2, _⟩ => show win0_2.index t 2 * 2048 + 1 * (y 2).val = (y 2).val; rw [hi.2.2]; omega
  refine Eq.trans ?_ (congrArg (result m c) e).symm
  refine Finset.sum_congr rfl fun k _ => ?_
  exact congrArg₂ (· * ·) (read_x m c t (y 1) k) (read_w m c t k (y 2))

/-- So the output array ends as the product. -/
theorem final (c : Dev nD) : (dats m 0 c).arrAt 2 cfg0.N = result m c :=
  (dats m 0 c).arrAt_eq_of_cover 2 (result m c) (fun t _ => flushed_eq m c t) fun i : S32x2304x2048.Idx => by
    have h0 : (i 0 : Nat) < 32 := (i 0).isLt
    have h1 : (i 1 : Nat) < 2304 := (i 1).isLt
    have h2 : (i 2 : Nat) < 2048 := (i 2).isLt
    have hN : cfg0.N = 288 := N_0
    obtain ⟨t, ht⟩ : ∃ t : Fin cfg0.N, t.val = 9 * (i 0 : Nat) + (i 1 : Nat) / 256 := ⟨⟨9 * (i 0 : Nat) + (i 1 : Nat) / 256, by omega⟩, rfl⟩
    refine ⟨t, flush0_2 t, ?_⟩
    have hi := index_2 t
    show i ∈ ((View.whole main_v1).slice (win0_2.rect t)).set
    rw [View.set_slice_whole, Rect.mem_set_unit]
    intro a
    match a with
    | ⟨0, _⟩ => show win0_2.index t 0 * 1 ≤ (i 0 : Nat) ∧ (i 0 : Nat) < win0_2.index t 0 * 1 + 1
                rw [hi.1]; omega
    | ⟨1, _⟩ => show win0_2.index t 1 * 256 ≤ (i 1 : Nat) ∧ (i 1 : Nat) < win0_2.index t 1 * 256 + 256
                rw [hi.2.1]; omega
    | ⟨2, _⟩ => show win0_2.index t 2 * 2048 ≤ (i 2 : Nat) ∧ (i 2 : Nat) < win0_2.index t 2 * 2048 + 2048
                rw [hi.2.2]; omega

/-- The reference's product. -/
theorem ref_apply (x0 : FVec Ideal S32x2304x6144 .f32) (x1 : FVec Ideal S2048x2048 .f32) (a : Fin 32) (b : Fin 2304) (d : Fin 2048) :
    Cert.Reference7Ideal.Read.val_main_v3 (F := Ideal) x0 x1 (ix3 a b d) = ∑ k : Fin 2048, x0 (ix3 a b ⟨k.val, by omega⟩) * x1 (ix2 k d) := by
  pointwise [Cert.Reference7Ideal.Read.val_main_v3, Cert.Reference7Ideal.Read.val_main_v0]

end Cert.Kernel7Ideal.Proj

namespace Cert.Proj

theorem frame_Reference7Ideal : Cert.quiescent_Reference7Ideal := fun m ρ _ =>
  (θ_run _ _ _).mono (fun r h => ⟨fun c => (h c).2, Idealize.ShloMosaic.sem_eq_zero_of_no_sems (by decide) r.2⟩) (Cert.Reference7Ideal.Value.run m ρ)

/-- The kernel's projection and the reference's are the same array. -/
theorem algebraic7 : Cert.algebraic_Kernel7Ideal_Reference7Ideal := fun m g m' g' _ ha =>
  ⟨fun c => Cert.Kernel7Ideal.Proj.result m c,
    (θ_run _ _ _).mono (fun r h c => ⟨(h c).1.trans (Cert.Kernel7Ideal.Proj.final m c), (h c).2⟩) (Cert.Kernel7Ideal.Value.run_blocks m g),
    (θ_run _ _ _).mono (fun r h c => ⟨(h c).1.trans (by
      rw [Cert.Reference7Ideal.Read.val_main_v3_eq, (ha c).1, (ha c).2]
      exact funext fun i : Cert.Kernel7Ideal.S32x2304x2048.Idx => (congrArg _ (eq_ix3 i)).trans (Cert.Kernel7Ideal.Proj.ref_apply _ _ (i 0) (i 1) (i 2))), (h c).2⟩) (Cert.Reference7Ideal.Value.run m' g')⟩

end Cert.Proj
end
-- ==== Proof.Out.Norm.lean ====
/-
  Layer norms of rows: the same numbers from a block of 256 rows and from an array of rows by batch.
-/
module

public import proofs.«01_k».proof.Proof.Proj.Modulate

@[expose] public section

set_option maxRecDepth 16384
noncomputable section
open Idealize.ShloMosaic Idealize.ShloMosaic.TcCoe Idealize.SL.Sem

namespace Cert.Out

/-- The mean of `u` over a count `c`. -/
def mean (c : BitVec 32) {n : Nat} (u : Fin n → EReal) : EReal := Ideal.div (∑ j, u j) (Ideal.ofBits .f32 c)

/-- `u` less its mean. -/
def centred (c : BitVec 32) {n : Nat} (u : Fin n → EReal) (k : Fin n) : EReal := u k - mean c u

/-- One over the root of the mean square of `u`, with `e` added under the root. -/
def scale (c e : BitVec 32) {n : Nat} (u : Fin n → EReal) : EReal := Ideal.rsqrt (mean c (fun j => u j * u j) + Ideal.ofBits .f32 e)

/-- `u` brought to mean zero and mean square one. -/
def standard (c e : BitVec 32) {n : Nat} (u : Fin n → EReal) (k : Fin n) : EReal := centred c u k * scale c e (centred c u)

/-- A layer norm over 1024 entries with its gain and bias. -/
def layerNorm (u : Fin 1024 → EReal) (g b : EReal) (k : Fin 1024) : EReal := standard 0x44800000#32 0x3727C5AC#32 u k * g + b

section Block
variable {N : Nat}

/-- The means of a block's rows. -/
def meanV (u : FVec Ideal ⟨2, ![256, N]⟩ .f32) (c : BitVec 32) (hr : Shape.Reduces ⟨2, ![256, N]⟩ [1] ⟨1, ![256]⟩) (hc : Shape.ShapeCasts ⟨1, ![256]⟩ ⟨2, ![256, 1]⟩) :
    FVec Ideal ⟨2, ![256, 1]⟩ .f32 :=
  divf (shapeCast ⟨2, ![256, 1]⟩ (multiReduction .add [1] ⟨1, ![256]⟩ u 0x00000000#32 hr (.inl rfl) rfl) hc) (broadcast ⟨2, ![256, 1]⟩ (Scalar.ofBits .f32 c : Ideal .f32))

/-- A block's rows less their means. -/
def centredV (u : FVec Ideal ⟨2, ![256, N]⟩ .f32) (c : BitVec 32) (hr : Shape.Reduces ⟨2, ![256, N]⟩ [1] ⟨1, ![256]⟩) (hc : Shape.ShapeCasts ⟨1, ![256]⟩ ⟨2, ![256, 1]⟩)
    (hb : Shape.Broadcasts ⟨2, ![256, 1]⟩ ⟨2, ![256, N]⟩) : FVec Ideal ⟨2, ![256, N]⟩ .f32 :=
  subf u (broadcastTo ⟨2, ![256, N]⟩ (meanV u c hr hc) hb)

/-- A block's rows times one over the root of their mean squares. -/
def scaledV (u : FVec Ideal ⟨2, ![256, N]⟩ .f32) (c e : BitVec 32) (hr : Shape.Reduces ⟨2, ![256, N]⟩ [1] ⟨1, ![256]⟩) (hc : Shape.ShapeCasts ⟨1, ![256]⟩ ⟨2, ![256, 1]⟩)
    (hb : Shape.Broadcasts ⟨2, ![256, 1]⟩ ⟨2, ![256, N]⟩) : FVec Ideal ⟨2, ![256, N]⟩ .f32 :=
  mulf u (broadcastTo ⟨2, ![256, N]⟩ (rsqrt (addf (meanV (mulf u u) c hr hc) (broadcast ⟨2, ![256, 1]⟩ (Scalar.ofBits .f32 e : Ideal .f32)))) hb)

theorem meanV_apply (u : FVec Ideal ⟨2, ![256, N]⟩ .f32) (c : BitVec 32) (hr hc) (r : Fin 256) (z : Fin 1) :
    meanV u c hr hc (ix2 r z) = mean c (fun k => u (ix2 r k)) := by
  unfold mean
  pointwise [meanV]

theorem centredV_apply (u : FVec Ideal ⟨2, ![256, N]⟩ .f32) (c : BitVec 32) (hr hc hb) (r : Fin 256) (k : Fin N) :
    centredV u c hr hc hb (ix2 r k) = centred c (fun k => u (ix2 r k)) k := by
  unfold centred
  rw [← meanV_apply u c hr hc r 0]
  unfold centredV
  generalize meanV u c hr hc = w
  pointwise

theorem scaledV_apply (u : FVec Ideal ⟨2, ![256, N]⟩ .f32) (c e : BitVec 32) (hr hc hb) (r : Fin 256) (k : Fin N) :
    scaledV u c e hr hc hb (ix2 r k) = u (ix2 r k) * scale c e (fun k => u (ix2 r k)) := by
  have h := meanV_apply (mulf u u) c hr hc r 0
  unfold scale
  refine Eq.trans ?_ (congrArg (fun q => u (ix2 r k) * Ideal.rsqrt (q + Ideal.ofBits .f32 e)) h)
  unfold scaledV
  generalize meanV (mulf u u) c hr hc = w
  pointwise

theorem standardV_apply (u : FVec Ideal ⟨2, ![256, N]⟩ .f32) (c e : BitVec 32) (hr hc hb) (r : Fin 256) (k : Fin N) :
    scaledV (centredV u c hr hc hb) c e hr hc hb (ix2 r k) = standard c e (fun k => u (ix2 r k)) k := by
  rw [scaledV_apply]
  simp only [centredV_apply]
  rfl

end Block

section Rows
variable (hr : Shape.Reduces ⟨2, ![256, 1024]⟩ [1] ⟨1, ![256]⟩) (hc : Shape.ShapeCasts ⟨1, ![256]⟩ ⟨2, ![256, 1]⟩) (hb : Shape.Broadcasts ⟨2, ![256, 1]⟩ ⟨2, ![256, 1024]⟩)
  (hg : Shape.Broadcasts ⟨2, ![1, 1024]⟩ ⟨2, ![256, 1024]⟩) (hs : Shape.ShapeCasts ⟨3, ![1, 256, 1024]⟩ ⟨2, ![256, 1024]⟩) (hS : Shape.ShapeCasts ⟨2, ![256, 1024]⟩ ⟨3, ![1, 256, 1024]⟩)
  (hm : Shape.ShapeCasts ⟨4, ![1, 1, 1, 1024]⟩ ⟨2, ![1, 1024]⟩) (h1 : Shape.ShapeCasts ⟨2, ![1, 1024]⟩ ⟨2, ![1, 1024]⟩)

/-- A block's residual: the input scaled, plus the layer's output times the gate. -/
def residualV (h : Vec Ideal ⟨3, ![1, 256, 1024]⟩ .f32) (m : Vec Ideal ⟨4, ![1, 1, 1, 1024]⟩ .f32) (y : FVec Ideal ⟨2, ![256, 1024]⟩ .f32) : FVec Ideal ⟨2, ![256, 1024]⟩ .f32 :=
  addf (mulf (broadcast ⟨2, ![256, 1024]⟩ (Scalar.ofBits .f32 0x3FD744FD#32 : Ideal .f32)) (shapeCast ⟨2, ![256, 1024]⟩ h hs)) (mulf (broadcastTo ⟨2, ![256, 1024]⟩ (shapeCast ⟨2, ![1, 1024]⟩ m hm) hg) y)

/-- The layer norms of a block's rows. -/
def layerNormV (g b : Vec Ideal ⟨2, ![1, 1024]⟩ .f32) (u : FVec Ideal ⟨2, ![256, 1024]⟩ .f32) : Vec Ideal ⟨3, ![1, 256, 1024]⟩ .f32 :=
  shapeCast ⟨3, ![1, 256, 1024]⟩ (addf (mulf (scaledV (centredV u 0x44800000#32 hr hc hb) 0x44800000#32 0x3727C5AC#32 hr hc hb) (broadcastTo ⟨2, ![256, 1024]⟩ (shapeCast ⟨2, ![1, 1024]⟩ g h1) hg))
    (broadcastTo ⟨2, ![256, 1024]⟩ (shapeCast ⟨2, ![1, 1024]⟩ b h1) hg)) hS

theorem residualV_apply (h : Vec Ideal ⟨3, ![1, 256, 1024]⟩ .f32) (m : Vec Ideal ⟨4, ![1, 1, 1, 1024]⟩ .f32) (y : FVec Ideal ⟨2, ![256, 1024]⟩ .f32) (r : Fin 256) (k : Fin 1024) :
    residualV hg hs hm h m y (ix2 r k) = Ideal.ofBits .f32 0x3FD744FD#32 * h (ix3 0 r k) + m (ix4 0 0 0 k) * y (ix2 r k) := by
  pointwise [residualV]

theorem layerNormV_apply (g b : Vec Ideal ⟨2, ![1, 1024]⟩ .f32) (u : FVec Ideal ⟨2, ![256, 1024]⟩ .f32) (z : Fin 1) (r : Fin 256) (k : Fin 1024) :
    layerNormV hr hc hb hg hS h1 g b u (ix3 z r k) = layerNorm (fun k => u (ix2 r k)) (g (ix2 0 k)) (b (ix2 0 k)) k := by
  unfold layerNorm
  rw [← standardV_apply u 0x44800000#32 0x3727C5AC#32 hr hc hb r k]
  unfold layerNormV
  generalize scaledV (centredV u 0x44800000#32 hr hc hb) 0x44800000#32 0x3727C5AC#32 hr hc hb = w
  pointwise

end Rows

/-- A vector as one row. -/
theorem row_apply {N : Nat} (g : Vec Ideal ⟨1, ![N]⟩ .f32) (h : Shape.ShapeCasts ⟨1, ![N]⟩ ⟨2, ![1, N]⟩) (z : Fin 1) (k : Fin N) : shapeCast ⟨2, ![1, N]⟩ g h (ix2 z k) = g (ix1 k) :=
  shapeCast_apply g h (ix2 z k) (ix1 k) (by rewrite [Shape.rowMajor_val_two, Shape.rowMajor_val_one]; show k.val = z.val * N + k.val; have := z.isLt; rw [show z.val = 0 by omega]; omega)

/-- Reading a whole matrix. -/
theorem ld_mat {K N : Nat} {t : EltTy} (X : Vec Ideal ⟨2, ![K, N]⟩ t) (i) (k : Fin K) (n : Fin N) :
    View.ld X (Rect.unit (s := ⟨2, ![K, N]⟩) ![0, 0] ![K, N] i) (ix2 k n) = X (ix2 k n) :=
  View.ld_unit_apply_of _ _ _ _ _ _ (fun a => by fin_cases a <;> simp [ix2])

/-- What one piece leaves in a block it fills. -/
theorem canon_one (G : Fin 256 → Fin 1024 → EReal) (i) (w : Vec Ideal ⟨3, ![1, 256, 1024]⟩ .f32) (hw : ∀ (r : Fin 256) (n : Fin 1024), w (ix3 0 r n) = G r n)
    (y : (⟨3, ![1, 256, 1024]⟩ : Shape).Idx) : View.canon (Val := Elt Ideal) (e := .f32) [⟨Rect.unit (s := ⟨3, ![1, 256, 1024]⟩) ![0, 0, 0] ![1, 256, 1024] i, w⟩] y = G (y 1) (y 2) := by
  refine Cert.Proj.canon_cols (t := .f32) G _ (fun p hp => ?_) (fun n => ?_) y
  · simp only [List.mem_cons, List.not_mem_nil, or_false] at hp
    subst hp
    exact ⟨0, i, fun n => by omega, w, rfl, fun r n => (hw r n).trans (congrArg (G r) (Fin.ext (Nat.zero_add _).symm))⟩
  · have hn : n.val / 1024 = 0 := by omega
    rw [hn]
    exact ⟨_, .head _, i, rfl⟩

end Cert.Out
end
-- ==== Proof.Out.Host.lean ====
/-
  Layer norms of an array's rows, and the residual they are applied to.
-/
module

public import proofs.«01_k».proof.Proof.Out.Norm

@[expose] public section

set_option maxRecDepth 16384
noncomputable section
open Idealize.ShloMosaic Idealize.ShloMosaic.TcCoe Idealize.SL.Sem

namespace Cert.Out

/-- A number at every index. -/
abbrev num (c : BitVec 32) : FVec Ideal ⟨0, ![]⟩ .f32 := constant ⟨0, ![]⟩ .f32 c

section Rows
variable {B : Nat}
variable (hr : Shape.ReducesTo ⟨3, ![32, B, 1024]⟩ [2] ⟨2, ![32, B]⟩) (h0 : 0 < (⟨0, ![]⟩ : Shape).numel)
  (hc : Shape.BroadcastsInDim ⟨2, ![32, B]⟩ ⟨3, ![32, B, 1]⟩ (![0, 1] : Fin 2 → Fin 3)) (hs : Shape.BroadcastsInDim ⟨0, ![]⟩ ⟨3, ![32, B, 1]⟩ (![] : Fin 0 → Fin 3))
  (hb : Shape.BroadcastsInDim ⟨3, ![32, B, 1]⟩ ⟨3, ![32, B, 1024]⟩ (![0, 1, 2] : Fin 3 → Fin 3))
  (hg : Shape.BroadcastsInDim ⟨1, ![1024]⟩ ⟨3, ![1, 1, 1024]⟩ (![2] : Fin 1 → Fin 3)) (hG : Shape.BroadcastsInDim ⟨3, ![1, 1, 1024]⟩ ⟨3, ![32, B, 1024]⟩ (![0, 1, 2] : Fin 3 → Fin 3))

/-- The rows' means. -/
def meanH (u : FVec Ideal ⟨3, ![32, B, 1024]⟩ .f32) : FVec Ideal ⟨3, ![32, B, 1]⟩ .f32 :=
  Host.divf (broadcastInDim ⟨3, ![32, B, 1]⟩ ![0, 1] hc (Host.reduceAdd u (num 0x00000000#32) hr h0)) (broadcastInDim ⟨3, ![32, B, 1]⟩ ![] hs (num 0x44800000#32))

/-- The rows less their means. -/
def centredH (u : FVec Ideal ⟨3, ![32, B, 1024]⟩ .f32) : FVec Ideal ⟨3, ![32, B, 1024]⟩ .f32 :=
  subf u (broadcastInDim ⟨3, ![32, B, 1024]⟩ ![0, 1, 2] hb (meanH hr h0 hc hs u))

/-- One over the root of the rows' mean squares. -/
def scaleH (u : FVec Ideal ⟨3, ![32, B, 1024]⟩ .f32) : FVec Ideal ⟨3, ![32, B, 1]⟩ .f32 :=
  Host.rsqrt (addf (meanH hr h0 hc hs (mulf u u)) (broadcastInDim ⟨3, ![32, B, 1]⟩ ![] hs (num 0x3727C5AC#32)))

/-- The rows' layer norms. -/
def layerNormH (u : FVec Ideal ⟨3, ![32, B, 1024]⟩ .f32) (g b : FVec Ideal ⟨1, ![1024]⟩ .f32) : FVec Ideal ⟨3, ![32, B, 1024]⟩ .f32 :=
  addf (mulf (mulf (centredH hr h0 hc hs hb u) (broadcastInDim ⟨3, ![32, B, 1024]⟩ ![0, 1, 2] hb (scaleH hr h0 hc hs (centredH hr h0 hc hs hb u))))
      (broadcastInDim ⟨3, ![32, B, 1024]⟩ ![0, 1, 2] hG (broadcastInDim ⟨3, ![1, 1, 1024]⟩ ![2] hg g)))
    (broadcastInDim ⟨3, ![32, B, 1024]⟩ ![0, 1, 2] hG (broadcastInDim ⟨3, ![1, 1, 1024]⟩ ![2] hg b))

variable (hB : B = 256 ∨ B = 2048)

include hB

theorem meanH_apply (u : FVec Ideal ⟨3, ![32, B, 1024]⟩ .f32) (a : Fin 32) (r : Fin B) (z : Fin 1) :
    meanH hr h0 hc hs u (ix3 a r z) = mean 0x44800000#32 (fun k => u (ix3 a r k)) := by
  unfold mean
  rcases hB with rfl | rfl <;> pointwise [meanH]

theorem centredH_apply (u : FVec Ideal ⟨3, ![32, B, 1024]⟩ .f32) (a : Fin 32) (r : Fin B) (k : Fin 1024) :
    centredH hr h0 hc hs hb u (ix3 a r k) = centred 0x44800000#32 (fun k => u (ix3 a r k)) k := by
  unfold centred
  rw [← meanH_apply hr h0 hc hs hB u a r 0]
  unfold centredH
  generalize meanH hr h0 hc hs u = w
  rcases hB with rfl | rfl <;> pointwise

theorem scaleH_apply (u : FVec Ideal ⟨3, ![32, B, 1024]⟩ .f32) (a : Fin 32) (r : Fin B) (z : Fin 1) :
    scaleH hr h0 hc hs u (ix3 a r z) = scale 0x44800000#32 0x3727C5AC#32 (fun k => u (ix3 a r k)) := by
  have h := meanH_apply hr h0 hc hs hB (mulf u u) a r z
  unfold scale
  refine Eq.trans ?_ (congrArg (fun q => Ideal.rsqrt (q + Ideal.ofBits .f32 0x3727C5AC#32)) h)
  unfold scaleH
  generalize meanH hr h0 hc hs (mulf u u) = w
  pointwise

theorem layerNormH_apply (u : FVec Ideal ⟨3, ![32, B, 1024]⟩ .f32) (g b : FVec Ideal ⟨1, ![1024]⟩ .f32) (a : Fin 32) (r : Fin B) (k : Fin 1024) :
    layerNormH hr h0 hc hs hb hg hG u g b (ix3 a r k) = layerNorm (fun k => u (ix3 a r k)) (g (ix1 k)) (b (ix1 k)) k := by
  have e : layerNormH hr h0 hc hs hb hg hG u g b (ix3 a r k)
      = centredH hr h0 hc hs hb u (ix3 a r k) * scaleH hr h0 hc hs (centredH hr h0 hc hs hb u) (ix3 a r 0) * g (ix1 k) + b (ix1 k) := by
    unfold layerNormH
    generalize scaleH hr h0 hc hs (centredH hr h0 hc hs hb u) = s
    generalize centredH hr h0 hc hs hb u = w
    rcases hB with rfl | rfl <;> pointwise
  rw [e, scaleH_apply _ _ _ _ hB]
  simp only [centredH_apply _ _ _ _ _ hB]
  rfl

end Rows

section Residual
variable (sH : Shape.Slices ⟨3, ![32, 2304, 1024]⟩ ![0, 0, 0] ⟨3, ![32, 256, 1024]⟩) (sL : Shape.Slices ⟨3, ![32, 2304, 1024]⟩ ![0, 256, 0] ⟨3, ![32, 2048, 1024]⟩)
  (hc : Shape.BroadcastsInDim ⟨0, ![]⟩ ⟨3, ![32, 256, 1024]⟩ (![] : Fin 0 → Fin 3)) (hl : Shape.BroadcastsInDim ⟨0, ![]⟩ ⟨3, ![32, 2048, 1024]⟩ (![] : Fin 0 → Fin 3))
  (sc : Shape.Slices ⟨1, ![6144]⟩ ![2048] ⟨1, ![1024]⟩) (hg : Shape.BroadcastsInDim ⟨1, ![1024]⟩ ⟨3, ![1, 1, 1024]⟩ (![2] : Fin 1 → Fin 3))
  (hG : Shape.BroadcastsInDim ⟨3, ![1, 1, 1024]⟩ ⟨3, ![32, 256, 1024]⟩ (![0, 1, 2] : Fin 3 → Fin 3))
  (sl : Shape.Slices ⟨2, ![32, 6144]⟩ ![0, 2048] ⟨2, ![32, 1024]⟩) (hk : Shape.BroadcastsInDim ⟨2, ![32, 1024]⟩ ⟨3, ![32, 1, 1024]⟩ (![0, 2] : Fin 2 → Fin 3))
  (hK : Shape.BroadcastsInDim ⟨3, ![32, 1, 1024]⟩ ⟨3, ![32, 2048, 1024]⟩ (![0, 1, 2] : Fin 3 → Fin 3))
  (h y : FVec Ideal ⟨3, ![32, 2304, 1024]⟩ .f32) (ml : FVec Ideal ⟨2, ![32, 6144]⟩ .f32) (mc : FVec Ideal ⟨1, ![6144]⟩ .f32)

/-- The context's rows: the input scaled, plus the layer's output times the gate. -/
def residualC : FVec Ideal ⟨3, ![32, 256, 1024]⟩ .f32 :=
  addf (mulf (broadcastInDim ⟨3, ![32, 256, 1024]⟩ ![] hc (num 0x3FD744FD#32)) (extractStridedSlice ⟨3, ![32, 256, 1024]⟩ ![0, 0, 0] h sH))
    (mulf (broadcastInDim ⟨3, ![32, 256, 1024]⟩ ![0, 1, 2] hG (broadcastInDim ⟨3, ![1, 1, 1024]⟩ ![2] hg (extractStridedSlice ⟨1, ![1024]⟩ ![2048] mc sc))) (extractStridedSlice ⟨3, ![32, 256, 1024]⟩ ![0, 0, 0] y sH))

/-- The latent's. -/
def residualL : FVec Ideal ⟨3, ![32, 2048, 1024]⟩ .f32 :=
  addf (mulf (broadcastInDim ⟨3, ![32, 2048, 1024]⟩ ![] hl (num 0x3FD744FD#32)) (extractStridedSlice ⟨3, ![32, 2048, 1024]⟩ ![0, 256, 0] h sL))
    (mulf (broadcastInDim ⟨3, ![32, 2048, 1024]⟩ ![0, 1, 2] hK (broadcastInDim ⟨3, ![32, 1, 1024]⟩ ![0, 2] hk (extractStridedSlice ⟨2, ![32, 1024]⟩ ![0, 2048] ml sl))) (extractStridedSlice ⟨3, ![32, 2048, 1024]⟩ ![0, 256, 0] y sL))

/-- A row of the residual. -/
def residual (a : Fin 32) (b : Fin 2304) (k : Fin 1024) : EReal :=
  Ideal.ofBits .f32 0x3FD744FD#32 * h (ix3 a b k) + Cert.Proj.modRow ml mc a (b.val < 256) 2 k * y (ix3 a b k)

theorem residualC_apply (a : Fin 32) (b : Fin 256) (k : Fin 1024) :
    residualC sH hc sc hg hG h y mc (ix3 a b k) = residual h y ml mc a ⟨b.val, by omega⟩ k := by
  have e : residualC sH hc sc hg hG h y mc (ix3 a b k)
      = Ideal.ofBits .f32 0x3FD744FD#32 * h (ix3 a ⟨b.val, by omega⟩ k) + mc (ix1 ⟨2048 + k.val, by omega⟩) * y (ix3 a ⟨b.val, by omega⟩ k) := by
    pointwise [residualC]
  rw [e]
  unfold residual Cert.Proj.modRow
  rw [if_pos b.isLt]
  rfl

theorem residualL_apply (a : Fin 32) (b : Fin 2048) (k : Fin 1024) :
    residualL sL hl sl hk hK h y ml (ix3 a b k) = residual h y ml mc a ⟨256 + b.val, by omega⟩ k := by
  have e : residualL sL hl sl hk hK h y ml (ix3 a b k)
      = Ideal.ofBits .f32 0x3FD744FD#32 * h (ix3 a ⟨256 + b.val, by omega⟩ k) + ml (ix2 a ⟨2048 + k.val, by omega⟩) * y (ix3 a ⟨256 + b.val, by omega⟩ k) := by
    pointwise [residualL]
  rw [e]
  unfold residual Cert.Proj.modRow
  rw [if_neg (by show ¬ (256 + b.val < 256); omega)]
  rfl

end Residual

/-- The context's and the latent's layer norms of the residual, joined. -/
theorem post_apply (sH sL hc hl sc hg hG sl hk hK) (hr h0 hc' hs hb) (hr' hc'' hs' hb' hG')
    (hj : Shape.Concatenates [⟨3, ![32, 256, 1024]⟩, ⟨3, ![32, 2048, 1024]⟩] ⟨3, ![32, 2304, 1024]⟩ 1)
    (h y : FVec Ideal ⟨3, ![32, 2304, 1024]⟩ .f32) (ml : FVec Ideal ⟨2, ![32, 6144]⟩ .f32) (mc : FVec Ideal ⟨1, ![6144]⟩ .f32) (g b : FVec Ideal ⟨1, ![1024]⟩ .f32)
    (a : Fin 32) (r : Fin 2304) (k : Fin 1024) :
    concatenate ⟨3, ![32, 2304, 1024]⟩ 1 [⟨⟨3, ![32, 256, 1024]⟩, (layerNormH hr h0 hc' hs hb hg hG (residualC sH hc sc hg hG h y mc) g b : Vec Ideal ⟨3, ![32, 256, 1024]⟩ .f32)⟩,
        ⟨⟨3, ![32, 2048, 1024]⟩, (layerNormH hr' h0 hc'' hs' hb' hg hG' (residualL sL hl sl hk hK h y ml) g b : Vec Ideal ⟨3, ![32, 2048, 1024]⟩ .f32)⟩] hj (ix3 a r k)
      = layerNorm (residual h y ml mc a r) (g (ix1 k)) (b (ix1 k)) k := by
  refine (Cert.Proj.join_apply _ _ _ a r k).trans ?_
  by_cases hb : r.val < 256
  · rw [dif_pos hb, layerNormH_apply _ _ _ _ _ _ _ (.inl rfl)]
    congr 1
    exact funext fun k => residualC_apply sH hc sc hg hG h y ml mc a ⟨r.val, hb⟩ k
  · rw [dif_neg hb, layerNormH_apply _ _ _ _ _ _ _ (.inr rfl)]
    congr 1
    have e : (⟨256 + (r.val - 256), by omega⟩ : Fin 2304) = r := Fin.ext (by dsimp only; omega)
    exact funext fun k => (residualL_apply sL hl sl hk hK h y ml mc a ⟨r.val - 256, by omega⟩ k).trans (congrArg (fun b => residual h y ml mc a b k) e)

end Cert.Out
end
-- ==== Proof.Out.DiffOut.lean ====
/-
  The differential attention's output projection with its residual and layer norm.
-/
module

public import proofs.«01_k».proof.Defs
public import proofs.«01_k».proof.Proof.Out.Host
public import proofs.«01_k».proof.Proof.Gen.Kernel8Ideal.Value
public import proofs.«01_k».proof.Proof.Gen.Reference8Ideal.Run
public import proofs.«01_k».proof.Proof.Gen.Reference8Ideal.Read
public import Idealize.ShloMosaic.Lib.StableHlo.Run
public import Idealize.ShloMosaic.Lib.Quiescent

@[expose] public section

set_option maxRecDepth 16384
noncomputable section
open Idealize.ShloMosaic Idealize.ShloMosaic.TcCoe Idealize.SL.Sem
open Idealize.ShloMosaic.Pipeline (Dat)

namespace Cert.Kernel8Ideal.Out
open Cert.Kernel8Ideal Cert.Kernel8Ideal.Gen Cert.Kernel8Ideal.Value Cert.Proj Cert.Out

/-- The block's product. -/
def productV (o : Vec Ideal S1x256x1024 .f32) (w : Vec Ideal S1024x1024 .bf16) : FVec Ideal S256x1024 .f32 :=
  matmul dot_S256x1024_S1024x1024_S256x1024_1_0_0_1_n_n none (truncf .bf16 (shapeCast S256x1024 o shapeCasts_S1x256x1024_S256x1024) bitsLt_bf16_f32)
    (shapeCast S1024x1024 w shapeCasts_S1024x1024_S1024x1024 : FVec Ideal S1024x1024 .bf16) (constant S256x1024 .f32 0x00000000#32)

theorem productV_apply (o : Vec Ideal S1x256x1024 .f32) (w : Vec Ideal S1024x1024 .bf16) (r : Fin 256) (k : Fin 1024) :
    productV o w (ix2 r k) = ∑ j : Fin 1024, o (ix3 0 r j) * w (ix2 j k) := by
  pointwise [productV]

/-- The whole block. -/
theorem out_apply (x0 x1 : Vec Ideal S1x256x1024 .f32) (x2 : Vec Ideal S1x1x6x1024 .f32) (x3 x4 : Vec Ideal S1x1024 .f32) (x5 : Vec Ideal S1024x1024 .bf16) (y : S1x256x1024.Idx) :
    out0_6 x0 x1 x2 x3 x4 x5 y
      = layerNorm (fun k => Ideal.ofBits .f32 0x3FD744FD#32 * x1 (ix3 0 (y 1) k) + x2 (ix4 0 0 2 k) * ∑ j : Fin 1024, x0 (ix3 0 (y 1) j) * x5 (ix2 j k)) (x3 (ix2 0 (y 2))) (x4 (ix2 0 (y 2))) (y 2) := by
  unfold out0_6
  refine canon_one (fun r n => layerNorm (fun k => Ideal.ofBits .f32 0x3FD744FD#32 * x1 (ix3 0 r k) + x2 (ix4 0 0 2 k) * ∑ j : Fin 1024, x0 (ix3 0 r j) * x5 (ix2 j k)) (x3 (ix2 0 n)) (x4 (ix2 0 n)) n) _ _ (fun r n => ?_) y
  refine (layerNormV_apply reduces_S256x1024_S256 shapeCasts_S256_S256x1 broadcasts_S256x1_S256x1024 broadcasts_S1x1024_S256x1024 shapeCasts_S256x1024_S1x256x1024 shapeCasts_S1x1024_S1x1024
    (View.ld x3 r0_1) (View.ld x4 r0_1)
    (residualV broadcasts_S1x1024_S256x1024 shapeCasts_S1x256x1024_S256x1024 shapeCasts_S1x1x1x1024_S1x1024 (View.ld x1 r0_0) (View.ld x2 r0_3) (productV (View.ld x0 r0_0) (View.ld x5 r0_2))) 0 r n).trans ?_
  refine congr (congr (congr (congrArg layerNorm (funext fun k => ?_)) (ld_mat x3 _ 0 n)) (ld_mat x4 _ 0 n)) rfl
  rw [residualV_apply, productV_apply]
  refine congrArg₂ (· + ·) (congrArg (_ * ·) (ld_rows x1 _ 0 r k)) (congrArg₂ (· * ·) (ld_mod x2 2 (by decide) _ 0 0 0 k) (Finset.sum_congr rfl fun j _ => congrArg₂ (· * ·) (ld_rows x0 _ 0 r j) (ld_mat x5 _ j k)))

variable (m : (ℓ : Loc nD τ sig) → Buf (Elt Ideal) ℓ)

theorem point_lt (t : Fin cfg0.N) : t.val < 288 := lt_of_lt_of_eq t.isLt N_0

theorem index_0 : ∀ t : Fin cfg0.N, win0_0.index t 0 = t.val / 9 ∧ win0_0.index t 1 = t.val % 9 ∧ win0_0.index t 2 = 0 := by decide +kernel
theorem index_1 : ∀ t : Fin cfg0.N, win0_1.index t 0 = t.val / 9 ∧ win0_1.index t 1 = t.val % 9 ∧ win0_1.index t 2 = 0 := by decide +kernel
theorem index_2 : ∀ t : Fin cfg0.N, win0_2.index t 0 = t.val / 9 ∧ win0_2.index t 1 = t.val % 9 ∧ win0_2.index t 2 = 0 ∧ win0_2.index t 3 = 0 := by decide +kernel
theorem index_3 : ∀ t : Fin cfg0.N, win0_3.index t 0 = 0 ∧ win0_3.index t 1 = 0 := by decide +kernel
theorem index_4 : ∀ t : Fin cfg0.N, win0_4.index t 0 = 0 ∧ win0_4.index t 1 = 0 := by decide +kernel
theorem index_5 : ∀ t : Fin cfg0.N, win0_5.index t 0 = 0 ∧ win0_5.index t 1 = 0 := by decide +kernel
theorem index_6 : ∀ t : Fin cfg0.N, win0_6.index t 0 = t.val / 9 ∧ win0_6.index t 1 = t.val % 9 ∧ win0_6.index t 2 = 0 := by decide +kernel

/-- The arguments. -/
def inX (c : Dev nD) : Vec Ideal S32x2304x1024 .f32 := m ((c : Thread nD τ).loc main_arg0)
def inH (c : Dev nD) : Vec Ideal S32x2304x1024 .f32 := m ((c : Thread nD τ).loc main_arg1)
def inL (c : Dev nD) : Vec Ideal S32x6144 .f32 := m ((c : Thread nD τ).loc main_arg2)
def inC (c : Dev nD) : Vec Ideal S6144 .f32 := m ((c : Thread nD τ).loc main_arg3)
def inG (c : Dev nD) : Vec Ideal S1024 .f32 := m ((c : Thread nD τ).loc main_arg4)
def inB (c : Dev nD) : Vec Ideal S1024 .f32 := m ((c : Thread nD τ).loc main_arg5)
def inW (c : Dev nD) : Vec Ideal S1024x1024 .f32 := m ((c : Thread nD τ).loc main_arg6)

/-- The rows to project. -/
theorem read_0 (c : Dev nD) (t : Fin cfg0.N) (r : Fin 256) (k : Fin 1024) :
    (iblk m c 0 t : Vec Ideal S1x256x1024 .f32) (ix3 0 r k)
      = inX m c (ix3 ⟨t.val / 9, by have := point_lt t; omega⟩ ⟨256 * (t.val % 9) + r.val, by omega⟩ k) := by
  unfold inX
  rw [← V_main_arg0 m c]
  unfold iblk
  rw [View.read_apply]
  show V m c main_arg0 _ = V m c main_arg0 _
  congr 1
  have hi := index_0 t
  funext a
  apply Fin.ext
  match a with
  | ⟨0, _⟩ => show win0_0.index t 0 * 1 + 1 * 0 = t.val / 9; rw [hi.1]; omega
  | ⟨1, _⟩ => show win0_0.index t 1 * 256 + 1 * r.val = 256 * (t.val % 9) + r.val; rw [hi.2.1]; omega
  | ⟨2, _⟩ => show win0_0.index t 2 * 1024 + 1 * k.val = k.val; rw [hi.2.2]; omega

/-- The layer's input. -/
theorem read_1 (c : Dev nD) (t : Fin cfg0.N) (r : Fin 256) (k : Fin 1024) :
    (iblk m c 1 t : Vec Ideal S1x256x1024 .f32) (ix3 0 r k)
      = inH m c (ix3 ⟨t.val / 9, by have := point_lt t; omega⟩ ⟨256 * (t.val % 9) + r.val, by omega⟩ k) := by
  unfold inH
  rw [← V_main_arg1 m c]
  unfold iblk
  rw [View.read_apply]
  show V m c main_arg1 _ = V m c main_arg1 _
  congr 1
  have hi := index_1 t
  funext a
  apply Fin.ext
  match a with
  | ⟨0, _⟩ => show win0_1.index t 0 * 1 + 1 * 0 = t.val / 9; rw [hi.1]; omega
  | ⟨1, _⟩ => show win0_1.index t 1 * 256 + 1 * r.val = 256 * (t.val % 9) + r.val; rw [hi.2.1]; omega
  | ⟨2, _⟩ => show win0_1.index t 2 * 1024 + 1 * k.val = k.val; rw [hi.2.2]; omega

/-- The modulation's block has the rows of its batch and block. -/
theorem read_2 (c : Dev nD) (t : Fin cfg0.N) (r : Fin 256) (s : Fin 6) (k : Fin 1024) :
    (iblk m c 2 t : Vec Ideal S1x1x6x1024 .f32) (ix4 0 0 s k)
      = modRow (inL m c) (inC m c) ⟨t.val / 9, by have := point_lt t; omega⟩ (256 * (t.val % 9) + r.val < 256) s k := by
  have hc : (t.val % 9 = 0) = (256 * (t.val % 9) + r.val < 256) := propext (by omega)
  have e : V m c main_v7 (ix4 ⟨t.val / 9, by have := point_lt t; omega⟩ ⟨t.val % 9, by omega⟩ s k)
      = modRow (inL m c) (inC m c) ⟨t.val / 9, by have := point_lt t; omega⟩ (t.val % 9 = 0) s k := by
    refine Eq.trans ?_ (mods_apply (inL m c) (inC m c) shapeCasts_S32x6144_S32x1x6x1024 shapeCasts_S6144_S1x1x6x1024 bcast_S1x1x6x1024_S32x1x6x1024_0_1_2_3
      bcast_S32x1x6x1024_S32x8x6x1024_0_1_2_3 concatenates_S32x1x6x1024_S32x8x6x1024_S32x9x6x1024_d1 _ ⟨t.val % 9, by omega⟩ s k)
    unfold V
    after_results_simp <;> rfl
  refine Eq.trans ?_ (e.trans (by unfold modRow; simp only [hc]))
  unfold iblk
  rw [View.read_apply]
  show V m c main_v7 _ = V m c main_v7 _
  congr 1
  have hi := index_2 t
  funext a
  apply Fin.ext
  match a with
  | ⟨0, _⟩ => show win0_2.index t 0 * 1 + 1 * 0 = t.val / 9; rw [hi.1]; omega
  | ⟨1, _⟩ => show win0_2.index t 1 * 1 + 1 * 0 = t.val % 9; rw [hi.2.1]; omega
  | ⟨2, _⟩ => show win0_2.index t 2 * 6 + 1 * s.val = s.val; rw [hi.2.2.1]; omega
  | ⟨3, _⟩ => show win0_2.index t 3 * 1024 + 1 * k.val = k.val; rw [hi.2.2.2]; omega

/-- The gain. -/
theorem read_3 (c : Dev nD) (t : Fin cfg0.N) (k : Fin 1024) : (iblk m c 3 t : Vec Ideal S1x1024 .f32) (ix2 0 k) = inG m c (ix1 k) := by
  have e : V m c main_v0 (ix2 0 k) = inG m c (ix1 k) := by
    refine Eq.trans ?_ (row_apply (inG m c) shapeCasts_S1024_S1x1024 0 k)
    unfold V
    after_results_simp <;> rfl
  rw [← e]
  unfold iblk
  rw [View.read_apply]
  show V m c main_v0 _ = V m c main_v0 _
  congr 1
  have hi := index_3 t
  funext a
  apply Fin.ext
  match a with
  | ⟨0, _⟩ => show win0_3.index t 0 * 1 + 1 * 0 = 0; rw [hi.1]
  | ⟨1, _⟩ => show win0_3.index t 1 * 1024 + 1 * k.val = k.val; rw [hi.2]; omega

/-- The bias. -/
theorem read_4 (c : Dev nD) (t : Fin cfg0.N) (k : Fin 1024) : (iblk m c 4 t : Vec Ideal S1x1024 .f32) (ix2 0 k) = inB m c (ix1 k) := by
  have e : V m c main_v1 (ix2 0 k) = inB m c (ix1 k) := by
    refine Eq.trans ?_ (row_apply (inB m c) shapeCasts_S1024_S1x1024 0 k)
    unfold V
    after_results_simp <;> rfl
  rw [← e]
  unfold iblk
  rw [View.read_apply]
  show V m c main_v1 _ = V m c main_v1 _
  congr 1
  have hi := index_4 t
  funext a
  apply Fin.ext
  match a with
  | ⟨0, _⟩ => show win0_4.index t 0 * 1 + 1 * 0 = 0; rw [hi.1]
  | ⟨1, _⟩ => show win0_4.index t 1 * 1024 + 1 * k.val = k.val; rw [hi.2]; omega

/-- The weight's block is the weight. -/
theorem read_5 (c : Dev nD) (t : Fin cfg0.N) (k : Fin 1024) (n : Fin 1024) : (iblk m c 5 t : Vec Ideal S1024x1024 .bf16) (ix2 k n) = inW m c (ix2 k n) := by
  have e : V m c main_v2 = (inW m c : Vec Ideal S1024x1024 .f32) := by
    unfold V
    after_results_simp <;> rfl
  rw [← e]
  unfold iblk
  rw [View.read_apply]
  show V m c main_v2 _ = V m c main_v2 _
  congr 1
  have hi := index_5 t
  funext a
  apply Fin.ext
  match a with
  | ⟨0, _⟩ => show win0_5.index t 0 * 1024 + 1 * k.val = k.val; rw [hi.1]; omega
  | ⟨1, _⟩ => show win0_5.index t 1 * 1024 + 1 * n.val = n.val; rw [hi.2]; omega

/-- The projected rows. -/
def product (c : Dev nD) : FVec Ideal ⟨3, ![32, 2304, 1024]⟩ .f32 := fun i => ∑ j : Fin 1024, inX m c (ix3 (i 0) (i 1) j) * inW m c (ix2 j (i 2))

/-- The layer norms of the residual. -/
def result (c : Dev nD) : Buf (Elt Ideal) ((c : Thread nD τ).loc main_v8) :=
  fun i : S32x2304x1024.Idx => layerNorm (residual (inH m c) (product m c) (inL m c) (inC m c) (i 0) (i 1)) (inG m c (ix1 (i 2))) (inB m c (ix1 (i 2))) (i 2)

/-- A point's rows to project. -/
theorem read_row (c : Dev nD) (t : Fin cfg0.N) (r : Fin 256) (j : Fin 1024) :
    (iblk m c 0 t : Vec Ideal S1x256x1024 .f32) (ix3 0 r j) = inX m c (ix3 ⟨t.val / 9, by have := point_lt t; omega⟩ ⟨256 * (t.val % 9) + r.val, by omega⟩ j) := read_0 m c t r j

/-- What a point writes back is its block of the result. -/
theorem flushed_eq (c : Dev nD) (t : Fin cfg0.N) :
    (dats m 0 c).flushed 6 t = ((cfg0.win 6).blk t).view.read (Elt Ideal) (result m c) := by
  rw [flushed6]
  refine funext fun (y : S1x256x1024.Idx) => ?_
  refine Eq.trans (out_apply _ _ _ _ _ _ y) ?_
  rw [View.read_apply]
  have hi := index_6 t
  have h0 : (y 0).val < 1 := (y 0).isLt
  have e : ((cfg0.win 6).blk t).view.emb y = ix3 ⟨t.val / 9, by have := point_lt t; omega⟩ ⟨256 * (t.val % 9) + (y 1).val, by have h : (y 1).val < 256 := (y 1).isLt; omega⟩ (y 2) := by
    funext a
    apply Fin.ext
    match a with
    | ⟨0, _⟩ => show win0_6.index t 0 * 1 + 1 * (y 0).val = t.val / 9; rw [hi.1]; omega
    | ⟨1, _⟩ => show win0_6.index t 1 * 256 + 1 * (y 1).val = 256 * (t.val % 9) + (y 1).val; rw [hi.2.1]; omega
    | ⟨2, _⟩ => show win0_6.index t 2 * 1024 + 1 * (y 2).val = (y 2).val; rw [hi.2.2]; omega
  refine Eq.trans ?_ (congrArg (result m c) e).symm
  have hr : ∀ k : Fin 1024, _ = residual (inH m c) (product m c) (inL m c) (inC m c) ⟨t.val / 9, by have := point_lt t; omega⟩ ⟨256 * (t.val % 9) + (y 1).val, by have h : (y 1).val < 256 := (y 1).isLt; omega⟩ k := fun k =>
    congrArg₂ (· + ·) (congrArg (_ * ·) (read_1 m c t (y 1) k)) (congrArg₂ (· * ·) (read_2 m c t (y 1) 2 k) (Finset.sum_congr rfl fun j _ => congrArg₂ (· * ·) (read_row m c t (y 1) j) (read_5 m c t j k)))
  exact congr (congr (congr (congrArg layerNorm (funext hr)) (read_3 m c t (y 2))) (read_4 m c t (y 2))) rfl

/-- So the output array ends as the result. -/
theorem final (c : Dev nD) : (dats m 0 c).arrAt 6 cfg0.N = result m c :=
  (dats m 0 c).arrAt_eq_of_cover 6 (result m c) (fun t _ => flushed_eq m c t) fun i : S32x2304x1024.Idx => by
    have h0 : (i 0 : Nat) < 32 := (i 0).isLt
    have h1 : (i 1 : Nat) < 2304 := (i 1).isLt
    have h2 : (i 2 : Nat) < 1024 := (i 2).isLt
    have hN : cfg0.N = 288 := N_0
    obtain ⟨t, ht⟩ : ∃ t : Fin cfg0.N, t.val = 9 * (i 0 : Nat) + (i 1 : Nat) / 256 := ⟨⟨9 * (i 0 : Nat) + (i 1 : Nat) / 256, by omega⟩, rfl⟩
    refine ⟨t, flush0_6 t, ?_⟩
    have hi := index_6 t
    show i ∈ ((View.whole main_v8).slice (win0_6.rect t)).set
    rw [View.set_slice_whole, Rect.mem_set_unit]
    intro a
    match a with
    | ⟨0, _⟩ => show win0_6.index t 0 * 1 ≤ (i 0 : Nat) ∧ (i 0 : Nat) < win0_6.index t 0 * 1 + 1
                rw [hi.1]; omega
    | ⟨1, _⟩ => show win0_6.index t 1 * 256 ≤ (i 1 : Nat) ∧ (i 1 : Nat) < win0_6.index t 1 * 256 + 256
                rw [hi.2.1]; omega
    | ⟨2, _⟩ => show win0_6.index t 2 * 1024 ≤ (i 2 : Nat) ∧ (i 2 : Nat) < win0_6.index t 2 * 1024 + 1024
                rw [hi.2.2]; omega

end Cert.Kernel8Ideal.Out

namespace Cert.Reference8Ideal.Out
open Cert.Reference8Ideal Cert.Reference8Ideal.Gen Cert.Reference8Ideal.Read Cert.Proj Cert.Out

variable (x0 x1 : FVec Ideal S32x2304x1024 .f32) (x2 : FVec Ideal S32x6144 .f32) (x3 : FVec Ideal S6144 .f32) (x4 x5 : FVec Ideal S1024 .f32) (x6 : FVec Ideal S1024x1024 .f32)

theorem product_apply (a : Fin 32) (b : Fin 2304) (k : Fin 1024) : val_main_v0 (F := Ideal) x0 x6 (ix3 a b k) = ∑ j : Fin 1024, x0 (ix3 a b j) * x6 (ix2 j k) := by
  pointwise [val_main_v0]

/-- The reference's rows. -/
theorem out_apply (a : Fin 32) (b : Fin 2304) (d : Fin 1024) :
    val_main_v82 (F := Ideal) x0 x1 x2 x3 x4 x5 x6 (ix3 a b d)
      = layerNorm (residual x1 (fun i => ∑ j : Fin 1024, x0 (ix3 (i 0) (i 1) j) * x6 (ix2 j (i 2))) x2 x3 a b) (x4 (ix1 d)) (x5 (ix1 d)) d := by
  have e : val_main_v0 (F := Ideal) x0 x6 = (fun i => ∑ j : Fin 1024, x0 (ix3 (i 0) (i 1) j) * x6 (ix2 j (i 2)) : FVec Ideal S32x2304x1024 .f32) :=
    funext fun i : S32x2304x1024.Idx => (congrArg _ (eq_ix3 i)).trans (product_apply x0 x6 (i 0) (i 1) (i 2))
  rw [← e]
  exact post_apply slices_S32x2304x1024_S32x256x1024_0_0_0 slices_S32x2304x1024_S32x2048x1024_0_256_0 bcast_S_S32x256x1024 bcast_S_S32x2048x1024 slices_S6144_S1024_2048 bcast_S1024_S1x1x1024_2 bcast_S1x1x1024_S32x256x1024_0_1_2
    slices_S32x6144_S32x1024_0_2048 bcast_S32x1024_S32x1x1024_0_2 bcast_S32x1x1024_S32x2048x1024_0_1_2
    reducesTo_S32x256x1024_S32x256_d2 h_S_ bcast_S32x256_S32x256x1_0_1 bcast_S_S32x256x1 bcast_S32x256x1_S32x256x1024_0_1_2
    reducesTo_S32x2048x1024_S32x2048_d2 bcast_S32x2048_S32x2048x1_0_1 bcast_S_S32x2048x1 bcast_S32x2048x1_S32x2048x1024_0_1_2 bcast_S1x1x1024_S32x2048x1024_0_1_2
    concatenates_S32x256x1024_S32x2048x1024_S32x2304x1024_d1 x1 (val_main_v0 (F := Ideal) x0 x6) x2 x3 x4 x5 a b d

end Cert.Reference8Ideal.Out

namespace Cert.Out

theorem frame_Reference8Ideal : Cert.quiescent_Reference8Ideal := fun m ρ _ =>
  (θ_run _ _ _).mono (fun r h => ⟨fun c => (h c).2, Idealize.ShloMosaic.sem_eq_zero_of_no_sems (by decide) r.2⟩) (Cert.Reference8Ideal.Value.run m ρ)

/-- The kernel's rows and the reference's are the same array. -/
theorem algebraic8 : Cert.algebraic_Kernel8Ideal_Reference8Ideal := fun m g m' g' _ ha =>
  ⟨fun c => Cert.Kernel8Ideal.Out.result m c,
    (θ_run _ _ _).mono (fun r h c => ⟨(h c).1.trans (Cert.Kernel8Ideal.Out.final m c), (h c).2⟩) (Cert.Kernel8Ideal.Value.run_blocks m g),
    (θ_run _ _ _).mono (fun r h c => ⟨(h c).1.trans (by
      rw [Cert.Reference8Ideal.Read.val_main_v82_eq, (ha c).1, (ha c).2.1, (ha c).2.2.1, (ha c).2.2.2.1, (ha c).2.2.2.2.1, (ha c).2.2.2.2.2.1, (ha c).2.2.2.2.2.2]
      exact funext fun i : Cert.Kernel8Ideal.S32x2304x1024.Idx => (congrArg _ (eq_ix3 i)).trans (Cert.Reference8Ideal.Out.out_apply _ _ _ _ _ _ _ (i 0) (i 1) (i 2))), (h c).2⟩) (Cert.Reference8Ideal.Value.run m' g')⟩

end Cert.Out
end
-- ==== Proof.Out.Heads.lean ====
/-
  Rows of 2048 entries in equal parts, each part brought to mean zero and mean square one, or only to the latter.
-/
module

public import proofs.«01_k».proof.Proof.Out.Host

@[expose] public section

set_option maxRecDepth 16384
noncomputable section
open Idealize.ShloMosaic Idealize.ShloMosaic.TcCoe Idealize.SL.Sem

namespace Cert.Out

/-- One over one plus the exponential of `-x`. -/
def logistic (x : EReal) : EReal := Ideal.div (Ideal.ofBits .f32 0x3F800000#32) (Ideal.ofBits .f32 0x3F800000#32 + Ideal.exp (-x))

/-- `x` times its logistic. -/
def silu (x : EReal) : EReal := x * logistic x

/-- Each of four heads of 512 entries normalised. -/
def headNorm (u : Fin 2048 → EReal) (j : Fin 2048) : EReal :=
  standard 0x44000000#32 0x3727C5AC#32 (fun d : Fin 512 => u ⟨512 * (j.val / 512) + d.val, by omega⟩) ⟨j.val % 512, by omega⟩

/-- Each of eight groups of 256 entries scaled to mean square one. -/
def groupNorm (u : Fin 2048 → EReal) (j : Fin 2048) : EReal :=
  u j * scale 0x43800000#32 0x358637BD#32 (fun d : Fin 256 => u ⟨256 * (j.val / 256) + d.val, by omega⟩)

/-- Four parts of 512 columns joined. -/
theorem join4_apply (A : Fin 4 → FVec Ideal ⟨2, ![256, 512]⟩ .f32)
    (h : Shape.Concatenates [⟨2, ![256, 512]⟩, ⟨2, ![256, 512]⟩, ⟨2, ![256, 512]⟩, ⟨2, ![256, 512]⟩] ⟨2, ![256, 2048]⟩ 1) (r : Fin 256) (j : Fin 2048) :
    concatenate ⟨2, ![256, 2048]⟩ 1 [⟨⟨2, ![256, 512]⟩, A 0⟩, ⟨⟨2, ![256, 512]⟩, A 1⟩, ⟨⟨2, ![256, 512]⟩, A 2⟩, ⟨⟨2, ![256, 512]⟩, A 3⟩] h (ix2 r j)
      = A ⟨j.val / 512, by omega⟩ (ix2 r ⟨j.val % 512, by omega⟩) := by
  obtain ⟨n, hn⟩ : ∃ n : Fin 4, n = (⟨j.val / 512, by omega⟩ : Fin 4) := ⟨_, rfl⟩
  have hv : n.val = j.val / 512 := congrArg Fin.val hn
  rw [← hn]
  refine concatenate_apply_piece (t := ⟨2, ![256, 2048]⟩) 1 _ _ _ n.val (by exact n.isLt) ⟨2, ![256, 512]⟩ (A n) ?_ rfl (512 * n.val) ?_ _ ?_ ?_
  · fin_cases n <;> rfl
  · fin_cases n <;> rfl
  · intro b hb
    match b with
    | ⟨0, _⟩ => rfl
    | ⟨1, _⟩ => exact absurd rfl hb
  · show 512 * n.val + j.val % 512 = j.val
    omega

/-- Eight parts of 256 columns joined. -/
theorem join8_apply (A : Fin 8 → FVec Ideal ⟨2, ![256, 256]⟩ .f32)
    (h : Shape.Concatenates [⟨2, ![256, 256]⟩, ⟨2, ![256, 256]⟩, ⟨2, ![256, 256]⟩, ⟨2, ![256, 256]⟩, ⟨2, ![256, 256]⟩, ⟨2, ![256, 256]⟩, ⟨2, ![256, 256]⟩, ⟨2, ![256, 256]⟩] ⟨2, ![256, 2048]⟩ 1)
    (r : Fin 256) (j : Fin 2048) :
    concatenate ⟨2, ![256, 2048]⟩ 1 [⟨⟨2, ![256, 256]⟩, A 0⟩, ⟨⟨2, ![256, 256]⟩, A 1⟩, ⟨⟨2, ![256, 256]⟩, A 2⟩, ⟨⟨2, ![256, 256]⟩, A 3⟩,
        ⟨⟨2, ![256, 256]⟩, A 4⟩, ⟨⟨2, ![256, 256]⟩, A 5⟩, ⟨⟨2, ![256, 256]⟩, A 6⟩, ⟨⟨2, ![256, 256]⟩, A 7⟩] h (ix2 r j)
      = A ⟨j.val / 256, by omega⟩ (ix2 r ⟨j.val % 256, by omega⟩) := by
  obtain ⟨n, hn⟩ : ∃ n : Fin 8, n = (⟨j.val / 256, by omega⟩ : Fin 8) := ⟨_, rfl⟩
  have hv : n.val = j.val / 256 := congrArg Fin.val hn
  rw [← hn]
  refine concatenate_apply_piece (t := ⟨2, ![256, 2048]⟩) 1 _ _ _ n.val (by exact n.isLt) ⟨2, ![256, 256]⟩ (A n) ?_ rfl (256 * n.val) ?_ _ ?_ ?_
  · fin_cases n <;> rfl
  · fin_cases n <;> rfl
  · intro b hb
    match b with
    | ⟨0, _⟩ => rfl
    | ⟨1, _⟩ => exact absurd rfl hb
  · show 256 * n.val + j.val % 256 = j.val
    omega

section Block
variable {W : Nat} (hs : ∀ o : Nat, o + W ≤ 2048 → Shape.Slices ⟨2, ![256, 2048]⟩ ![0, o] ⟨2, ![256, W]⟩)
variable (hr : Shape.Reduces ⟨2, ![256, W]⟩ [1] ⟨1, ![256]⟩) (hc : Shape.ShapeCasts ⟨1, ![256]⟩ ⟨2, ![256, 1]⟩) (hb : Shape.Broadcasts ⟨2, ![256, 1]⟩ ⟨2, ![256, W]⟩)

/-- A part's columns. -/
theorem part_apply (v : FVec Ideal ⟨2, ![256, 2048]⟩ .f32) (o : Nat) (h : Shape.Slices ⟨2, ![256, 2048]⟩ ![0, o] ⟨2, ![256, W]⟩) (r : Fin 256) (d : Fin W) (hd : o + d.val < 2048) :
    extractStridedSlice ⟨2, ![256, W]⟩ ![0, o] v h (ix2 r d) = v (ix2 r ⟨o + d.val, hd⟩) := by
  pointwise

end Block

/-- The four heads of a block's rows. -/
def headsV (hs : ∀ n : Fin 4, Shape.Slices ⟨2, ![256, 2048]⟩ ![0, 512 * n.val] ⟨2, ![256, 512]⟩) (hr : Shape.Reduces ⟨2, ![256, 512]⟩ [1] ⟨1, ![256]⟩)
    (hc : Shape.ShapeCasts ⟨1, ![256]⟩ ⟨2, ![256, 1]⟩) (hb : Shape.Broadcasts ⟨2, ![256, 1]⟩ ⟨2, ![256, 512]⟩) (v : FVec Ideal ⟨2, ![256, 2048]⟩ .f32) (n : Fin 4) : FVec Ideal ⟨2, ![256, 512]⟩ .f32 :=
  scaledV (centredV (extractStridedSlice ⟨2, ![256, 512]⟩ ![0, 512 * n.val] v (hs n)) 0x44000000#32 hr hc hb) 0x44000000#32 0x3727C5AC#32 hr hc hb

/-- The eight groups of a block's rows. -/
def groupsV (hs : ∀ n : Fin 8, Shape.Slices ⟨2, ![256, 2048]⟩ ![0, 256 * n.val] ⟨2, ![256, 256]⟩) (hr : Shape.Reduces ⟨2, ![256, 256]⟩ [1] ⟨1, ![256]⟩)
    (hc : Shape.ShapeCasts ⟨1, ![256]⟩ ⟨2, ![256, 1]⟩) (hb : Shape.Broadcasts ⟨2, ![256, 1]⟩ ⟨2, ![256, 256]⟩) (v : FVec Ideal ⟨2, ![256, 2048]⟩ .f32) (n : Fin 8) : FVec Ideal ⟨2, ![256, 256]⟩ .f32 :=
  scaledV (extractStridedSlice ⟨2, ![256, 256]⟩ ![0, 256 * n.val] v (hs n)) 0x43800000#32 0x358637BD#32 hr hc hb

theorem headsV_apply (hs hr hc hb) (v : FVec Ideal ⟨2, ![256, 2048]⟩ .f32) (h) (r : Fin 256) (j : Fin 2048) :
    concatenate ⟨2, ![256, 2048]⟩ 1 [⟨⟨2, ![256, 512]⟩, headsV hs hr hc hb v 0⟩, ⟨⟨2, ![256, 512]⟩, headsV hs hr hc hb v 1⟩, ⟨⟨2, ![256, 512]⟩, headsV hs hr hc hb v 2⟩,
        ⟨⟨2, ![256, 512]⟩, headsV hs hr hc hb v 3⟩] h (ix2 r j) = headNorm (fun k => v (ix2 r k)) j := by
  refine (join4_apply (headsV hs hr hc hb v) h r j).trans ?_
  unfold headsV
  rw [standardV_apply]
  unfold headNorm
  congr 1
  exact funext fun d => part_apply v _ _ r d (by show 512 * (j.val / 512) + d.val < 2048; omega)

theorem groupsV_apply (hs hr hc hb) (v : FVec Ideal ⟨2, ![256, 2048]⟩ .f32) (h) (r : Fin 256) (j : Fin 2048) :
    concatenate ⟨2, ![256, 2048]⟩ 1 [⟨⟨2, ![256, 256]⟩, groupsV hs hr hc hb v 0⟩, ⟨⟨2, ![256, 256]⟩, groupsV hs hr hc hb v 1⟩, ⟨⟨2, ![256, 256]⟩, groupsV hs hr hc hb v 2⟩,
        ⟨⟨2, ![256, 256]⟩, groupsV hs hr hc hb v 3⟩, ⟨⟨2, ![256, 256]⟩, groupsV hs hr hc hb v 4⟩, ⟨⟨2, ![256, 256]⟩, groupsV hs hr hc hb v 5⟩, ⟨⟨2, ![256, 256]⟩, groupsV hs hr hc hb v 6⟩,
        ⟨⟨2, ![256, 256]⟩, groupsV hs hr hc hb v 7⟩] h (ix2 r j) = groupNorm (fun k => v (ix2 r k)) j := by
  refine (join8_apply (groupsV hs hr hc hb v) h r j).trans ?_
  unfold groupsV
  rw [scaledV_apply]
  unfold groupNorm
  have e : ∀ d : Fin 256, extractStridedSlice ⟨2, ![256, 256]⟩ ![0, 256 * (j.val / 256)] v (hs ⟨j.val / 256, by omega⟩) (ix2 r d) = v (ix2 r ⟨256 * (j.val / 256) + d.val, by omega⟩) :=
    fun d => part_apply v _ _ r d _
  have hj : (⟨256 * (j.val / 256) + j.val % 256, by omega⟩ : Fin 2048) = j := Fin.ext (by dsimp only; omega)
  refine congrArg₂ (· * ·) ((e _).trans (congrArg (fun k => v (ix2 r k)) hj)) (congrArg _ (funext e))

section Array
variable {H W : Nat}
variable (hr : Shape.ReducesTo ⟨4, ![32, 2304, H, W]⟩ [3] ⟨3, ![32, 2304, H]⟩) (h0 : 0 < (⟨0, ![]⟩ : Shape).numel)
  (hc : Shape.BroadcastsInDim ⟨3, ![32, 2304, H]⟩ ⟨4, ![32, 2304, H, 1]⟩ (![0, 1, 2] : Fin 3 → Fin 4)) (hs : Shape.BroadcastsInDim ⟨0, ![]⟩ ⟨4, ![32, 2304, H, 1]⟩ (![] : Fin 0 → Fin 4))
  (hb : Shape.BroadcastsInDim ⟨4, ![32, 2304, H, 1]⟩ ⟨4, ![32, 2304, H, W]⟩ (![0, 1, 2, 3] : Fin 4 → Fin 4))

/-- The parts' means. -/
def meanG (c : BitVec 32) (u : FVec Ideal ⟨4, ![32, 2304, H, W]⟩ .f32) : FVec Ideal ⟨4, ![32, 2304, H, 1]⟩ .f32 :=
  Host.divf (broadcastInDim ⟨4, ![32, 2304, H, 1]⟩ ![0, 1, 2] hc (Host.reduceAdd u (num 0x00000000#32) hr h0)) (broadcastInDim ⟨4, ![32, 2304, H, 1]⟩ ![] hs (num c))

/-- The parts less their means. -/
def centredG (c : BitVec 32) (u : FVec Ideal ⟨4, ![32, 2304, H, W]⟩ .f32) : FVec Ideal ⟨4, ![32, 2304, H, W]⟩ .f32 :=
  subf u (broadcastInDim ⟨4, ![32, 2304, H, W]⟩ ![0, 1, 2, 3] hb (meanG hr h0 hc hs c u))

/-- The parts times one over the root of their mean squares. -/
def scaledG (c e : BitVec 32) (u : FVec Ideal ⟨4, ![32, 2304, H, W]⟩ .f32) : FVec Ideal ⟨4, ![32, 2304, H, W]⟩ .f32 :=
  mulf u (broadcastInDim ⟨4, ![32, 2304, H, W]⟩ ![0, 1, 2, 3] hb (Host.rsqrt (addf (meanG hr h0 hc hs c (mulf u u)) (broadcastInDim ⟨4, ![32, 2304, H, 1]⟩ ![] hs (num e)))))

variable (hW : (H = 4 ∧ W = 512) ∨ (H = 8 ∧ W = 256))

include hW

theorem meanG_apply (c : BitVec 32) (u : FVec Ideal ⟨4, ![32, 2304, H, W]⟩ .f32) (a : Fin 32) (b : Fin 2304) (n : Fin H) (z : Fin 1) :
    meanG hr h0 hc hs c u (ix4 a b n z) = mean c (fun d => u (ix4 a b n d)) := by
  unfold mean
  rcases hW with ⟨rfl, rfl⟩ | ⟨rfl, rfl⟩ <;> pointwise [meanG]

theorem centredG_apply (c : BitVec 32) (u : FVec Ideal ⟨4, ![32, 2304, H, W]⟩ .f32) (a : Fin 32) (b : Fin 2304) (n : Fin H) (d : Fin W) :
    centredG hr h0 hc hs hb c u (ix4 a b n d) = centred c (fun d => u (ix4 a b n d)) d := by
  unfold centred
  rw [← meanG_apply hr h0 hc hs hW c u a b n 0]
  unfold centredG
  generalize meanG hr h0 hc hs c u = w
  rcases hW with ⟨rfl, rfl⟩ | ⟨rfl, rfl⟩ <;> pointwise

theorem scaledG_apply (c e : BitVec 32) (u : FVec Ideal ⟨4, ![32, 2304, H, W]⟩ .f32) (a : Fin 32) (b : Fin 2304) (n : Fin H) (d : Fin W) :
    scaledG hr h0 hc hs hb c e u (ix4 a b n d) = u (ix4 a b n d) * scale c e (fun d => u (ix4 a b n d)) := by
  have h := meanG_apply hr h0 hc hs hW c (mulf u u) a b n 0
  unfold scale
  refine Eq.trans ?_ (congrArg (fun q => u (ix4 a b n d) * Ideal.rsqrt (q + Ideal.ofBits .f32 e)) h)
  unfold scaledG
  generalize meanG hr h0 hc hs c (mulf u u) = w
  rcases hW with ⟨rfl, rfl⟩ | ⟨rfl, rfl⟩ <;> pointwise

end Array

/-- An array's rows split in parts. -/
theorem split_apply {H W : Nat} (hHW : H * W = 2048) (u : Vec Ideal ⟨3, ![32, 2304, 2048]⟩ .f32) (h : Shape.ShapeCasts ⟨3, ![32, 2304, 2048]⟩ ⟨4, ![32, 2304, H, W]⟩)
    (a : Fin 32) (b : Fin 2304) (n : Fin H) (d : Fin W) (j : Fin 2048) (hj : j.val = W * n.val + d.val) :
    shapeCast ⟨4, ![32, 2304, H, W]⟩ u h (ix4 a b n d) = u (ix3 a b j) :=
  shapeCast_apply u h (ix4 a b n d) (ix3 a b j) (by
    rewrite [Shape.rowMajor_val_three, Shape.rowMajor_val_four]
    show (a.val * 2304 + b.val) * 2048 + j.val = ((a.val * 2304 + b.val) * H + n.val) * W + d.val
    rw [hj, ← hHW]
    ring)

/-- And joined again. -/
theorem merge_apply {H W : Nat} (hHW : H * W = 2048) (u : Vec Ideal ⟨4, ![32, 2304, H, W]⟩ .f32) (h : Shape.ShapeCasts ⟨4, ![32, 2304, H, W]⟩ ⟨3, ![32, 2304, 2048]⟩)
    (a : Fin 32) (b : Fin 2304) (n : Fin H) (d : Fin W) (j : Fin 2048) (hj : j.val = W * n.val + d.val) :
    shapeCast ⟨3, ![32, 2304, 2048]⟩ u h (ix3 a b j) = u (ix4 a b n d) :=
  shapeCast_apply u h (ix3 a b j) (ix4 a b n d) (by
    rewrite [Shape.rowMajor_val_three, Shape.rowMajor_val_four]
    show ((a.val * 2304 + b.val) * H + n.val) * W + d.val = (a.val * 2304 + b.val) * 2048 + j.val
    rw [hj, ← hHW]
    ring)

/-- The heads of an array's rows. -/
theorem headsG_apply (hr h0 hc hs hb) (h h') (u : FVec Ideal ⟨3, ![32, 2304, 2048]⟩ .f32) (a : Fin 32) (b : Fin 2304) (j : Fin 2048) :
    shapeCast ⟨3, ![32, 2304, 2048]⟩ (scaledG hr h0 hc hs hb 0x44000000#32 0x3727C5AC#32 (centredG hr h0 hc hs hb 0x44000000#32 (shapeCast ⟨4, ![32, 2304, 4, 512]⟩ u h))) h' (ix3 a b j)
      = headNorm (fun k => u (ix3 a b k)) j := by
  refine (merge_apply rfl _ _ a b ⟨j.val / 512, by omega⟩ ⟨j.val % 512, by omega⟩ j (by dsimp only; omega)).trans ?_
  rw [scaledG_apply _ _ _ _ _ (.inl ⟨rfl, rfl⟩)]
  simp only [centredG_apply _ _ _ _ _ (Or.inl ⟨rfl, rfl⟩)]
  have e : ∀ d : Fin 512, shapeCast ⟨4, ![32, 2304, 4, 512]⟩ u h (ix4 a b ⟨j.val / 512, by omega⟩ d) = u (ix3 a b ⟨512 * (j.val / 512) + d.val, by omega⟩) :=
    fun d => split_apply rfl u h a b _ d _ rfl
  simp only [e]
  rfl

/-- The groups of an array's rows. -/
theorem groupsG_apply (hr h0 hc hs hb) (h h') (u : FVec Ideal ⟨3, ![32, 2304, 2048]⟩ .f32) (a : Fin 32) (b : Fin 2304) (j : Fin 2048) :
    shapeCast ⟨3, ![32, 2304, 2048]⟩ (scaledG hr h0 hc hs hb 0x43800000#32 0x358637BD#32 (shapeCast ⟨4, ![32, 2304, 8, 256]⟩ u h)) h' (ix3 a b j)
      = groupNorm (fun k => u (ix3 a b k)) j := by
  refine (merge_apply rfl _ _ a b ⟨j.val / 256, by omega⟩ ⟨j.val % 256, by omega⟩ j (by dsimp only; omega)).trans ?_
  rw [scaledG_apply _ _ _ _ _ (.inr ⟨rfl, rfl⟩)]
  have e : ∀ d : Fin 256, shapeCast ⟨4, ![32, 2304, 8, 256]⟩ u h (ix4 a b ⟨j.val / 256, by omega⟩ d) = u (ix3 a b ⟨256 * (j.val / 256) + d.val, by omega⟩) :=
    fun d => split_apply rfl u h a b _ d _ rfl
  have hj : (⟨256 * (j.val / 256) + j.val % 256, by omega⟩ : Fin 2048) = j := Fin.ext (by dsimp only; omega)
  simp only [e, hj]
  rfl

theorem heads_slices : ∀ n : Fin 4, Shape.Slices ⟨2, ![256, 2048]⟩ ![0, 512 * n.val] ⟨2, ![256, 512]⟩ := by decide

theorem groups_slices : ∀ n : Fin 8, Shape.Slices ⟨2, ![256, 2048]⟩ ![0, 256 * n.val] ⟨2, ![256, 256]⟩ := by decide

/-- A block's logistics. -/
def logisticV (x : FVec Ideal ⟨2, ![256, 2048]⟩ .f32) : FVec Ideal ⟨2, ![256, 2048]⟩ .f32 :=
  divf (broadcast ⟨2, ![256, 2048]⟩ (Scalar.ofBits .f32 0x3F800000#32)) (addf (broadcast ⟨2, ![256, 2048]⟩ (Scalar.ofBits .f32 0x3F800000#32))
    (exp (subf (broadcast ⟨2, ![256, 2048]⟩ (Scalar.ofBits .f32 0x00000000#32)) x)))

theorem logisticV_apply (x : FVec Ideal ⟨2, ![256, 2048]⟩ .f32) (r : Fin 256) (j : Fin 2048) : logisticV x (ix2 r j) = logistic (x (ix2 r j)) := by
  unfold logistic
  rw [← zero_sub, ← Ideal.ofBits_zero_f32]
  rfl

/-- An array's logistics. -/
def logisticG (hs : Shape.BroadcastsInDim ⟨0, ![]⟩ ⟨3, ![32, 2304, 2048]⟩ (![] : Fin 0 → Fin 3)) (x : FVec Ideal ⟨3, ![32, 2304, 2048]⟩ .f32) : FVec Ideal ⟨3, ![32, 2304, 2048]⟩ .f32 :=
  Host.divf (broadcastInDim ⟨3, ![32, 2304, 2048]⟩ ![] hs (num 0x3F800000#32)) (addf (broadcastInDim ⟨3, ![32, 2304, 2048]⟩ ![] hs (num 0x3F800000#32)) (Host.exp (Host.negf x)))

theorem logisticG_apply (hs) (x : FVec Ideal ⟨3, ![32, 2304, 2048]⟩ .f32) (a : Fin 32) (b : Fin 2304) (j : Fin 2048) : logisticG hs x (ix3 a b j) = logistic (x (ix3 a b j)) := by
  rfl

/-- A vector along the last axis. -/
theorem along_apply (h1 : Shape.BroadcastsInDim ⟨1, ![2048]⟩ ⟨3, ![1, 1, 2048]⟩ (![2] : Fin 1 → Fin 3))
    (h2 : Shape.BroadcastsInDim ⟨3, ![1, 1, 2048]⟩ ⟨3, ![32, 2304, 2048]⟩ (![0, 1, 2] : Fin 3 → Fin 3)) (g : FVec Ideal ⟨1, ![2048]⟩ .f32) (a : Fin 32) (b : Fin 2304) (j : Fin 2048) :
    broadcastInDim ⟨3, ![32, 2304, 2048]⟩ ![0, 1, 2] h2 (broadcastInDim ⟨3, ![1, 1, 2048]⟩ ![2] h1 g) (ix3 a b j) = g (ix1 j) := by
  pointwise

/-- The retention's row: the heads of the two directions' sum, times the gain and the gate. -/
def retRow (o : FVec Ideal ⟨3, ![32, 2304, 4096]⟩ .f32) (p : FVec Ideal ⟨3, ![32, 2304, 6144]⟩ .f32) (g : FVec Ideal ⟨1, ![2048]⟩ .f32) (a : Fin 32) (b : Fin 2304) (j : Fin 2048) : EReal :=
  headNorm (fun k => o (ix3 a b ⟨k.val, by omega⟩) + o (ix3 a b ⟨2048 + k.val, by omega⟩)) j * g (ix1 j) * silu (p (ix3 a b ⟨4096 + j.val, by omega⟩))

/-- The long short-term memory's row: its output gate, its heads, the skip and the gate. -/
def memRow (o : FVec Ideal ⟨3, ![32, 2304, 4096]⟩ .f32) (p : FVec Ideal ⟨3, ![32, 2304, 6144]⟩ .f32) (x : FVec Ideal ⟨3, ![32, 2304, 2048]⟩ .f32) (g s : FVec Ideal ⟨1, ![2048]⟩ .f32)
    (a : Fin 32) (b : Fin 2304) (j : Fin 2048) : EReal :=
  (headNorm (fun k => logistic (p (ix3 a b ⟨4096 + k.val, by omega⟩)) * (o (ix3 a b ⟨k.val, by omega⟩) + o (ix3 a b ⟨2048 + k.val, by omega⟩))) j * g (ix1 j) + s (ix1 j) * x (ix3 a b j))
    * silu (p (ix3 a b ⟨2048 + j.val, by omega⟩))

/-- The state space's row: the two directions and the skip, gated, then its groups times the gain. -/
def ssdRow (y : FVec Ideal ⟨3, ![32, 2304, 4096]⟩ .f32) (x : FVec Ideal ⟨3, ![32, 2304, 4096]⟩ .f32) (p : FVec Ideal ⟨3, ![32, 2304, 6144]⟩ .f32) (d : FVec Ideal ⟨1, ![32]⟩ .f32)
    (g : FVec Ideal ⟨1, ![2048]⟩ .f32) (a : Fin 32) (b : Fin 2304) (j : Fin 2048) : EReal :=
  groupNorm (fun k => (y (ix3 a b ⟨k.val, by omega⟩) + y (ix3 a b ⟨2048 + k.val, by omega⟩) + d (ix1 ⟨k.val / 64, by omega⟩) * x (ix3 a b ⟨k.val, by omega⟩))
    * silu (p (ix3 a b ⟨k.val, by omega⟩))) j * g (ix1 j)

/-- Each of 32 entries repeated 64 times along a row. -/
theorem repeat_apply (h1 : Shape.BroadcastsInDim ⟨1, ![32]⟩ ⟨2, ![32, 64]⟩ (![0] : Fin 1 → Fin 2)) (h2 : Shape.ShapeCasts ⟨2, ![32, 64]⟩ ⟨1, ![2048]⟩) (h3 : Shape.ShapeCasts ⟨1, ![2048]⟩ ⟨2, ![1, 2048]⟩)
    (d : FVec Ideal ⟨1, ![32]⟩ .f32) (z : Fin 1) (k : Fin 2048) :
    shapeCast ⟨2, ![1, 2048]⟩ (shapeCast ⟨1, ![2048]⟩ (broadcastInDim ⟨2, ![32, 64]⟩ ![0] h1 d) h2) h3 (ix2 z k) = d (ix1 ⟨k.val / 64, by omega⟩) := by
  refine (row_apply _ h3 z k).trans ((shapeCast_apply _ h2 (ix1 k) (ix2 ⟨k.val / 64, by omega⟩ ⟨k.val % 64, by omega⟩) (by
    rewrite [Shape.rowMajor_val_one, Shape.rowMajor_val_two]
    show k.val / 64 * 64 + k.val % 64 = k.val
    omega)).trans ?_)
  pointwise

/-- A row's entries by group, head and place. -/
theorem place_apply (u : Vec Ideal ⟨3, ![32, 2304, 2048]⟩ .f32) (h : Shape.ShapeCasts ⟨3, ![32, 2304, 2048]⟩ ⟨5, ![32, 2304, 8, 4, 64]⟩) (a : Fin 32) (b : Fin 2304) (n : Fin 8) (p : Fin 4) (q : Fin 64)
    (j : Fin 2048) (hj : j.val = (n.val * 4 + p.val) * 64 + q.val) : shapeCast ⟨5, ![32, 2304, 8, 4, 64]⟩ u h (ix5 a b n p q) = u (ix3 a b j) :=
  shapeCast_apply u h (ix5 a b n p q) (ix3 a b j) (by
    rewrite [Shape.rowMajor_val_three, Shape.rowMajor_val_five]
    show (a.val * 2304 + b.val) * 2048 + j.val = (((a.val * 2304 + b.val) * 8 + n.val) * 4 + p.val) * 64 + q.val
    omega)

theorem unplace_apply (u : Vec Ideal ⟨5, ![32, 2304, 8, 4, 64]⟩ .f32) (h : Shape.ShapeCasts ⟨5, ![32, 2304, 8, 4, 64]⟩ ⟨3, ![32, 2304, 2048]⟩) (a : Fin 32) (b : Fin 2304) (n : Fin 8) (p : Fin 4) (q : Fin 64)
    (j : Fin 2048) (hj : j.val = (n.val * 4 + p.val) * 64 + q.val) : shapeCast ⟨3, ![32, 2304, 2048]⟩ u h (ix3 a b j) = u (ix5 a b n p q) :=
  shapeCast_apply u h (ix3 a b j) (ix5 a b n p q) (by
    rewrite [Shape.rowMajor_val_three, Shape.rowMajor_val_five]
    show (((a.val * 2304 + b.val) * 8 + n.val) * 4 + p.val) * 64 + q.val = (a.val * 2304 + b.val) * 2048 + j.val
    omega)

end Cert.Out
end
-- ==== Proof.Out.RetOut.lean ====
/-
  The retention's output projection with its head norm, gate, residual and layer norm.
-/
module

public import proofs.«01_k».proof.Defs
public import proofs.«01_k».proof.Proof.Out.Host
public import proofs.«01_k».proof.Proof.Out.Heads
public import proofs.«01_k».proof.Proof.Gen.Kernel9Ideal.Value
public import proofs.«01_k».proof.Proof.Gen.Reference9Ideal.Run
public import proofs.«01_k».proof.Proof.Gen.Reference9Ideal.Read
public import Idealize.ShloMosaic.Lib.StableHlo.Run
public import Idealize.ShloMosaic.Lib.Quiescent

@[expose] public section

set_option maxRecDepth 16384
noncomputable section
open Idealize.ShloMosaic Idealize.ShloMosaic.TcCoe Idealize.SL.Sem
open Idealize.ShloMosaic.Pipeline (Dat)

namespace Cert.Kernel9Ideal.Out
open Cert.Kernel9Ideal Cert.Kernel9Ideal.Gen Cert.Kernel9Ideal.Value Cert.Proj Cert.Out

/-- A block's row to project. -/
def rowB (x0 : Vec Ideal S1x256x2048 .f32) (x1 : Vec Ideal S1x256x2048 .f32) (x2 : Vec Ideal S1x256x2048 .f32) (x5 : Vec Ideal S1x2048 .f32) (r : Fin 256) (j : Fin 2048) : EReal :=
  headNorm (fun k => x0 (ix3 0 r k) + x1 (ix3 0 r k)) j * x5 (ix2 0 j) * silu (x2 (ix3 0 r j))

/-- The block's rows to project. -/
def rowV (x0 : Vec Ideal S1x256x2048 .f32) (x1 : Vec Ideal S1x256x2048 .f32) (x2 : Vec Ideal S1x256x2048 .f32) (x5 : Vec Ideal S1x2048 .f32) : FVec Ideal S256x2048 .f32 :=
  let v : FVec Ideal S256x2048 .f32 := addf (shapeCast S256x2048 x0 shapeCasts_S1x256x2048_S256x2048 : FVec Ideal S256x2048 .f32) (shapeCast S256x2048 x1 shapeCasts_S1x256x2048_S256x2048 : FVec Ideal S256x2048 .f32)
  mulf (mulf (concatenate S256x2048 1 [⟨S256x512, headsV heads_slices reduces_S256x512_S256 shapeCasts_S256_S256x1 broadcasts_S256x1_S256x512 v 0⟩, ⟨S256x512, headsV heads_slices reduces_S256x512_S256 shapeCasts_S256_S256x1 broadcasts_S256x1_S256x512 v 1⟩, ⟨S256x512, headsV heads_slices reduces_S256x512_S256 shapeCasts_S256_S256x1 broadcasts_S256x1_S256x512 v 2⟩, ⟨S256x512, headsV heads_slices reduces_S256x512_S256 shapeCasts_S256_S256x1 broadcasts_S256x1_S256x512 v 3⟩] concatenates_S256x512_S256x512_S256x512_S256x512_S256x2048_d1)
      (broadcastTo S256x2048 (shapeCast S1x2048 x5 shapeCasts_S1x2048_S1x2048) broadcasts_S1x2048_S256x2048))
    (mulf (shapeCast S256x2048 x2 shapeCasts_S1x256x2048_S256x2048) (logisticV (shapeCast S256x2048 x2 shapeCasts_S1x256x2048_S256x2048)))

theorem rowV_apply (x0 : Vec Ideal S1x256x2048 .f32) (x1 : Vec Ideal S1x256x2048 .f32) (x2 : Vec Ideal S1x256x2048 .f32) (x5 : Vec Ideal S1x2048 .f32) (r : Fin 256) (j : Fin 2048) : rowV x0 x1 x2 x5 (ix2 r j) = rowB x0 x1 x2 x5 r j := by
  have h0 : ∀ (x : Vec Ideal S1x256x2048 .f32) (k : Fin 2048), (shapeCast S256x2048 x shapeCasts_S1x256x2048_S256x2048 : FVec Ideal S256x2048 .f32) (ix2 r k) = x (ix3 0 r k) := fun x k => by pointwise
  refine congrArg₂ (· * ·) (congrArg₂ (· * ·) ((headsV_apply _ _ _ _ _ _ r j).trans (congrArg (headNorm · j) (funext fun k => congrArg₂ (· + ·) (h0 x0 k) (h0 x1 k)))) (by pointwise)) ?_
  exact congrArg₂ (· * ·) (h0 x2 j) ((logisticV_apply _ r j).trans (congrArg logistic (h0 x2 j)))

/-- The block's product. -/
def productV (p : FVec Ideal S256x2048 .f32) (w : Vec Ideal S2048x1024 .bf16) : FVec Ideal S256x1024 .f32 :=
  matmul dot_S256x2048_S2048x1024_S256x1024_1_0_0_1_n_n none (truncf .bf16 p bitsLt_bf16_f32)
    (shapeCast S2048x1024 w shapeCasts_S2048x1024_S2048x1024 : FVec Ideal S2048x1024 .bf16) (constant S256x1024 .f32 0x00000000#32)

theorem productV_apply (p : FVec Ideal S256x2048 .f32) (w : Vec Ideal S2048x1024 .bf16) (r : Fin 256) (k : Fin 1024) :
    productV p w (ix2 r k) = ∑ j : Fin 2048, p (ix2 r j) * w (ix2 j k) := by
  pointwise [productV]

/-- The whole block. -/
theorem out_apply (x0 : Vec Ideal S1x256x2048 .f32) (x1 : Vec Ideal S1x256x2048 .f32) (x2 : Vec Ideal S1x256x2048 .f32) (x3 : Vec Ideal S1x256x1024 .f32) (x4 : Vec Ideal S1x1x6x1024 .f32) (x5 : Vec Ideal S1x2048 .f32) (x6 : Vec Ideal S1x1024 .f32) (x7 : Vec Ideal S1x1024 .f32) (x8 : Vec Ideal S2048x1024 .bf16) (y : S1x256x1024.Idx) :
    out0_9 x0 x1 x2 x3 x4 x5 x6 x7 x8 y
      = layerNorm (fun k => Ideal.ofBits .f32 0x3FD744FD#32 * x3 (ix3 0 (y 1) k) + x4 (ix4 0 0 2 k) * ∑ j : Fin 2048, rowB x0 x1 x2 x5 (y 1) j * x8 (ix2 j k)) (x6 (ix2 0 (y 2))) (x7 (ix2 0 (y 2))) (y 2) := by
  unfold out0_9
  refine canon_one (fun r n => layerNorm (fun k => Ideal.ofBits .f32 0x3FD744FD#32 * x3 (ix3 0 r k) + x4 (ix4 0 0 2 k) * ∑ j : Fin 2048, rowB x0 x1 x2 x5 r j * x8 (ix2 j k)) (x6 (ix2 0 n)) (x7 (ix2 0 n)) n) _ _ (fun r n => ?_) y
  refine (layerNormV_apply reduces_S256x1024_S256 shapeCasts_S256_S256x1 broadcasts_S256x1_S256x1024 broadcasts_S1x1024_S256x1024 shapeCasts_S256x1024_S1x256x1024 shapeCasts_S1x1024_S1x1024
    (View.ld x6 r0_3) (View.ld x7 r0_3)
    (residualV broadcasts_S1x1024_S256x1024 shapeCasts_S1x256x1024_S256x1024 shapeCasts_S1x1x1x1024_S1x1024 (View.ld x3 r0_1) (View.ld x4 r0_5)
      (productV (rowV (View.ld x0 r0_0) (View.ld x1 r0_0) (View.ld x2 r0_0) (View.ld x5 r0_2)) (View.ld x8 r0_4))) 0 r n).trans ?_
  refine congr (congr (congr (congrArg layerNorm (funext fun k => ?_)) (ld_mat x6 _ 0 n)) (ld_mat x7 _ 0 n)) rfl
  rw [residualV_apply, productV_apply]
  refine congrArg₂ (· + ·) (congrArg (_ * ·) (ld_rows x3 _ 0 r k)) (congrArg₂ (· * ·) (ld_mod x4 2 (by decide) _ 0 0 0 k) (Finset.sum_congr rfl fun j _ => congrArg₂ (· * ·) ?_ (ld_mat x8 _ j k)))
  rw [rowV_apply]
  exact congrArg₂ (· * ·) (congrArg₂ (· * ·) (congrArg (headNorm · j) (funext fun i => congrArg₂ (· + ·) (ld_rows x0 _ 0 r i) (ld_rows x1 _ 0 r i))) (ld_mat x5 _ 0 j)) (congrArg silu (ld_rows x2 _ 0 r j))

variable (m : (ℓ : Loc nD τ sig) → Buf (Elt Ideal) ℓ)

theorem point_lt (t : Fin cfg0.N) : t.val < 288 := lt_of_lt_of_eq t.isLt N_0

theorem index_0 : ∀ t : Fin cfg0.N, win0_0.index t 0 = t.val / 9 ∧ win0_0.index t 1 = t.val % 9 ∧ win0_0.index t 2 = 0 := by decide +kernel
theorem index_1 : ∀ t : Fin cfg0.N, win0_1.index t 0 = t.val / 9 ∧ win0_1.index t 1 = t.val % 9 ∧ win0_1.index t 2 = 1 := by decide +kernel
theorem index_2 : ∀ t : Fin cfg0.N, win0_2.index t 0 = t.val / 9 ∧ win0_2.index t 1 = t.val % 9 ∧ win0_2.index t 2 = 2 := by decide +kernel
theorem index_3 : ∀ t : Fin cfg0.N, win0_3.index t 0 = t.val / 9 ∧ win0_3.index t 1 = t.val % 9 ∧ win0_3.index t 2 = 0 := by decide +kernel
theorem index_4 : ∀ t : Fin cfg0.N, win0_4.index t 0 = t.val / 9 ∧ win0_4.index t 1 = t.val % 9 ∧ win0_4.index t 2 = 0 ∧ win0_4.index t 3 = 0 := by decide +kernel
theorem index_5 : ∀ t : Fin cfg0.N, win0_5.index t 0 = 0 ∧ win0_5.index t 1 = 0 := by decide +kernel
theorem index_6 : ∀ t : Fin cfg0.N, win0_6.index t 0 = 0 ∧ win0_6.index t 1 = 0 := by decide +kernel
theorem index_7 : ∀ t : Fin cfg0.N, win0_7.index t 0 = 0 ∧ win0_7.index t 1 = 0 := by decide +kernel
theorem index_8 : ∀ t : Fin cfg0.N, win0_8.index t 0 = 0 ∧ win0_8.index t 1 = 0 := by decide +kernel
theorem index_9 : ∀ t : Fin cfg0.N, win0_9.index t 0 = t.val / 9 ∧ win0_9.index t 1 = t.val % 9 ∧ win0_9.index t 2 = 0 := by decide +kernel

/-- The arguments. -/
def inO (c : Dev nD) : Vec Ideal S32x2304x4096 .f32 := m ((c : Thread nD τ).loc main_arg0)
def inP (c : Dev nD) : Vec Ideal S32x2304x6144 .f32 := m ((c : Thread nD τ).loc main_arg1)
def inH (c : Dev nD) : Vec Ideal S32x2304x1024 .f32 := m ((c : Thread nD τ).loc main_arg2)
def inL (c : Dev nD) : Vec Ideal S32x6144 .f32 := m ((c : Thread nD τ).loc main_arg3)
def inC (c : Dev nD) : Vec Ideal S6144 .f32 := m ((c : Thread nD τ).loc main_arg4)
def inN (c : Dev nD) : Vec Ideal S2048 .f32 := m ((c : Thread nD τ).loc main_arg5)
def inG (c : Dev nD) : Vec Ideal S1024 .f32 := m ((c : Thread nD τ).loc main_arg6)
def inB (c : Dev nD) : Vec Ideal S1024 .f32 := m ((c : Thread nD τ).loc main_arg7)
def inW (c : Dev nD) : Vec Ideal S2048x1024 .f32 := m ((c : Thread nD τ).loc main_arg8)

/-- The forward direction. -/
theorem read_0 (c : Dev nD) (t : Fin cfg0.N) (r : Fin 256) (k : Fin 2048) :
    (iblk m c 0 t : Vec Ideal S1x256x2048 .f32) (ix3 0 r k)
      = inO m c (ix3 ⟨t.val / 9, by have := point_lt t; omega⟩ ⟨256 * (t.val % 9) + r.val, by omega⟩ ⟨k.val, by omega⟩) := by
  unfold inO
  rw [← V_main_arg0 m c]
  unfold iblk
  rw [View.read_apply]
  show V m c main_arg0 _ = V m c main_arg0 _
  congr 1
  have hi := index_0 t
  funext a
  apply Fin.ext
  match a with
  | ⟨0, _⟩ => show win0_0.index t 0 * 1 + 1 * 0 = t.val / 9; rw [hi.1]; omega
  | ⟨1, _⟩ => show win0_0.index t 1 * 256 + 1 * r.val = 256 * (t.val % 9) + r.val; rw [hi.2.1]; omega
  | ⟨2, _⟩ => show win0_0.index t 2 * 2048 + 1 * k.val = k.val; rw [hi.2.2]; omega

/-- The backward direction. -/
theorem read_1 (c : Dev nD) (t : Fin cfg0.N) (r : Fin 256) (k : Fin 2048) :
    (iblk m c 1 t : Vec Ideal S1x256x2048 .f32) (ix3 0 r k)
      = inO m c (ix3 ⟨t.val / 9, by have := point_lt t; omega⟩ ⟨256 * (t.val % 9) + r.val, by omega⟩ ⟨2048 + k.val, by omega⟩) := by
  unfold inO
  rw [← V_main_arg0 m c]
  unfold iblk
  rw [View.read_apply]
  show V m c main_arg0 _ = V m c main_arg0 _
  congr 1
  have hi := index_1 t
  funext a
  apply Fin.ext
  match a with
  | ⟨0, _⟩ => show win0_1.index t 0 * 1 + 1 * 0 = t.val / 9; rw [hi.1]; omega
  | ⟨1, _⟩ => show win0_1.index t 1 * 256 + 1 * r.val = 256 * (t.val % 9) + r.val; rw [hi.2.1]; omega
  | ⟨2, _⟩ => show win0_1.index t 2 * 2048 + 1 * k.val = 2048 + k.val; rw [hi.2.2]; omega

/-- The gate. -/
theorem read_2 (c : Dev nD) (t : Fin cfg0.N) (r : Fin 256) (k : Fin 2048) :
    (iblk m c 2 t : Vec Ideal S1x256x2048 .f32) (ix3 0 r k)
      = inP m c (ix3 ⟨t.val / 9, by have := point_lt t; omega⟩ ⟨256 * (t.val % 9) + r.val, by omega⟩ ⟨4096 + k.val, by omega⟩) := by
  unfold inP
  rw [← V_main_arg1 m c]
  unfold iblk
  rw [View.read_apply]
  show V m c main_arg1 _ = V m c main_arg1 _
  congr 1
  have hi := index_2 t
  funext a
  apply Fin.ext
  match a with
  | ⟨0, _⟩ => show win0_2.index t 0 * 1 + 1 * 0 = t.val / 9; rw [hi.1]; omega
  | ⟨1, _⟩ => show win0_2.index t 1 * 256 + 1 * r.val = 256 * (t.val % 9) + r.val; rw [hi.2.1]; omega
  | ⟨2, _⟩ => show win0_2.index t 2 * 2048 + 1 * k.val = 4096 + k.val; rw [hi.2.2]; omega

/-- The layer's input. -/
theorem read_3 (c : Dev nD) (t : Fin cfg0.N) (r : Fin 256) (k : Fin 1024) :
    (iblk m c 3 t : Vec Ideal S1x256x1024 .f32) (ix3 0 r k)
      = inH m c (ix3 ⟨t.val / 9, by have := point_lt t; omega⟩ ⟨256 * (t.val % 9) + r.val, by omega⟩ k) := by
  unfold inH
  rw [← V_main_arg2 m c]
  unfold iblk
  rw [View.read_apply]
  show V m c main_arg2 _ = V m c main_arg2 _
  congr 1
  have hi := index_3 t
  funext a
  apply Fin.ext
  match a with
  | ⟨0, _⟩ => show win0_3.index t 0 * 1 + 1 * 0 = t.val / 9; rw [hi.1]; omega
  | ⟨1, _⟩ => show win0_3.index t 1 * 256 + 1 * r.val = 256 * (t.val % 9) + r.val; rw [hi.2.1]; omega
  | ⟨2, _⟩ => show win0_3.index t 2 * 1024 + 1 * k.val = k.val; rw [hi.2.2]; omega

/-- The modulation's block has the rows of its batch and block. -/
theorem read_4 (c : Dev nD) (t : Fin cfg0.N) (r : Fin 256) (s : Fin 6) (k : Fin 1024) :
    (iblk m c 4 t : Vec Ideal S1x1x6x1024 .f32) (ix4 0 0 s k)
      = modRow (inL m c) (inC m c) ⟨t.val / 9, by have := point_lt t; omega⟩ (256 * (t.val % 9) + r.val < 256) s k := by
  have hc : (t.val % 9 = 0) = (256 * (t.val % 9) + r.val < 256) := propext (by omega)
  have e : V m c main_v8 (ix4 ⟨t.val / 9, by have := point_lt t; omega⟩ ⟨t.val % 9, by omega⟩ s k)
      = modRow (inL m c) (inC m c) ⟨t.val / 9, by have := point_lt t; omega⟩ (t.val % 9 = 0) s k := by
    refine Eq.trans ?_ (mods_apply (inL m c) (inC m c) shapeCasts_S32x6144_S32x1x6x1024 shapeCasts_S6144_S1x1x6x1024 bcast_S1x1x6x1024_S32x1x6x1024_0_1_2_3
      bcast_S32x1x6x1024_S32x8x6x1024_0_1_2_3 concatenates_S32x1x6x1024_S32x8x6x1024_S32x9x6x1024_d1 _ ⟨t.val % 9, by omega⟩ s k)
    unfold V
    after_results_simp <;> rfl
  refine Eq.trans ?_ (e.trans (by unfold modRow; simp only [hc]))
  unfold iblk
  rw [View.read_apply]
  show V m c main_v8 _ = V m c main_v8 _
  congr 1
  have hi := index_4 t
  funext a
  apply Fin.ext
  match a with
  | ⟨0, _⟩ => show win0_4.index t 0 * 1 + 1 * 0 = t.val / 9; rw [hi.1]; omega
  | ⟨1, _⟩ => show win0_4.index t 1 * 1 + 1 * 0 = t.val % 9; rw [hi.2.1]; omega
  | ⟨2, _⟩ => show win0_4.index t 2 * 6 + 1 * s.val = s.val; rw [hi.2.2.1]; omega
  | ⟨3, _⟩ => show win0_4.index t 3 * 1024 + 1 * k.val = k.val; rw [hi.2.2.2]; omega

/-- The heads' gain. -/
theorem read_5 (c : Dev nD) (t : Fin cfg0.N) (k : Fin 2048) : (iblk m c 5 t : Vec Ideal S1x2048 .f32) (ix2 0 k) = inN m c (ix1 k) := by
  have e : V m c main_v2 (ix2 0 k) = inN m c (ix1 k) := by
    refine Eq.trans ?_ (row_apply (inN m c) shapeCasts_S2048_S1x2048 0 k)
    unfold V
    after_results_simp <;> rfl
  rw [← e]
  unfold iblk
  rw [View.read_apply]
  show V m c main_v2 _ = V m c main_v2 _
  congr 1
  have hi := index_5 t
  funext a
  apply Fin.ext
  match a with
  | ⟨0, _⟩ => show win0_5.index t 0 * 1 + 1 * 0 = 0; rw [hi.1]
  | ⟨1, _⟩ => show win0_5.index t 1 * 2048 + 1 * k.val = k.val; rw [hi.2]; omega

/-- The gain. -/
theorem read_6 (c : Dev nD) (t : Fin cfg0.N) (k : Fin 1024) : (iblk m c 6 t : Vec Ideal S1x1024 .f32) (ix2 0 k) = inG m c (ix1 k) := by
  have e : V m c main_v0 (ix2 0 k) = inG m c (ix1 k) := by
    refine Eq.trans ?_ (row_apply (inG m c) shapeCasts_S1024_S1x1024 0 k)
    unfold V
    after_results_simp <;> rfl
  rw [← e]
  unfold iblk
  rw [View.read_apply]
  show V m c main_v0 _ = V m c main_v0 _
  congr 1
  have hi := index_6 t
  funext a
  apply Fin.ext
  match a with
  | ⟨0, _⟩ => show win0_6.index t 0 * 1 + 1 * 0 = 0; rw [hi.1]
  | ⟨1, _⟩ => show win0_6.index t 1 * 1024 + 1 * k.val = k.val; rw [hi.2]; omega

/-- The bias. -/
theorem read_7 (c : Dev nD) (t : Fin cfg0.N) (k : Fin 1024) : (iblk m c 7 t : Vec Ideal S1x1024 .f32) (ix2 0 k) = inB m c (ix1 k) := by
  have e : V m c main_v1 (ix2 0 k) = inB m c (ix1 k) := by
    refine Eq.trans ?_ (row_apply (inB m c) shapeCasts_S1024_S1x1024 0 k)
    unfold V
    after_results_simp <;> rfl
  rw [← e]
  unfold iblk
  rw [View.read_apply]
  show V m c main_v1 _ = V m c main_v1 _
  congr 1
  have hi := index_7 t
  funext a
  apply Fin.ext
  match a with
  | ⟨0, _⟩ => show win0_7.index t 0 * 1 + 1 * 0 = 0; rw [hi.1]
  | ⟨1, _⟩ => show win0_7.index t 1 * 1024 + 1 * k.val = k.val; rw [hi.2]; omega

/-- The weight's block is the weight. -/
theorem read_8 (c : Dev nD) (t : Fin cfg0.N) (k : Fin 2048) (n : Fin 1024) : (iblk m c 8 t : Vec Ideal S2048x1024 .bf16) (ix2 k n) = inW m c (ix2 k n) := by
  have e : V m c main_v3 = (inW m c : Vec Ideal S2048x1024 .f32) := by
    unfold V
    after_results_simp <;> rfl
  rw [← e]
  unfold iblk
  rw [View.read_apply]
  show V m c main_v3 _ = V m c main_v3 _
  congr 1
  have hi := index_8 t
  funext a
  apply Fin.ext
  match a with
  | ⟨0, _⟩ => show win0_8.index t 0 * 2048 + 1 * k.val = k.val; rw [hi.1]; omega
  | ⟨1, _⟩ => show win0_8.index t 1 * 1024 + 1 * n.val = n.val; rw [hi.2]; omega

/-- The projected rows. -/
def product (c : Dev nD) : FVec Ideal ⟨3, ![32, 2304, 1024]⟩ .f32 := fun i => ∑ j : Fin 2048, retRow (inO m c) (inP m c) (inN m c) (i 0) (i 1) j * inW m c (ix2 j (i 2))

/-- The layer norms of the residual. -/
def result (c : Dev nD) : Buf (Elt Ideal) ((c : Thread nD τ).loc main_v9) :=
  fun i : S32x2304x1024.Idx => layerNorm (residual (inH m c) (product m c) (inL m c) (inC m c) (i 0) (i 1)) (inG m c (ix1 (i 2))) (inB m c (ix1 (i 2))) (i 2)

/-- A point's rows to project. -/
theorem read_row (c : Dev nD) (t : Fin cfg0.N) (r : Fin 256) (j : Fin 2048) :
    rowB (iblk m c 0 t : Vec Ideal S1x256x2048 .f32) (iblk m c 1 t : Vec Ideal S1x256x2048 .f32) (iblk m c 2 t : Vec Ideal S1x256x2048 .f32) (iblk m c 5 t : Vec Ideal S1x2048 .f32) r j
      = retRow (inO m c) (inP m c) (inN m c) ⟨t.val / 9, by have := point_lt t; omega⟩ ⟨256 * (t.val % 9) + r.val, by omega⟩ j :=
  congrArg₂ (· * ·) (congrArg₂ (· * ·) (congrArg (headNorm · j) (funext fun k => congrArg₂ (· + ·) (read_0 m c t r k) (read_1 m c t r k))) (read_5 m c t j)) (congrArg silu (read_2 m c t r j))

/-- What a point writes back is its block of the result. -/
theorem flushed_eq (c : Dev nD) (t : Fin cfg0.N) :
    (dats m 0 c).flushed 9 t = ((cfg0.win 9).blk t).view.read (Elt Ideal) (result m c) := by
  rw [flushed9]
  refine funext fun (y : S1x256x1024.Idx) => ?_
  refine Eq.trans (out_apply _ _ _ _ _ _ _ _ _ y) ?_
  rw [View.read_apply]
  have hi := index_9 t
  have h0 : (y 0).val < 1 := (y 0).isLt
  have e : ((cfg0.win 9).blk t).view.emb y = ix3 ⟨t.val / 9, by have := point_lt t; omega⟩ ⟨256 * (t.val % 9) + (y 1).val, by have h : (y 1).val < 256 := (y 1).isLt; omega⟩ (y 2) := by
    funext a
    apply Fin.ext
    match a with
    | ⟨0, _⟩ => show win0_9.index t 0 * 1 + 1 * (y 0).val = t.val / 9; rw [hi.1]; omega
    | ⟨1, _⟩ => show win0_9.index t 1 * 256 + 1 * (y 1).val = 256 * (t.val % 9) + (y 1).val; rw [hi.2.1]; omega
    | ⟨2, _⟩ => show win0_9.index t 2 * 1024 + 1 * (y 2).val = (y 2).val; rw [hi.2.2]; omega
  refine Eq.trans ?_ (congrArg (result m c) e).symm
  have hr : ∀ k : Fin 1024, _ = residual (inH m c) (product m c) (inL m c) (inC m c) ⟨t.val / 9, by have := point_lt t; omega⟩ ⟨256 * (t.val % 9) + (y 1).val, by have h : (y 1).val < 256 := (y 1).isLt; omega⟩ k := fun k =>
    congrArg₂ (· + ·) (congrArg (_ * ·) (read_3 m c t (y 1) k)) (congrArg₂ (· * ·) (read_4 m c t (y 1) 2 k) (Finset.sum_congr rfl fun j _ => congrArg₂ (· * ·) (read_row m c t (y 1) j) (read_8 m c t j k)))
  exact congr (congr (congr (congrArg layerNorm (funext hr)) (read_6 m c t (y 2))) (read_7 m c t (y 2))) rfl

/-- So the output array ends as the result. -/
theorem final (c : Dev nD) : (dats m 0 c).arrAt 9 cfg0.N = result m c :=
  (dats m 0 c).arrAt_eq_of_cover 9 (result m c) (fun t _ => flushed_eq m c t) fun i : S32x2304x1024.Idx => by
    have h0 : (i 0 : Nat) < 32 := (i 0).isLt
    have h1 : (i 1 : Nat) < 2304 := (i 1).isLt
    have h2 : (i 2 : Nat) < 1024 := (i 2).isLt
    have hN : cfg0.N = 288 := N_0
    obtain ⟨t, ht⟩ : ∃ t : Fin cfg0.N, t.val = 9 * (i 0 : Nat) + (i 1 : Nat) / 256 := ⟨⟨9 * (i 0 : Nat) + (i 1 : Nat) / 256, by omega⟩, rfl⟩
    refine ⟨t, flush0_9 t, ?_⟩
    have hi := index_9 t
    show i ∈ ((View.whole main_v9).slice (win0_9.rect t)).set
    rw [View.set_slice_whole, Rect.mem_set_unit]
    intro a
    match a with
    | ⟨0, _⟩ => show win0_9.index t 0 * 1 ≤ (i 0 : Nat) ∧ (i 0 : Nat) < win0_9.index t 0 * 1 + 1
                rw [hi.1]; omega
    | ⟨1, _⟩ => show win0_9.index t 1 * 256 ≤ (i 1 : Nat) ∧ (i 1 : Nat) < win0_9.index t 1 * 256 + 256
                rw [hi.2.1]; omega
    | ⟨2, _⟩ => show win0_9.index t 2 * 1024 ≤ (i 2 : Nat) ∧ (i 2 : Nat) < win0_9.index t 2 * 1024 + 1024
                rw [hi.2.2]; omega

end Cert.Kernel9Ideal.Out

namespace Cert.Reference9Ideal.Out
open Cert.Reference9Ideal Cert.Reference9Ideal.Gen Cert.Reference9Ideal.Read Cert.Proj Cert.Out

variable (x0 : FVec Ideal S32x2304x4096 .f32) (x1 : FVec Ideal S32x2304x6144 .f32) (x2 : FVec Ideal S32x2304x1024 .f32) (x3 : FVec Ideal S32x6144 .f32) (x4 : FVec Ideal S6144 .f32) (x5 : FVec Ideal S2048 .f32) (x6 x7 : FVec Ideal S1024 .f32) (x8 : FVec Ideal S2048x1024 .f32)

/-- The reference's rows to project. -/
theorem row_eq (a : Fin 32) (b : Fin 2304) (j : Fin 2048) : val_main_v31 (F := Ideal) x0 x1 x5 (ix3 a b j) = retRow x0 x1 x5 a b j := by
  have h6 : ∀ k : Fin 2048, val_main_v6 (F := Ideal) x0 (ix3 a b k) = x0 (ix3 a b ⟨k.val, by omega⟩) + x0 (ix3 a b ⟨2048 + k.val, by omega⟩) := fun k => by pointwise [val_main_v6, val_main_v0, val_main_v1]
  have h5 : val_main_v5 (F := Ideal) x1 (ix3 a b j) = x1 (ix3 a b ⟨4096 + j.val, by omega⟩) := by pointwise [val_main_v5]
  refine congrArg₂ (· * ·) (congrArg₂ (· * ·) ((headsG_apply reducesTo_S32x2304x4x512_S32x2304x4_d3 h_S_ bcast_S32x2304x4_S32x2304x4x1_0_1_2 bcast_S_S32x2304x4x1 bcast_S32x2304x4x1_S32x2304x4x512_0_1_2_3
    shapeCasts_S32x2304x2048_S32x2304x4x512 shapeCasts_S32x2304x4x512_S32x2304x2048 (val_main_v6 (F := Ideal) x0) a b j).trans (congrArg (headNorm · j) (funext h6)))
    (along_apply bcast_S2048_S1x1x2048_2 bcast_S1x1x2048_S32x2304x2048_0_1_2 x5 a b j)) ?_
  exact congrArg₂ (· * ·) h5 ((logisticG_apply bcast_S_S32x2304x2048 (val_main_v5 (F := Ideal) x1) a b j).trans (congrArg logistic h5))

theorem product_apply (a : Fin 32) (b : Fin 2304) (k : Fin 1024) : val_main_v32 (F := Ideal) x0 x1 x5 x8 (ix3 a b k) = ∑ j : Fin 2048, retRow x0 x1 x5 a b j * x8 (ix2 j k) := by
  refine Eq.trans ?_ (Finset.sum_congr rfl fun j _ => congrArg (· * _) (row_eq x0 x1 x5 a b j))
  unfold val_main_v32
  generalize val_main_v31 (F := Ideal) x0 x1 x5 = v
  pointwise

/-- The reference's rows. -/
theorem out_apply (a : Fin 32) (b : Fin 2304) (d : Fin 1024) :
    val_main_v114 (F := Ideal) x0 x1 x2 x3 x4 x5 x6 x7 x8 (ix3 a b d)
      = layerNorm (residual x2 (fun i => ∑ j : Fin 2048, retRow x0 x1 x5 (i 0) (i 1) j * x8 (ix2 j (i 2))) x3 x4 a b) (x6 (ix1 d)) (x7 (ix1 d)) d := by
  have e : val_main_v32 (F := Ideal) x0 x1 x5 x8 = (fun i => ∑ j : Fin 2048, retRow x0 x1 x5 (i 0) (i 1) j * x8 (ix2 j (i 2)) : FVec Ideal S32x2304x1024 .f32) :=
    funext fun i : S32x2304x1024.Idx => (congrArg _ (eq_ix3 i)).trans (product_apply x0 x1 x5 x8 (i 0) (i 1) (i 2))
  rw [← e]
  exact post_apply slices_S32x2304x1024_S32x256x1024_0_0_0 slices_S32x2304x1024_S32x2048x1024_0_256_0 bcast_S_S32x256x1024 bcast_S_S32x2048x1024 slices_S6144_S1024_2048 bcast_S1024_S1x1x1024_2 bcast_S1x1x1024_S32x256x1024_0_1_2
    slices_S32x6144_S32x1024_0_2048 bcast_S32x1024_S32x1x1024_0_2 bcast_S32x1x1024_S32x2048x1024_0_1_2
    reducesTo_S32x256x1024_S32x256_d2 h_S_ bcast_S32x256_S32x256x1_0_1 bcast_S_S32x256x1 bcast_S32x256x1_S32x256x1024_0_1_2
    reducesTo_S32x2048x1024_S32x2048_d2 bcast_S32x2048_S32x2048x1_0_1 bcast_S_S32x2048x1 bcast_S32x2048x1_S32x2048x1024_0_1_2 bcast_S1x1x1024_S32x2048x1024_0_1_2
    concatenates_S32x256x1024_S32x2048x1024_S32x2304x1024_d1 x2 (val_main_v32 (F := Ideal) x0 x1 x5 x8) x3 x4 x6 x7 a b d

end Cert.Reference9Ideal.Out

namespace Cert.Out

theorem frame_Reference9Ideal : Cert.quiescent_Reference9Ideal := fun m ρ _ =>
  (θ_run _ _ _).mono (fun r h => ⟨fun c => (h c).2, Idealize.ShloMosaic.sem_eq_zero_of_no_sems (by decide) r.2⟩) (Cert.Reference9Ideal.Value.run m ρ)

/-- The kernel's rows and the reference's are the same array. -/
theorem algebraic9 : Cert.algebraic_Kernel9Ideal_Reference9Ideal := fun m g m' g' _ ha =>
  ⟨fun c => Cert.Kernel9Ideal.Out.result m c,
    (θ_run _ _ _).mono (fun r h c => ⟨(h c).1.trans (Cert.Kernel9Ideal.Out.final m c), (h c).2⟩) (Cert.Kernel9Ideal.Value.run_blocks m g),
    (θ_run _ _ _).mono (fun r h c => ⟨(h c).1.trans (by
      rw [Cert.Reference9Ideal.Read.val_main_v114_eq, (ha c).1, (ha c).2.1, (ha c).2.2.1, (ha c).2.2.2.1, (ha c).2.2.2.2.1, (ha c).2.2.2.2.2.1, (ha c).2.2.2.2.2.2.1, (ha c).2.2.2.2.2.2.2.1, (ha c).2.2.2.2.2.2.2.2]
      exact funext fun i : Cert.Kernel9Ideal.S32x2304x1024.Idx => (congrArg _ (eq_ix3 i)).trans (Cert.Reference9Ideal.Out.out_apply _ _ _ _ _ _ _ _ _ (i 0) (i 1) (i 2))), (h c).2⟩) (Cert.Reference9Ideal.Value.run m' g')⟩

end Cert.Out
end
-- ==== Proof.Out.SsdOut.lean ====
/-
  The state space's output projection with its skip, gate, group norm, residual and layer norm.
-/
module

public import proofs.«01_k».proof.Defs
public import proofs.«01_k».proof.Proof.Out.Host
public import proofs.«01_k».proof.Proof.Out.Heads
public import proofs.«01_k».proof.Proof.Gen.Kernel10Ideal.Value
public import proofs.«01_k».proof.Proof.Gen.Reference10Ideal.Run
public import proofs.«01_k».proof.Proof.Gen.Reference10Ideal.Read
public import Idealize.ShloMosaic.Lib.StableHlo.Run
public import Idealize.ShloMosaic.Lib.Quiescent

@[expose] public section

set_option maxRecDepth 16384
noncomputable section
open Idealize.ShloMosaic Idealize.ShloMosaic.TcCoe Idealize.SL.Sem
open Idealize.ShloMosaic.Pipeline (Dat)

namespace Cert.Kernel10Ideal.Out
open Cert.Kernel10Ideal Cert.Kernel10Ideal.Gen Cert.Kernel10Ideal.Value Cert.Proj Cert.Out

/-- A block's row to project. -/
def rowB (x0 : Vec Ideal S1x256x2048 .f32) (x1 : Vec Ideal S1x256x2048 .f32) (x2 : Vec Ideal S1x256x2048 .f32) (x3 : Vec Ideal S1x256x2048 .f32) (x6 : Vec Ideal S1x2048 .f32) (x7 : Vec Ideal S1x2048 .f32) (r : Fin 256) (j : Fin 2048) : EReal :=
  groupNorm (fun k => (x0 (ix3 0 r k) + x1 (ix3 0 r k) + x6 (ix2 0 k) * x2 (ix3 0 r k)) * silu (x3 (ix3 0 r k))) j * x7 (ix2 0 j)

/-- The block's rows to project. -/
def rowV (x0 : Vec Ideal S1x256x2048 .f32) (x1 : Vec Ideal S1x256x2048 .f32) (x2 : Vec Ideal S1x256x2048 .f32) (x3 : Vec Ideal S1x256x2048 .f32) (x6 : Vec Ideal S1x2048 .f32) (x7 : Vec Ideal S1x2048 .f32) : FVec Ideal S256x2048 .f32 :=
  let v : FVec Ideal S256x2048 .f32 := mulf (addf (addf (shapeCast S256x2048 x0 shapeCasts_S1x256x2048_S256x2048 : FVec Ideal S256x2048 .f32) (shapeCast S256x2048 x1 shapeCasts_S1x256x2048_S256x2048 : FVec Ideal S256x2048 .f32)) (mulf (broadcastTo S256x2048 (shapeCast S1x2048 x6 shapeCasts_S1x2048_S1x2048) broadcasts_S1x2048_S256x2048) (shapeCast S256x2048 x2 shapeCasts_S1x256x2048_S256x2048 : FVec Ideal S256x2048 .f32))) (mulf (shapeCast S256x2048 x3 shapeCasts_S1x256x2048_S256x2048 : FVec Ideal S256x2048 .f32) (logisticV (shapeCast S256x2048 x3 shapeCasts_S1x256x2048_S256x2048 : FVec Ideal S256x2048 .f32)))
  mulf (concatenate S256x2048 1 [⟨S256x256, groupsV groups_slices reduces_S256x256_S256 shapeCasts_S256_S256x1 broadcasts_S256x1_S256x256 v 0⟩, ⟨S256x256, groupsV groups_slices reduces_S256x256_S256 shapeCasts_S256_S256x1 broadcasts_S256x1_S256x256 v 1⟩, ⟨S256x256, groupsV groups_slices reduces_S256x256_S256 shapeCasts_S256_S256x1 broadcasts_S256x1_S256x256 v 2⟩, ⟨S256x256, groupsV groups_slices reduces_S256x256_S256 shapeCasts_S256_S256x1 broadcasts_S256x1_S256x256 v 3⟩, ⟨S256x256, groupsV groups_slices reduces_S256x256_S256 shapeCasts_S256_S256x1 broadcasts_S256x1_S256x256 v 4⟩, ⟨S256x256, groupsV groups_slices reduces_S256x256_S256 shapeCasts_S256_S256x1 broadcasts_S256x1_S256x256 v 5⟩, ⟨S256x256, groupsV groups_slices reduces_S256x256_S256 shapeCasts_S256_S256x1 broadcasts_S256x1_S256x256 v 6⟩, ⟨S256x256, groupsV groups_slices reduces_S256x256_S256 shapeCasts_S256_S256x1 broadcasts_S256x1_S256x256 v 7⟩]
    concatenates_S256x256_S256x256_S256x256_S256x256_S256x256_S256x256_S256x256_S256x256_S256x2048_d1) (broadcastTo S256x2048 (shapeCast S1x2048 x7 shapeCasts_S1x2048_S1x2048) broadcasts_S1x2048_S256x2048)

theorem rowV_apply (x0 : Vec Ideal S1x256x2048 .f32) (x1 : Vec Ideal S1x256x2048 .f32) (x2 : Vec Ideal S1x256x2048 .f32) (x3 : Vec Ideal S1x256x2048 .f32) (x6 : Vec Ideal S1x2048 .f32) (x7 : Vec Ideal S1x2048 .f32) (r : Fin 256) (j : Fin 2048) : rowV x0 x1 x2 x3 x6 x7 (ix2 r j) = rowB x0 x1 x2 x3 x6 x7 r j := by
  have h0 : ∀ (x : Vec Ideal S1x256x2048 .f32) (k : Fin 2048), (shapeCast S256x2048 x shapeCasts_S1x256x2048_S256x2048 : FVec Ideal S256x2048 .f32) (ix2 r k) = x (ix3 0 r k) := fun x k => by pointwise
  exact congrArg₂ (· * ·) ((groupsV_apply _ _ _ _ _ _ r j).trans (congrArg (groupNorm · j) (funext fun k =>
    congrArg₂ (· * ·) (congrArg₂ (· + ·) (congrArg₂ (· + ·) (h0 x0 k) (h0 x1 k)) (congrArg₂ (· * ·) (by pointwise) (h0 x2 k)))
      (congrArg₂ (· * ·) (h0 x3 k) ((logisticV_apply _ r k).trans (congrArg logistic (h0 x3 k))))))) (by pointwise)

/-- The block's product. -/
def productV (p : FVec Ideal S256x2048 .f32) (w : Vec Ideal S2048x1024 .bf16) : FVec Ideal S256x1024 .f32 :=
  matmul dot_S256x2048_S2048x1024_S256x1024_1_0_0_1_n_n none (truncf .bf16 p bitsLt_bf16_f32)
    (shapeCast S2048x1024 w shapeCasts_S2048x1024_S2048x1024 : FVec Ideal S2048x1024 .bf16) (constant S256x1024 .f32 0x00000000#32)

theorem productV_apply (p : FVec Ideal S256x2048 .f32) (w : Vec Ideal S2048x1024 .bf16) (r : Fin 256) (k : Fin 1024) :
    productV p w (ix2 r k) = ∑ j : Fin 2048, p (ix2 r j) * w (ix2 j k) := by
  pointwise [productV]

/-- The whole block. -/
theorem out_apply (x0 : Vec Ideal S1x256x2048 .f32) (x1 : Vec Ideal S1x256x2048 .f32) (x2 : Vec Ideal S1x256x2048 .f32) (x3 : Vec Ideal S1x256x2048 .f32) (x4 : Vec Ideal S1x256x1024 .f32) (x5 : Vec Ideal S1x1x6x1024 .f32) (x6 : Vec Ideal S1x2048 .f32) (x7 : Vec Ideal S1x2048 .f32) (x8 : Vec Ideal S1x1024 .f32) (x9 : Vec Ideal S1x1024 .f32) (x10 : Vec Ideal S2048x1024 .bf16) (y : S1x256x1024.Idx) :
    out0_11 x0 x1 x2 x3 x4 x5 x6 x7 x8 x9 x10 y
      = layerNorm (fun k => Ideal.ofBits .f32 0x3FD744FD#32 * x4 (ix3 0 (y 1) k) + x5 (ix4 0 0 2 k) * ∑ j : Fin 2048, rowB x0 x1 x2 x3 x6 x7 (y 1) j * x10 (ix2 j k)) (x8 (ix2 0 (y 2))) (x9 (ix2 0 (y 2))) (y 2) := by
  unfold out0_11
  refine canon_one (fun r n => layerNorm (fun k => Ideal.ofBits .f32 0x3FD744FD#32 * x4 (ix3 0 r k) + x5 (ix4 0 0 2 k) * ∑ j : Fin 2048, rowB x0 x1 x2 x3 x6 x7 r j * x10 (ix2 j k)) (x8 (ix2 0 n)) (x9 (ix2 0 n)) n) _ _ (fun r n => ?_) y
  refine (layerNormV_apply reduces_S256x1024_S256 shapeCasts_S256_S256x1 broadcasts_S256x1_S256x1024 broadcasts_S1x1024_S256x1024 shapeCasts_S256x1024_S1x256x1024 shapeCasts_S1x1024_S1x1024
    (View.ld x8 r0_3) (View.ld x9 r0_3)
    (residualV broadcasts_S1x1024_S256x1024 shapeCasts_S1x256x1024_S256x1024 shapeCasts_S1x1x1x1024_S1x1024 (View.ld x4 r0_1) (View.ld x5 r0_5)
      (productV (rowV (View.ld x0 r0_0) (View.ld x1 r0_0) (View.ld x2 r0_0) (View.ld x3 r0_0) (View.ld x6 r0_2) (View.ld x7 r0_2)) (View.ld x10 r0_4))) 0 r n).trans ?_
  refine congr (congr (congr (congrArg layerNorm (funext fun k => ?_)) (ld_mat x8 _ 0 n)) (ld_mat x9 _ 0 n)) rfl
  rw [residualV_apply, productV_apply]
  refine congrArg₂ (· + ·) (congrArg (_ * ·) (ld_rows x4 _ 0 r k)) (congrArg₂ (· * ·) (ld_mod x5 2 (by decide) _ 0 0 0 k) (Finset.sum_congr rfl fun j _ => congrArg₂ (· * ·) ?_ (ld_mat x10 _ j k)))
  rw [rowV_apply]
  exact congrArg₂ (· * ·) (congrArg (groupNorm · j) (funext fun i => congrArg₂ (· * ·) (congrArg₂ (· + ·) (congrArg₂ (· + ·) (ld_rows x0 _ 0 r i) (ld_rows x1 _ 0 r i)) (congrArg₂ (· * ·) (ld_mat x6 _ 0 i) (ld_rows x2 _ 0 r i)))
    (congrArg silu (ld_rows x3 _ 0 r i)))) (ld_mat x7 _ 0 j)

variable (m : (ℓ : Loc nD τ sig) → Buf (Elt Ideal) ℓ)

theorem point_lt (t : Fin cfg0.N) : t.val < 288 := lt_of_lt_of_eq t.isLt N_0

theorem index_0 : ∀ t : Fin cfg0.N, win0_0.index t 0 = t.val / 9 ∧ win0_0.index t 1 = t.val % 9 ∧ win0_0.index t 2 = 0 := by decide +kernel
theorem index_1 : ∀ t : Fin cfg0.N, win0_1.index t 0 = t.val / 9 ∧ win0_1.index t 1 = t.val % 9 ∧ win0_1.index t 2 = 1 := by decide +kernel
theorem index_2 : ∀ t : Fin cfg0.N, win0_2.index t 0 = t.val / 9 ∧ win0_2.index t 1 = t.val % 9 ∧ win0_2.index t 2 = 0 := by decide +kernel
theorem index_3 : ∀ t : Fin cfg0.N, win0_3.index t 0 = t.val / 9 ∧ win0_3.index t 1 = t.val % 9 ∧ win0_3.index t 2 = 0 := by decide +kernel
theorem index_4 : ∀ t : Fin cfg0.N, win0_4.index t 0 = t.val / 9 ∧ win0_4.index t 1 = t.val % 9 ∧ win0_4.index t 2 = 0 := by decide +kernel
theorem index_5 : ∀ t : Fin cfg0.N, win0_5.index t 0 = t.val / 9 ∧ win0_5.index t 1 = t.val % 9 ∧ win0_5.index t 2 = 0 ∧ win0_5.index t 3 = 0 := by decide +kernel
theorem index_6 : ∀ t : Fin cfg0.N, win0_6.index t 0 = 0 ∧ win0_6.index t 1 = 0 := by decide +kernel
theorem index_7 : ∀ t : Fin cfg0.N, win0_7.index t 0 = 0 ∧ win0_7.index t 1 = 0 := by decide +kernel
theorem index_8 : ∀ t : Fin cfg0.N, win0_8.index t 0 = 0 ∧ win0_8.index t 1 = 0 := by decide +kernel
theorem index_9 : ∀ t : Fin cfg0.N, win0_9.index t 0 = 0 ∧ win0_9.index t 1 = 0 := by decide +kernel
theorem index_10 : ∀ t : Fin cfg0.N, win0_10.index t 0 = 0 ∧ win0_10.index t 1 = 0 := by decide +kernel
theorem index_11 : ∀ t : Fin cfg0.N, win0_11.index t 0 = t.val / 9 ∧ win0_11.index t 1 = t.val % 9 ∧ win0_11.index t 2 = 0 := by decide +kernel

/-- The arguments. -/
def inO (c : Dev nD) : Vec Ideal S32x2304x4096 .f32 := m ((c : Thread nD τ).loc main_arg0)
def inX (c : Dev nD) : Vec Ideal S32x2304x4096 .f32 := m ((c : Thread nD τ).loc main_arg1)
def inP (c : Dev nD) : Vec Ideal S32x2304x6144 .f32 := m ((c : Thread nD τ).loc main_arg2)
def inH (c : Dev nD) : Vec Ideal S32x2304x1024 .f32 := m ((c : Thread nD τ).loc main_arg3)
def inL (c : Dev nD) : Vec Ideal S32x6144 .f32 := m ((c : Thread nD τ).loc main_arg4)
def inC (c : Dev nD) : Vec Ideal S6144 .f32 := m ((c : Thread nD τ).loc main_arg5)
def inD (c : Dev nD) : Vec Ideal S32 .f32 := m ((c : Thread nD τ).loc main_arg6)
def inN (c : Dev nD) : Vec Ideal S2048 .f32 := m ((c : Thread nD τ).loc main_arg7)
def inG (c : Dev nD) : Vec Ideal S1024 .f32 := m ((c : Thread nD τ).loc main_arg8)
def inB (c : Dev nD) : Vec Ideal S1024 .f32 := m ((c : Thread nD τ).loc main_arg9)
def inW (c : Dev nD) : Vec Ideal S2048x1024 .f32 := m ((c : Thread nD τ).loc main_arg10)

/-- The forward direction. -/
theorem read_0 (c : Dev nD) (t : Fin cfg0.N) (r : Fin 256) (k : Fin 2048) :
    (iblk m c 0 t : Vec Ideal S1x256x2048 .f32) (ix3 0 r k)
      = inO m c (ix3 ⟨t.val / 9, by have := point_lt t; omega⟩ ⟨256 * (t.val % 9) + r.val, by omega⟩ ⟨k.val, by omega⟩) := by
  unfold inO
  rw [← V_main_arg0 m c]
  unfold iblk
  rw [View.read_apply]
  show V m c main_arg0 _ = V m c main_arg0 _
  congr 1
  have hi := index_0 t
  funext a
  apply Fin.ext
  match a with
  | ⟨0, _⟩ => show win0_0.index t 0 * 1 + 1 * 0 = t.val / 9; rw [hi.1]; omega
  | ⟨1, _⟩ => show win0_0.index t 1 * 256 + 1 * r.val = 256 * (t.val % 9) + r.val; rw [hi.2.1]; omega
  | ⟨2, _⟩ => show win0_0.index t 2 * 2048 + 1 * k.val = k.val; rw [hi.2.2]; omega

/-- The backward direction. -/
theorem read_1 (c : Dev nD) (t : Fin cfg0.N) (r : Fin 256) (k : Fin 2048) :
    (iblk m c 1 t : Vec Ideal S1x256x2048 .f32) (ix3 0 r k)
      = inO m c (ix3 ⟨t.val / 9, by have := point_lt t; omega⟩ ⟨256 * (t.val % 9) + r.val, by omega⟩ ⟨2048 + k.val, by omega⟩) := by
  unfold inO
  rw [← V_main_arg0 m c]
  unfold iblk
  rw [View.read_apply]
  show V m c main_arg0 _ = V m c main_arg0 _
  congr 1
  have hi := index_1 t
  funext a
  apply Fin.ext
  match a with
  | ⟨0, _⟩ => show win0_1.index t 0 * 1 + 1 * 0 = t.val / 9; rw [hi.1]; omega
  | ⟨1, _⟩ => show win0_1.index t 1 * 256 + 1 * r.val = 256 * (t.val % 9) + r.val; rw [hi.2.1]; omega
  | ⟨2, _⟩ => show win0_1.index t 2 * 2048 + 1 * k.val = 2048 + k.val; rw [hi.2.2]; omega

/-- The skip. -/
theorem read_2 (c : Dev nD) (t : Fin cfg0.N) (r : Fin 256) (k : Fin 2048) :
    (iblk m c 2 t : Vec Ideal S1x256x2048 .f32) (ix3 0 r k)
      = inX m c (ix3 ⟨t.val / 9, by have := point_lt t; omega⟩ ⟨256 * (t.val % 9) + r.val, by omega⟩ ⟨k.val, by omega⟩) := by
  unfold inX
  rw [← V_main_arg1 m c]
  unfold iblk
  rw [View.read_apply]
  show V m c main_arg1 _ = V m c main_arg1 _
  congr 1
  have hi := index_2 t
  funext a
  apply Fin.ext
  match a with
  | ⟨0, _⟩ => show win0_2.index t 0 * 1 + 1 * 0 = t.val / 9; rw [hi.1]; omega
  | ⟨1, _⟩ => show win0_2.index t 1 * 256 + 1 * r.val = 256 * (t.val % 9) + r.val; rw [hi.2.1]; omega
  | ⟨2, _⟩ => show win0_2.index t 2 * 2048 + 1 * k.val = k.val; rw [hi.2.2]; omega

/-- The gate. -/
theorem read_3 (c : Dev nD) (t : Fin cfg0.N) (r : Fin 256) (k : Fin 2048) :
    (iblk m c 3 t : Vec Ideal S1x256x2048 .f32) (ix3 0 r k)
      = inP m c (ix3 ⟨t.val / 9, by have := point_lt t; omega⟩ ⟨256 * (t.val % 9) + r.val, by omega⟩ ⟨k.val, by omega⟩) := by
  unfold inP
  rw [← V_main_arg2 m c]
  unfold iblk
  rw [View.read_apply]
  show V m c main_arg2 _ = V m c main_arg2 _
  congr 1
  have hi := index_3 t
  funext a
  apply Fin.ext
  match a with
  | ⟨0, _⟩ => show win0_3.index t 0 * 1 + 1 * 0 = t.val / 9; rw [hi.1]; omega
  | ⟨1, _⟩ => show win0_3.index t 1 * 256 + 1 * r.val = 256 * (t.val % 9) + r.val; rw [hi.2.1]; omega
  | ⟨2, _⟩ => show win0_3.index t 2 * 2048 + 1 * k.val = k.val; rw [hi.2.2]; omega

/-- The layer's input. -/
theorem read_4 (c : Dev nD) (t : Fin cfg0.N) (r : Fin 256) (k : Fin 1024) :
    (iblk m c 4 t : Vec Ideal S1x256x1024 .f32) (ix3 0 r k)
      = inH m c (ix3 ⟨t.val / 9, by have := point_lt t; omega⟩ ⟨256 * (t.val % 9) + r.val, by omega⟩ k) := by
  unfold inH
  rw [← V_main_arg3 m c]
  unfold iblk
  rw [View.read_apply]
  show V m c main_arg3 _ = V m c main_arg3 _
  congr 1
  have hi := index_4 t
  funext a
  apply Fin.ext
  match a with
  | ⟨0, _⟩ => show win0_4.index t 0 * 1 + 1 * 0 = t.val / 9; rw [hi.1]; omega
  | ⟨1, _⟩ => show win0_4.index t 1 * 256 + 1 * r.val = 256 * (t.val % 9) + r.val; rw [hi.2.1]; omega
  | ⟨2, _⟩ => show win0_4.index t 2 * 1024 + 1 * k.val = k.val; rw [hi.2.2]; omega

/-- The modulation's block has the rows of its batch and block. -/
theorem read_5 (c : Dev nD) (t : Fin cfg0.N) (r : Fin 256) (s : Fin 6) (k : Fin 1024) :
    (iblk m c 5 t : Vec Ideal S1x1x6x1024 .f32) (ix4 0 0 s k)
      = modRow (inL m c) (inC m c) ⟨t.val / 9, by have := point_lt t; omega⟩ (256 * (t.val % 9) + r.val < 256) s k := by
  have hc : (t.val % 9 = 0) = (256 * (t.val % 9) + r.val < 256) := propext (by omega)
  have e : V m c main_v11 (ix4 ⟨t.val / 9, by have := point_lt t; omega⟩ ⟨t.val % 9, by omega⟩ s k)
      = modRow (inL m c) (inC m c) ⟨t.val / 9, by have := point_lt t; omega⟩ (t.val % 9 = 0) s k := by
    refine Eq.trans ?_ (mods_apply (inL m c) (inC m c) shapeCasts_S32x6144_S32x1x6x1024 shapeCasts_S6144_S1x1x6x1024 bcast_S1x1x6x1024_S32x1x6x1024_0_1_2_3
      bcast_S32x1x6x1024_S32x8x6x1024_0_1_2_3 concatenates_S32x1x6x1024_S32x8x6x1024_S32x9x6x1024_d1 _ ⟨t.val % 9, by omega⟩ s k)
    unfold V
    after_results_simp <;> rfl
  refine Eq.trans ?_ (e.trans (by unfold modRow; simp only [hc]))
  unfold iblk
  rw [View.read_apply]
  show V m c main_v11 _ = V m c main_v11 _
  congr 1
  have hi := index_5 t
  funext a
  apply Fin.ext
  match a with
  | ⟨0, _⟩ => show win0_5.index t 0 * 1 + 1 * 0 = t.val / 9; rw [hi.1]; omega
  | ⟨1, _⟩ => show win0_5.index t 1 * 1 + 1 * 0 = t.val % 9; rw [hi.2.1]; omega
  | ⟨2, _⟩ => show win0_5.index t 2 * 6 + 1 * s.val = s.val; rw [hi.2.2.1]; omega
  | ⟨3, _⟩ => show win0_5.index t 3 * 1024 + 1 * k.val = k.val; rw [hi.2.2.2]; omega

/-- The skip's factor. -/
theorem read_6 (c : Dev nD) (t : Fin cfg0.N) (k : Fin 2048) : (iblk m c 6 t : Vec Ideal S1x2048 .f32) (ix2 0 k) = inD m c (ix1 ⟨k.val / 64, by omega⟩) := by
  have e : V m c main_v4 (ix2 0 k) = inD m c (ix1 ⟨k.val / 64, by omega⟩) := by
    refine Eq.trans ?_ (repeat_apply bcast_S32_S32x64_0 shapeCasts_S32x64_S2048 shapeCasts_S2048_S1x2048 (inD m c) 0 k)
    unfold V
    after_results_simp <;> rfl
  rw [← e]
  unfold iblk
  rw [View.read_apply]
  show V m c main_v4 _ = V m c main_v4 _
  congr 1
  have hi := index_6 t
  funext a
  apply Fin.ext
  match a with
  | ⟨0, _⟩ => show win0_6.index t 0 * 1 + 1 * 0 = 0; rw [hi.1]
  | ⟨1, _⟩ => show win0_6.index t 1 * 2048 + 1 * k.val = k.val; rw [hi.2]; omega

/-- The groups' gain. -/
theorem read_7 (c : Dev nD) (t : Fin cfg0.N) (k : Fin 2048) : (iblk m c 7 t : Vec Ideal S1x2048 .f32) (ix2 0 k) = inN m c (ix1 k) := by
  have e : V m c main_v5 (ix2 0 k) = inN m c (ix1 k) := by
    refine Eq.trans ?_ (row_apply (inN m c) shapeCasts_S2048_S1x2048 0 k)
    unfold V
    after_results_simp <;> rfl
  rw [← e]
  unfold iblk
  rw [View.read_apply]
  show V m c main_v5 _ = V m c main_v5 _
  congr 1
  have hi := index_7 t
  funext a
  apply Fin.ext
  match a with
  | ⟨0, _⟩ => show win0_7.index t 0 * 1 + 1 * 0 = 0; rw [hi.1]
  | ⟨1, _⟩ => show win0_7.index t 1 * 2048 + 1 * k.val = k.val; rw [hi.2]; omega

/-- The gain. -/
theorem read_8 (c : Dev nD) (t : Fin cfg0.N) (k : Fin 1024) : (iblk m c 8 t : Vec Ideal S1x1024 .f32) (ix2 0 k) = inG m c (ix1 k) := by
  have e : V m c main_v0 (ix2 0 k) = inG m c (ix1 k) := by
    refine Eq.trans ?_ (row_apply (inG m c) shapeCasts_S1024_S1x1024 0 k)
    unfold V
    after_results_simp <;> rfl
  rw [← e]
  unfold iblk
  rw [View.read_apply]
  show V m c main_v0 _ = V m c main_v0 _
  congr 1
  have hi := index_8 t
  funext a
  apply Fin.ext
  match a with
  | ⟨0, _⟩ => show win0_8.index t 0 * 1 + 1 * 0 = 0; rw [hi.1]
  | ⟨1, _⟩ => show win0_8.index t 1 * 1024 + 1 * k.val = k.val; rw [hi.2]; omega

/-- The bias. -/
theorem read_9 (c : Dev nD) (t : Fin cfg0.N) (k : Fin 1024) : (iblk m c 9 t : Vec Ideal S1x1024 .f32) (ix2 0 k) = inB m c (ix1 k) := by
  have e : V m c main_v1 (ix2 0 k) = inB m c (ix1 k) := by
    refine Eq.trans ?_ (row_apply (inB m c) shapeCasts_S1024_S1x1024 0 k)
    unfold V
    after_results_simp <;> rfl
  rw [← e]
  unfold iblk
  rw [View.read_apply]
  show V m c main_v1 _ = V m c main_v1 _
  congr 1
  have hi := index_9 t
  funext a
  apply Fin.ext
  match a with
  | ⟨0, _⟩ => show win0_9.index t 0 * 1 + 1 * 0 = 0; rw [hi.1]
  | ⟨1, _⟩ => show win0_9.index t 1 * 1024 + 1 * k.val = k.val; rw [hi.2]; omega

/-- The weight's block is the weight. -/
theorem read_10 (c : Dev nD) (t : Fin cfg0.N) (k : Fin 2048) (n : Fin 1024) : (iblk m c 10 t : Vec Ideal S2048x1024 .bf16) (ix2 k n) = inW m c (ix2 k n) := by
  have e : V m c main_v6 = (inW m c : Vec Ideal S2048x1024 .f32) := by
    unfold V
    after_results_simp <;> rfl
  rw [← e]
  unfold iblk
  rw [View.read_apply]
  show V m c main_v6 _ = V m c main_v6 _
  congr 1
  have hi := index_10 t
  funext a
  apply Fin.ext
  match a with
  | ⟨0, _⟩ => show win0_10.index t 0 * 2048 + 1 * k.val = k.val; rw [hi.1]; omega
  | ⟨1, _⟩ => show win0_10.index t 1 * 1024 + 1 * n.val = n.val; rw [hi.2]; omega

/-- The projected rows. -/
def product (c : Dev nD) : FVec Ideal ⟨3, ![32, 2304, 1024]⟩ .f32 := fun i => ∑ j : Fin 2048, ssdRow (inO m c) (inX m c) (inP m c) (inD m c) (inN m c) (i 0) (i 1) j * inW m c (ix2 j (i 2))

/-- The layer norms of the residual. -/
def result (c : Dev nD) : Buf (Elt Ideal) ((c : Thread nD τ).loc main_v12) :=
  fun i : S32x2304x1024.Idx => layerNorm (residual (inH m c) (product m c) (inL m c) (inC m c) (i 0) (i 1)) (inG m c (ix1 (i 2))) (inB m c (ix1 (i 2))) (i 2)

/-- A point's rows to project. -/
theorem read_row (c : Dev nD) (t : Fin cfg0.N) (r : Fin 256) (j : Fin 2048) :
    rowB (iblk m c 0 t : Vec Ideal S1x256x2048 .f32) (iblk m c 1 t : Vec Ideal S1x256x2048 .f32) (iblk m c 2 t : Vec Ideal S1x256x2048 .f32) (iblk m c 3 t : Vec Ideal S1x256x2048 .f32) (iblk m c 6 t : Vec Ideal S1x2048 .f32) (iblk m c 7 t : Vec Ideal S1x2048 .f32) r j
      = ssdRow (inO m c) (inX m c) (inP m c) (inD m c) (inN m c) ⟨t.val / 9, by have := point_lt t; omega⟩ ⟨256 * (t.val % 9) + r.val, by omega⟩ j :=
  congrArg₂ (· * ·) (congrArg (groupNorm · j) (funext fun i => congrArg₂ (· * ·) (congrArg₂ (· + ·) (congrArg₂ (· + ·) (read_0 m c t r i) (read_1 m c t r i)) (congrArg₂ (· * ·) (read_6 m c t i) (read_2 m c t r i)))
    (congrArg silu (read_3 m c t r i)))) (read_7 m c t j)

/-- What a point writes back is its block of the result. -/
theorem flushed_eq (c : Dev nD) (t : Fin cfg0.N) :
    (dats m 0 c).flushed 11 t = ((cfg0.win 11).blk t).view.read (Elt Ideal) (result m c) := by
  rw [flushed11]
  refine funext fun (y : S1x256x1024.Idx) => ?_
  refine Eq.trans (out_apply _ _ _ _ _ _ _ _ _ _ _ y) ?_
  rw [View.read_apply]
  have hi := index_11 t
  have h0 : (y 0).val < 1 := (y 0).isLt
  have e : ((cfg0.win 11).blk t).view.emb y = ix3 ⟨t.val / 9, by have := point_lt t; omega⟩ ⟨256 * (t.val % 9) + (y 1).val, by have h : (y 1).val < 256 := (y 1).isLt; omega⟩ (y 2) := by
    funext a
    apply Fin.ext
    match a with
    | ⟨0, _⟩ => show win0_11.index t 0 * 1 + 1 * (y 0).val = t.val / 9; rw [hi.1]; omega
    | ⟨1, _⟩ => show win0_11.index t 1 * 256 + 1 * (y 1).val = 256 * (t.val % 9) + (y 1).val; rw [hi.2.1]; omega
    | ⟨2, _⟩ => show win0_11.index t 2 * 1024 + 1 * (y 2).val = (y 2).val; rw [hi.2.2]; omega
  refine Eq.trans ?_ (congrArg (result m c) e).symm
  have hr : ∀ k : Fin 1024, _ = residual (inH m c) (product m c) (inL m c) (inC m c) ⟨t.val / 9, by have := point_lt t; omega⟩ ⟨256 * (t.val % 9) + (y 1).val, by have h : (y 1).val < 256 := (y 1).isLt; omega⟩ k := fun k =>
    congrArg₂ (· + ·) (congrArg (_ * ·) (read_4 m c t (y 1) k)) (congrArg₂ (· * ·) (read_5 m c t (y 1) 2 k) (Finset.sum_congr rfl fun j _ => congrArg₂ (· * ·) (read_row m c t (y 1) j) (read_10 m c t j k)))
  exact congr (congr (congr (congrArg layerNorm (funext hr)) (read_8 m c t (y 2))) (read_9 m c t (y 2))) rfl

/-- So the output array ends as the result. -/
theorem final (c : Dev nD) : (dats m 0 c).arrAt 11 cfg0.N = result m c :=
  (dats m 0 c).arrAt_eq_of_cover 11 (result m c) (fun t _ => flushed_eq m c t) fun i : S32x2304x1024.Idx => by
    have h0 : (i 0 : Nat) < 32 := (i 0).isLt
    have h1 : (i 1 : Nat) < 2304 := (i 1).isLt
    have h2 : (i 2 : Nat) < 1024 := (i 2).isLt
    have hN : cfg0.N = 288 := N_0
    obtain ⟨t, ht⟩ : ∃ t : Fin cfg0.N, t.val = 9 * (i 0 : Nat) + (i 1 : Nat) / 256 := ⟨⟨9 * (i 0 : Nat) + (i 1 : Nat) / 256, by omega⟩, rfl⟩
    refine ⟨t, flush0_11 t, ?_⟩
    have hi := index_11 t
    show i ∈ ((View.whole main_v12).slice (win0_11.rect t)).set
    rw [View.set_slice_whole, Rect.mem_set_unit]
    intro a
    match a with
    | ⟨0, _⟩ => show win0_11.index t 0 * 1 ≤ (i 0 : Nat) ∧ (i 0 : Nat) < win0_11.index t 0 * 1 + 1
                rw [hi.1]; omega
    | ⟨1, _⟩ => show win0_11.index t 1 * 256 ≤ (i 1 : Nat) ∧ (i 1 : Nat) < win0_11.index t 1 * 256 + 256
                rw [hi.2.1]; omega
    | ⟨2, _⟩ => show win0_11.index t 2 * 1024 ≤ (i 2 : Nat) ∧ (i 2 : Nat) < win0_11.index t 2 * 1024 + 1024
                rw [hi.2.2]; omega

end Cert.Kernel10Ideal.Out

namespace Cert.Reference10Ideal.Out
open Cert.Reference10Ideal Cert.Reference10Ideal.Gen Cert.Reference10Ideal.Read Cert.Proj Cert.Out

variable (x0 x1 : FVec Ideal S32x2304x4096 .f32) (x2 : FVec Ideal S32x2304x6144 .f32) (x3 : FVec Ideal S32x2304x1024 .f32) (x4 : FVec Ideal S32x6144 .f32) (x5 : FVec Ideal S6144 .f32) (x6 : FVec Ideal S32 .f32) (x7 : FVec Ideal S2048 .f32) (x8 x9 : FVec Ideal S1024 .f32) (x10 : FVec Ideal S2048x1024 .f32)

/-- The reference's rows to project. -/
theorem row_eq (a : Fin 32) (b : Fin 2304) (j : Fin 2048) : val_main_v34 (F := Ideal) x0 x1 x2 x6 x7 (ix3 a b j) = ssdRow x0 x1 x2 x6 x7 a b j := by
  have h0 : ∀ k : Fin 2048, val_main_v0 (F := Ideal) x2 (ix3 a b k) = x2 (ix3 a b ⟨k.val, by omega⟩) := fun k => by pointwise [val_main_v0]
  have h2 : ∀ k : Fin 2048, val_main_v2 (F := Ideal) x1 (ix3 a b k) = x1 (ix3 a b ⟨k.val, by omega⟩) := fun k => by pointwise [val_main_v2]
  have h6 : ∀ k : Fin 2048, val_main_v6 (F := Ideal) x0 (ix3 a b k) = x0 (ix3 a b ⟨k.val, by omega⟩) := fun k => by pointwise [val_main_v6]
  have h7 : ∀ k : Fin 2048, val_main_v7 (F := Ideal) x0 (ix3 a b k) = x0 (ix3 a b ⟨2048 + k.val, by omega⟩) := fun k => by pointwise [val_main_v7]
  refine congrArg₂ (· * ·) ((groupsG_apply reducesTo_S32x2304x8x256_S32x2304x8_d3 h_S_ bcast_S32x2304x8_S32x2304x8x1_0_1_2 bcast_S_S32x2304x8x1 bcast_S32x2304x8x1_S32x2304x8x256_0_1_2_3
    shapeCasts_S32x2304x2048_S32x2304x8x256 shapeCasts_S32x2304x8x256_S32x2304x2048 (val_main_v19 (F := Ideal) x0 x1 x2 x6) a b j).trans (congrArg (groupNorm · j) (funext fun k => ?_)))
    (along_apply bcast_S2048_S1x1x2048_2 bcast_S1x1x2048_S32x2304x2048_0_1_2 x7 a b j)
  refine congrArg₂ (· * ·) ?_ (congrArg₂ (· * ·) (h0 k) ((logisticG_apply bcast_S_S32x2304x2048 (val_main_v0 (F := Ideal) x2) a b k).trans (congrArg logistic (h0 k))))
  have hk : k.val = (k.val / 256 * 4 + k.val % 256 / 64) * 64 + k.val % 64 := by omega
  obtain ⟨n, hn⟩ : ∃ n : Fin 8, n.val = k.val / 256 := ⟨⟨k.val / 256, by omega⟩, rfl⟩
  obtain ⟨p, hp⟩ : ∃ p : Fin 4, p.val = k.val % 256 / 64 := ⟨⟨k.val % 256 / 64, by omega⟩, rfl⟩
  obtain ⟨q, hq⟩ : ∃ q : Fin 64, q.val = k.val % 64 := ⟨⟨k.val % 64, by omega⟩, rfl⟩
  rw [← hn, ← hp, ← hq] at hk
  refine (unplace_apply (val_main_v16 (F := Ideal) x0 x1 x6) shapeCasts_S32x2304x8x4x64_S32x2304x2048 a b n p q k hk).trans ?_
  have e8 : val_main_v8 (F := Ideal) x0 (ix5 a b n p q) = x0 (ix3 a b ⟨k.val, by omega⟩) := (place_apply (val_main_v6 (F := Ideal) x0) shapeCasts_S32x2304x2048_S32x2304x8x4x64 a b n p q k hk).trans (h6 k)
  have e9 : val_main_v9 (F := Ideal) x0 (ix5 a b n p q) = x0 (ix3 a b ⟨2048 + k.val, by omega⟩) := (place_apply (val_main_v7 (F := Ideal) x0) shapeCasts_S32x2304x2048_S32x2304x8x4x64 a b n p q k hk).trans (h7 k)
  have e5 : val_main_v5 (F := Ideal) x1 (ix5 a b n p q) = x1 (ix3 a b ⟨k.val, by omega⟩) := (place_apply (val_main_v2 (F := Ideal) x1) shapeCasts_S32x2304x2048_S32x2304x8x4x64 a b n p q k hk).trans (h2 k)
  refine congrArg₂ (· + ·) (congrArg₂ (· + ·) e8 e9) (congrArg₂ (· * ·) ?_ e5)
  have hd : ∀ (n : Fin 8) (p : Fin 4) (q : Fin 64), val_main_v14 (F := Ideal) x6 (ix5 a b n p q) = val_main_v11 (F := Ideal) x6 (ix2 n p) := fun n p q => by
    unfold val_main_v14 val_main_v13 val_main_v12
    generalize val_main_v11 (F := Ideal) x6 = w
    pointwise
  refine (hd n p q).trans (shapeCast_apply x6 shapeCasts_S32_S8x4 (ix2 n p) (ix1 ⟨k.val / 64, by omega⟩) (by
    rewrite [Shape.rowMajor_val_one, Shape.rowMajor_val_two]
    show k.val / 64 = n.val * 4 + p.val
    omega))

theorem product_apply (a : Fin 32) (b : Fin 2304) (k : Fin 1024) : val_main_v35 (F := Ideal) x0 x1 x2 x6 x7 x10 (ix3 a b k) = ∑ j : Fin 2048, ssdRow x0 x1 x2 x6 x7 a b j * x10 (ix2 j k) := by
  refine Eq.trans ?_ (Finset.sum_congr rfl fun j _ => congrArg (· * _) (row_eq x0 x1 x2 x6 x7 a b j))
  unfold val_main_v35
  generalize val_main_v34 (F := Ideal) x0 x1 x2 x6 x7 = v
  pointwise

/-- The reference's rows. -/
theorem out_apply (a : Fin 32) (b : Fin 2304) (d : Fin 1024) :
    val_main_v117 (F := Ideal) x0 x1 x2 x3 x4 x5 x6 x7 x8 x9 x10 (ix3 a b d)
      = layerNorm (residual x3 (fun i => ∑ j : Fin 2048, ssdRow x0 x1 x2 x6 x7 (i 0) (i 1) j * x10 (ix2 j (i 2))) x4 x5 a b) (x8 (ix1 d)) (x9 (ix1 d)) d := by
  have e : val_main_v35 (F := Ideal) x0 x1 x2 x6 x7 x10 = (fun i => ∑ j : Fin 2048, ssdRow x0 x1 x2 x6 x7 (i 0) (i 1) j * x10 (ix2 j (i 2)) : FVec Ideal S32x2304x1024 .f32) :=
    funext fun i : S32x2304x1024.Idx => (congrArg _ (eq_ix3 i)).trans (product_apply x0 x1 x2 x6 x7 x10 (i 0) (i 1) (i 2))
  rw [← e]
  exact post_apply slices_S32x2304x1024_S32x256x1024_0_0_0 slices_S32x2304x1024_S32x2048x1024_0_256_0 bcast_S_S32x256x1024 bcast_S_S32x2048x1024 slices_S6144_S1024_2048 bcast_S1024_S1x1x1024_2 bcast_S1x1x1024_S32x256x1024_0_1_2
    slices_S32x6144_S32x1024_0_2048 bcast_S32x1024_S32x1x1024_0_2 bcast_S32x1x1024_S32x2048x1024_0_1_2
    reducesTo_S32x256x1024_S32x256_d2 h_S_ bcast_S32x256_S32x256x1_0_1 bcast_S_S32x256x1 bcast_S32x256x1_S32x256x1024_0_1_2
    reducesTo_S32x2048x1024_S32x2048_d2 bcast_S32x2048_S32x2048x1_0_1 bcast_S_S32x2048x1 bcast_S32x2048x1_S32x2048x1024_0_1_2 bcast_S1x1x1024_S32x2048x1024_0_1_2
    concatenates_S32x256x1024_S32x2048x1024_S32x2304x1024_d1 x3 (val_main_v35 (F := Ideal) x0 x1 x2 x6 x7 x10) x4 x5 x8 x9 a b d

end Cert.Reference10Ideal.Out

namespace Cert.Out

theorem frame_Reference10Ideal : Cert.quiescent_Reference10Ideal := fun m ρ _ =>
  (θ_run _ _ _).mono (fun r h => ⟨fun c => (h c).2, Idealize.ShloMosaic.sem_eq_zero_of_no_sems (by decide) r.2⟩) (Cert.Reference10Ideal.Value.run m ρ)

/-- The kernel's rows and the reference's are the same array. -/
theorem algebraic10 : Cert.algebraic_Kernel10Ideal_Reference10Ideal := fun m g m' g' _ ha =>
  ⟨fun c => Cert.Kernel10Ideal.Out.result m c,
    (θ_run _ _ _).mono (fun r h c => ⟨(h c).1.trans (Cert.Kernel10Ideal.Out.final m c), (h c).2⟩) (Cert.Kernel10Ideal.Value.run_blocks m g),
    (θ_run _ _ _).mono (fun r h c => ⟨(h c).1.trans (by
      rw [Cert.Reference10Ideal.Read.val_main_v117_eq, (ha c).1, (ha c).2.1, (ha c).2.2.1, (ha c).2.2.2.1, (ha c).2.2.2.2.1, (ha c).2.2.2.2.2.1, (ha c).2.2.2.2.2.2.1, (ha c).2.2.2.2.2.2.2.1, (ha c).2.2.2.2.2.2.2.2.1, (ha c).2.2.2.2.2.2.2.2.2.1, (ha c).2.2.2.2.2.2.2.2.2.2]
      exact funext fun i : Cert.Kernel10Ideal.S32x2304x1024.Idx => (congrArg _ (eq_ix3 i)).trans (Cert.Reference10Ideal.Out.out_apply _ _ _ _ _ _ _ _ _ _ _ (i 0) (i 1) (i 2))), (h c).2⟩) (Cert.Reference10Ideal.Value.run m' g')⟩

end Cert.Out
end
-- ==== Proof.Out.MlstmOut.lean ====
/-
  The long short-term memory's output projection with its output gate, head norm, skip, gate, residual and layer norm.
-/
module

public import proofs.«01_k».proof.Defs
public import proofs.«01_k».proof.Proof.Out.Host
public import proofs.«01_k».proof.Proof.Out.Heads
public import proofs.«01_k».proof.Proof.Gen.Kernel11Ideal.Frame
public import Idealize.ShloMosaic.Lib.Pipeline.Value
public import proofs.«01_k».proof.Proof.Gen.Reference11Ideal.Run
public import proofs.«01_k».proof.Proof.Gen.Reference11Ideal.Read
public import Idealize.ShloMosaic.Lib.StableHlo.Run
public import Idealize.ShloMosaic.Lib.Quiescent

@[expose] public section

set_option maxRecDepth 16384
noncomputable section
open Idealize.ShloMosaic Idealize.ShloMosaic.TcCoe Idealize.SL.Sem
open Idealize.ShloMosaic.Pipeline (Dat)

namespace Cert.Kernel11Ideal.Out
open Cert.Kernel11Ideal Cert.Kernel11Ideal.Gen Cert.Proj Cert.Out

/-- A block's row to project. -/
def rowB (x0 : Vec Ideal S1x256x2048 .f32) (x1 : Vec Ideal S1x256x2048 .f32) (x2 : Vec Ideal S1x256x2048 .f32) (x3 : Vec Ideal S1x256x2048 .f32) (x4 : Vec Ideal S1x256x2048 .f32) (x7 : Vec Ideal S1x2048 .f32) (x8 : Vec Ideal S1x2048 .f32) (r : Fin 256) (j : Fin 2048) : EReal :=
  (headNorm (fun k => logistic (x3 (ix3 0 r k)) * (x0 (ix3 0 r k) + x1 (ix3 0 r k))) j * x7 (ix2 0 j) + x8 (ix2 0 j) * x4 (ix3 0 r j)) * silu (x2 (ix3 0 r j))

/-- The block's rows to project. -/
def rowV (x0 : Vec Ideal S1x256x2048 .f32) (x1 : Vec Ideal S1x256x2048 .f32) (x2 : Vec Ideal S1x256x2048 .f32) (x3 : Vec Ideal S1x256x2048 .f32) (x4 : Vec Ideal S1x256x2048 .f32) (x7 : Vec Ideal S1x2048 .f32) (x8 : Vec Ideal S1x2048 .f32) : FVec Ideal S256x2048 .f32 :=
  let v : FVec Ideal S256x2048 .f32 := mulf (logisticV (shapeCast S256x2048 x3 shapeCasts_S1x256x2048_S256x2048 : FVec Ideal S256x2048 .f32)) (addf (shapeCast S256x2048 x0 shapeCasts_S1x256x2048_S256x2048 : FVec Ideal S256x2048 .f32) (shapeCast S256x2048 x1 shapeCasts_S1x256x2048_S256x2048 : FVec Ideal S256x2048 .f32))
  mulf (addf (mulf (concatenate S256x2048 1 [⟨S256x512, headsV heads_slices reduces_S256x512_S256 shapeCasts_S256_S256x1 broadcasts_S256x1_S256x512 v 0⟩, ⟨S256x512, headsV heads_slices reduces_S256x512_S256 shapeCasts_S256_S256x1 broadcasts_S256x1_S256x512 v 1⟩, ⟨S256x512, headsV heads_slices reduces_S256x512_S256 shapeCasts_S256_S256x1 broadcasts_S256x1_S256x512 v 2⟩, ⟨S256x512, headsV heads_slices reduces_S256x512_S256 shapeCasts_S256_S256x1 broadcasts_S256x1_S256x512 v 3⟩] concatenates_S256x512_S256x512_S256x512_S256x512_S256x2048_d1)
      (broadcastTo S256x2048 (shapeCast S1x2048 x7 shapeCasts_S1x2048_S1x2048) broadcasts_S1x2048_S256x2048)) (mulf (broadcastTo S256x2048 (shapeCast S1x2048 x8 shapeCasts_S1x2048_S1x2048) broadcasts_S1x2048_S256x2048) (shapeCast S256x2048 x4 shapeCasts_S1x256x2048_S256x2048 : FVec Ideal S256x2048 .f32)))
    (mulf (shapeCast S256x2048 x2 shapeCasts_S1x256x2048_S256x2048 : FVec Ideal S256x2048 .f32) (logisticV (shapeCast S256x2048 x2 shapeCasts_S1x256x2048_S256x2048 : FVec Ideal S256x2048 .f32)))

theorem rowV_apply (x0 : Vec Ideal S1x256x2048 .f32) (x1 : Vec Ideal S1x256x2048 .f32) (x2 : Vec Ideal S1x256x2048 .f32) (x3 : Vec Ideal S1x256x2048 .f32) (x4 : Vec Ideal S1x256x2048 .f32) (x7 : Vec Ideal S1x2048 .f32) (x8 : Vec Ideal S1x2048 .f32) (r : Fin 256) (j : Fin 2048) : rowV x0 x1 x2 x3 x4 x7 x8 (ix2 r j) = rowB x0 x1 x2 x3 x4 x7 x8 r j := by
  have h0 : ∀ (x : Vec Ideal S1x256x2048 .f32) (k : Fin 2048), (shapeCast S256x2048 x shapeCasts_S1x256x2048_S256x2048 : FVec Ideal S256x2048 .f32) (ix2 r k) = x (ix3 0 r k) := fun x k => by pointwise
  refine congrArg₂ (· * ·) (congrArg₂ (· + ·) (congrArg₂ (· * ·) ((headsV_apply _ _ _ _ _ _ r j).trans (congrArg (headNorm · j) (funext fun k =>
    congrArg₂ (· * ·) ((logisticV_apply _ r k).trans (congrArg logistic (h0 x3 k))) (congrArg₂ (· + ·) (h0 x0 k) (h0 x1 k))))) (by pointwise)) (congrArg₂ (· * ·) (by pointwise) (h0 x4 j))) ?_
  exact congrArg₂ (· * ·) (h0 x2 j) ((logisticV_apply _ r j).trans (congrArg logistic (h0 x2 j)))

/-- The block's product. -/
def productV (p : FVec Ideal S256x2048 .f32) (w : Vec Ideal S2048x1024 .bf16) : FVec Ideal S256x1024 .f32 :=
  matmul dot_S256x2048_S2048x1024_S256x1024_1_0_0_1_n_n none (truncf .bf16 p bitsLt_bf16_f32)
    (shapeCast S2048x1024 w shapeCasts_S2048x1024_S2048x1024 : FVec Ideal S2048x1024 .bf16) (constant S256x1024 .f32 0x00000000#32)

theorem productV_apply (p : FVec Ideal S256x2048 .f32) (w : Vec Ideal S2048x1024 .bf16) (r : Fin 256) (k : Fin 1024) :
    productV p w (ix2 r k) = ∑ j : Fin 2048, p (ix2 r j) * w (ix2 j k) := by
  pointwise [productV]

/-- The whole block. -/
theorem out_apply (x0 : Vec Ideal S1x256x2048 .f32) (x1 : Vec Ideal S1x256x2048 .f32) (x2 : Vec Ideal S1x256x2048 .f32) (x3 : Vec Ideal S1x256x2048 .f32) (x4 : Vec Ideal S1x256x2048 .f32) (x5 : Vec Ideal S1x256x1024 .f32) (x6 : Vec Ideal S1x1x6x1024 .f32) (x7 : Vec Ideal S1x2048 .f32) (x8 : Vec Ideal S1x2048 .f32) (x9 : Vec Ideal S1x1024 .f32) (x10 : Vec Ideal S1x1024 .f32) (x11 : Vec Ideal S2048x1024 .bf16) (y : S1x256x1024.Idx) :
    out0_12 x0 x1 x2 x3 x4 x5 x6 x7 x8 x9 x10 x11 y
      = layerNorm (fun k => Ideal.ofBits .f32 0x3FD744FD#32 * x5 (ix3 0 (y 1) k) + x6 (ix4 0 0 2 k) * ∑ j : Fin 2048, rowB x0 x1 x2 x3 x4 x7 x8 (y 1) j * x11 (ix2 j k)) (x9 (ix2 0 (y 2))) (x10 (ix2 0 (y 2))) (y 2) := by
  unfold out0_12
  refine canon_one (fun r n => layerNorm (fun k => Ideal.ofBits .f32 0x3FD744FD#32 * x5 (ix3 0 r k) + x6 (ix4 0 0 2 k) * ∑ j : Fin 2048, rowB x0 x1 x2 x3 x4 x7 x8 r j * x11 (ix2 j k)) (x9 (ix2 0 n)) (x10 (ix2 0 n)) n) _ _ (fun r n => ?_) y
  refine (layerNormV_apply reduces_S256x1024_S256 shapeCasts_S256_S256x1 broadcasts_S256x1_S256x1024 broadcasts_S1x1024_S256x1024 shapeCasts_S256x1024_S1x256x1024 shapeCasts_S1x1024_S1x1024
    (View.ld x9 r0_3) (View.ld x10 r0_3)
    (residualV broadcasts_S1x1024_S256x1024 shapeCasts_S1x256x1024_S256x1024 shapeCasts_S1x1x1x1024_S1x1024 (View.ld x5 r0_1) (View.ld x6 r0_5)
      (productV (rowV (View.ld x0 r0_0) (View.ld x1 r0_0) (View.ld x2 r0_0) (View.ld x3 r0_0) (View.ld x4 r0_0) (View.ld x7 r0_2) (View.ld x8 r0_2)) (View.ld x11 r0_4))) 0 r n).trans ?_
  refine congr (congr (congr (congrArg layerNorm (funext fun k => ?_)) (ld_mat x9 _ 0 n)) (ld_mat x10 _ 0 n)) rfl
  rw [residualV_apply, productV_apply]
  refine congrArg₂ (· + ·) (congrArg (_ * ·) (ld_rows x5 _ 0 r k)) (congrArg₂ (· * ·) (ld_mod x6 2 (by decide) _ 0 0 0 k) (Finset.sum_congr rfl fun j _ => congrArg₂ (· * ·) ?_ (ld_mat x11 _ j k)))
  rw [rowV_apply]
  exact congrArg₂ (· * ·) (congrArg₂ (· + ·) (congrArg₂ (· * ·) (congrArg (headNorm · j) (funext fun i => congrArg₂ (· * ·) (congrArg logistic (ld_rows x3 _ 0 r i)) (congrArg₂ (· + ·) (ld_rows x0 _ 0 r i) (ld_rows x1 _ 0 r i)))) (ld_mat x7 _ 0 j))
    (congrArg₂ (· * ·) (ld_mat x8 _ 0 j) (ld_rows x4 _ 0 r j))) (congrArg silu (ld_rows x2 _ 0 r j))

variable (m : (ℓ : Loc nD τ sig) → Buf (Elt Ideal) ℓ)

theorem point_lt (t : Fin cfg0.N) : t.val < 288 := lt_of_lt_of_eq t.isLt N_0

theorem index_0 : ∀ t : Fin cfg0.N, win0_0.index t 0 = t.val / 9 ∧ win0_0.index t 1 = t.val % 9 ∧ win0_0.index t 2 = 0 := by decide +kernel
theorem index_1 : ∀ t : Fin cfg0.N, win0_1.index t 0 = t.val / 9 ∧ win0_1.index t 1 = t.val % 9 ∧ win0_1.index t 2 = 1 := by decide +kernel
theorem index_2 : ∀ t : Fin cfg0.N, win0_2.index t 0 = t.val / 9 ∧ win0_2.index t 1 = t.val % 9 ∧ win0_2.index t 2 = 1 := by decide +kernel
theorem index_3 : ∀ t : Fin cfg0.N, win0_3.index t 0 = t.val / 9 ∧ win0_3.index t 1 = t.val % 9 ∧ win0_3.index t 2 = 2 := by decide +kernel
theorem index_4 : ∀ t : Fin cfg0.N, win0_4.index t 0 = t.val / 9 ∧ win0_4.index t 1 = t.val % 9 ∧ win0_4.index t 2 = 0 := by decide +kernel
theorem index_5 : ∀ t : Fin cfg0.N, win0_5.index t 0 = t.val / 9 ∧ win0_5.index t 1 = t.val % 9 ∧ win0_5.index t 2 = 0 := by decide +kernel
theorem index_6 : ∀ t : Fin cfg0.N, win0_6.index t 0 = t.val / 9 ∧ win0_6.index t 1 = t.val % 9 ∧ win0_6.index t 2 = 0 ∧ win0_6.index t 3 = 0 := by decide +kernel
theorem index_7 : ∀ t : Fin cfg0.N, win0_7.index t 0 = 0 ∧ win0_7.index t 1 = 0 := by decide +kernel
theorem index_8 : ∀ t : Fin cfg0.N, win0_8.index t 0 = 0 ∧ win0_8.index t 1 = 0 := by decide +kernel
theorem index_9 : ∀ t : Fin cfg0.N, win0_9.index t 0 = 0 ∧ win0_9.index t 1 = 0 := by decide +kernel
theorem index_10 : ∀ t : Fin cfg0.N, win0_10.index t 0 = 0 ∧ win0_10.index t 1 = 0 := by decide +kernel
theorem index_11 : ∀ t : Fin cfg0.N, win0_11.index t 0 = 0 ∧ win0_11.index t 1 = 0 := by decide +kernel
theorem index_12 : ∀ t : Fin cfg0.N, win0_12.index t 0 = t.val / 9 ∧ win0_12.index t 1 = t.val % 9 ∧ win0_12.index t 2 = 0 := by decide +kernel

/-- The arguments. -/
def inO (c : Dev nD) : Vec Ideal S32x2304x4096 .f32 := m ((c : Thread nD τ).loc main_arg0)
def inP (c : Dev nD) : Vec Ideal S32x2304x6144 .f32 := m ((c : Thread nD τ).loc main_arg1)
def inX (c : Dev nD) : Vec Ideal S32x2304x2048 .f32 := m ((c : Thread nD τ).loc main_arg2)
def inH (c : Dev nD) : Vec Ideal S32x2304x1024 .f32 := m ((c : Thread nD τ).loc main_arg3)
def inL (c : Dev nD) : Vec Ideal S32x6144 .f32 := m ((c : Thread nD τ).loc main_arg4)
def inC (c : Dev nD) : Vec Ideal S6144 .f32 := m ((c : Thread nD τ).loc main_arg5)
def inN (c : Dev nD) : Vec Ideal S2048 .f32 := m ((c : Thread nD τ).loc main_arg6)
def inS (c : Dev nD) : Vec Ideal S2048 .f32 := m ((c : Thread nD τ).loc main_arg7)
def inG (c : Dev nD) : Vec Ideal S1024 .f32 := m ((c : Thread nD τ).loc main_arg8)
def inB (c : Dev nD) : Vec Ideal S1024 .f32 := m ((c : Thread nD τ).loc main_arg9)
def inW (c : Dev nD) : Vec Ideal S2048x1024 .f32 := m ((c : Thread nD τ).loc main_arg10)

/-- The forward direction. -/
theorem read_0 (c : Dev nD) (t : Fin cfg0.N) (r : Fin 256) (k : Fin 2048) :
    (iblk m c 0 t : Vec Ideal S1x256x2048 .f32) (ix3 0 r k)
      = inO m c (ix3 ⟨t.val / 9, by have := point_lt t; omega⟩ ⟨256 * (t.val % 9) + r.val, by omega⟩ ⟨k.val, by omega⟩) := by
  unfold inO
  rw [← V_main_arg0 m c]
  unfold iblk
  rw [View.read_apply]
  show V m c main_arg0 _ = V m c main_arg0 _
  congr 1
  have hi := index_0 t
  funext a
  apply Fin.ext
  match a with
  | ⟨0, _⟩ => show win0_0.index t 0 * 1 + 1 * 0 = t.val / 9; rw [hi.1]; omega
  | ⟨1, _⟩ => show win0_0.index t 1 * 256 + 1 * r.val = 256 * (t.val % 9) + r.val; rw [hi.2.1]; omega
  | ⟨2, _⟩ => show win0_0.index t 2 * 2048 + 1 * k.val = k.val; rw [hi.2.2]; omega

/-- The backward direction. -/
theorem read_1 (c : Dev nD) (t : Fin cfg0.N) (r : Fin 256) (k : Fin 2048) :
    (iblk m c 1 t : Vec Ideal S1x256x2048 .f32) (ix3 0 r k)
      = inO m c (ix3 ⟨t.val / 9, by have := point_lt t; omega⟩ ⟨256 * (t.val % 9) + r.val, by omega⟩ ⟨2048 + k.val, by omega⟩) := by
  unfold inO
  rw [← V_main_arg0 m c]
  unfold iblk
  rw [View.read_apply]
  show V m c main_arg0 _ = V m c main_arg0 _
  congr 1
  have hi := index_1 t
  funext a
  apply Fin.ext
  match a with
  | ⟨0, _⟩ => show win0_1.index t 0 * 1 + 1 * 0 = t.val / 9; rw [hi.1]; omega
  | ⟨1, _⟩ => show win0_1.index t 1 * 256 + 1 * r.val = 256 * (t.val % 9) + r.val; rw [hi.2.1]; omega
  | ⟨2, _⟩ => show win0_1.index t 2 * 2048 + 1 * k.val = 2048 + k.val; rw [hi.2.2]; omega

/-- The gate. -/
theorem read_2 (c : Dev nD) (t : Fin cfg0.N) (r : Fin 256) (k : Fin 2048) :
    (iblk m c 2 t : Vec Ideal S1x256x2048 .f32) (ix3 0 r k)
      = inP m c (ix3 ⟨t.val / 9, by have := point_lt t; omega⟩ ⟨256 * (t.val % 9) + r.val, by omega⟩ ⟨2048 + k.val, by omega⟩) := by
  unfold inP
  rw [← V_main_arg1 m c]
  unfold iblk
  rw [View.read_apply]
  show V m c main_arg1 _ = V m c main_arg1 _
  congr 1
  have hi := index_2 t
  funext a
  apply Fin.ext
  match a with
  | ⟨0, _⟩ => show win0_2.index t 0 * 1 + 1 * 0 = t.val / 9; rw [hi.1]; omega
  | ⟨1, _⟩ => show win0_2.index t 1 * 256 + 1 * r.val = 256 * (t.val % 9) + r.val; rw [hi.2.1]; omega
  | ⟨2, _⟩ => show win0_2.index t 2 * 2048 + 1 * k.val = 2048 + k.val; rw [hi.2.2]; omega

/-- The output gate. -/
theorem read_3 (c : Dev nD) (t : Fin cfg0.N) (r : Fin 256) (k : Fin 2048) :
    (iblk m c 3 t : Vec Ideal S1x256x2048 .f32) (ix3 0 r k)
      = inP m c (ix3 ⟨t.val / 9, by have := point_lt t; omega⟩ ⟨256 * (t.val % 9) + r.val, by omega⟩ ⟨4096 + k.val, by omega⟩) := by
  unfold inP
  rw [← V_main_arg1 m c]
  unfold iblk
  rw [View.read_apply]
  show V m c main_arg1 _ = V m c main_arg1 _
  congr 1
  have hi := index_3 t
  funext a
  apply Fin.ext
  match a with
  | ⟨0, _⟩ => show win0_3.index t 0 * 1 + 1 * 0 = t.val / 9; rw [hi.1]; omega
  | ⟨1, _⟩ => show win0_3.index t 1 * 256 + 1 * r.val = 256 * (t.val % 9) + r.val; rw [hi.2.1]; omega
  | ⟨2, _⟩ => show win0_3.index t 2 * 2048 + 1 * k.val = 4096 + k.val; rw [hi.2.2]; omega

/-- The skip. -/
theorem read_4 (c : Dev nD) (t : Fin cfg0.N) (r : Fin 256) (k : Fin 2048) :
    (iblk m c 4 t : Vec Ideal S1x256x2048 .f32) (ix3 0 r k)
      = inX m c (ix3 ⟨t.val / 9, by have := point_lt t; omega⟩ ⟨256 * (t.val % 9) + r.val, by omega⟩ k) := by
  unfold inX
  rw [← V_main_arg2 m c]
  unfold iblk
  rw [View.read_apply]
  show V m c main_arg2 _ = V m c main_arg2 _
  congr 1
  have hi := index_4 t
  funext a
  apply Fin.ext
  match a with
  | ⟨0, _⟩ => show win0_4.index t 0 * 1 + 1 * 0 = t.val / 9; rw [hi.1]; omega
  | ⟨1, _⟩ => show win0_4.index t 1 * 256 + 1 * r.val = 256 * (t.val % 9) + r.val; rw [hi.2.1]; omega
  | ⟨2, _⟩ => show win0_4.index t 2 * 2048 + 1 * k.val = k.val; rw [hi.2.2]; omega

/-- The layer's input. -/
theorem read_5 (c : Dev nD) (t : Fin cfg0.N) (r : Fin 256) (k : Fin 1024) :
    (iblk m c 5 t : Vec Ideal S1x256x1024 .f32) (ix3 0 r k)
      = inH m c (ix3 ⟨t.val / 9, by have := point_lt t; omega⟩ ⟨256 * (t.val % 9) + r.val, by omega⟩ k) := by
  unfold inH
  rw [← V_main_arg3 m c]
  unfold iblk
  rw [View.read_apply]
  show V m c main_arg3 _ = V m c main_arg3 _
  congr 1
  have hi := index_5 t
  funext a
  apply Fin.ext
  match a with
  | ⟨0, _⟩ => show win0_5.index t 0 * 1 + 1 * 0 = t.val / 9; rw [hi.1]; omega
  | ⟨1, _⟩ => show win0_5.index t 1 * 256 + 1 * r.val = 256 * (t.val % 9) + r.val; rw [hi.2.1]; omega
  | ⟨2, _⟩ => show win0_5.index t 2 * 1024 + 1 * k.val = k.val; rw [hi.2.2]; omega

/-- The modulation's block has the rows of its batch and block. -/
theorem read_6 (c : Dev nD) (t : Fin cfg0.N) (r : Fin 256) (s : Fin 6) (k : Fin 1024) :
    (iblk m c 6 t : Vec Ideal S1x1x6x1024 .f32) (ix4 0 0 s k)
      = modRow (inL m c) (inC m c) ⟨t.val / 9, by have := point_lt t; omega⟩ (256 * (t.val % 9) + r.val < 256) s k := by
  have hc : (t.val % 9 = 0) = (256 * (t.val % 9) + r.val < 256) := propext (by omega)
  have e : V m c main_v9 (ix4 ⟨t.val / 9, by have := point_lt t; omega⟩ ⟨t.val % 9, by omega⟩ s k)
      = modRow (inL m c) (inC m c) ⟨t.val / 9, by have := point_lt t; omega⟩ (t.val % 9 = 0) s k := by
    refine Eq.trans ?_ (mods_apply (inL m c) (inC m c) shapeCasts_S32x6144_S32x1x6x1024 shapeCasts_S6144_S1x1x6x1024 bcast_S1x1x6x1024_S32x1x6x1024_0_1_2_3
      bcast_S32x1x6x1024_S32x8x6x1024_0_1_2_3 concatenates_S32x1x6x1024_S32x8x6x1024_S32x9x6x1024_d1 _ ⟨t.val % 9, by omega⟩ s k)
    unfold V
    after_results_simp <;> rfl
  refine Eq.trans ?_ (e.trans (by unfold modRow; simp only [hc]))
  unfold iblk
  rw [View.read_apply]
  show V m c main_v9 _ = V m c main_v9 _
  congr 1
  have hi := index_6 t
  funext a
  apply Fin.ext
  match a with
  | ⟨0, _⟩ => show win0_6.index t 0 * 1 + 1 * 0 = t.val / 9; rw [hi.1]; omega
  | ⟨1, _⟩ => show win0_6.index t 1 * 1 + 1 * 0 = t.val % 9; rw [hi.2.1]; omega
  | ⟨2, _⟩ => show win0_6.index t 2 * 6 + 1 * s.val = s.val; rw [hi.2.2.1]; omega
  | ⟨3, _⟩ => show win0_6.index t 3 * 1024 + 1 * k.val = k.val; rw [hi.2.2.2]; omega

/-- The heads' gain. -/
theorem read_7 (c : Dev nD) (t : Fin cfg0.N) (k : Fin 2048) : (iblk m c 7 t : Vec Ideal S1x2048 .f32) (ix2 0 k) = inN m c (ix1 k) := by
  have e : V m c main_v2 (ix2 0 k) = inN m c (ix1 k) := by
    refine Eq.trans ?_ (row_apply (inN m c) shapeCasts_S2048_S1x2048 0 k)
    unfold V
    after_results_simp <;> rfl
  rw [← e]
  unfold iblk
  rw [View.read_apply]
  show V m c main_v2 _ = V m c main_v2 _
  congr 1
  have hi := index_7 t
  funext a
  apply Fin.ext
  match a with
  | ⟨0, _⟩ => show win0_7.index t 0 * 1 + 1 * 0 = 0; rw [hi.1]
  | ⟨1, _⟩ => show win0_7.index t 1 * 2048 + 1 * k.val = k.val; rw [hi.2]; omega

/-- The skip's factor. -/
theorem read_8 (c : Dev nD) (t : Fin cfg0.N) (k : Fin 2048) : (iblk m c 8 t : Vec Ideal S1x2048 .f32) (ix2 0 k) = inS m c (ix1 k) := by
  have e : V m c main_v3 (ix2 0 k) = inS m c (ix1 k) := by
    refine Eq.trans ?_ (row_apply (inS m c) shapeCasts_S2048_S1x2048 0 k)
    unfold V
    after_results_simp <;> rfl
  rw [← e]
  unfold iblk
  rw [View.read_apply]
  show V m c main_v3 _ = V m c main_v3 _
  congr 1
  have hi := index_8 t
  funext a
  apply Fin.ext
  match a with
  | ⟨0, _⟩ => show win0_8.index t 0 * 1 + 1 * 0 = 0; rw [hi.1]
  | ⟨1, _⟩ => show win0_8.index t 1 * 2048 + 1 * k.val = k.val; rw [hi.2]; omega

/-- The gain. -/
theorem read_9 (c : Dev nD) (t : Fin cfg0.N) (k : Fin 1024) : (iblk m c 9 t : Vec Ideal S1x1024 .f32) (ix2 0 k) = inG m c (ix1 k) := by
  have e : V m c main_v0 (ix2 0 k) = inG m c (ix1 k) := by
    refine Eq.trans ?_ (row_apply (inG m c) shapeCasts_S1024_S1x1024 0 k)
    unfold V
    after_results_simp <;> rfl
  rw [← e]
  unfold iblk
  rw [View.read_apply]
  show V m c main_v0 _ = V m c main_v0 _
  congr 1
  have hi := index_9 t
  funext a
  apply Fin.ext
  match a with
  | ⟨0, _⟩ => show win0_9.index t 0 * 1 + 1 * 0 = 0; rw [hi.1]
  | ⟨1, _⟩ => show win0_9.index t 1 * 1024 + 1 * k.val = k.val; rw [hi.2]; omega

/-- The bias. -/
theorem read_10 (c : Dev nD) (t : Fin cfg0.N) (k : Fin 1024) : (iblk m c 10 t : Vec Ideal S1x1024 .f32) (ix2 0 k) = inB m c (ix1 k) := by
  have e : V m c main_v1 (ix2 0 k) = inB m c (ix1 k) := by
    refine Eq.trans ?_ (row_apply (inB m c) shapeCasts_S1024_S1x1024 0 k)
    unfold V
    after_results_simp <;> rfl
  rw [← e]
  unfold iblk
  rw [View.read_apply]
  show V m c main_v1 _ = V m c main_v1 _
  congr 1
  have hi := index_10 t
  funext a
  apply Fin.ext
  match a with
  | ⟨0, _⟩ => show win0_10.index t 0 * 1 + 1 * 0 = 0; rw [hi.1]
  | ⟨1, _⟩ => show win0_10.index t 1 * 1024 + 1 * k.val = k.val; rw [hi.2]; omega

/-- The weight's block is the weight. -/
theorem read_11 (c : Dev nD) (t : Fin cfg0.N) (k : Fin 2048) (n : Fin 1024) : (iblk m c 11 t : Vec Ideal S2048x1024 .bf16) (ix2 k n) = inW m c (ix2 k n) := by
  have e : V m c main_v4 = (inW m c : Vec Ideal S2048x1024 .f32) := by
    unfold V
    after_results_simp <;> rfl
  rw [← e]
  unfold iblk
  rw [View.read_apply]
  show V m c main_v4 _ = V m c main_v4 _
  congr 1
  have hi := index_11 t
  funext a
  apply Fin.ext
  match a with
  | ⟨0, _⟩ => show win0_11.index t 0 * 2048 + 1 * k.val = k.val; rw [hi.1]; omega
  | ⟨1, _⟩ => show win0_11.index t 1 * 1024 + 1 * n.val = n.val; rw [hi.2]; omega

/-- What a point writes back. -/
theorem flushed12 (c : Dev nD) (t : Fin cfg0.N) : (dats m 0 c).flushed 12 t = (cfg0.win 12).cut (grid0.coords t) (out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 12).cut (grid0.coords t) ((dats m 0 c).after 12 t) = _
  rw [after0_12]

/-- After a run the output is the written blocks and the arguments are as they were. -/
theorem run_blocks (ρ : Dev nD → PrngReg) : θ_run defs (onTc (τ := τ) (main (F := Ideal))) ⟨m, fun _ => 0, ρ⟩ fun r => ∀ c : Dev nD,
      r.2.mem ((c : Thread nD τ).loc main_v10) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1 12,
    ((h c).1 1).trans (((dats m 0 c).arrAt_in 1 rfl _).trans ((A_eq m c 1).trans (V_main_arg0 m c))),
    ((h c).1 3).trans (((dats m 0 c).arrAt_in 3 rfl _).trans ((A_eq m c 3).trans (V_main_arg1 m c))),
    ((h c).1 4).trans (((dats m 0 c).arrAt_in 4 rfl _).trans ((A_eq m c 4).trans (V_main_arg2 m c))),
    ((h c).1 5).trans (((dats m 0 c).arrAt_in 5 rfl _).trans ((A_eq m c 5).trans (V_main_arg3 m c))),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c)⟩) (run_main m ρ)

/-- The projected rows. -/
def product (c : Dev nD) : FVec Ideal ⟨3, ![32, 2304, 1024]⟩ .f32 := fun i => ∑ j : Fin 2048, memRow (inO m c) (inP m c) (inX m c) (inN m c) (inS m c) (i 0) (i 1) j * inW m c (ix2 j (i 2))

/-- The layer norms of the residual. -/
def result (c : Dev nD) : Buf (Elt Ideal) ((c : Thread nD τ).loc main_v10) :=
  fun i : S32x2304x1024.Idx => layerNorm (residual (inH m c) (product m c) (inL m c) (inC m c) (i 0) (i 1)) (inG m c (ix1 (i 2))) (inB m c (ix1 (i 2))) (i 2)

/-- A point's rows to project. -/
theorem read_row (c : Dev nD) (t : Fin cfg0.N) (r : Fin 256) (j : Fin 2048) :
    rowB (iblk m c 0 t : Vec Ideal S1x256x2048 .f32) (iblk m c 1 t : Vec Ideal S1x256x2048 .f32) (iblk m c 2 t : Vec Ideal S1x256x2048 .f32) (iblk m c 3 t : Vec Ideal S1x256x2048 .f32) (iblk m c 4 t : Vec Ideal S1x256x2048 .f32) (iblk m c 7 t : Vec Ideal S1x2048 .f32) (iblk m c 8 t : Vec Ideal S1x2048 .f32) r j
      = memRow (inO m c) (inP m c) (inX m c) (inN m c) (inS m c) ⟨t.val / 9, by have := point_lt t; omega⟩ ⟨256 * (t.val % 9) + r.val, by omega⟩ j :=
  congrArg₂ (· * ·) (congrArg₂ (· + ·) (congrArg₂ (· * ·) (congrArg (headNorm · j) (funext fun i => congrArg₂ (· * ·) (congrArg logistic (read_3 m c t r i)) (congrArg₂ (· + ·) (read_0 m c t r i) (read_1 m c t r i)))) (read_7 m c t j))
    (congrArg₂ (· * ·) (read_8 m c t j) (read_4 m c t r j))) (congrArg silu (read_2 m c t r j))

/-- What a point writes back is its block of the result. -/
theorem flushed_eq (c : Dev nD) (t : Fin cfg0.N) :
    (dats m 0 c).flushed 12 t = ((cfg0.win 12).blk t).view.read (Elt Ideal) (result m c) := by
  rw [flushed12]
  refine funext fun (y : S1x256x1024.Idx) => ?_
  refine Eq.trans (out_apply _ _ _ _ _ _ _ _ _ _ _ _ y) ?_
  rw [View.read_apply]
  have hi := index_12 t
  have h0 : (y 0).val < 1 := (y 0).isLt
  have e : ((cfg0.win 12).blk t).view.emb y = ix3 ⟨t.val / 9, by have := point_lt t; omega⟩ ⟨256 * (t.val % 9) + (y 1).val, by have h : (y 1).val < 256 := (y 1).isLt; omega⟩ (y 2) := by
    funext a
    apply Fin.ext
    match a with
    | ⟨0, _⟩ => show win0_12.index t 0 * 1 + 1 * (y 0).val = t.val / 9; rw [hi.1]; omega
    | ⟨1, _⟩ => show win0_12.index t 1 * 256 + 1 * (y 1).val = 256 * (t.val % 9) + (y 1).val; rw [hi.2.1]; omega
    | ⟨2, _⟩ => show win0_12.index t 2 * 1024 + 1 * (y 2).val = (y 2).val; rw [hi.2.2]; omega
  refine Eq.trans ?_ (congrArg (result m c) e).symm
  have hr : ∀ k : Fin 1024, _ = residual (inH m c) (product m c) (inL m c) (inC m c) ⟨t.val / 9, by have := point_lt t; omega⟩ ⟨256 * (t.val % 9) + (y 1).val, by have h : (y 1).val < 256 := (y 1).isLt; omega⟩ k := fun k =>
    congrArg₂ (· + ·) (congrArg (_ * ·) (read_5 m c t (y 1) k)) (congrArg₂ (· * ·) (read_6 m c t (y 1) 2 k) (Finset.sum_congr rfl fun j _ => congrArg₂ (· * ·) (read_row m c t (y 1) j) (read_11 m c t j k)))
  exact congr (congr (congr (congrArg layerNorm (funext hr)) (read_9 m c t (y 2))) (read_10 m c t (y 2))) rfl

/-- So the output array ends as the result. -/
theorem final (c : Dev nD) : (dats m 0 c).arrAt 12 cfg0.N = result m c :=
  (dats m 0 c).arrAt_eq_of_cover 12 (result m c) (fun t _ => flushed_eq m c t) fun i : S32x2304x1024.Idx => by
    have h0 : (i 0 : Nat) < 32 := (i 0).isLt
    have h1 : (i 1 : Nat) < 2304 := (i 1).isLt
    have h2 : (i 2 : Nat) < 1024 := (i 2).isLt
    have hN : cfg0.N = 288 := N_0
    obtain ⟨t, ht⟩ : ∃ t : Fin cfg0.N, t.val = 9 * (i 0 : Nat) + (i 1 : Nat) / 256 := ⟨⟨9 * (i 0 : Nat) + (i 1 : Nat) / 256, by omega⟩, rfl⟩
    refine ⟨t, flush0_12 t, ?_⟩
    have hi := index_12 t
    show i ∈ ((View.whole main_v10).slice (win0_12.rect t)).set
    rw [View.set_slice_whole, Rect.mem_set_unit]
    intro a
    match a with
    | ⟨0, _⟩ => show win0_12.index t 0 * 1 ≤ (i 0 : Nat) ∧ (i 0 : Nat) < win0_12.index t 0 * 1 + 1
                rw [hi.1]; omega
    | ⟨1, _⟩ => show win0_12.index t 1 * 256 ≤ (i 1 : Nat) ∧ (i 1 : Nat) < win0_12.index t 1 * 256 + 256
                rw [hi.2.1]; omega
    | ⟨2, _⟩ => show win0_12.index t 2 * 1024 ≤ (i 2 : Nat) ∧ (i 2 : Nat) < win0_12.index t 2 * 1024 + 1024
                rw [hi.2.2]; omega

end Cert.Kernel11Ideal.Out

namespace Cert.Reference11Ideal.Out
open Cert.Reference11Ideal Cert.Reference11Ideal.Gen Cert.Reference11Ideal.Read Cert.Proj Cert.Out

variable (x0 : FVec Ideal S32x2304x4096 .f32) (x1 : FVec Ideal S32x2304x6144 .f32) (x2 : FVec Ideal S32x2304x2048 .f32) (x3 : FVec Ideal S32x2304x1024 .f32) (x4 : FVec Ideal S32x6144 .f32) (x5 : FVec Ideal S6144 .f32) (x6 x7 : FVec Ideal S2048 .f32) (x8 x9 : FVec Ideal S1024 .f32) (x10 : FVec Ideal S2048x1024 .f32)

/-- The reference's rows to project. -/
theorem row_eq (a : Fin 32) (b : Fin 2304) (j : Fin 2048) : val_main_v42 (F := Ideal) x0 x1 x2 x6 x7 (ix3 a b j) = memRow x0 x1 x2 x6 x7 a b j := by
  have h5 : ∀ k : Fin 2048, val_main_v5 (F := Ideal) x0 (ix3 a b k) = x0 (ix3 a b ⟨k.val, by omega⟩) + x0 (ix3 a b ⟨2048 + k.val, by omega⟩) := fun k => by pointwise [val_main_v5, val_main_v0, val_main_v1]
  have h4 : ∀ k : Fin 2048, val_main_v4 (F := Ideal) x1 (ix3 a b k) = x1 (ix3 a b ⟨4096 + k.val, by omega⟩) := fun k => by pointwise [val_main_v4]
  have h3 : val_main_v3 (F := Ideal) x1 (ix3 a b j) = x1 (ix3 a b ⟨2048 + j.val, by omega⟩) := by pointwise [val_main_v3]
  refine congrArg₂ (· * ·) (congrArg₂ (· + ·) (congrArg₂ (· * ·) ((headsG_apply reducesTo_S32x2304x4x512_S32x2304x4_d3 h_S_ bcast_S32x2304x4_S32x2304x4x1_0_1_2 bcast_S_S32x2304x4x1 bcast_S32x2304x4x1_S32x2304x4x512_0_1_2_3
    shapeCasts_S32x2304x2048_S32x2304x4x512 shapeCasts_S32x2304x4x512_S32x2304x2048 (mulf (val_main_v12 (F := Ideal) x1) (val_main_v5 (F := Ideal) x0)) a b j).trans (congrArg (headNorm · j) (funext fun k =>
      congrArg₂ (· * ·) ((logisticG_apply bcast_S_S32x2304x2048 (val_main_v4 (F := Ideal) x1) a b k).trans (congrArg logistic (h4 k))) (h5 k))))
    (along_apply bcast_S2048_S1x1x2048_2 bcast_S1x1x2048_S32x2304x2048_0_1_2 x6 a b j)) (congrArg (· * _) (along_apply bcast_S2048_S1x1x2048_2 bcast_S1x1x2048_S32x2304x2048_0_1_2 x7 a b j))) ?_
  exact congrArg₂ (· * ·) h3 ((logisticG_apply bcast_S_S32x2304x2048 (val_main_v3 (F := Ideal) x1) a b j).trans (congrArg logistic h3))

theorem product_apply (a : Fin 32) (b : Fin 2304) (k : Fin 1024) : val_main_v43 (F := Ideal) x0 x1 x2 x6 x7 x10 (ix3 a b k) = ∑ j : Fin 2048, memRow x0 x1 x2 x6 x7 a b j * x10 (ix2 j k) := by
  refine Eq.trans ?_ (Finset.sum_congr rfl fun j _ => congrArg (· * _) (row_eq x0 x1 x2 x6 x7 a b j))
  unfold val_main_v43
  generalize val_main_v42 (F := Ideal) x0 x1 x2 x6 x7 = v
  pointwise

/-- The reference's rows. -/
theorem out_apply (a : Fin 32) (b : Fin 2304) (d : Fin 1024) :
    val_main_v125 (F := Ideal) x0 x1 x2 x3 x4 x5 x6 x7 x8 x9 x10 (ix3 a b d)
      = layerNorm (residual x3 (fun i => ∑ j : Fin 2048, memRow x0 x1 x2 x6 x7 (i 0) (i 1) j * x10 (ix2 j (i 2))) x4 x5 a b) (x8 (ix1 d)) (x9 (ix1 d)) d := by
  have e : val_main_v43 (F := Ideal) x0 x1 x2 x6 x7 x10 = (fun i => ∑ j : Fin 2048, memRow x0 x1 x2 x6 x7 (i 0) (i 1) j * x10 (ix2 j (i 2)) : FVec Ideal S32x2304x1024 .f32) :=
    funext fun i : S32x2304x1024.Idx => (congrArg _ (eq_ix3 i)).trans (product_apply x0 x1 x2 x6 x7 x10 (i 0) (i 1) (i 2))
  rw [← e]
  exact post_apply slices_S32x2304x1024_S32x256x1024_0_0_0 slices_S32x2304x1024_S32x2048x1024_0_256_0 bcast_S_S32x256x1024 bcast_S_S32x2048x1024 slices_S6144_S1024_2048 bcast_S1024_S1x1x1024_2 bcast_S1x1x1024_S32x256x1024_0_1_2
    slices_S32x6144_S32x1024_0_2048 bcast_S32x1024_S32x1x1024_0_2 bcast_S32x1x1024_S32x2048x1024_0_1_2
    reducesTo_S32x256x1024_S32x256_d2 h_S_ bcast_S32x256_S32x256x1_0_1 bcast_S_S32x256x1 bcast_S32x256x1_S32x256x1024_0_1_2
    reducesTo_S32x2048x1024_S32x2048_d2 bcast_S32x2048_S32x2048x1_0_1 bcast_S_S32x2048x1 bcast_S32x2048x1_S32x2048x1024_0_1_2 bcast_S1x1x1024_S32x2048x1024_0_1_2
    concatenates_S32x256x1024_S32x2048x1024_S32x2304x1024_d1 x3 (val_main_v43 (F := Ideal) x0 x1 x2 x6 x7 x10) x4 x5 x8 x9 a b d

end Cert.Reference11Ideal.Out

namespace Cert.Out

theorem frame_Reference11Ideal : Cert.quiescent_Reference11Ideal := fun m ρ _ =>
  (θ_run _ _ _).mono (fun r h => ⟨fun c => (h c).2, Idealize.ShloMosaic.sem_eq_zero_of_no_sems (by decide) r.2⟩) (Cert.Reference11Ideal.Value.run m ρ)

/-- The kernel's rows and the reference's are the same array. -/
theorem algebraic11 : Cert.algebraic_Kernel11Ideal_Reference11Ideal := fun m g m' g' _ ha =>
  ⟨fun c => Cert.Kernel11Ideal.Out.result m c,
    (θ_run _ _ _).mono (fun r h c => ⟨(h c).1.trans (Cert.Kernel11Ideal.Out.final m c), (h c).2⟩) (Cert.Kernel11Ideal.Out.run_blocks m g),
    (θ_run _ _ _).mono (fun r h c => ⟨(h c).1.trans (by
      rw [Cert.Reference11Ideal.Read.val_main_v125_eq, (ha c).1, (ha c).2.1, (ha c).2.2.1, (ha c).2.2.2.1, (ha c).2.2.2.2.1, (ha c).2.2.2.2.2.1, (ha c).2.2.2.2.2.2.1, (ha c).2.2.2.2.2.2.2.1, (ha c).2.2.2.2.2.2.2.2.1, (ha c).2.2.2.2.2.2.2.2.2.1, (ha c).2.2.2.2.2.2.2.2.2.2]
      exact funext fun i : Cert.Kernel11Ideal.S32x2304x1024.Idx => (congrArg _ (eq_ix3 i)).trans (Cert.Reference11Ideal.Out.out_apply _ _ _ _ _ _ _ _ _ _ _ (i 0) (i 1) (i 2))), (h c).2⟩) (Cert.Reference11Ideal.Value.run m' g')⟩

end Cert.Out
end
-- ==== Proof.Proj.PeerLast.lean ====
/-
  The experts' query projection of the last layer, latent rows only, its columns by head: the kernel's output array and the reference's are one product of modulated rows.
-/
module

public import proofs.«01_k».proof.Defs
public import proofs.«01_k».proof.Proof.Proj.PeerQ
public import proofs.«01_k».proof.Proof.Gen.Kernel12Ideal.Value
public import proofs.«01_k».proof.Proof.Gen.Reference12Ideal.Run
public import proofs.«01_k».proof.Proof.Gen.Reference12Ideal.Read
public import Idealize.ShloMosaic.Lib.StableHlo.Run
public import Idealize.ShloMosaic.Lib.Quiescent

@[expose] public section

set_option maxRecDepth 16384
noncomputable section
open Idealize.ShloMosaic Idealize.ShloMosaic.TcCoe Idealize.SL.Sem
open Idealize.ShloMosaic.Pipeline (Dat)

namespace Cert.Kernel12Ideal.Proj
open Cert.Kernel12Ideal Cert.Kernel12Ideal.Gen Cert.Kernel12Ideal.Value Cert.Proj

/-- The whole block. -/
theorem out_apply (x0 : Vec Ideal S1x256x1024 .f32) (x1 : Vec Ideal S1x1x6x1024 .f32) (x2 : Vec Ideal S1024x2048 .bf16) (y : S16x1x256x128.Idx) :
    out0_3 x0 x1 x2 y = Cert.Kernel5Ideal.Proj.heads x0 x1 x2 (y 0) (y 2) (y 3) :=
  Cert.Kernel5Ideal.Proj.out_apply x0 x1 x2 y

theorem index_0 : ∀ t : Fin cfg0.N, win0_0.index t 0 = t.val / 8 ∧ win0_0.index t 1 = t.val % 8 ∧ win0_0.index t 2 = 0 := by decide +kernel
theorem index_1 : ∀ t : Fin cfg0.N, win0_1.index t 0 = t.val / 8 ∧ win0_1.index t 1 = t.val % 8 ∧ win0_1.index t 2 = 0 ∧ win0_1.index t 3 = 0 := by decide +kernel
theorem index_2 : ∀ t : Fin cfg0.N, win0_2.index t 0 = 0 ∧ win0_2.index t 1 = 0 := by decide +kernel
theorem index_3 : ∀ t : Fin cfg0.N, win0_3.index t 0 = 0 ∧ win0_3.index t 1 = t.val / 8 ∧ win0_3.index t 2 = t.val % 8 ∧ win0_3.index t 3 = 0 := by decide +kernel

theorem point_lt (t : Fin cfg0.N) : t.val < 256 := lt_of_lt_of_eq t.isLt N_0

variable (m : (ℓ : Loc nD τ sig) → Buf (Elt Ideal) ℓ)

/-- The activations, the latent's and the context's modulation, and the weight. -/
def inX (c : Dev nD) : Vec Ideal S32x2304x1024 .f32 := m ((c : Thread nD τ).loc main_arg0)
def inL (c : Dev nD) : Vec Ideal S32x6144 .f32 := m ((c : Thread nD τ).loc main_arg1)
def inC (c : Dev nD) : Vec Ideal S6144 .f32 := m ((c : Thread nD τ).loc main_arg2)
def inW (c : Dev nD) (k : Fin 1024) (n : Fin 2048) : EReal := (m ((c : Thread nD τ).loc main_arg3) : Vec Ideal S1024x2048 .f32) (ix2 k n)

/-- All rows but the first 256. -/
theorem rows_apply (x : Vec Ideal S32x2304x1024 .f32) (h) (a : Fin 32) (b : Fin 2048) (k : Fin 1024) :
    extractStridedSlice S32x2048x1024 ![0, 256, 0] x h (ix3 a b k) = x (ix3 a ⟨256 + b.val, by omega⟩ k) := by
  pointwise

/-- All blocks of modulation but the first. -/
theorem blocks_apply (x : Vec Ideal S32x9x6x1024 .f32) (h) (a : Fin 32) (j : Fin 8) (s : Fin 6) (k : Fin 1024) :
    extractStridedSlice S32x8x6x1024 ![0, 1, 0, 0] x h (ix4 a j s k) = x (ix4 a ⟨1 + j.val, by omega⟩ s k) := by
  pointwise

/-- The rows' block is its rows of the latent's activations. -/
theorem read_x (c : Dev nD) (t : Fin cfg0.N) (r : Fin 256) (k : Fin 1024) :
    (iblk m c 0 t : Vec Ideal S1x256x1024 .f32) (ix3 0 r k)
      = inX m c (ix3 ⟨t.val / 8, by have := point_lt t; omega⟩ ⟨256 + (256 * (t.val % 8) + r.val), by omega⟩ k) := by
  have e : V m c main_v0 (ix3 ⟨t.val / 8, by have := point_lt t; omega⟩ ⟨256 * (t.val % 8) + r.val, by omega⟩ k)
      = inX m c (ix3 ⟨t.val / 8, by have := point_lt t; omega⟩ ⟨256 + (256 * (t.val % 8) + r.val), by omega⟩ k) := by
    have e₁ : V m c main_v0 = extractStridedSlice S32x2048x1024 ![0, 256, 0] (inX m c) slices_S32x2304x1024_S32x2048x1024_0_256_0 := by
      unfold V
      after_results_simp <;> rfl
    rw [e₁]
    exact rows_apply _ _ _ ⟨256 * (t.val % 8) + r.val, by omega⟩ k
  rw [← e]
  unfold iblk
  rw [View.read_apply]
  show V m c main_v0 _ = V m c main_v0 _
  congr 1
  have hi := index_0 t
  funext a
  apply Fin.ext
  match a with
  | ⟨0, _⟩ => show win0_0.index t 0 * 1 + 1 * 0 = t.val / 8; rw [hi.1]; omega
  | ⟨1, _⟩ => show win0_0.index t 1 * 256 + 1 * r.val = 256 * (t.val % 8) + r.val; rw [hi.2.1]; omega
  | ⟨2, _⟩ => show win0_0.index t 2 * 1024 + 1 * k.val = k.val; rw [hi.2.2]; omega

/-- The modulation's block has the rows of its batch. -/
theorem read_m (c : Dev nD) (t : Fin cfg0.N) (s : Fin 6) (k : Fin 1024) :
    (iblk m c 1 t : Vec Ideal S1x1x6x1024 .f32) (ix4 0 0 s k)
      = modRow (inL m c) (inC m c) ⟨t.val / 8, by have := point_lt t; omega⟩ (1 + t.val % 8 = 0) s k := by
  have e : V m c main_v6 (ix4 ⟨t.val / 8, by have := point_lt t; omega⟩ ⟨t.val % 8, by omega⟩ s k)
      = modRow (inL m c) (inC m c) ⟨t.val / 8, by have := point_lt t; omega⟩ (1 + t.val % 8 = 0) s k := by
    refine Eq.trans ?_ ((blocks_apply _ slices_S32x9x6x1024_S32x8x6x1024_0_1_0_0 _ ⟨t.val % 8, by omega⟩ s k).trans (mods_apply (inL m c) (inC m c) shapeCasts_S32x6144_S32x1x6x1024 shapeCasts_S6144_S1x1x6x1024 bcast_S1x1x6x1024_S32x1x6x1024_0_1_2_3
      bcast_S32x1x6x1024_S32x8x6x1024_0_1_2_3 concatenates_S32x1x6x1024_S32x8x6x1024_S32x9x6x1024_d1 _ ⟨1 + t.val % 8, by omega⟩ s k))
    unfold V
    after_results_simp <;> rfl
  rw [← e]
  unfold iblk
  rw [View.read_apply]
  show V m c main_v6 _ = V m c main_v6 _
  congr 1
  have hi := index_1 t
  funext a
  apply Fin.ext
  match a with
  | ⟨0, _⟩ => show win0_1.index t 0 * 1 + 1 * 0 = t.val / 8; rw [hi.1]; omega
  | ⟨1, _⟩ => show win0_1.index t 1 * 1 + 1 * 0 = t.val % 8; rw [hi.2.1]; omega
  | ⟨2, _⟩ => show win0_1.index t 2 * 6 + 1 * s.val = s.val; rw [hi.2.2.1]; omega
  | ⟨3, _⟩ => show win0_1.index t 3 * 1024 + 1 * k.val = k.val; rw [hi.2.2.2]; omega

/-- The weight's block is the weight. -/
theorem read_w (c : Dev nD) (t : Fin cfg0.N) (k : Fin 1024) (n : Fin 2048) :
    (iblk m c 2 t : Vec Ideal S1024x2048 .bf16) (ix2 k n) = inW m c k n := by
  unfold inW
  have e : V m c main_v7 = (m ((c : Thread nD τ).loc main_arg3) : Vec Ideal S1024x2048 .f32) := by
    unfold V
    after_results_simp <;> rfl
  rw [← e]
  unfold iblk
  rw [View.read_apply]
  show V m c main_v7 _ = V m c main_v7 _
  congr 1
  have hi := index_2 t
  funext a
  apply Fin.ext
  match a with
  | ⟨0, _⟩ => show win0_2.index t 0 * 1024 + 1 * k.val = k.val; rw [hi.1]; omega
  | ⟨1, _⟩ => show win0_2.index t 1 * 2048 + 1 * n.val = n.val; rw [hi.2]; omega

/-- The product of the modulated rows and the weight. -/
def result (c : Dev nD) : Buf (Elt Ideal) ((c : Thread nD τ).loc main_v8) :=
  fun i : S16x32x2048x128.Idx => (∑ k : Fin 1024, modulated (inX m c) (inL m c) (inC m c) 3 4 (i 1) ⟨256 + (i 2).val, by have h2 : (i 2).val < 2048 := (i 2).isLt; omega⟩ k * inW m c k ⟨(i 0).val * 128 + (i 3).val, by have h0 : (i 0).val < 16 := (i 0).isLt; have h3 : (i 3).val < 128 := (i 3).isLt; omega⟩ : EReal)

/-- A point's modulated rows are its rows of the modulated activations. -/
theorem read_modulated (c : Dev nD) (t : Fin cfg0.N) (r : Fin 256) (k : Fin 1024) :
    modulate ((iblk m c 0 t : Vec Ideal S1x256x1024 .f32) (ix3 0 r k)) ((iblk m c 1 t : Vec Ideal S1x1x6x1024 .f32) (ix4 0 3 4 k)) ((iblk m c 1 t : Vec Ideal S1x1x6x1024 .f32) (ix4 0 0 3 k))
      = modulated (inX m c) (inL m c) (inC m c) 3 4 ⟨t.val / 8, by have := point_lt t; omega⟩ ⟨256 + (256 * (t.val % 8) + r.val), by omega⟩ k := by
  have hc : (1 + t.val % 8 = 0) = (256 + (256 * (t.val % 8) + r.val) < 256) := propext (by omega)
  unfold modulated
  refine congrArg₂ (· + ·) (congrArg₂ (fun p q => p * (_ + q)) (read_x m c t r k) ((read_m m c t 4 k).trans ?_)) ((read_m m c t 3 k).trans ?_) <;>
    (unfold modRow; simp only [hc])

/-- What a point writes back is its block of the product. -/
theorem flushed_eq (c : Dev nD) (t : Fin cfg0.N) :
    (dats m 0 c).flushed 3 t = ((cfg0.win 3).blk t).view.read (Elt Ideal) (result m c) := by
  rw [flushed3]
  refine funext fun (y : S16x1x256x128.Idx) => ?_
  refine Eq.trans (out_apply _ _ _ y) ?_
  rw [View.read_apply]
  have hi := index_3 t
  have h1 : (y 1).val < 1 := (y 1).isLt
  have e : ((cfg0.win 3).blk t).view.emb y = ix4 (y 0) ⟨t.val / 8, by have := point_lt t; omega⟩ ⟨256 * (t.val % 8) + (y 2).val, by have h : (y 2).val < 256 := (y 2).isLt; omega⟩ (y 3) := by
    funext a
    apply Fin.ext
    match a with
    | ⟨0, _⟩ => show win0_3.index t 0 * 16 + 1 * (y 0).val = (y 0).val; rw [hi.1]; omega
    | ⟨1, _⟩ => show win0_3.index t 1 * 1 + 1 * (y 1).val = t.val / 8; rw [hi.2.1]; omega
    | ⟨2, _⟩ => show win0_3.index t 2 * 256 + 1 * (y 2).val = 256 * (t.val % 8) + (y 2).val; rw [hi.2.2.1]; omega
    | ⟨3, _⟩ => show win0_3.index t 3 * 128 + 1 * (y 3).val = (y 3).val; rw [hi.2.2.2]; omega
  refine Eq.trans ?_ (congrArg (result m c) e).symm
  refine Finset.sum_congr rfl fun k _ => ?_
  exact congrArg₂ (· * ·) (read_modulated m c t (y 2) k) (read_w m c t k _)

/-- So the output array ends as the product. -/
theorem final (c : Dev nD) : (dats m 0 c).arrAt 3 cfg0.N = result m c :=
  (dats m 0 c).arrAt_eq_of_cover 3 (result m c) (fun t _ => flushed_eq m c t) fun i : S16x32x2048x128.Idx => by
    have h0 : (i 0 : Nat) < 16 := (i 0).isLt
    have h1 : (i 1 : Nat) < 32 := (i 1).isLt
    have h2 : (i 2 : Nat) < 2048 := (i 2).isLt
    have h3 : (i 3 : Nat) < 128 := (i 3).isLt
    have hN : cfg0.N = 256 := N_0
    obtain ⟨t, ht⟩ : ∃ t : Fin cfg0.N, t.val = 8 * (i 1 : Nat) + (i 2 : Nat) / 256 := ⟨⟨8 * (i 1 : Nat) + (i 2 : Nat) / 256, by omega⟩, rfl⟩
    refine ⟨t, flush0_3 t, ?_⟩
    have hi := index_3 t
    show i ∈ ((View.whole main_v8).slice (win0_3.rect t)).set
    rw [View.set_slice_whole, Rect.mem_set_unit]
    intro a
    match a with
    | ⟨0, _⟩ => show win0_3.index t 0 * 16 ≤ (i 0 : Nat) ∧ (i 0 : Nat) < win0_3.index t 0 * 16 + 16
                rw [hi.1]; omega
    | ⟨1, _⟩ => show win0_3.index t 1 * 1 ≤ (i 1 : Nat) ∧ (i 1 : Nat) < win0_3.index t 1 * 1 + 1
                rw [hi.2.1]; omega
    | ⟨2, _⟩ => show win0_3.index t 2 * 256 ≤ (i 2 : Nat) ∧ (i 2 : Nat) < win0_3.index t 2 * 256 + 256
                rw [hi.2.2.1]; omega
    | ⟨3, _⟩ => show win0_3.index t 3 * 128 ≤ (i 3 : Nat) ∧ (i 3 : Nat) < win0_3.index t 3 * 128 + 128
                rw [hi.2.2.2]; omega

end Cert.Kernel12Ideal.Proj

namespace Cert.Reference12Ideal.Proj
open Cert.Reference12Ideal Cert.Reference12Ideal.Read Cert.Proj

variable (x0 : FVec Ideal S32x2304x1024 .f32) (x1 : FVec Ideal S32x6144 .f32) (x2 : FVec Ideal S6144 .f32) (x3 : FVec Ideal S1024x2048 .f32)

/-- The latent's. -/
theorem lat_apply (a : Fin 32) (b : Fin 2048) (k : Fin 1024) :
    val_main_v33 (F := Ideal) x0 x1 (ix3 a b k) = modulated x0 x1 x2 3 4 a ⟨256 + b.val, by omega⟩ k := by
  have e : val_main_v33 (F := Ideal) x0 x1 (ix3 a b k)
      = x0 (ix3 a ⟨256 + b.val, by omega⟩ k) * (Ideal.ofBits .f32 0x3F800000#32 + x1 (ix2 a ⟨4096 + k.val, by omega⟩)) + x1 (ix2 a ⟨3072 + k.val, by omega⟩) := by
    pointwise [val_main_v33, val_main_v32, val_main_v31, val_main_v30, val_main_v29, val_main_v28, val_main_cst_0, val_main_v19, val_main_v10, val_main_v9, val_main_v4, val_main_v3]
  rw [e]
  unfold modulated modRow
  rw [if_neg (by show ¬ (256 + b.val < 256); omega), if_neg (by show ¬ (256 + b.val < 256); omega)]
  have h3 : ((3 : Fin 6) : Nat) * 1024 = 3072 := rfl
  have h4 : ((4 : Fin 6) : Nat) * 1024 = 4096 := rfl
  simp only [h3, h4]

theorem dot_lat (a : Fin 32) (b : Fin 2048) (d : Fin 2048) :
    val_main_v34 (F := Ideal) x0 x1 x3 (ix3 a b d) = ∑ k : Fin 1024, val_main_v33 (F := Ideal) x0 x1 (ix3 a b k) * x3 (ix2 k d) := by
  pointwise [val_main_v34]

/-- A row's columns as heads. -/
theorem cast_apply (y : FVec Ideal S32x2048x2048 .f32) (h : S32x2048x2048.ShapeCasts S32x2048x16x128) (a : Fin 32) (b : Fin 2048) (sp : Fin 16) (d : Fin 128) :
    shapeCast S32x2048x16x128 y h (ix4 a b sp d) = y (ix3 a b ⟨sp.val * 128 + d.val, by omega⟩) :=
  shapeCast_apply y h (ix4 a b sp d) (ix3 a b ⟨sp.val * 128 + d.val, by omega⟩) (by
    rewrite [Shape.rowMajor_val_three, Shape.rowMajor_val_four]
    show (a.val * 2048 + b.val) * 2048 + (sp.val * 128 + d.val) = ((a.val * 2048 + b.val) * 16 + sp.val) * 128 + d.val
    omega)

/-- Its columns by head. -/
theorem out_apply (sp : Fin 16) (a : Fin 32) (b : Fin 2048) (d : Fin 128) :
    val_main_v37 (F := Ideal) x0 x1 x3 (ix4 sp a b d) = ∑ k : Fin 1024, modulated x0 x1 x2 3 4 a ⟨256 + b.val, by omega⟩ k * x3 (ix2 k ⟨sp.val * 128 + d.val, by omega⟩) := by
  have hi : idx_main_v36 (ix4 sp a b d) = ix4 a b sp d := by
    funext c
    match c with
    | ⟨0, _⟩ => rfl
    | ⟨1, _⟩ => rfl
    | ⟨2, _⟩ => rfl
    | ⟨3, _⟩ => rfl
  have e : val_main_v36 (F := Ideal) x0 x1 x3 (ix4 sp a b d) = val_main_v34 (F := Ideal) x0 x1 x3 (ix3 a b ⟨sp.val * 128 + d.val, by omega⟩) := by
    rw [val_main_v36_apply, hi]
    unfold val_main_v35
    exact cast_apply _ _ a b sp d
  rw [val_main_v37_apply]
  refine Eq.trans ?_ (e.trans ((dot_lat x0 x1 x3 a b _).trans (Finset.sum_congr rfl fun k _ => congrArg (· * _) (lat_apply x0 x1 x2 a b k))))
  rfl

end Cert.Reference12Ideal.Proj

namespace Cert.Proj

theorem frame_Reference12Ideal : Cert.quiescent_Reference12Ideal := fun m ρ _ =>
  (θ_run _ _ _).mono (fun r h => ⟨fun c => (h c).2, Idealize.ShloMosaic.sem_eq_zero_of_no_sems (by decide) r.2⟩) (Cert.Reference12Ideal.Value.run m ρ)

/-- The kernel's projection and the reference's are the same array. -/
theorem algebraic12 : Cert.algebraic_Kernel12Ideal_Reference12Ideal := fun m g m' g' _ ha =>
  ⟨fun c => Cert.Kernel12Ideal.Proj.result m c,
    (θ_run _ _ _).mono (fun r h c => ⟨(h c).1.trans (Cert.Kernel12Ideal.Proj.final m c), (h c).2⟩) (Cert.Kernel12Ideal.Value.run_blocks m g),
    (θ_run _ _ _).mono (fun r h c => ⟨(h c).1.trans (by
      rw [Cert.Reference12Ideal.Read.val_main_v37_eq, (ha c).1, (ha c).2.1, (ha c).2.2.2]
      exact funext fun i : Cert.Kernel12Ideal.S16x32x2048x128.Idx => (congrArg _ (eq_ix4 i)).trans (Cert.Reference12Ideal.Proj.out_apply _ _ (Cert.Kernel12Ideal.Proj.inC m c) _ (i 0) (i 1) (i 2) (i 3))), (h c).2⟩) (Cert.Reference12Ideal.Value.run m' g')⟩

end Cert.Proj
end
-- ==== Proof.Side.Blocks.lean ====
/-
  Whole blocks read and stored, and columns in two halves of 128 of which the first few are used.
-/
module

public import proofs.«01_k».proof.Proof.Out.Heads
public import Idealize.ShloMosaic.Lib.KernelVsHost

@[expose] public section

set_option maxRecDepth 16384
noncomputable section
open Idealize.ShloMosaic Idealize.ShloMosaic.TcCoe Idealize.SL.Sem

namespace Cert.Side

/-- Reading a whole block of rows. -/
theorem ld_block {R K : Nat} {t : EltTy} (X : Vec Ideal ⟨3, ![1, R, K]⟩ t) (i) (z : Fin 1) (r : Fin R) (k : Fin K) :
    View.ld X (Rect.unit (s := ⟨3, ![1, R, K]⟩) ![0, 0, 0] ![1, R, K] i) (ix3 z r k) = X (ix3 z r k) :=
  View.ld_unit_apply_of _ _ _ _ _ _ (fun a => by fin_cases a <;> simp [ix3])

/-- What one piece leaves in a block it fills. -/
theorem canon_block {R N : Nat} {t : EltTy} (G : Fin R → Fin N → Elt Ideal t) (i) (w : Vec Ideal ⟨3, ![1, R, N]⟩ t) (hw : ∀ r n, w (ix3 0 r n) = G r n) (y : (⟨3, ![1, R, N]⟩ : Shape).Idx) :
    View.canon [⟨Rect.unit (s := ⟨3, ![1, R, N]⟩) ![0, 0, 0] ![1, R, N] i, w⟩] y = G (y 1) (y 2) := by
  refine View.canon_apply_of_pieces (Val := Elt Ideal) (fun y => G (y 1) (y 2)) _ ?_ y ?_
  · intro p hp x
    simp only [List.mem_cons, List.not_mem_nil, or_false] at hp
    subst hp
    have hx : ∀ x : (⟨3, ![1, R, N]⟩ : Shape).Idx, w x = G ((Rect.unit (s := ⟨3, ![1, R, N]⟩) ![0, 0, 0] ![1, R, N] i).emb x 1) ((Rect.unit (s := ⟨3, ![1, R, N]⟩) ![0, 0, 0] ![1, R, N] i).emb x 2) := by
      intro x
      have hz : x = ix3 0 (x 1) (x 2) := by
        have h0 : (x 0).val < 1 := (x 0).isLt
        funext a
        match a with
        | ⟨0, _⟩ => exact Fin.ext (by show (x 0).val = 0; omega)
        | ⟨1, _⟩ => rfl
        | ⟨2, _⟩ => rfl
      refine ((congrArg w hz).trans (hw (x 1) (x 2))).trans ?_
      congr 1
      · exact Fin.ext (by show (x 1).val = 0 + 1 * (x 1).val; omega)
      · exact Fin.ext (by show (x 2).val = 0 + 1 * (x 2).val; omega)
    exact hx x
  · refine ⟨_, .head _, ?_⟩
    have h1 : (y 1).val < R := (y 1).isLt
    have h2 : (y 2).val < N := (y 2).isLt
    have h0 : (y 0).val < 1 := (y 0).isLt
    rw [Rect.mem_set_unit]
    intro a
    match a with
    | ⟨0, _⟩ => show 0 ≤ (y 0).val ∧ (y 0).val < 0 + 1; omega
    | ⟨1, _⟩ => show 0 ≤ (y 1).val ∧ (y 1).val < 0 + R; omega
    | ⟨2, _⟩ => show 0 ≤ (y 2).val ∧ (y 2).val < 0 + N; omega

/-- Column `n` of 256: place `n % 128` of half `n / 128`, zero from place `P` on. -/
def halves {P M : Nat} (hM : 2 * P = M) (f : Fin M → EReal) (n : Fin 256) : EReal :=
  if h : n.val % 128 < P then f ⟨P * (n.val / 128) + n.val % 128, by
    have : n.val / 128 ≤ 1 := by omega
    have := Nat.mul_le_mul_left P this
    omega⟩ else 0

/-- A sum of columns is a column of sums. -/
theorem sum_halves {K P M : Nat} (hM : 2 * P = M) (x : Fin K → EReal) (f : Fin K → Fin M → EReal) (n : Fin 256) :
    ∑ k, x k * halves hM (f k) n = halves hM (fun j => ∑ k, x k * f k j) n := by
  unfold halves
  by_cases h : n.val % 128 < P
  · simp only [dif_pos h]
  · simp only [dif_neg h, mul_zero, Finset.sum_const_zero]

theorem add_halves {P M : Nat} (hM : 2 * P = M) (f g : Fin M → EReal) (n : Fin 256) :
    halves hM f n + halves hM g n = halves hM (fun j => f j + g j) n := by
  unfold halves
  by_cases h : n.val % 128 < P
  · simp only [dif_pos h]
  · simp only [dif_neg h, add_zero]

/-- Rows of columns in two halves, each padded to 128. -/
theorem padded_apply {P M : Nat} (hM : 2 * P = M) (hi : Nat) (u : Vec Ideal ⟨3, ![32, 2304, M]⟩ .f32) (z : Vec Ideal ⟨0, ![]⟩ .f32) (hz : ∀ i, z i = (0 : EReal))
    (h₁ : Shape.ShapeCasts ⟨3, ![32, 2304, M]⟩ ⟨4, ![32, 2304, 2, P]⟩) (h₂ : Shape.ShapeCasts ⟨4, ![32, 2304, 2, 128]⟩ ⟨3, ![32, 2304, 256]⟩)
    (h : Shape.Pads ⟨4, ![32, 2304, 2, P]⟩ ![0, 0, 0, 0] ![0, 0, 0, hi] ![0, 0, 0, 0] ⟨4, ![32, 2304, 2, 128]⟩) (hu : 0 < (⟨0, ![]⟩ : Shape).numel) (a : Fin 32) (b : Fin 2304) (n : Fin 256) :
    shapeCast ⟨3, ![32, 2304, 256]⟩ (pad ⟨4, ![32, 2304, 2, 128]⟩ ![0, 0, 0, 0] ![0, 0, 0, hi] ![0, 0, 0, 0] (shapeCast ⟨4, ![32, 2304, 2, P]⟩ u h₁) z h hu) h₂ (ix3 a b n)
      = halves hM (fun j => u (ix3 a b j)) n := by
  have hn : n.val / 128 < 2 := by omega
  refine (shapeCast_apply _ h₂ (ix3 a b n) (ix4 a b ⟨n.val / 128, hn⟩ ⟨n.val % 128, by omega⟩) (by
    rewrite [Shape.rowMajor_val_three, Shape.rowMajor_val_four]
    show ((a.val * 2304 + b.val) * 2 + n.val / 128) * 128 + n.val % 128 = (a.val * 2304 + b.val) * 256 + n.val
    omega)).trans ?_
  unfold halves
  by_cases hp : n.val % 128 < P
  · rw [dif_pos hp]
    refine (pad_apply_of_inside _ _ _ _ z h hu _ (ix4 a b ⟨n.val / 128, hn⟩ ⟨n.val % 128, hp⟩) (fun q => ?_)).trans ?_
    · match q with
      | ⟨0, _⟩ => show a.val = 0 + a.val * (0 + 1); omega
      | ⟨1, _⟩ => show b.val = 0 + b.val * (0 + 1); omega
      | ⟨2, _⟩ => show n.val / 128 = 0 + n.val / 128 * (0 + 1); omega
      | ⟨3, _⟩ => show n.val % 128 = 0 + n.val % 128 * (0 + 1); omega
    · exact shapeCast_apply u h₁ _ (ix3 a b _) (by
        rewrite [Shape.rowMajor_val_three, Shape.rowMajor_val_four]
        show (a.val * 2304 + b.val) * M + (P * (n.val / 128) + n.val % 128) = ((a.val * 2304 + b.val) * 2 + n.val / 128) * P + n.val % 128
        rw [← hM]
        ring)
  · rw [dif_neg hp]
    refine (pad_apply_of_not_inside _ _ _ _ z h hu _ (3 : Fin 4) ?_).trans (hz _)
    show ¬ (0 ≤ n.val % 128 ∧ (n.val % 128 - 0) % (0 + 1) = 0 ∧ (n.val % 128 - 0) / (0 + 1) < P)
    omega

end Cert.Side
end
-- ==== Proof.Side.Mods.lean ====
/-
  The modulation of all layers: one product of the silu of the joined condition rows and each layer's weight, and its bias.
-/
module

public import proofs.«01_k».proof.Defs
public import proofs.«01_k».proof.Proof.Side.Blocks
public import proofs.«01_k».proof.Proof.Gen.Kernel13Ideal.Value
public import proofs.«01_k».proof.Proof.Gen.Reference13Ideal.Run
public import proofs.«01_k».proof.Proof.Gen.Reference13Ideal.Read
public import Idealize.ShloMosaic.Lib.StableHlo.Run
public import Idealize.ShloMosaic.Lib.Quiescent

@[expose] public section

set_option maxRecDepth 16384
noncomputable section
open Idealize.ShloMosaic Idealize.ShloMosaic.TcCoe Idealize.SL.Sem
open Idealize.ShloMosaic.Pipeline (Dat)

namespace Cert.Kernel13Ideal.Side
open Cert.Kernel13Ideal Cert.Kernel13Ideal.Gen Cert.Kernel13Ideal.Value Cert.Side Cert.Out

/-- A block's product. -/
theorem pay_apply (x : Vec Ideal S40x1024 .f32) (w : Vec Ideal S1x1024x1024 .f32) (b : Vec Ideal S1x1x1024 .f32) (z : Fin 1) (r : Fin 40) (n : Fin 1024) :
    k0_pay1 x w b (ix3 z r n)
      = (∑ k : Fin 1024, (x (ix2 r k) * Ideal.div (Ideal.ofBits .f32 0x3F800000#32) (Ideal.ofBits .f32 0x3F800000#32 + Ideal.exp (Ideal.ofBits .f32 0x00000000#32 - x (ix2 r k)))) * w (ix3 0 k n)) + b (ix3 0 0 n) := by
  pointwise [k0_pay1]

/-- The logistic of what the kernel subtracts from zero. -/
theorem silu_eq (x : EReal) : x * Ideal.div (Ideal.ofBits .f32 0x3F800000#32) (Ideal.ofBits .f32 0x3F800000#32 + Ideal.exp (Ideal.ofBits .f32 0x00000000#32 - x)) = silu x := by
  unfold silu Cert.Out.logistic
  rw [Ideal.ofBits_zero_f32, zero_sub]

/-- The whole block. -/
theorem out_apply (x0 : Vec Ideal S40x1024 .f32) (x1 : Vec Ideal S1x1024x1024 .f32) (x2 : Vec Ideal S1x1x1024 .f32) (y : S1x40x1024.Idx) :
    out0_3 x0 x1 x2 y = (∑ k : Fin 1024, silu (x0 (ix2 (y 1) k)) * x1 (ix3 0 k (y 2))) + x2 (ix3 0 0 (y 2)) := by
  unfold out0_3
  refine canon_block (t := .f32) (fun (r : Fin 40) (n : Fin 1024) => (∑ k : Fin 1024, silu (x0 (ix2 r k)) * x1 (ix3 0 k n)) + x2 (ix3 0 0 n)) _ _ (fun r n => ?_) y
  refine (pay_apply _ _ _ 0 r n).trans (congrArg₂ (· + ·) (Finset.sum_congr rfl fun k _ => ?_) (ld_block x2 _ 0 0 n))
  exact congrArg₂ (· * ·) ((silu_eq _).trans (congrArg silu (ld_mat x0 _ r k))) (ld_block x1 _ 0 k n)

theorem index_0 : ∀ t : Fin cfg0.N, win0_0.index t 0 = 0 ∧ win0_0.index t 1 = 0 := by decide +kernel
theorem index_1 : ∀ t : Fin cfg0.N, win0_1.index t 0 = t.val / 6 ∧ win0_1.index t 1 = 0 ∧ win0_1.index t 2 = t.val % 6 := by decide +kernel
theorem index_2 : ∀ t : Fin cfg0.N, win0_2.index t 0 = t.val / 6 ∧ win0_2.index t 1 = 0 ∧ win0_2.index t 2 = t.val % 6 := by decide +kernel
theorem index_3 : ∀ t : Fin cfg0.N, win0_3.index t 0 = t.val / 6 ∧ win0_3.index t 1 = 0 ∧ win0_3.index t 2 = t.val % 6 := by decide +kernel

theorem point_lt (t : Fin cfg0.N) : t.val < 24 := lt_of_lt_of_eq t.isLt N_0

variable (m : (ℓ : Loc nD τ sig) → Buf (Elt Ideal) ℓ)

/-- The joined condition rows, the weights and the biases. -/
def inC (c : Dev nD) : Vec Ideal S40x1024 .f32 :=
  Cert.Reference13Ideal.Read.val_main_v2 (F := Ideal) (m ((c : Thread nD τ).loc main_arg0)) (m ((c : Thread nD τ).loc main_arg1))
def inW (c : Dev nD) : Vec Ideal S4x1024x6144 .f32 := m ((c : Thread nD τ).loc main_arg2)
def inB (c : Dev nD) : Vec Ideal S4x6144 .f32 := m ((c : Thread nD τ).loc main_arg3)

/-- The rows' block is all of them. -/
theorem read_c (c : Dev nD) (t : Fin cfg0.N) (r : Fin 40) (k : Fin 1024) :
    (iblk m c 0 t : Vec Ideal S40x1024 .f32) (ix2 r k) = inC m c (ix2 r k) := by
  have e : V m c main_v2 = inC m c := by
    unfold V
    after_results_simp <;> rfl
  rw [← e]
  unfold iblk
  rw [View.read_apply]
  show V m c main_v2 _ = V m c main_v2 _
  congr 1
  have hi := index_0 t
  funext a
  apply Fin.ext
  match a with
  | ⟨0, _⟩ => show win0_0.index t 0 * 40 + 1 * r.val = r.val; rw [hi.1]; omega
  | ⟨1, _⟩ => show win0_0.index t 1 * 1024 + 1 * k.val = k.val; rw [hi.2]; omega

/-- The weight's block is a layer's 1024 columns. -/
theorem read_w (c : Dev nD) (t : Fin cfg0.N) (k : Fin 1024) (n : Fin 1024) :
    (iblk m c 1 t : Vec Ideal S1x1024x1024 .f32) (ix3 0 k n)
      = inW m c (ix3 ⟨t.val / 6, by have := point_lt t; omega⟩ k ⟨1024 * (t.val % 6) + n.val, by omega⟩) := by
  unfold inW
  rw [← V_main_arg2 m c]
  unfold iblk
  rw [View.read_apply]
  show V m c main_arg2 _ = V m c main_arg2 _
  congr 1
  have hi := index_1 t
  funext a
  apply Fin.ext
  match a with
  | ⟨0, _⟩ => show win0_1.index t 0 * 1 + 1 * 0 = t.val / 6; rw [hi.1]; omega
  | ⟨1, _⟩ => show win0_1.index t 1 * 1024 + 1 * k.val = k.val; rw [hi.2.1]; omega
  | ⟨2, _⟩ => show win0_1.index t 2 * 1024 + 1 * n.val = 1024 * (t.val % 6) + n.val; rw [hi.2.2]; omega

/-- A bias row per layer. -/
theorem bias_apply (b : Vec Ideal S4x6144 .f32) (h : S4x6144.ShapeCasts S4x1x6144) (l : Fin 4) (z : Fin 1) (n : Fin 6144) :
    shapeCast S4x1x6144 b h (ix3 l z n) = b (ix2 l n) :=
  shapeCast_apply b h (ix3 l z n) (ix2 l n) (by
    rewrite [Shape.rowMajor_val_three, Shape.rowMajor_val_two]
    show l.val * 6144 + n.val = (l.val * 1 + z.val) * 6144 + n.val
    omega)

theorem read_b (c : Dev nD) (t : Fin cfg0.N) (n : Fin 1024) :
    (iblk m c 2 t : Vec Ideal S1x1x1024 .f32) (ix3 0 0 n)
      = inB m c (ix2 ⟨t.val / 6, by have := point_lt t; omega⟩ ⟨1024 * (t.val % 6) + n.val, by omega⟩) := by
  have e₁ : V m c main_v3 = shapeCast S4x1x6144 (inB m c) shapeCasts_S4x6144_S4x1x6144 := by
    unfold V
    after_results_simp <;> rfl
  have e : V m c main_v3 (ix3 ⟨t.val / 6, by have := point_lt t; omega⟩ 0 ⟨1024 * (t.val % 6) + n.val, by omega⟩)
      = inB m c (ix2 ⟨t.val / 6, by have := point_lt t; omega⟩ ⟨1024 * (t.val % 6) + n.val, by omega⟩) := by
    rw [e₁]
    exact bias_apply _ _ _ 0 _
  rw [← e]
  unfold iblk
  rw [View.read_apply]
  show V m c main_v3 _ = V m c main_v3 _
  congr 1
  have hi := index_2 t
  funext a
  apply Fin.ext
  match a with
  | ⟨0, _⟩ => show win0_2.index t 0 * 1 + 1 * 0 = t.val / 6; rw [hi.1]; omega
  | ⟨1, _⟩ => show win0_2.index t 1 * 1 + 1 * 0 = 0; rw [hi.2.1]
  | ⟨2, _⟩ => show win0_2.index t 2 * 1024 + 1 * n.val = 1024 * (t.val % 6) + n.val; rw [hi.2.2]; omega

/-- Every layer's modulation. -/
def result (c : Dev nD) : Buf (Elt Ideal) ((c : Thread nD τ).loc main_v4) :=
  fun i : S4x40x6144.Idx => ((∑ k : Fin 1024, silu (inC m c (ix2 (i 1) k)) * inW m c (ix3 (i 0) k (i 2))) + inB m c (ix2 (i 0) (i 2)) : EReal)

/-- What a point writes back is its block of it. -/
theorem flushed_eq (c : Dev nD) (t : Fin cfg0.N) :
    (dats m 0 c).flushed 3 t = ((cfg0.win 3).blk t).view.read (Elt Ideal) (result m c) := by
  rw [flushed3]
  refine funext fun (y : S1x40x1024.Idx) => ?_
  refine Eq.trans (out_apply _ _ _ y) ?_
  rw [View.read_apply]
  have hi := index_3 t
  have h0 : (y 0).val < 1 := (y 0).isLt
  have e : ((cfg0.win 3).blk t).view.emb y = ix3 ⟨t.val / 6, by have := point_lt t; omega⟩ (y 1) ⟨1024 * (t.val % 6) + (y 2).val, by have h : (y 2).val < 1024 := (y 2).isLt; omega⟩ := by
    funext a
    apply Fin.ext
    match a with
    | ⟨0, _⟩ => show win0_3.index t 0 * 1 + 1 * (y 0).val = t.val / 6; rw [hi.1]; omega
    | ⟨1, _⟩ => show win0_3.index t 1 * 40 + 1 * (y 1).val = (y 1).val; rw [hi.2.1]; omega
    | ⟨2, _⟩ => show win0_3.index t 2 * 1024 + 1 * (y 2).val = 1024 * (t.val % 6) + (y 2).val; rw [hi.2.2]; omega
  refine Eq.trans ?_ (congrArg (result m c) e).symm
  refine congrArg₂ (· + ·) (Finset.sum_congr rfl fun k _ => ?_) (read_b m c t (y 2))
  exact congrArg₂ (· * ·) (congrArg silu (read_c m c t (y 1) k)) (read_w m c t k (y 2))

/-- So the output array ends as the modulation. -/
theorem final (c : Dev nD) : (dats m 0 c).arrAt 3 cfg0.N = result m c :=
  (dats m 0 c).arrAt_eq_of_cover 3 (result m c) (fun t _ => flushed_eq m c t) fun i : S4x40x6144.Idx => by
    have h0 : (i 0 : Nat) < 4 := (i 0).isLt
    have h1 : (i 1 : Nat) < 40 := (i 1).isLt
    have h2 : (i 2 : Nat) < 6144 := (i 2).isLt
    have hN : cfg0.N = 24 := N_0
    obtain ⟨t, ht⟩ : ∃ t : Fin cfg0.N, t.val = 6 * (i 0 : Nat) + (i 2 : Nat) / 1024 := ⟨⟨6 * (i 0 : Nat) + (i 2 : Nat) / 1024, by omega⟩, rfl⟩
    refine ⟨t, flush0_3 t, ?_⟩
    have hi := index_3 t
    show i ∈ ((View.whole main_v4).slice (win0_3.rect t)).set
    rw [View.set_slice_whole, Rect.mem_set_unit]
    intro a
    match a with
    | ⟨0, _⟩ => show win0_3.index t 0 * 1 ≤ (i 0 : Nat) ∧ (i 0 : Nat) < win0_3.index t 0 * 1 + 1
                rw [hi.1]; omega
    | ⟨1, _⟩ => show win0_3.index t 1 * 40 ≤ (i 1 : Nat) ∧ (i 1 : Nat) < win0_3.index t 1 * 40 + 40
                rw [hi.2.1]; omega
    | ⟨2, _⟩ => show win0_3.index t 2 * 1024 ≤ (i 2 : Nat) ∧ (i 2 : Nat) < win0_3.index t 2 * 1024 + 1024
                rw [hi.2.2]; omega

end Cert.Kernel13Ideal.Side

namespace Cert.Reference13Ideal.Side
open Cert.Reference13Ideal Cert.Reference13Ideal.Read Cert.Side Cert.Out

variable (x0 : FVec Ideal S32x1024 .f32) (x1 : FVec Ideal S1024 .f32) (x2 : FVec Ideal S4x1024x6144 .f32) (x3 : FVec Ideal S4x6144 .f32)

theorem silu_apply (r : Fin 40) (k : Fin 1024) :
    val_main_v3 (F := Ideal) x0 x1 (ix2 r k) = silu (val_main_v2 (F := Ideal) x0 x1 (ix2 r k)) := by
  rfl

theorem dot_apply (l : Fin 4) (n : Fin 6144) (r : Fin 40) :
    val_main_v4 (F := Ideal) x0 x1 x2 (ix3 l n r) = ∑ k : Fin 1024, x2 (ix3 l k n) * val_main_v3 (F := Ideal) x0 x1 (ix2 r k) := by
  unfold val_main_v4
  generalize val_main_v3 (F := Ideal) x0 x1 = y
  pointwise

/-- The reference's modulation. -/
theorem out_apply (l : Fin 4) (r : Fin 40) (n : Fin 6144) :
    val_main_v8 (F := Ideal) x0 x1 x2 x3 (ix3 l r n)
      = (∑ k : Fin 1024, silu (val_main_v2 (F := Ideal) x0 x1 (ix2 r k)) * x2 (ix3 l k n)) + x3 (ix2 l n) := by
  rw [val_main_v8_apply, val_main_v5_apply, val_main_v7_apply, val_main_v6_apply]
  have e : idx_main_v5 (ix3 l r n) = ix3 l n r := by
    funext a
    match a with
    | ⟨0, _⟩ => rfl
    | ⟨1, _⟩ => rfl
    | ⟨2, _⟩ => rfl
  have e' : idx_main_v6 (idx_main_v7 (ix3 l r n)) = ix2 l n := by
    funext a
    match a with
    | ⟨0, _⟩ => rfl
    | ⟨1, _⟩ => rfl
  rw [e, e']
  refine congrArg (· + _) ((dot_apply x0 x1 x2 l n r).trans (Finset.sum_congr rfl fun k _ => ?_))
  rw [silu_apply, mul_comm]

end Cert.Reference13Ideal.Side

namespace Cert.Proj

theorem frame_Reference13Ideal : Cert.quiescent_Reference13Ideal := fun m ρ _ =>
  (θ_run _ _ _).mono (fun r h => ⟨fun c => (h c).2, Idealize.ShloMosaic.sem_eq_zero_of_no_sems (by decide) r.2⟩) (Cert.Reference13Ideal.Value.run m ρ)

/-- The kernel's modulation and the reference's are the same array. -/
theorem algebraic13 : Cert.algebraic_Kernel13Ideal_Reference13Ideal := fun m g m' g' _ ha =>
  ⟨fun c => Cert.Kernel13Ideal.Side.result m c,
    (θ_run _ _ _).mono (fun r h c => ⟨(h c).1.trans (Cert.Kernel13Ideal.Side.final m c), (h c).2⟩) (Cert.Kernel13Ideal.Value.run_blocks m g),
    (θ_run _ _ _).mono (fun r h c => ⟨(h c).1.trans (by
      rw [Cert.Reference13Ideal.Read.val_main_v8_eq, (ha c).1, (ha c).2.1, (ha c).2.2.1, (ha c).2.2.2]
      exact funext fun i : Cert.Kernel13Ideal.S4x40x6144.Idx => (congrArg _ (eq_ix3 i)).trans (Cert.Reference13Ideal.Side.out_apply _ _ _ _ (i 0) (i 1) (i 2))), (h c).2⟩) (Cert.Reference13Ideal.Value.run m' g')⟩

end Cert.Proj
end
-- ==== Proof.Side.Steps.lean ====
/-
  The state-space layer's step sizes before bias and softplus, its weight's last 64 columns in two halves: the kernel's output array and the reference's are one product of modulated rows.
-/
module

public import proofs.«01_k».proof.Defs
public import proofs.«01_k».proof.Proof.Proj.Up
public import proofs.«01_k».proof.Proof.Side.Blocks
public import proofs.«01_k».proof.Proof.Gen.Kernel14Ideal.Value
public import proofs.«01_k».proof.Proof.Gen.Reference14Ideal.Run
public import proofs.«01_k».proof.Proof.Gen.Reference14Ideal.Read
public import Idealize.ShloMosaic.Lib.StableHlo.Run
public import Idealize.ShloMosaic.Lib.Quiescent

@[expose] public section

set_option maxRecDepth 16384
noncomputable section
open Idealize.ShloMosaic Idealize.ShloMosaic.TcCoe Idealize.SL.Sem
open Idealize.ShloMosaic.Pipeline (Dat)

namespace Cert.Kernel14Ideal.Side
open Cert.Kernel14Ideal Cert.Kernel14Ideal.Gen Cert.Kernel14Ideal.Value Cert.Proj Cert.Out Cert.Side

/-- A block's product. -/
theorem pay_apply (x : Vec Ideal S1x256x1024 .f32) (p q : Vec Ideal S1x1x1x1024 .f32) (w : Vec Ideal S1024x256 .bf16) (z : Fin 1) (r : Fin 256) (n : Fin 256) :
    k0_pay1 x p q w (ix3 z r n) = ∑ k : Fin 1024, (x (ix3 0 r k) * (Ideal.ofBits .f32 0x3F800000#32 + p (ix4 0 0 0 k)) + q (ix4 0 0 0 k)) * w (ix2 k n) := by
  pointwise [k0_pay1]

/-- The whole block. -/
theorem out_apply (x0 : Vec Ideal S1x256x1024 .f32) (x1 : Vec Ideal S1x1x6x1024 .f32) (x2 : Vec Ideal S1024x256 .bf16) (y : S1x256x256.Idx) :
    out0_3 x0 x1 x2 y = ∑ k : Fin 1024, (x0 (ix3 0 (y 1) k) * (Ideal.ofBits .f32 0x3F800000#32 + x1 (ix4 0 0 1 k)) + x1 (ix4 0 0 0 k)) * x2 (ix2 k (y 2)) := by
  unfold out0_3
  refine canon_block (t := .f32) (fun (r : Fin 256) (n : Fin 256) => ∑ k : Fin 1024, (x0 (ix3 0 r k) * (Ideal.ofBits .f32 0x3F800000#32 + x1 (ix4 0 0 1 k)) + x1 (ix4 0 0 0 k)) * x2 (ix2 k n)) _ _ (fun r n => ?_) y
  refine (pay_apply _ _ _ _ 0 r n).trans (Finset.sum_congr rfl fun k _ => congrArg₂ (· * ·) ?_ (ld_mat x2 _ k n))
  exact congrArg₂ (· + ·) (congrArg₂ (fun p q => p * (_ + q)) (ld_rows x0 _ 0 r k) (ld_mod x1 1 (by decide) _ 0 0 0 k)) (ld_mod x1 0 (by decide) _ 0 0 0 k)

theorem index_0 : ∀ t : Fin cfg0.N, win0_0.index t 0 = t.val / 9 ∧ win0_0.index t 1 = t.val % 9 ∧ win0_0.index t 2 = 0 := by decide +kernel
theorem index_1 : ∀ t : Fin cfg0.N, win0_1.index t 0 = t.val / 9 ∧ win0_1.index t 1 = t.val % 9 ∧ win0_1.index t 2 = 0 ∧ win0_1.index t 3 = 0 := by decide +kernel
theorem index_2 : ∀ t : Fin cfg0.N, win0_2.index t 0 = 0 ∧ win0_2.index t 1 = 0 := by decide +kernel
theorem index_3 : ∀ t : Fin cfg0.N, win0_3.index t 0 = t.val / 9 ∧ win0_3.index t 1 = t.val % 9 ∧ win0_3.index t 2 = 0 := by decide +kernel

theorem point_lt (t : Fin cfg0.N) : t.val < 288 := lt_of_lt_of_eq t.isLt N_0

variable (m : (ℓ : Loc nD τ sig) → Buf (Elt Ideal) ℓ)

/-- The activations, the latent's and the context's modulation, and the weight. -/
def inX (c : Dev nD) : Vec Ideal S32x2304x1024 .f32 := m ((c : Thread nD τ).loc main_arg0)
def inL (c : Dev nD) : Vec Ideal S32x6144 .f32 := m ((c : Thread nD τ).loc main_arg1)
def inC (c : Dev nD) : Vec Ideal S6144 .f32 := m ((c : Thread nD τ).loc main_arg2)
def inW (c : Dev nD) : Vec Ideal S1024x6208 .f32 := m ((c : Thread nD τ).loc main_arg3)

/-- The weight's last 64 columns in two halves. -/
def wide (w : Vec Ideal S1024x6208 .f32) (k : Fin 1024) (n : Fin 256) : EReal :=
  halves (P := 32) (M := 64) rfl (fun j => w (ix2 k ⟨6144 + j.val, by omega⟩)) n

/-- The rows' block is its rows of the activations. -/
theorem read_x (c : Dev nD) (t : Fin cfg0.N) (r : Fin 256) (k : Fin 1024) :
    (iblk m c 0 t : Vec Ideal S1x256x1024 .f32) (ix3 0 r k)
      = inX m c (ix3 ⟨t.val / 9, by have := point_lt t; omega⟩ ⟨256 * (t.val % 9) + r.val, by omega⟩ k) := by
  unfold inX
  rw [← V_main_arg0 m c]
  unfold iblk
  rw [View.read_apply]
  show V m c main_arg0 _ = V m c main_arg0 _
  congr 1
  have hi := index_0 t
  funext a
  apply Fin.ext
  match a with
  | ⟨0, _⟩ => show win0_0.index t 0 * 1 + 1 * 0 = t.val / 9; rw [hi.1]; omega
  | ⟨1, _⟩ => show win0_0.index t 1 * 256 + 1 * r.val = 256 * (t.val % 9) + r.val; rw [hi.2.1]; omega
  | ⟨2, _⟩ => show win0_0.index t 2 * 1024 + 1 * k.val = k.val; rw [hi.2.2]; omega

/-- The modulation's block has the rows of its batch and block. -/
theorem read_m (c : Dev nD) (t : Fin cfg0.N) (s : Fin 6) (k : Fin 1024) :
    (iblk m c 1 t : Vec Ideal S1x1x6x1024 .f32) (ix4 0 0 s k)
      = modRow (inL m c) (inC m c) ⟨t.val / 9, by have := point_lt t; omega⟩ (t.val % 9 = 0) s k := by
  have e : V m c main_v13 (ix4 ⟨t.val / 9, by have := point_lt t; omega⟩ ⟨t.val % 9, by omega⟩ s k)
      = modRow (inL m c) (inC m c) ⟨t.val / 9, by have := point_lt t; omega⟩ (t.val % 9 = 0) s k := by
    refine Eq.trans ?_ (mods_apply (inL m c) (inC m c) shapeCasts_S32x6144_S32x1x6x1024 shapeCasts_S6144_S1x1x6x1024 bcast_S1x1x6x1024_S32x1x6x1024_0_1_2_3
      bcast_S32x1x6x1024_S32x8x6x1024_0_1_2_3 concatenates_S32x1x6x1024_S32x8x6x1024_S32x9x6x1024_d1 _ ⟨t.val % 9, by omega⟩ s k)
    unfold V
    after_results_simp <;> rfl
  rw [← e]
  unfold iblk
  rw [View.read_apply]
  show V m c main_v13 _ = V m c main_v13 _
  congr 1
  have hi := index_1 t
  funext a
  apply Fin.ext
  match a with
  | ⟨0, _⟩ => show win0_1.index t 0 * 1 + 1 * 0 = t.val / 9; rw [hi.1]; omega
  | ⟨1, _⟩ => show win0_1.index t 1 * 1 + 1 * 0 = t.val % 9; rw [hi.2.1]; omega
  | ⟨2, _⟩ => show win0_1.index t 2 * 6 + 1 * s.val = s.val; rw [hi.2.2.1]; omega
  | ⟨3, _⟩ => show win0_1.index t 3 * 1024 + 1 * k.val = k.val; rw [hi.2.2.2]; omega

/-- One half's columns of the weight. -/
theorem cols_apply (w : Vec Ideal S1024x6208 .f32) (o : Nat) (ho : o < 2) (hs) (h₁) (h) (h₂) (k : Fin 1024) (p : Fin 32) :
    shapeCast S1024x32 (extractStridedSlice S1024x1x32 ![0, o, 0] (shapeCast S1024x2x32 (extractStridedSlice S1024x64 ![0, 6144] w hs) h₁) h) h₂ (ix2 k p)
      = w (ix2 k ⟨6144 + (32 * o + p.val), by omega⟩) := by
  refine (shapeCast_apply _ h₂ (ix2 k p) (ix3 k 0 p) (by
    rewrite [Shape.rowMajor_val_three, Shape.rowMajor_val_two]
    show (k.val * 1 + 0) * 32 + p.val = k.val * 32 + p.val
    omega)).trans ?_
  refine (extractStridedSlice_apply _ _ h (ix3 k 0 p) (ix3 k ⟨o, ho⟩ p) (fun a => ?_)).trans ?_
  · match a with
    | ⟨0, _⟩ => show k.val = 0 + k.val; omega
    | ⟨1, _⟩ => show o = o + 0; omega
    | ⟨2, _⟩ => show p.val = 0 + p.val; omega
  refine (shapeCast_apply _ h₁ (ix3 k ⟨o, ho⟩ p) (ix2 k ⟨32 * o + p.val, by omega⟩) (by
    rewrite [Shape.rowMajor_val_three, Shape.rowMajor_val_two]
    show k.val * 64 + (32 * o + p.val) = (k.val * 2 + o) * 32 + p.val
    omega)).trans ?_
  refine extractStridedSlice_apply _ w hs (ix2 k ⟨32 * o + p.val, by omega⟩) (ix2 k ⟨6144 + (32 * o + p.val), by omega⟩) (fun a => ?_)
  match a with
  | ⟨0, _⟩ => show k.val = 0 + k.val; omega
  | ⟨1, _⟩ => rfl

/-- Two halves, each filled up with zeros. -/
theorem four_apply (f : Fin 1024 → Fin 64 → EReal) (u v : Vec Ideal S1024x32 .f32) (z : Vec Ideal S1024x96 .f32) (h)
    (hu : ∀ k (p : Fin 32), u (ix2 k p) = f k ⟨p.val, by omega⟩) (hv : ∀ k (p : Fin 32), v (ix2 k p) = f k ⟨32 + p.val, by omega⟩) (hz : ∀ i, z i = (0 : EReal)) (k : Fin 1024) (n : Fin 256) :
    concatenate S1024x256 1 [⟨S1024x32, u⟩, ⟨S1024x96, z⟩, ⟨S1024x32, v⟩, ⟨S1024x96, z⟩] h (ix2 k n) = halves (P := 32) (M := 64) rfl (f k) n := by
  have hb : ∀ {N : Nat} (p : Fin N) (b : Fin 2), b ≠ 1 → ((ix2 k p : (⟨2, ![1024, N]⟩ : Shape).Idx) b).val = (ix2 k n b).val := fun p b hb =>
    match b, hb with
    | ⟨0, _⟩, _ => rfl
    | ⟨1, _⟩, hb => absurd rfl hb
  unfold halves
  by_cases hp : n.val % 128 < 32
  · rw [dif_pos hp]
    by_cases hq : n.val < 128
    · refine (concatenate_apply_piece (t := S1024x256) 1 _ h (ix2 k n) 0 (by exact (by decide : 0 < 4)) S1024x32 u rfl rfl 0 rfl (ix2 k ⟨n.val, by omega⟩) (fun b => hb (N := 32) ⟨n.val, by omega⟩ b) ?_).trans ?_
      · show 0 + n.val = n.val
        omega
      · refine (hu k _).trans (congrArg (f k) (Fin.ext ?_))
        show n.val = 32 * (n.val / 128) + n.val % 128
        omega
    · refine (concatenate_apply_piece (t := S1024x256) 1 _ h (ix2 k n) 2 (by exact (by decide : 2 < 4)) S1024x32 v rfl rfl 128 rfl (ix2 k ⟨n.val - 128, by omega⟩) (fun b => hb (N := 32) ⟨n.val - 128, by omega⟩ b) ?_).trans ?_
      · show 128 + (n.val - 128) = n.val
        omega
      · refine (hv k _).trans (congrArg (f k) (Fin.ext ?_))
        show 32 + (n.val - 128) = 32 * (n.val / 128) + n.val % 128
        omega
  · rw [dif_neg hp]
    by_cases hq : n.val < 128
    · refine (concatenate_apply_piece (t := S1024x256) 1 _ h (ix2 k n) 1 (by exact (by decide : 1 < 4)) S1024x96 z rfl rfl 32 rfl (ix2 k ⟨n.val - 32, by omega⟩) (fun b => hb (N := 96) ⟨n.val - 32, by omega⟩ b) ?_).trans (hz _)
      show 32 + (n.val - 32) = n.val
      omega
    · refine (concatenate_apply_piece (t := S1024x256) 1 _ h (ix2 k n) 3 (by exact (by decide : 3 < 4)) S1024x96 z rfl rfl 160 rfl (ix2 k ⟨n.val - 160, by omega⟩) (fun b => hb (N := 96) ⟨n.val - 160, by omega⟩ b) ?_).trans (hz _)
      show 160 + (n.val - 160) = n.val
      omega

/-- The weight's block is the weight's last 64 columns in two halves. -/
theorem read_w (c : Dev nD) (t : Fin cfg0.N) (k : Fin 1024) (n : Fin 256) :
    (iblk m c 2 t : Vec Ideal S1024x256 .bf16) (ix2 k n) = wide (inW m c) k n := by
  have e : V m c main_v8 (ix2 k n) = wide (inW m c) k n := by
    have e₁ : V m c main_v8 = concatenate S1024x256 1
        [⟨S1024x32, (shapeCast S1024x32 (extractStridedSlice S1024x1x32 ![0, 0, 0] (shapeCast S1024x2x32 (extractStridedSlice S1024x64 ![0, 6144] (inW m c) slices_S1024x6208_S1024x64_0_6144) shapeCasts_S1024x64_S1024x2x32) slices_S1024x2x32_S1024x1x32_0_0_0) shapeCasts_S1024x1x32_S1024x32 : Vec Ideal S1024x32 .f32)⟩,
         ⟨S1024x96, (broadcastInDim S1024x96 ![] bcast_S_S1024x96 (constant (F := Ideal) S_ .f32 0x00000000#32 : (⟨S_, .f32⟩ : BufTy).Contents (Elt Ideal)) : Vec Ideal S1024x96 .f32)⟩,
         ⟨S1024x32, (shapeCast S1024x32 (extractStridedSlice S1024x1x32 ![0, 1, 0] (shapeCast S1024x2x32 (extractStridedSlice S1024x64 ![0, 6144] (inW m c) slices_S1024x6208_S1024x64_0_6144) shapeCasts_S1024x64_S1024x2x32) slices_S1024x2x32_S1024x1x32_0_1_0) shapeCasts_S1024x1x32_S1024x32 : Vec Ideal S1024x32 .f32)⟩,
         ⟨S1024x96, (broadcastInDim S1024x96 ![] bcast_S_S1024x96 (constant (F := Ideal) S_ .f32 0x00000000#32 : (⟨S_, .f32⟩ : BufTy).Contents (Elt Ideal)) : Vec Ideal S1024x96 .f32)⟩]
        concatenates_S1024x32_S1024x96_S1024x32_S1024x96_S1024x256_d1 := by
      unfold V
      after_results_simp <;> rfl
    rw [e₁]
    refine four_apply (fun k j => inW m c (ix2 k ⟨6144 + j.val, by omega⟩)) _ _ _ _ (fun k p => ?_) (fun k p => ?_) (fun i => ?_) k n
    · refine (cols_apply _ 0 (by decide) _ _ _ _ k p).trans (congrArg (fun q => inW m c (ix2 k q)) (Fin.ext ?_))
      show 6144 + (32 * 0 + p.val) = 6144 + p.val
      omega
    · exact cols_apply _ 1 (by decide) _ _ _ _ k p
    · exact Ideal.ofBits_zero_f32
  rw [← e]
  unfold iblk
  rw [View.read_apply]
  show V m c main_v8 _ = V m c main_v8 _
  congr 1
  have hi := index_2 t
  funext a
  apply Fin.ext
  match a with
  | ⟨0, _⟩ => show win0_2.index t 0 * 1024 + 1 * k.val = k.val; rw [hi.1]; omega
  | ⟨1, _⟩ => show win0_2.index t 1 * 256 + 1 * n.val = n.val; rw [hi.2]; omega

/-- The product of the modulated rows and the weight. -/
def result (c : Dev nD) : Buf (Elt Ideal) ((c : Thread nD τ).loc main_v14) :=
  fun i : S32x2304x256.Idx => (∑ k : Fin 1024, modulated (inX m c) (inL m c) (inC m c) 0 1 (i 0) (i 1) k * wide (inW m c) k (i 2) : EReal)

/-- A point's modulated rows are its rows of the modulated activations. -/
theorem read_modulated (c : Dev nD) (t : Fin cfg0.N) (r : Fin 256) (k : Fin 1024) :
    modulate ((iblk m c 0 t : Vec Ideal S1x256x1024 .f32) (ix3 0 r k)) ((iblk m c 1 t : Vec Ideal S1x1x6x1024 .f32) (ix4 0 0 1 k)) ((iblk m c 1 t : Vec Ideal S1x1x6x1024 .f32) (ix4 0 0 0 k))
      = modulated (inX m c) (inL m c) (inC m c) 0 1 ⟨t.val / 9, by have := point_lt t; omega⟩ ⟨256 * (t.val % 9) + r.val, by omega⟩ k := by
  have hc : (t.val % 9 = 0) = (256 * (t.val % 9) + r.val < 256) := propext (by omega)
  unfold modulated
  refine congrArg₂ (· + ·) (congrArg₂ (fun p q => p * (_ + q)) (read_x m c t r k) ((read_m m c t 1 k).trans ?_)) ((read_m m c t 0 k).trans ?_) <;>
    (unfold modRow; simp only [hc])

/-- What a point writes back is its block of the product. -/
theorem flushed_eq (c : Dev nD) (t : Fin cfg0.N) :
    (dats m 0 c).flushed 3 t = ((cfg0.win 3).blk t).view.read (Elt Ideal) (result m c) := by
  rw [flushed3]
  refine funext fun (y : S1x256x256.Idx) => ?_
  refine Eq.trans (out_apply _ _ _ y) ?_
  rw [View.read_apply]
  have hi := index_3 t
  have h0 : (y 0).val < 1 := (y 0).isLt
  have e : ((cfg0.win 3).blk t).view.emb y = ix3 ⟨t.val / 9, by have := point_lt t; omega⟩ ⟨256 * (t.val % 9) + (y 1).val, by have h : (y 1).val < 256 := (y 1).isLt; omega⟩ (y 2) := by
    funext a
    apply Fin.ext
    match a with
    | ⟨0, _⟩ => show win0_3.index t 0 * 1 + 1 * (y 0).val = t.val / 9; rw [hi.1]; omega
    | ⟨1, _⟩ => show win0_3.index t 1 * 256 + 1 * (y 1).val = 256 * (t.val % 9) + (y 1).val; rw [hi.2.1]; omega
    | ⟨2, _⟩ => show win0_3.index t 2 * 256 + 1 * (y 2).val = (y 2).val; rw [hi.2.2]; omega
  refine Eq.trans ?_ (congrArg (result m c) e).symm
  refine Finset.sum_congr rfl fun k _ => ?_
  exact congrArg₂ (· * ·) (read_modulated m c t (y 1) k) (read_w m c t k (y 2))

/-- So the output array ends as the product. -/
theorem final (c : Dev nD) : (dats m 0 c).arrAt 3 cfg0.N = result m c :=
  (dats m 0 c).arrAt_eq_of_cover 3 (result m c) (fun t _ => flushed_eq m c t) fun i : S32x2304x256.Idx => by
    have h0 : (i 0 : Nat) < 32 := (i 0).isLt
    have h1 : (i 1 : Nat) < 2304 := (i 1).isLt
    have h2 : (i 2 : Nat) < 256 := (i 2).isLt
    have hN : cfg0.N = 288 := N_0
    obtain ⟨t, ht⟩ : ∃ t : Fin cfg0.N, t.val = 9 * (i 0 : Nat) + (i 1 : Nat) / 256 := ⟨⟨9 * (i 0 : Nat) + (i 1 : Nat) / 256, by omega⟩, rfl⟩
    refine ⟨t, flush0_3 t, ?_⟩
    have hi := index_3 t
    show i ∈ ((View.whole main_v14).slice (win0_3.rect t)).set
    rw [View.set_slice_whole, Rect.mem_set_unit]
    intro a
    match a with
    | ⟨0, _⟩ => show win0_3.index t 0 * 1 ≤ (i 0 : Nat) ∧ (i 0 : Nat) < win0_3.index t 0 * 1 + 1
                rw [hi.1]; omega
    | ⟨1, _⟩ => show win0_3.index t 1 * 256 ≤ (i 1 : Nat) ∧ (i 1 : Nat) < win0_3.index t 1 * 256 + 256
                rw [hi.2.1]; omega
    | ⟨2, _⟩ => show win0_3.index t 2 * 256 ≤ (i 2 : Nat) ∧ (i 2 : Nat) < win0_3.index t 2 * 256 + 256
                rw [hi.2.2]; omega

end Cert.Kernel14Ideal.Side

namespace Cert.Reference14Ideal.Side
open Cert.Reference14Ideal Cert.Reference14Ideal.Read Cert.Proj Cert.Side

variable (x0 : FVec Ideal S32x2304x1024 .f32) (x1 : FVec Ideal S32x6144 .f32) (x2 : FVec Ideal S6144 .f32) (x3 : FVec Ideal S1024x6208 .f32)

/-- The context's rows of the product. -/
theorem dot_ctx (a : Fin 32) (b : Fin 256) (d : Fin 64) :
    val_main_v37 (F := Ideal) x0 x2 x3 (ix3 a b d) = ∑ k : Fin 1024, val_main_v27 (F := Ideal) x0 x2 (ix3 a b k) * x3 (ix2 k ⟨6144 + d.val, by omega⟩) := by
  pointwise [val_main_v37, val_main_v34]

/-- The latent's. -/
theorem dot_lat (a : Fin 32) (b : Fin 2048) (d : Fin 64) :
    val_main_v41 (F := Ideal) x0 x1 x3 (ix3 a b d) = ∑ k : Fin 1024, val_main_v33 (F := Ideal) x0 x1 (ix3 a b k) * x3 (ix2 k ⟨6144 + d.val, by omega⟩) := by
  pointwise [val_main_v41, val_main_v38]

/-- The joined rows of the product. -/
theorem joined_apply (a : Fin 32) (b : Fin 2304) (d : Fin 64) :
    val_main_v42 (F := Ideal) x0 x1 x2 x3 (ix3 a b d) = ∑ k : Fin 1024, modulated x0 x1 x2 0 1 a b k * x3 (ix2 k ⟨6144 + d.val, by omega⟩) := by
  unfold val_main_v42
  refine (join_apply _ _ _ a b d).trans ?_
  by_cases hb : b.val < 256
  · rw [dif_pos hb, dot_ctx]
    exact Finset.sum_congr rfl fun k _ => congrArg (· * _) (Cert.Reference2Ideal.Proj.ctx_apply x0 x1 x2 a ⟨b.val, hb⟩ k)
  · rw [dif_neg hb, dot_lat]
    have e : (⟨256 + (b.val - 256), by omega⟩ : Fin 2304) = b := Fin.ext (by dsimp only; omega)
    exact Finset.sum_congr rfl fun k _ => congrArg (· * _) ((Cert.Reference2Ideal.Proj.lat_apply x0 x1 x2 a ⟨b.val - 256, by omega⟩ k).trans (congrArg (fun b => modulated x0 x1 x2 0 1 a b k) e))

/-- The number that fills up is zero. -/
theorem fill_apply (i : S_.Idx) : val_main_call0_v0 (F := Ideal) i = (0 : EReal) := by
  show (((0#32 : BitVec 32).toInt : ℝ) : EReal) = 0
  simp

/-- The reference's product. -/
theorem out_apply (a : Fin 32) (b : Fin 2304) (n : Fin 256) :
    val_main_v45 (F := Ideal) x0 x1 x2 x3 (ix3 a b n) = ∑ k : Fin 1024, modulated x0 x1 x2 0 1 a b k * Cert.Kernel14Ideal.Side.wide x3 k n := by
  unfold val_main_v45 val_main_v44 val_main_v43
  refine (padded_apply (P := 32) (M := 64) rfl 96 (val_main_v42 (F := Ideal) x0 x1 x2 x3) (val_main_call0_v0 (F := Ideal)) fill_apply _ _ _ _ a b n).trans ?_
  unfold Cert.Kernel14Ideal.Side.wide
  rw [sum_halves]
  exact congrArg (fun f => halves (P := 32) (M := 64) rfl f n) (funext fun d => joined_apply x0 x1 x2 x3 a b d)

end Cert.Reference14Ideal.Side

namespace Cert.Proj

theorem frame_Reference14Ideal : Cert.quiescent_Reference14Ideal := fun m ρ _ =>
  (θ_run _ _ _).mono (fun r h => ⟨fun c => (h c).2, Idealize.ShloMosaic.sem_eq_zero_of_no_sems (by decide) r.2⟩) (Cert.Reference14Ideal.Value.run m ρ)

/-- The kernel's projection and the reference's are the same array. -/
theorem algebraic14 : Cert.algebraic_Kernel14Ideal_Reference14Ideal := fun m g m' g' _ ha =>
  ⟨fun c => Cert.Kernel14Ideal.Side.result m c,
    (θ_run _ _ _).mono (fun r h c => ⟨(h c).1.trans (Cert.Kernel14Ideal.Side.final m c), (h c).2⟩) (Cert.Kernel14Ideal.Value.run_blocks m g),
    (θ_run _ _ _).mono (fun r h c => ⟨(h c).1.trans (by
      rw [Cert.Reference14Ideal.Read.val_main_v45_eq, (ha c).1, (ha c).2.1, (ha c).2.2.1, (ha c).2.2.2]
      exact funext fun i : Cert.Kernel14Ideal.S32x2304x256.Idx => (congrArg _ (eq_ix3 i)).trans (Cert.Reference14Ideal.Side.out_apply _ _ _ _ (i 0) (i 1) (i 2))), (h c).2⟩) (Cert.Reference14Ideal.Value.run m' g')⟩

end Cert.Proj
end
-- ==== Proof.Side.Gates.lean ====
/-
  The mLSTM layer's gates before the logarithm of the sigmoid, 16 columns in two halves: the kernel's three products by parts of the rows and the reference's one of the joined rows.
-/
module

public import proofs.«01_k».proof.Defs
public import proofs.«01_k».proof.Proof.Side.Blocks
public import proofs.«01_k».proof.Proof.Gen.Kernel15Ideal.Value
public import proofs.«01_k».proof.Proof.Gen.Reference15Ideal.Run
public import proofs.«01_k».proof.Proof.Gen.Reference15Ideal.Read
public import Idealize.ShloMosaic.Lib.StableHlo.Run
public import Idealize.ShloMosaic.Lib.Quiescent

@[expose] public section

set_option maxRecDepth 16384
noncomputable section
open Idealize.ShloMosaic Idealize.ShloMosaic.TcCoe Idealize.SL.Sem
open Idealize.ShloMosaic.Pipeline (Dat)

namespace Cert.Kernel15Ideal.Side
open Cert.Kernel15Ideal Cert.Kernel15Ideal.Gen Cert.Kernel15Ideal.Value Cert.Proj Cert.Out Cert.Side

/-- A block's product. -/
theorem pay_apply (v q l : Vec Ideal S1x256x2048 .f32) (wq wl : Vec Ideal S2048x256 .bf16) (b : Vec Ideal S1x256 .f32) (wv : Vec Ideal S2048x256 .bf16) (z : Fin 1) (r : Fin 256) (n : Fin 256) :
    k0_pay1 v q l wq wl b wv (ix3 z r n) = ((∑ k : Fin 2048, v (ix3 0 r k) * wv (ix2 k n) + ∑ k : Fin 2048, q (ix3 0 r k) * wq (ix2 k n)) + ∑ k : Fin 2048, l (ix3 0 r k) * wl (ix2 k n)) + b (ix2 0 n) := by
  pointwise [k0_pay1]

/-- The whole block. -/
theorem out_apply (x0 x1 x2 : Vec Ideal S1x256x2048 .f32) (x3 x4 : Vec Ideal S2048x256 .bf16) (x5 : Vec Ideal S1x256 .f32) (x6 : Vec Ideal S2048x256 .bf16) (y : S1x256x256.Idx) :
    out0_7 x0 x1 x2 x3 x4 x5 x6 y
      = ((∑ k : Fin 2048, x0 (ix3 0 (y 1) k) * x6 (ix2 k (y 2)) + ∑ k : Fin 2048, x1 (ix3 0 (y 1) k) * x3 (ix2 k (y 2))) + ∑ k : Fin 2048, x2 (ix3 0 (y 1) k) * x4 (ix2 k (y 2))) + x5 (ix2 0 (y 2)) := by
  unfold out0_7
  refine canon_block (t := .f32) (fun (r : Fin 256) (n : Fin 256) => ((∑ k : Fin 2048, x0 (ix3 0 r k) * x6 (ix2 k n) + ∑ k : Fin 2048, x1 (ix3 0 r k) * x3 (ix2 k n)) + ∑ k : Fin 2048, x2 (ix3 0 r k) * x4 (ix2 k n)) + x5 (ix2 0 n)) _ _ (fun r n => ?_) y
  refine (pay_apply _ _ _ _ _ _ _ 0 r n).trans (congrArg₂ (· + ·) (congrArg₂ (· + ·) (congrArg₂ (· + ·) ?_ ?_) ?_) (ld_mat x5 _ 0 n))
  · exact Finset.sum_congr rfl fun k _ => congrArg₂ (· * ·) (ld_block x0 _ 0 r k) (ld_mat x6 _ k n)
  · exact Finset.sum_congr rfl fun k _ => congrArg₂ (· * ·) (ld_block x1 _ 0 r k) (ld_mat x3 _ k n)
  · exact Finset.sum_congr rfl fun k _ => congrArg₂ (· * ·) (ld_block x2 _ 0 r k) (ld_mat x4 _ k n)

theorem index_0 : ∀ t : Fin cfg0.N, win0_0.index t 0 = t.val / 9 ∧ win0_0.index t 1 = t.val % 9 ∧ win0_0.index t 2 = 0 := by decide +kernel
theorem index_1 : ∀ t : Fin cfg0.N, win0_1.index t 0 = t.val / 9 ∧ win0_1.index t 1 = t.val % 9 ∧ win0_1.index t 2 = 0 := by decide +kernel
theorem index_2 : ∀ t : Fin cfg0.N, win0_2.index t 0 = t.val / 9 ∧ win0_2.index t 1 = t.val % 9 ∧ win0_2.index t 2 = 1 := by decide +kernel
theorem index_3 : ∀ t : Fin cfg0.N, win0_3.index t 0 = 0 ∧ win0_3.index t 1 = 0 := by decide +kernel
theorem index_4 : ∀ t : Fin cfg0.N, win0_4.index t 0 = 0 ∧ win0_4.index t 1 = 0 := by decide +kernel
theorem index_5 : ∀ t : Fin cfg0.N, win0_5.index t 0 = 0 ∧ win0_5.index t 1 = 0 := by decide +kernel
theorem index_6 : ∀ t : Fin cfg0.N, win0_6.index t 0 = 0 ∧ win0_6.index t 1 = 0 := by decide +kernel
theorem index_7 : ∀ t : Fin cfg0.N, win0_7.index t 0 = t.val / 9 ∧ win0_7.index t 1 = t.val % 9 ∧ win0_7.index t 2 = 0 := by decide +kernel

theorem point_lt (t : Fin cfg0.N) : t.val < 288 := lt_of_lt_of_eq t.isLt N_0

variable (m : (ℓ : Loc nD τ sig) → Buf (Elt Ideal) ℓ)

/-- The queries and keys, the values, the gates' weight and bias. -/
def inQ (c : Dev nD) : Vec Ideal S32x2304x4096 .f32 := m ((c : Thread nD τ).loc main_arg0)
def inV (c : Dev nD) : Vec Ideal S32x2304x2048 .f32 := m ((c : Thread nD τ).loc main_arg1)
def inW (c : Dev nD) : Vec Ideal S6144x16 .f32 := m ((c : Thread nD τ).loc main_arg2)
def inB (c : Dev nD) : Vec Ideal S16 .f32 := m ((c : Thread nD τ).loc main_arg3)

/-- The weight's and the bias's columns in two halves. -/
def wide (w : Vec Ideal S6144x16 .f32) (k : Fin 6144) (n : Fin 256) : EReal := halves (P := 8) (M := 16) rfl (fun j => w (ix2 k j)) n
def wideB (b : Vec Ideal S16 .f32) (n : Fin 256) : EReal := halves (P := 8) (M := 16) rfl (fun j => b (ix1 j)) n

/-- The rows of the values. -/
theorem read_v (c : Dev nD) (t : Fin cfg0.N) (r : Fin 256) (k : Fin 2048) :
    (iblk m c 0 t : Vec Ideal S1x256x2048 .f32) (ix3 0 r k)
      = inV m c (ix3 ⟨t.val / 9, by have := point_lt t; omega⟩ ⟨256 * (t.val % 9) + r.val, by omega⟩ k) := by
  unfold inV
  rw [← V_main_arg1 m c]
  unfold iblk
  rw [View.read_apply]
  show V m c main_arg1 _ = V m c main_arg1 _
  congr 1
  have hi := index_0 t
  funext a
  apply Fin.ext
  match a with
  | ⟨0, _⟩ => show win0_0.index t 0 * 1 + 1 * 0 = t.val / 9; rw [hi.1]; omega
  | ⟨1, _⟩ => show win0_0.index t 1 * 256 + 1 * r.val = 256 * (t.val % 9) + r.val; rw [hi.2.1]; omega
  | ⟨2, _⟩ => show win0_0.index t 2 * 2048 + 1 * k.val = k.val; rw [hi.2.2]; omega

/-- The rows of the queries. -/
theorem read_q (c : Dev nD) (t : Fin cfg0.N) (r : Fin 256) (k : Fin 2048) :
    (iblk m c 1 t : Vec Ideal S1x256x2048 .f32) (ix3 0 r k)
      = inQ m c (ix3 ⟨t.val / 9, by have := point_lt t; omega⟩ ⟨256 * (t.val % 9) + r.val, by omega⟩ ⟨k.val, by omega⟩) := by
  unfold inQ
  rw [← V_main_arg0 m c]
  unfold iblk
  rw [View.read_apply]
  show V m c main_arg0 _ = V m c main_arg0 _
  congr 1
  have hi := index_1 t
  funext a
  apply Fin.ext
  match a with
  | ⟨0, _⟩ => show win0_1.index t 0 * 1 + 1 * 0 = t.val / 9; rw [hi.1]; omega
  | ⟨1, _⟩ => show win0_1.index t 1 * 256 + 1 * r.val = 256 * (t.val % 9) + r.val; rw [hi.2.1]; omega
  | ⟨2, _⟩ => show win0_1.index t 2 * 2048 + 1 * k.val = k.val; rw [hi.2.2]; omega

/-- The rows of the keys. -/
theorem read_l (c : Dev nD) (t : Fin cfg0.N) (r : Fin 256) (k : Fin 2048) :
    (iblk m c 2 t : Vec Ideal S1x256x2048 .f32) (ix3 0 r k)
      = inQ m c (ix3 ⟨t.val / 9, by have := point_lt t; omega⟩ ⟨256 * (t.val % 9) + r.val, by omega⟩ ⟨2048 + k.val, by omega⟩) := by
  unfold inQ
  rw [← V_main_arg0 m c]
  unfold iblk
  rw [View.read_apply]
  show V m c main_arg0 _ = V m c main_arg0 _
  congr 1
  have hi := index_2 t
  funext a
  apply Fin.ext
  match a with
  | ⟨0, _⟩ => show win0_2.index t 0 * 1 + 1 * 0 = t.val / 9; rw [hi.1]; omega
  | ⟨1, _⟩ => show win0_2.index t 1 * 256 + 1 * r.val = 256 * (t.val % 9) + r.val; rw [hi.2.1]; omega
  | ⟨2, _⟩ => show win0_2.index t 2 * 2048 + 1 * k.val = 2048 + k.val; rw [hi.2.2]; omega

/-- Four columns of the weight. -/
theorem cols_apply (w : Vec Ideal S6144x16 .f32) (o : Nat) (ho : o < 4) (h₁) (h) (h₂) (k : Fin 6144) (p : Fin 4) :
    shapeCast S6144x4 (extractStridedSlice S6144x1x4 ![0, o, 0] (shapeCast S6144x4x4 w h₁) h) h₂ (ix2 k p) = w (ix2 k ⟨4 * o + p.val, by omega⟩) := by
  refine (shapeCast_apply _ h₂ (ix2 k p) (ix3 k 0 p) (by
    rewrite [Shape.rowMajor_val_three, Shape.rowMajor_val_two]
    show (k.val * 1 + 0) * 4 + p.val = k.val * 4 + p.val
    omega)).trans ?_
  refine (extractStridedSlice_apply _ _ h (ix3 k 0 p) (ix3 k ⟨o, ho⟩ p) (fun a => ?_)).trans ?_
  · match a with
    | ⟨0, _⟩ => show k.val = 0 + k.val; omega
    | ⟨1, _⟩ => show o = o + 0; omega
    | ⟨2, _⟩ => show p.val = 0 + p.val; omega
  exact shapeCast_apply _ h₁ (ix3 k ⟨o, ho⟩ p) (ix2 k ⟨4 * o + p.val, by omega⟩) (by
    rewrite [Shape.rowMajor_val_three, Shape.rowMajor_val_two]
    show k.val * 16 + (4 * o + p.val) = (k.val * 4 + o) * 4 + p.val
    omega)

/-- Four entries of the bias. -/
theorem entries_apply (b : Vec Ideal S16 .f32) (o : Nat) (ho : o < 4) (h₁) (h) (h₂) (p : Fin 4) :
    shapeCast S4 (extractStridedSlice S1x4 ![o, 0] (shapeCast S4x4 b h₁) h) h₂ (ix1 p) = b (ix1 ⟨4 * o + p.val, by omega⟩) := by
  refine (shapeCast_apply _ h₂ (ix1 p) (ix2 0 p) (by
    rewrite [Shape.rowMajor_val_two, Shape.rowMajor_val_one]
    show 0 * 4 + p.val = p.val
    omega)).trans ?_
  refine (extractStridedSlice_apply _ _ h (ix2 0 p) (ix2 ⟨o, ho⟩ p) (fun a => ?_)).trans ?_
  · match a with
    | ⟨0, _⟩ => show o = o + 0; omega
    | ⟨1, _⟩ => show p.val = 0 + p.val; omega
  exact shapeCast_apply _ h₁ (ix2 ⟨o, ho⟩ p) (ix1 ⟨4 * o + p.val, by omega⟩) (by
    rewrite [Shape.rowMajor_val_two, Shape.rowMajor_val_one]
    show 4 * o + p.val = o * 4 + p.val
    omega)

/-- Two halves of two parts, each half filled up with zeros. -/
theorem six_apply (f : Fin 6144 → Fin 16 → EReal) (a b c d : Vec Ideal S6144x4 .f32) (z : Vec Ideal S6144x120 .f32) (h)
    (ha : ∀ k (p : Fin 4), a (ix2 k p) = f k ⟨p.val, by omega⟩) (hb : ∀ k (p : Fin 4), b (ix2 k p) = f k ⟨4 + p.val, by omega⟩) (hc : ∀ k (p : Fin 4), c (ix2 k p) = f k ⟨8 + p.val, by omega⟩)
    (hd : ∀ k (p : Fin 4), d (ix2 k p) = f k ⟨12 + p.val, by omega⟩) (hz : ∀ i, z i = (0 : EReal)) (k : Fin 6144) (n : Fin 256) :
    concatenate S6144x256 1 [⟨S6144x4, a⟩, ⟨S6144x4, b⟩, ⟨S6144x120, z⟩, ⟨S6144x4, c⟩, ⟨S6144x4, d⟩, ⟨S6144x120, z⟩] h (ix2 k n) = halves (P := 8) (M := 16) rfl (f k) n := by
  have hx : ∀ {N : Nat} (p : Fin N) (b : Fin 2), b ≠ 1 → ((ix2 k p : (⟨2, ![6144, N]⟩ : Shape).Idx) b).val = (ix2 k n b).val := fun p b hb =>
    match b, hb with
    | ⟨0, _⟩, _ => rfl
    | ⟨1, _⟩, hb => absurd rfl hb
  unfold halves
  by_cases hp : n.val % 128 < 8
  · rw [dif_pos hp]
    by_cases hq : n.val < 128
    · by_cases hr : n.val < 4
      · refine (concatenate_apply_piece (t := S6144x256) 1 _ h (ix2 k n) 0 (by exact (by decide : 0 < 6)) S6144x4 a rfl rfl 0 rfl (ix2 k ⟨n.val, by omega⟩) (fun b => hx (N := 4) ⟨n.val, by omega⟩ b) ?_).trans ?_
        · show 0 + (n.val) = n.val
          omega
        · refine (ha k _).trans (congrArg (f k) (Fin.ext ?_))
          show n.val = 8 * (n.val / 128) + n.val % 128
          omega
      · refine (concatenate_apply_piece (t := S6144x256) 1 _ h (ix2 k n) 1 (by exact (by decide : 1 < 6)) S6144x4 b rfl rfl 4 rfl (ix2 k ⟨n.val - 4, by omega⟩) (fun b => hx (N := 4) ⟨n.val - 4, by omega⟩ b) ?_).trans ?_
        · show 4 + (n.val - 4) = n.val
          omega
        · refine (hb k _).trans (congrArg (f k) (Fin.ext ?_))
          show 4 + (n.val - 4) = 8 * (n.val / 128) + n.val % 128
          omega
    · by_cases hr : n.val < 132
      · refine (concatenate_apply_piece (t := S6144x256) 1 _ h (ix2 k n) 3 (by exact (by decide : 3 < 6)) S6144x4 c rfl rfl 128 rfl (ix2 k ⟨n.val - 128, by omega⟩) (fun b => hx (N := 4) ⟨n.val - 128, by omega⟩ b) ?_).trans ?_
        · show 128 + (n.val - 128) = n.val
          omega
        · refine (hc k _).trans (congrArg (f k) (Fin.ext ?_))
          show 8 + (n.val - 128) = 8 * (n.val / 128) + n.val % 128
          omega
      · refine (concatenate_apply_piece (t := S6144x256) 1 _ h (ix2 k n) 4 (by exact (by decide : 4 < 6)) S6144x4 d rfl rfl 132 rfl (ix2 k ⟨n.val - 132, by omega⟩) (fun b => hx (N := 4) ⟨n.val - 132, by omega⟩ b) ?_).trans ?_
        · show 132 + (n.val - 132) = n.val
          omega
        · refine (hd k _).trans (congrArg (f k) (Fin.ext ?_))
          show 12 + (n.val - 132) = 8 * (n.val / 128) + n.val % 128
          omega
  · rw [dif_neg hp]
    by_cases hq : n.val < 128
    · refine (concatenate_apply_piece (t := S6144x256) 1 _ h (ix2 k n) 2 (by exact (by decide : 2 < 6)) S6144x120 z rfl rfl 8 rfl (ix2 k ⟨n.val - 8, by omega⟩) (fun b => hx (N := 120) ⟨n.val - 8, by omega⟩ b) ?_).trans (hz _)
      show 8 + (n.val - 8) = n.val
      omega
    · refine (concatenate_apply_piece (t := S6144x256) 1 _ h (ix2 k n) 5 (by exact (by decide : 5 < 6)) S6144x120 z rfl rfl 136 rfl (ix2 k ⟨n.val - 136, by omega⟩) (fun b => hx (N := 120) ⟨n.val - 136, by omega⟩ b) ?_).trans (hz _)
      show 136 + (n.val - 136) = n.val
      omega

/-- The same of one row. -/
theorem six_entries (f : Fin 16 → EReal) (a b c d : Vec Ideal S4 .f32) (z : Vec Ideal S120 .f32) (h)
    (ha : ∀ p : Fin 4, a (ix1 p) = f ⟨p.val, by omega⟩) (hb : ∀ p : Fin 4, b (ix1 p) = f ⟨4 + p.val, by omega⟩) (hc : ∀ p : Fin 4, c (ix1 p) = f ⟨8 + p.val, by omega⟩)
    (hd : ∀ p : Fin 4, d (ix1 p) = f ⟨12 + p.val, by omega⟩) (hz : ∀ i, z i = (0 : EReal)) (n : Fin 256) :
    concatenate S256 0 [⟨S4, a⟩, ⟨S4, b⟩, ⟨S120, z⟩, ⟨S4, c⟩, ⟨S4, d⟩, ⟨S120, z⟩] h (ix1 n) = halves (P := 8) (M := 16) rfl (f) n := by
  unfold halves
  by_cases hp : n.val % 128 < 8
  · rw [dif_pos hp]
    by_cases hq : n.val < 128
    · by_cases hr : n.val < 4
      · refine (concatenate_apply_piece (t := S256) 0 _ h (ix1 n) 0 (by exact (by decide : 0 < 6)) S4 a rfl rfl 0 rfl (ix1 ⟨n.val, by omega⟩) (fun b hb => absurd (Subsingleton.elim (α := Fin 1) b 0) hb) ?_).trans ?_
        · show 0 + (n.val) = n.val
          omega
        · refine (ha _).trans (congrArg (f) (Fin.ext ?_))
          show n.val = 8 * (n.val / 128) + n.val % 128
          omega
      · refine (concatenate_apply_piece (t := S256) 0 _ h (ix1 n) 1 (by exact (by decide : 1 < 6)) S4 b rfl rfl 4 rfl (ix1 ⟨n.val - 4, by omega⟩) (fun b hb => absurd (Subsingleton.elim (α := Fin 1) b 0) hb) ?_).trans ?_
        · show 4 + (n.val - 4) = n.val
          omega
        · refine (hb _).trans (congrArg (f) (Fin.ext ?_))
          show 4 + (n.val - 4) = 8 * (n.val / 128) + n.val % 128
          omega
    · by_cases hr : n.val < 132
      · refine (concatenate_apply_piece (t := S256) 0 _ h (ix1 n) 3 (by exact (by decide : 3 < 6)) S4 c rfl rfl 128 rfl (ix1 ⟨n.val - 128, by omega⟩) (fun b hb => absurd (Subsingleton.elim (α := Fin 1) b 0) hb) ?_).trans ?_
        · show 128 + (n.val - 128) = n.val
          omega
        · refine (hc _).trans (congrArg (f) (Fin.ext ?_))
          show 8 + (n.val - 128) = 8 * (n.val / 128) + n.val % 128
          omega
      · refine (concatenate_apply_piece (t := S256) 0 _ h (ix1 n) 4 (by exact (by decide : 4 < 6)) S4 d rfl rfl 132 rfl (ix1 ⟨n.val - 132, by omega⟩) (fun b hb => absurd (Subsingleton.elim (α := Fin 1) b 0) hb) ?_).trans ?_
        · show 132 + (n.val - 132) = n.val
          omega
        · refine (hd _).trans (congrArg (f) (Fin.ext ?_))
          show 12 + (n.val - 132) = 8 * (n.val / 128) + n.val % 128
          omega
  · rw [dif_neg hp]
    by_cases hq : n.val < 128
    · refine (concatenate_apply_piece (t := S256) 0 _ h (ix1 n) 2 (by exact (by decide : 2 < 6)) S120 z rfl rfl 8 rfl (ix1 ⟨n.val - 8, by omega⟩) (fun b hb => absurd (Subsingleton.elim (α := Fin 1) b 0) hb) ?_).trans (hz _)
      show 8 + (n.val - 8) = n.val
      omega
    · refine (concatenate_apply_piece (t := S256) 0 _ h (ix1 n) 5 (by exact (by decide : 5 < 6)) S120 z rfl rfl 136 rfl (ix1 ⟨n.val - 136, by omega⟩) (fun b hb => absurd (Subsingleton.elim (α := Fin 1) b 0) hb) ?_).trans (hz _)
      show 136 + (n.val - 136) = n.val
      omega

/-- The weight as the host widens it. -/
def hostW (w : Vec Ideal S6144x16 .f32) : Vec Ideal S6144x256 .bf16 :=
  concatenate S6144x256 1
    [⟨S6144x4, (shapeCast S6144x4 (extractStridedSlice S6144x1x4 ![0, 0, 0] (shapeCast S6144x4x4 w shapeCasts_S6144x16_S6144x4x4) slices_S6144x4x4_S6144x1x4_0_0_0) shapeCasts_S6144x1x4_S6144x4 : Vec Ideal S6144x4 .f32)⟩,
     ⟨S6144x4, (shapeCast S6144x4 (extractStridedSlice S6144x1x4 ![0, 1, 0] (shapeCast S6144x4x4 w shapeCasts_S6144x16_S6144x4x4) slices_S6144x4x4_S6144x1x4_0_1_0) shapeCasts_S6144x1x4_S6144x4 : Vec Ideal S6144x4 .f32)⟩,
     ⟨S6144x120, (broadcastInDim S6144x120 ![] bcast_S_S6144x120 (constant (F := Ideal) S_ .f32 0x00000000#32 : (⟨S_, .f32⟩ : BufTy).Contents (Elt Ideal)) : Vec Ideal S6144x120 .f32)⟩,
     ⟨S6144x4, (shapeCast S6144x4 (extractStridedSlice S6144x1x4 ![0, 2, 0] (shapeCast S6144x4x4 w shapeCasts_S6144x16_S6144x4x4) slices_S6144x4x4_S6144x1x4_0_2_0) shapeCasts_S6144x1x4_S6144x4 : Vec Ideal S6144x4 .f32)⟩,
     ⟨S6144x4, (shapeCast S6144x4 (extractStridedSlice S6144x1x4 ![0, 3, 0] (shapeCast S6144x4x4 w shapeCasts_S6144x16_S6144x4x4) slices_S6144x4x4_S6144x1x4_0_3_0) shapeCasts_S6144x1x4_S6144x4 : Vec Ideal S6144x4 .f32)⟩,
     ⟨S6144x120, (broadcastInDim S6144x120 ![] bcast_S_S6144x120 (constant (F := Ideal) S_ .f32 0x00000000#32 : (⟨S_, .f32⟩ : BufTy).Contents (Elt Ideal)) : Vec Ideal S6144x120 .f32)⟩]
    concatenates_S6144x4_S6144x4_S6144x120_S6144x4_S6144x4_S6144x120_S6144x256_d1

theorem hostW_apply (w : Vec Ideal S6144x16 .f32) (k : Fin 6144) (n : Fin 256) : hostW w (ix2 k n) = wide w k n := by
  unfold hostW wide
  refine six_apply (fun k j => w (ix2 k j)) _ _ _ _ _ _ (fun k p => ?_) (fun k p => ?_) (fun k p => ?_) (fun k p => ?_) (fun i => ?_) k n
  · exact (cols_apply _ 0 (by decide) _ _ _ k p).trans (congrArg (fun q => w (ix2 k q)) (Fin.ext (by show 4 * 0 + p.val = p.val; omega)))
  · exact (cols_apply _ 1 (by decide) _ _ _ k p).trans (congrArg (fun q => w (ix2 k q)) (Fin.ext (by show 4 * 1 + p.val = 4 + p.val; omega)))
  · exact (cols_apply _ 2 (by decide) _ _ _ k p).trans (congrArg (fun q => w (ix2 k q)) (Fin.ext (by show 4 * 2 + p.val = 8 + p.val; omega)))
  · exact (cols_apply _ 3 (by decide) _ _ _ k p).trans (congrArg (fun q => w (ix2 k q)) (Fin.ext (by show 4 * 3 + p.val = 12 + p.val; omega)))
  · exact Ideal.ofBits_zero_f32

/-- The bias as the host widens it. -/
def hostB (b : Vec Ideal S16 .f32) : Vec Ideal S256 .f32 :=
  concatenate S256 0
    [⟨S4, (shapeCast S4 (extractStridedSlice S1x4 ![0, 0] (shapeCast S4x4 b shapeCasts_S16_S4x4) slices_S4x4_S1x4_0_0) shapeCasts_S1x4_S4 : Vec Ideal S4 .f32)⟩,
     ⟨S4, (shapeCast S4 (extractStridedSlice S1x4 ![1, 0] (shapeCast S4x4 b shapeCasts_S16_S4x4) slices_S4x4_S1x4_1_0) shapeCasts_S1x4_S4 : Vec Ideal S4 .f32)⟩,
     ⟨S120, (broadcastInDim S120 ![] bcast_S_S120 (constant (F := Ideal) S_ .f32 0x00000000#32 : (⟨S_, .f32⟩ : BufTy).Contents (Elt Ideal)) : Vec Ideal S120 .f32)⟩,
     ⟨S4, (shapeCast S4 (extractStridedSlice S1x4 ![2, 0] (shapeCast S4x4 b shapeCasts_S16_S4x4) slices_S4x4_S1x4_2_0) shapeCasts_S1x4_S4 : Vec Ideal S4 .f32)⟩,
     ⟨S4, (shapeCast S4 (extractStridedSlice S1x4 ![3, 0] (shapeCast S4x4 b shapeCasts_S16_S4x4) slices_S4x4_S1x4_3_0) shapeCasts_S1x4_S4 : Vec Ideal S4 .f32)⟩,
     ⟨S120, (broadcastInDim S120 ![] bcast_S_S120 (constant (F := Ideal) S_ .f32 0x00000000#32 : (⟨S_, .f32⟩ : BufTy).Contents (Elt Ideal)) : Vec Ideal S120 .f32)⟩]
    concatenates_S4_S4_S120_S4_S4_S120_S256_d0

theorem hostB_apply (b : Vec Ideal S16 .f32) (n : Fin 256) : hostB b (ix1 n) = wideB b n := by
  unfold hostB wideB
  refine six_entries (fun j => b (ix1 j)) _ _ _ _ _ _ (fun p => ?_) (fun p => ?_) (fun p => ?_) (fun p => ?_) (fun i => ?_) n
  · exact (entries_apply _ 0 (by decide) _ _ _ p).trans (congrArg (fun q => b (ix1 q)) (Fin.ext (by show 4 * 0 + p.val = p.val; omega)))
  · exact (entries_apply _ 1 (by decide) _ _ _ p).trans (congrArg (fun q => b (ix1 q)) (Fin.ext (by show 4 * 1 + p.val = 4 + p.val; omega)))
  · exact (entries_apply _ 2 (by decide) _ _ _ p).trans (congrArg (fun q => b (ix1 q)) (Fin.ext (by show 4 * 2 + p.val = 8 + p.val; omega)))
  · exact (entries_apply _ 3 (by decide) _ _ _ p).trans (congrArg (fun q => b (ix1 q)) (Fin.ext (by show 4 * 3 + p.val = 12 + p.val; omega)))
  · exact Ideal.ofBits_zero_f32

/-- A band of 2048 rows. -/
theorem band_apply (y : Vec Ideal S6144x256 .bf16) (o : Nat) (ho : ∀ k : Fin 2048, o + k.val < 6144) (h) (k : Fin 2048) (n : Fin 256) :
    extractStridedSlice S2048x256 ![o, 0] y h (ix2 k n) = y (ix2 ⟨o + k.val, ho k⟩ n) :=
  extractStridedSlice_apply _ y h (ix2 k n) (ix2 ⟨o + k.val, ho k⟩ n) (fun a => match a with
    | ⟨0, _⟩ => rfl
    | ⟨1, _⟩ => (Nat.zero_add _).symm)

/-- The weight's three bands. -/
theorem read_wq (c : Dev nD) (t : Fin cfg0.N) (k : Fin 2048) (n : Fin 256) :
    (iblk m c 3 t : Vec Ideal S2048x256 .bf16) (ix2 k n) = wide (inW m c) ⟨0 + k.val, by omega⟩ n := by
  have e₁ : V m c main_v24 = extractStridedSlice S2048x256 ![0, 0] (hostW (inW m c)) slices_S6144x256_S2048x256_0_0 := by
    unfold V
    after_results_simp <;> rfl
  have e : V m c main_v24 (ix2 k n) = wide (inW m c) ⟨0 + k.val, by omega⟩ n := by
    rw [e₁]
    exact (band_apply _ 0 (fun k => by omega) _ k n).trans (hostW_apply _ _ n)
  rw [← e]
  unfold iblk
  rw [View.read_apply]
  show V m c main_v24 _ = V m c main_v24 _
  congr 1
  have hi := index_3 t
  funext a
  apply Fin.ext
  match a with
  | ⟨0, _⟩ => show win0_3.index t 0 * 2048 + 1 * k.val = k.val; rw [hi.1]; omega
  | ⟨1, _⟩ => show win0_3.index t 1 * 256 + 1 * n.val = n.val; rw [hi.2]; omega

theorem read_wl (c : Dev nD) (t : Fin cfg0.N) (k : Fin 2048) (n : Fin 256) :
    (iblk m c 4 t : Vec Ideal S2048x256 .bf16) (ix2 k n) = wide (inW m c) ⟨2048 + k.val, by omega⟩ n := by
  have e₁ : V m c main_v25 = extractStridedSlice S2048x256 ![2048, 0] (hostW (inW m c)) slices_S6144x256_S2048x256_2048_0 := by
    unfold V
    after_results_simp <;> rfl
  have e : V m c main_v25 (ix2 k n) = wide (inW m c) ⟨2048 + k.val, by omega⟩ n := by
    rw [e₁]
    exact (band_apply _ 2048 (fun k => by omega) _ k n).trans (hostW_apply _ _ n)
  rw [← e]
  unfold iblk
  rw [View.read_apply]
  show V m c main_v25 _ = V m c main_v25 _
  congr 1
  have hi := index_4 t
  funext a
  apply Fin.ext
  match a with
  | ⟨0, _⟩ => show win0_4.index t 0 * 2048 + 1 * k.val = k.val; rw [hi.1]; omega
  | ⟨1, _⟩ => show win0_4.index t 1 * 256 + 1 * n.val = n.val; rw [hi.2]; omega

theorem read_wv (c : Dev nD) (t : Fin cfg0.N) (k : Fin 2048) (n : Fin 256) :
    (iblk m c 6 t : Vec Ideal S2048x256 .bf16) (ix2 k n) = wide (inW m c) ⟨4096 + k.val, by omega⟩ n := by
  have e₁ : V m c main_v26 = extractStridedSlice S2048x256 ![4096, 0] (hostW (inW m c)) slices_S6144x256_S2048x256_4096_0 := by
    unfold V
    after_results_simp <;> rfl
  have e : V m c main_v26 (ix2 k n) = wide (inW m c) ⟨4096 + k.val, by omega⟩ n := by
    rw [e₁]
    exact (band_apply _ 4096 (fun k => by omega) _ k n).trans (hostW_apply _ _ n)
  rw [← e]
  unfold iblk
  rw [View.read_apply]
  show V m c main_v26 _ = V m c main_v26 _
  congr 1
  have hi := index_6 t
  funext a
  apply Fin.ext
  match a with
  | ⟨0, _⟩ => show win0_6.index t 0 * 2048 + 1 * k.val = k.val; rw [hi.1]; omega
  | ⟨1, _⟩ => show win0_6.index t 1 * 256 + 1 * n.val = n.val; rw [hi.2]; omega

/-- The bias as one row. -/
theorem row_apply (y : Vec Ideal S256 .f32) (h : S256.ShapeCasts S1x256) (n : Fin 256) : shapeCast S1x256 y h (ix2 0 n) = y (ix1 n) :=
  shapeCast_apply y h (ix2 0 n) (ix1 n) (by
    rewrite [Shape.rowMajor_val_two, Shape.rowMajor_val_one]
    show n.val = 0 * 256 + n.val
    omega)

theorem read_b (c : Dev nD) (t : Fin cfg0.N) (n : Fin 256) : (iblk m c 5 t : Vec Ideal S1x256 .f32) (ix2 0 n) = wideB (inB m c) n := by
  have e₁ : V m c main_v23 = shapeCast S1x256 (hostB (inB m c)) shapeCasts_S256_S1x256 := by
    unfold V
    after_results_simp <;> rfl
  have e : V m c main_v23 (ix2 0 n) = wideB (inB m c) n := by
    rw [e₁]
    exact (row_apply _ _ n).trans (hostB_apply _ n)
  rw [← e]
  unfold iblk
  rw [View.read_apply]
  show V m c main_v23 _ = V m c main_v23 _
  congr 1
  have hi := index_5 t
  funext a
  apply Fin.ext
  match a with
  | ⟨0, _⟩ => show win0_5.index t 0 * 1 + 1 * 0 = 0; rw [hi.1]
  | ⟨1, _⟩ => show win0_5.index t 1 * 256 + 1 * n.val = n.val; rw [hi.2]; omega

/-- The gates of a row. -/
def gates (q : Vec Ideal S32x2304x4096 .f32) (v : Vec Ideal S32x2304x2048 .f32) (w : Vec Ideal S6144x16 .f32) (b : Vec Ideal S16 .f32) (i : Fin 32) (j : Fin 2304) (n : Fin 256) : EReal :=
  ((∑ k : Fin 2048, v (ix3 i j k) * wide w ⟨4096 + k.val, by omega⟩ n + ∑ k : Fin 2048, q (ix3 i j ⟨k.val, by omega⟩) * wide w ⟨0 + k.val, by omega⟩ n)
    + ∑ k : Fin 2048, q (ix3 i j ⟨2048 + k.val, by omega⟩) * wide w ⟨2048 + k.val, by omega⟩ n) + wideB b n

def result (c : Dev nD) : Buf (Elt Ideal) ((c : Thread nD τ).loc main_v27) :=
  fun i : S32x2304x256.Idx => gates (inQ m c) (inV m c) (inW m c) (inB m c) (i 0) (i 1) (i 2)

/-- What a point writes back is its block of the gates. -/
theorem flushed_eq (c : Dev nD) (t : Fin cfg0.N) :
    (dats m 0 c).flushed 7 t = ((cfg0.win 7).blk t).view.read (Elt Ideal) (result m c) := by
  rw [flushed7]
  refine funext fun (y : S1x256x256.Idx) => ?_
  refine Eq.trans (out_apply _ _ _ _ _ _ _ y) ?_
  rw [View.read_apply]
  have hi := index_7 t
  have h0 : (y 0).val < 1 := (y 0).isLt
  have e : ((cfg0.win 7).blk t).view.emb y = ix3 ⟨t.val / 9, by have := point_lt t; omega⟩ ⟨256 * (t.val % 9) + (y 1).val, by have h : (y 1).val < 256 := (y 1).isLt; omega⟩ (y 2) := by
    funext a
    apply Fin.ext
    match a with
    | ⟨0, _⟩ => show win0_7.index t 0 * 1 + 1 * (y 0).val = t.val / 9; rw [hi.1]; omega
    | ⟨1, _⟩ => show win0_7.index t 1 * 256 + 1 * (y 1).val = 256 * (t.val % 9) + (y 1).val; rw [hi.2.1]; omega
    | ⟨2, _⟩ => show win0_7.index t 2 * 256 + 1 * (y 2).val = (y 2).val; rw [hi.2.2]; omega
  refine Eq.trans ?_ (congrArg (result m c) e).symm
  refine congrArg₂ (· + ·) (congrArg₂ (· + ·) (congrArg₂ (· + ·) ?_ ?_) ?_) (read_b m c t (y 2))
  · exact Finset.sum_congr rfl fun k _ => congrArg₂ (· * ·) (read_v m c t (y 1) k) (read_wv m c t k (y 2))
  · exact Finset.sum_congr rfl fun k _ => congrArg₂ (· * ·) (read_q m c t (y 1) k) (read_wq m c t k (y 2))
  · exact Finset.sum_congr rfl fun k _ => congrArg₂ (· * ·) (read_l m c t (y 1) k) (read_wl m c t k (y 2))

/-- So the output array ends as the gates. -/
theorem final (c : Dev nD) : (dats m 0 c).arrAt 7 cfg0.N = result m c :=
  (dats m 0 c).arrAt_eq_of_cover 7 (result m c) (fun t _ => flushed_eq m c t) fun i : S32x2304x256.Idx => by
    have h0 : (i 0 : Nat) < 32 := (i 0).isLt
    have h1 : (i 1 : Nat) < 2304 := (i 1).isLt
    have h2 : (i 2 : Nat) < 256 := (i 2).isLt
    have hN : cfg0.N = 288 := N_0
    obtain ⟨t, ht⟩ : ∃ t : Fin cfg0.N, t.val = 9 * (i 0 : Nat) + (i 1 : Nat) / 256 := ⟨⟨9 * (i 0 : Nat) + (i 1 : Nat) / 256, by omega⟩, rfl⟩
    refine ⟨t, flush0_7 t, ?_⟩
    have hi := index_7 t
    show i ∈ ((View.whole main_v27).slice (win0_7.rect t)).set
    rw [View.set_slice_whole, Rect.mem_set_unit]
    intro a
    match a with
    | ⟨0, _⟩ => show win0_7.index t 0 * 1 ≤ (i 0 : Nat) ∧ (i 0 : Nat) < win0_7.index t 0 * 1 + 1
                rw [hi.1]; omega
    | ⟨1, _⟩ => show win0_7.index t 1 * 256 ≤ (i 1 : Nat) ∧ (i 1 : Nat) < win0_7.index t 1 * 256 + 256
                rw [hi.2.1]; omega
    | ⟨2, _⟩ => show win0_7.index t 2 * 256 ≤ (i 2 : Nat) ∧ (i 2 : Nat) < win0_7.index t 2 * 256 + 256
                rw [hi.2.2]; omega

end Cert.Kernel15Ideal.Side

namespace Cert.Reference15Ideal.Side
open Cert.Reference15Ideal Cert.Reference15Ideal.Read Cert.Side

variable (x0 : FVec Ideal S32x2304x4096 .f32) (x1 : FVec Ideal S32x2304x2048 .f32) (x2 : FVec Ideal S6144x16 .f32) (x3 : FVec Ideal S16 .f32)

/-- The joined rows' three parts. -/
theorem part_q (a : Fin 32) (b : Fin 2304) (k : Fin 2048) :
    val_main_v2 (F := Ideal) x0 x1 (ix3 a b ⟨k.val, by omega⟩) = x0 (ix3 a b ⟨k.val, by omega⟩) := by
  unfold val_main_v2
  refine (concatenate_apply_piece (t := S32x2304x6144) 2 _ _ _ 0 (by exact (by decide : 0 < 3)) S32x2304x2048 (val_main_v0 (F := Ideal) x0) rfl rfl 0 rfl (ix3 a b k) (fun c hc => ?_) ?_).trans ?_
  · match c, hc with
    | ⟨0, _⟩, _ => rfl
    | ⟨1, _⟩, _ => rfl
    | ⟨2, _⟩, hc => exact absurd rfl hc
  · show 0 + k.val = k.val
    omega
  · rw [val_main_v0_apply]
    congr 1
    funext c
    match c with
    | ⟨0, _⟩ => rfl
    | ⟨1, _⟩ => rfl
    | ⟨2, _⟩ => exact Fin.ext (by first | rfl | (show k.val + 2048 = 2048 + k.val; omega))

theorem part_l (a : Fin 32) (b : Fin 2304) (k : Fin 2048) :
    val_main_v2 (F := Ideal) x0 x1 (ix3 a b ⟨2048 + k.val, by omega⟩) = x0 (ix3 a b ⟨2048 + k.val, by omega⟩) := by
  unfold val_main_v2
  refine (concatenate_apply_piece (t := S32x2304x6144) 2 _ _ _ 1 (by exact (by decide : 1 < 3)) S32x2304x2048 (val_main_v1 (F := Ideal) x0) rfl rfl 2048 rfl (ix3 a b k) (fun c hc => ?_) ?_).trans ?_
  · match c, hc with
    | ⟨0, _⟩, _ => rfl
    | ⟨1, _⟩, _ => rfl
    | ⟨2, _⟩, hc => exact absurd rfl hc
  · show 2048 + k.val = 2048 + k.val
    omega
  · rw [val_main_v1_apply]
    congr 1
    funext c
    match c with
    | ⟨0, _⟩ => rfl
    | ⟨1, _⟩ => rfl
    | ⟨2, _⟩ => exact Fin.ext (by first | rfl | (show k.val + 2048 = 2048 + k.val; omega))

theorem part_v (a : Fin 32) (b : Fin 2304) (k : Fin 2048) :
    val_main_v2 (F := Ideal) x0 x1 (ix3 a b ⟨4096 + k.val, by omega⟩) = x1 (ix3 a b k) := by
  unfold val_main_v2
  refine (concatenate_apply_piece (t := S32x2304x6144) 2 _ _ _ 2 (by exact (by decide : 2 < 3)) S32x2304x2048 x1 rfl rfl 4096 rfl (ix3 a b k) (fun c hc => ?_) ?_).trans ?_
  · match c, hc with
    | ⟨0, _⟩, _ => rfl
    | ⟨1, _⟩, _ => rfl
    | ⟨2, _⟩, hc => exact absurd rfl hc
  · show 4096 + k.val = 4096 + k.val
    omega
  · rfl

/-- A sum of 6144 in three parts. -/
theorem sum_three (f : Fin 6144 → EReal) :
    ∑ k, f k = (∑ k : Fin 2048, f ⟨4096 + k.val, by omega⟩ + ∑ k : Fin 2048, f ⟨k.val, by omega⟩) + ∑ k : Fin 2048, f ⟨2048 + k.val, by omega⟩ := by
  have e : ∑ k, f k = (∑ k : Fin 2048, f ⟨k.val, by omega⟩ + ∑ k : Fin 2048, f ⟨2048 + k.val, by omega⟩) + ∑ k : Fin 2048, f ⟨4096 + k.val, by omega⟩ := by
    refine (Fin.sum_univ_add (a := 4096) (b := 2048) f).trans ?_
    exact congrArg (· + _) (Fin.sum_univ_add (a := 2048) (b := 2048) fun i => f (Fin.castAdd 2048 i))
  exact e.trans ((add_comm _ _).trans (add_assoc _ _ _).symm)

theorem dot_apply (a : Fin 32) (b : Fin 2304) (d : Fin 16) :
    val_main_v3 (F := Ideal) x0 x1 x2 (ix3 a b d) = ∑ k : Fin 6144, val_main_v2 (F := Ideal) x0 x1 (ix3 a b k) * x2 (ix2 k d) := by
  unfold val_main_v3
  generalize val_main_v2 (F := Ideal) x0 x1 = y
  pointwise

/-- The gates' 16 columns. -/
theorem cols_apply (a : Fin 32) (b : Fin 2304) (d : Fin 16) :
    val_main_v6 (F := Ideal) x0 x1 x2 x3 (ix3 a b d)
      = ((∑ k : Fin 2048, x1 (ix3 a b k) * x2 (ix2 ⟨4096 + k.val, by omega⟩ d) + ∑ k : Fin 2048, x0 (ix3 a b ⟨k.val, by omega⟩) * x2 (ix2 ⟨0 + k.val, by omega⟩ d))
        + ∑ k : Fin 2048, x0 (ix3 a b ⟨2048 + k.val, by omega⟩) * x2 (ix2 ⟨2048 + k.val, by omega⟩ d)) + x3 (ix1 d) := by
  rw [val_main_v6_apply, val_main_v5_apply, val_main_v4_apply]
  refine congrArg₂ (· + ·) ((dot_apply x0 x1 x2 a b d).trans ((sum_three _).trans (congrArg₂ (· + ·) (congrArg₂ (· + ·) ?_ ?_) ?_))) ?_
  · exact Finset.sum_congr rfl fun k _ => congrArg (· * _) (part_v x0 x1 a b k)
  · refine Finset.sum_congr rfl fun k _ => congrArg₂ (· * ·) (part_q x0 x1 a b k) (congrArg (fun q => x2 (ix2 q d)) (Fin.ext ?_))
    show k.val = 0 + k.val
    omega
  · exact Finset.sum_congr rfl fun k _ => congrArg (· * _) (part_l x0 x1 a b k)
  · refine congrArg x3 (funext fun c => ?_)
    match c with
    | ⟨0, _⟩ => rfl

/-- The number that fills up is zero. -/
theorem fill_apply (i : S_.Idx) : val_main_call0_v0 (F := Ideal) i = (0 : EReal) := by
  show (((0#32 : BitVec 32).toInt : ℝ) : EReal) = 0
  simp

/-- The reference's gates. -/
theorem out_apply (a : Fin 32) (b : Fin 2304) (n : Fin 256) :
    val_main_v9 (F := Ideal) x0 x1 x2 x3 (ix3 a b n) = Cert.Kernel15Ideal.Side.gates x0 x1 x2 x3 a b n := by
  unfold val_main_v9 val_main_v8 val_main_v7
  refine (padded_apply (P := 8) (M := 16) rfl 120 (val_main_v6 (F := Ideal) x0 x1 x2 x3) (val_main_call0_v0 (F := Ideal)) fill_apply _ _ _ _ a b n).trans ?_
  unfold Cert.Kernel15Ideal.Side.gates Cert.Kernel15Ideal.Side.wide Cert.Kernel15Ideal.Side.wideB
  rw [sum_halves, sum_halves, sum_halves, add_halves, add_halves, add_halves]
  exact congrArg (fun f => halves (P := 8) (M := 16) rfl f n) (funext fun d => cols_apply x0 x1 x2 x3 a b d)

end Cert.Reference15Ideal.Side

namespace Cert.Proj

theorem frame_Reference15Ideal : Cert.quiescent_Reference15Ideal := fun m ρ _ =>
  (θ_run _ _ _).mono (fun r h => ⟨fun c => (h c).2, Idealize.ShloMosaic.sem_eq_zero_of_no_sems (by decide) r.2⟩) (Cert.Reference15Ideal.Value.run m ρ)

/-- The kernel's gates and the reference's are the same array. -/
theorem algebraic15 : Cert.algebraic_Kernel15Ideal_Reference15Ideal := fun m g m' g' _ ha =>
  ⟨fun c => Cert.Kernel15Ideal.Side.result m c,
    (θ_run _ _ _).mono (fun r h c => ⟨(h c).1.trans (Cert.Kernel15Ideal.Side.final m c), (h c).2⟩) (Cert.Kernel15Ideal.Value.run_blocks m g),
    (θ_run _ _ _).mono (fun r h c => ⟨(h c).1.trans (by
      rw [Cert.Reference15Ideal.Read.val_main_v9_eq, (ha c).1, (ha c).2.1, (ha c).2.2.1, (ha c).2.2.2]
      exact funext fun i : Cert.Kernel15Ideal.S32x2304x256.Idx => (congrArg _ (eq_ix3 i)).trans (Cert.Reference15Ideal.Side.out_apply _ _ _ _ (i 0) (i 1) (i 2))), (h c).2⟩) (Cert.Reference15Ideal.Value.run m' g')⟩

end Cert.Proj
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite_arguments
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Attn.Final
public import proofs.«01_k».proof.Proof.Proj.Up
public import proofs.«01_k».proof.Proof.Proj.SsdIn
public import proofs.«01_k».proof.Proof.Proj.DiffQkv
public import proofs.«01_k».proof.Proof.Proj.PeerQ
public import proofs.«01_k».proof.Proof.Proj.Qk
public import proofs.«01_k».proof.Proof.Proj.V
public import proofs.«01_k».proof.Proof.Out.DiffOut
public import proofs.«01_k».proof.Proof.Out.RetOut
public import proofs.«01_k».proof.Proof.Out.SsdOut
public import proofs.«01_k».proof.Proof.Out.MlstmOut
public import proofs.«01_k».proof.Proof.Proj.PeerLast
public import proofs.«01_k».proof.Proof.Side.Mods
public import proofs.«01_k».proof.Proof.Side.Steps
public import proofs.«01_k».proof.Proof.Side.Gates
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Pre_finite_arguments.Gen.facts,
  fun m ρ _ => Cert.Kernel.Gen.frame m ρ, fun m ρ _ => Cert.KernelIdeal.Gen.frame m ρ, fun m ρ _ => Cert.KernelIdeal.Gen.frame m ρ,
  Cert.Attn.frame_ReferenceIdeal, fun m ρ _ => Cert.Attn.frame_ReferenceIdeal m ρ trivial,
  fun m ρ _ => Cert.Kernel2.Gen.frame m ρ, fun m ρ _ => Cert.Kernel2Ideal.Gen.frame m ρ, Cert.Proj.frame_Reference2Ideal,
  fun m ρ _ => Cert.Kernel3.Gen.frame m ρ, fun m ρ _ => Cert.Kernel3Ideal.Gen.frame m ρ, Cert.Proj.frame_Reference3Ideal,
  fun m ρ _ => Cert.Kernel4.Gen.frame m ρ, fun m ρ _ => Cert.Kernel4Ideal.Gen.frame m ρ, Cert.Proj.frame_Reference4Ideal,
  fun m ρ _ => Cert.Kernel5.Gen.frame m ρ, fun m ρ _ => Cert.Kernel5Ideal.Gen.frame m ρ, Cert.Proj.frame_Reference5Ideal,
  fun m ρ _ => Cert.Kernel6.Gen.frame m ρ, fun m ρ _ => Cert.Kernel6Ideal.Gen.frame m ρ, Cert.Proj.frame_Reference6Ideal,
  fun m ρ _ => Cert.Kernel7.Gen.frame m ρ, fun m ρ _ => Cert.Kernel7Ideal.Gen.frame m ρ, Cert.Proj.frame_Reference7Ideal,
  fun m ρ _ => Cert.Kernel8.Gen.frame m ρ, fun m ρ _ => Cert.Kernel8Ideal.Gen.frame m ρ, Cert.Out.frame_Reference8Ideal,
  fun m ρ _ => Cert.Kernel9.Gen.frame m ρ, fun m ρ _ => Cert.Kernel9Ideal.Gen.frame m ρ, Cert.Out.frame_Reference9Ideal,
  fun m ρ _ => Cert.Kernel10.Gen.frame m ρ, fun m ρ _ => Cert.Kernel10Ideal.Gen.frame m ρ, Cert.Out.frame_Reference10Ideal,
  fun m ρ _ => Cert.Kernel11.Gen.frame m ρ, fun m ρ _ => Cert.Kernel11Ideal.Gen.frame m ρ, Cert.Out.frame_Reference11Ideal,
  fun m ρ _ => Cert.Kernel12.Gen.frame m ρ, fun m ρ _ => Cert.Kernel12Ideal.Gen.frame m ρ, Cert.Proj.frame_Reference12Ideal,
  fun m ρ _ => Cert.Kernel13.Gen.frame m ρ, fun m ρ _ => Cert.Kernel13Ideal.Gen.frame m ρ, Cert.Proj.frame_Reference13Ideal,
  fun m ρ _ => Cert.Kernel14.Gen.frame m ρ, fun m ρ _ => Cert.Kernel14Ideal.Gen.frame m ρ, Cert.Proj.frame_Reference14Ideal,
  fun m ρ _ => Cert.Kernel15.Gen.frame m ρ, fun m ρ _ => Cert.Kernel15Ideal.Gen.frame m ρ, Cert.Proj.frame_Reference15Ideal,
  trivial, Cert.Attn.algebraic, trivial, Cert.Proj.algebraic2, trivial, Cert.Proj.algebraic3, trivial, Cert.Proj.algebraic4, trivial, Cert.Proj.algebraic5, trivial, Cert.Proj.algebraic6, trivial, Cert.Proj.algebraic7,
  trivial, Cert.Out.algebraic8, trivial, Cert.Out.algebraic9, trivial, Cert.Out.algebraic10, trivial, Cert.Out.algebraic11,
  trivial, Cert.Proj.algebraic12, trivial, Cert.Proj.algebraic13, trivial, Cert.Proj.algebraic14, trivial, Cert.Proj.algebraic15⟩

end Cert.Proof

end
